-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S16384x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_in_table_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S32768x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S16384x1024 : Shape := ⟨2, ![16384, 1024]⟩
abbrev S_ : Shape := ⟨0, ![]⟩
abbrev S2048x1 : Shape := ⟨2, ![2048, 1]⟩
abbrev S2048x1024 : Shape := ⟨2, ![2048, 1024]⟩
abbrev S512x1024 : Shape := ⟨2, ![512, 1024]⟩
abbrev S16 : Shape := ⟨1, ![16]⟩
abbrev S1 : Shape := ⟨1, ![1]⟩
abbrev S1x1024 : Shape := ⟨2, ![1, 1024]⟩
abbrev S32x1024 : Shape := ⟨2, ![32, 1024]⟩
abbrev S32x1 : Shape := ⟨2, ![32, 1]⟩
abbrev S16x1024 : Shape := ⟨2, ![16, 1024]⟩

abbrev nBuf : Space → Nat
  | .hbm => 22
  | .vmem => 4
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S2048, .f32⟩
  | .hbm, ⟨20, _⟩ => ⟨S2048x1, .f32⟩
  | .hbm, ⟨21, _⟩ => ⟨S2048x1024, .f32⟩
  | .local _ .vmem, ⟨0, _⟩ => ⟨S2048x1, .f32⟩
  | .local _ .vmem, ⟨1, _⟩ => ⟨S2048x1024, .f32⟩
  | .local _ .vmem, ⟨2, _⟩ => ⟨S512x1024, .f32⟩
  | .local _ .vmem, ⟨3, _⟩ => ⟨S512x1024, .f32⟩
  | .local _ .smem, ⟨0, _⟩ => ⟨S2048, .i32⟩
  | _, _ => ⟨S2048, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 179 → Bool
  | ⟨i, _⟩ => dmaSemScopedAt i

abbrev sig : RefSig :=
  (ofTc nBuf bufTy 1 179 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_18 : BitVec 32 := 4#32
  let v29 : BitVec 32 := Scalar.muli v9 c4_i32_18
  let v30 : BitVec 32 := Scalar.addi c0_i32 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.muli v8 c1_i32_20
  let v34 : BitVec 32 := Scalar.addi v32 v33
  v34.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v37 : BitVec 32 := Scalar.muli v10 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v43 : BitVec 32 := Scalar.muli v5 c2_i32_29
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v45 : BitVec 32 := Scalar.muli v11 c1_i32_30
  let v46 : BitVec 32 := Scalar.addi v44 v45
  v46.toNat
@[reducible] def k0_t1_loop : Scf.Loop 32 :=
  let c0_i32_32 : BitVec 32 := 0#32
  let c4_i32_33 : BitVec 32 := 4#32
  let v47 : BitVec 32 := Scalar.addi c0_i32_32 c4_i32_33
  let c1_i32_34 : BitVec 32 := 1#32
  ⟨c0_i32_32, v47, c1_i32_34⟩
def k0_off1 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2309 : BitVec 32 := 0#32
  let v2737 : BitVec 32 := Scalar.addi v14 c0_i32_2309
  let c0_i32_32 : BitVec 32 := 0#32
  let c1_i32_34 : BitVec 32 := 1#32
  let arg17 : BitVec 32 := Scf.iv c0_i32_32 c1_i32_34 k0_t1
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off2 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c0_i32_2354 v2736
  let c0_i32_2356 : BitVec 32 := 0#32
  ![v2839.toNat, 0]
def k0_off3 (v2740 : BitVec 32) : Fin 2 → Nat :=
  let c0_i32_2357 : BitVec 32 := 0#32
  ![v2740.toNat, 0]
def k0_cond1 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk1 (v2740 : BitVec 32) : Prop :=
  (∀ (k0_h1 : k0_cond1 v2740 = 1#1), ∀ a, (k0_off3 v2740) a + S1x1024.size a ≤ S16384x1024.size a)
theorem k0_off3_inb : ∀ (v2740 : BitVec 32) (k0_hw1 : k0_chk1 v2740), ∀ (k0_h1 : k0_cond1 v2740 = 1#1), ∀ a, (k0_off3 v2740) a + S1x1024.size a ≤ S16384x1024.size a := fun v2740 k0_hw1 k0_h1 => k0_hw1 k0_h1

def k0_off4 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2314 : BitVec 32 := 0#32
  let v2750 : BitVec 32 := Scalar.addi v14 c0_i32_2314
  let c0_i32_32 : BitVec 32 := 0#32
  let c1_i32_34 : BitVec 32 := 1#32
  let arg17 : BitVec 32 := Scf.iv c0_i32_32 c1_i32_34 k0_t1
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off5 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c0_i32_2354 v2749
  let c0_i32_2356 : BitVec 32 := 0#32
  ![v2839.toNat, 0]
def k0_off6 (v2753 : BitVec 32) : Fin 2 → Nat :=
  let c0_i32_2357 : BitVec 32 := 0#32
  ![v2753.toNat, 0]
def k0_cond2 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk2 (v2753 : BitVec 32) : Prop :=
  (∀ (k0_h2 : k0_cond2 v2753 = 1#1), ∀ a, (k0_off6 v2753) a + S1x1024.size a ≤ S16384x1024.size a)
theorem k0_off6_inb : ∀ (v2753 : BitVec 32) (k0_hw2 : k0_chk2 v2753), ∀ (k0_h2 : k0_cond2 v2753 = 1#1), ∀ a, (k0_off6 v2753) a + S1x1024.size a ≤ S16384x1024.size a := fun v2753 k0_hw2 k0_h2 => k0_hw2 k0_h2

def k0_off7 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2320 : BitVec 32 := 0#32
  let v2763 : BitVec 32 := Scalar.addi v14 c0_i32_2320
  let c0_i32_32 : BitVec 32 := 0#32
  let c1_i32_34 : BitVec 32 := 1#32
  let arg17 : BitVec 32 := Scf.iv c0_i32_32 c1_i32_34 k0_t1
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off8 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c0_i32_2354 v2762
  let c0_i32_2356 : BitVec 32 := 0#32
  ![v2839.toNat, 0]
def k0_off9 (v2766 : BitVec 32) : Fin 2 → Nat :=
  let c0_i32_2357 : BitVec 32 := 0#32
  ![v2766.toNat, 0]
def k0_cond3 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk3 (v2766 : BitVec 32) : Prop :=
  (∀ (k0_h3 : k0_cond3 v2766 = 1#1), ∀ a, (k0_off9 v2766) a + S1x1024.size a ≤ S16384x1024.size a)
theorem k0_off9_inb : ∀ (v2766 : BitVec 32) (k0_hw3 : k0_chk3 v2766), ∀ (k0_h3 : k0_cond3 v2766 = 1#1), ∀ a, (k0_off9 v2766) a + S1x1024.size a ≤ S16384x1024.size a := fun v2766 k0_hw3 k0_h3 => k0_hw3 k0_h3

def k0_off10 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2326 : BitVec 32 := 0#32
  let v2776 : BitVec 32 := Scalar.addi v14 c0_i32_2326
  let c0_i32_32 : BitVec 32 := 0#32
  let c1_i32_34 : BitVec 32 := 1#32
  let arg17 : BitVec 32 := Scf.iv c0_i32_32 c1_i32_34 k0_t1
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off11 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c0_i32_2354 v2775
  let c0_i32_2356 : BitVec 32 := 0#32
  ![v2839.toNat, 0]
def k0_off12 (v2779 : BitVec 32) : Fin 2 → Nat :=
  let c0_i32_2357 : BitVec 32 := 0#32
  ![v2779.toNat, 0]
def k0_cond4 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk4 (v2779 : BitVec 32) : Prop :=
  (∀ (k0_h4 : k0_cond4 v2779 = 1#1), ∀ a, (k0_off12 v2779) a + S1x1024.size a ≤ S16384x1024.size a)
theorem k0_off12_inb : ∀ (v2779 : BitVec 32) (k0_hw4 : k0_chk4 v2779), ∀ (k0_h4 : k0_cond4 v2779 = 1#1), ∀ a, (k0_off12 v2779) a + S1x1024.size a ≤ S16384x1024.size a := fun v2779 k0_hw4 k0_h4 => k0_hw4 k0_h4

def k0_off13 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2332 : BitVec 32 := 0#32
  let v2789 : BitVec 32 := Scalar.addi v14 c0_i32_2332
  let c0_i32_32 : BitVec 32 := 0#32
  let c1_i32_34 : BitVec 32 := 1#32
  let arg17 : BitVec 32 := Scf.iv c0_i32_32 c1_i32_34 k0_t1
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off14 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c0_i32_2354 v2788
  let c0_i32_2356 : BitVec 32 := 0#32
  ![v2839.toNat, 0]
def k0_off15 (v2792 : BitVec 32) : Fin 2 → Nat :=
  let c0_i32_2357 : BitVec 32 := 0#32
  ![v2792.toNat, 0]
def k0_cond5 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk5 (v2792 : BitVec 32) : Prop :=
  (∀ (k0_h5 : k0_cond5 v2792 = 1#1), ∀ a, (k0_off15 v2792) a + S1x1024.size a ≤ S16384x1024.size a)
theorem k0_off15_inb : ∀ (v2792 : BitVec 32) (k0_hw5 : k0_chk5 v2792), ∀ (k0_h5 : k0_cond5 v2792 = 1#1), ∀ a, (k0_off15 v2792) a + S1x1024.size a ≤ S16384x1024.size a := fun v2792 k0_hw5 k0_h5 => k0_hw5 k0_h5

def k0_off16 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2338 : BitVec 32 := 0#32
  let v2802 : BitVec 32 := Scalar.addi v14 c0_i32_2338
  let c0_i32_32 : BitVec 32 := 0#32
  let c1_i32_34 : BitVec 32 := 1#32
  let arg17 : BitVec 32 := Scf.iv c0_i32_32 c1_i32_34 k0_t1
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off17 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c0_i32_2354 v2801
  let c0_i32_2356 : BitVec 32 := 0#32
  ![v2839.toNat, 0]
def k0_off18 (v2805 : BitVec 32) : Fin 2 → Nat :=
  let c0_i32_2357 : BitVec 32 := 0#32
  ![v2805.toNat, 0]
def k0_cond6 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk6 (v2805 : BitVec 32) : Prop :=
  (∀ (k0_h6 : k0_cond6 v2805 = 1#1), ∀ a, (k0_off18 v2805) a + S1x1024.size a ≤ S16384x1024.size a)
theorem k0_off18_inb : ∀ (v2805 : BitVec 32) (k0_hw6 : k0_chk6 v2805), ∀ (k0_h6 : k0_cond6 v2805 = 1#1), ∀ a, (k0_off18 v2805) a + S1x1024.size a ≤ S16384x1024.size a := fun v2805 k0_hw6 k0_h6 => k0_hw6 k0_h6

def k0_off19 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2344 : BitVec 32 := 0#32
  let v2815 : BitVec 32 := Scalar.addi v14 c0_i32_2344
  let c0_i32_32 : BitVec 32 := 0#32
  let c1_i32_34 : BitVec 32 := 1#32
  let arg17 : BitVec 32 := Scf.iv c0_i32_32 c1_i32_34 k0_t1
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off20 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c0_i32_2354 v2814
  let c0_i32_2356 : BitVec 32 := 0#32
  ![v2839.toNat, 0]
def k0_off21 (v2818 : BitVec 32) : Fin 2 → Nat :=
  let c0_i32_2357 : BitVec 32 := 0#32
  ![v2818.toNat, 0]
def k0_cond7 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk7 (v2818 : BitVec 32) : Prop :=
  (∀ (k0_h7 : k0_cond7 v2818 = 1#1), ∀ a, (k0_off21 v2818) a + S1x1024.size a ≤ S16384x1024.size a)
theorem k0_off21_inb : ∀ (v2818 : BitVec 32) (k0_hw7 : k0_chk7 v2818), ∀ (k0_h7 : k0_cond7 v2818 = 1#1), ∀ a, (k0_off21 v2818) a + S1x1024.size a ≤ S16384x1024.size a := fun v2818 k0_hw7 k0_h7 => k0_hw7 k0_h7

def k0_off22 (d0 : Dev nD) (k0_t1 : Fin k0_t1_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_2350 : BitVec 32 := 0#32
  let v2828 : BitVec 32 := Scalar.addi v14 c0_i32_2350
  let c0_i32_32 : BitVec 32 := 0#32
  let c1_i32_34 : BitVec 32 := 1#32
  let arg17 : BitVec 32 := Scf.iv c0_i32_32 c1_i32_34 k0_t1
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off23 (k0_t1 : Fin k0_t1_loop.trips) : Fin 2 → Nat :=
  let c0_i32_2354 : BitVec 32 := 0#32
  let c0_i32_32 : BitVec 32 := 0#32
  let c1_i32_34 : BitVec 32 := 1#32
  let arg17 : BitVec 32 := Scf.iv c0_i32_32 c1_i32_34 k0_t1
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c0_i32_2354 v2827
  let c0_i32_2356 : BitVec 32 := 0#32
  ![v2839.toNat, 0]
def k0_off24 (v2831 : BitVec 32) : Fin 2 → Nat :=
  let c0_i32_2357 : BitVec 32 := 0#32
  ![v2831.toNat, 0]
def k0_cond8 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk8 (v2831 : BitVec 32) : Prop :=
  (∀ (k0_h8 : k0_cond8 v2831 = 1#1), ∀ a, (k0_off24 v2831) a + S1x1024.size a ≤ S16384x1024.size a)
theorem k0_off24_inb : ∀ (v2831 : BitVec 32) (k0_hw8 : k0_chk8 v2831), ∀ (k0_h8 : k0_cond8 v2831 = 1#1), ∀ a, (k0_off24 v2831) a + S1x1024.size a ≤ S16384x1024.size a := fun v2831 k0_hw8 k0_h8 => k0_hw8 k0_h8

@[reducible] def k0_t2_loop : Scf.Loop 32 :=
  let c0_i32_37 : BitVec 32 := 0#32
  let c4_i32_38 : BitVec 32 := 4#32
  let v49 : BitVec 32 := Scalar.addi c0_i32_37 c4_i32_38
  let c1_i32_39 : BitVec 32 := 1#32
  ⟨c0_i32_37, v49, c1_i32_39⟩
def k0_off25 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2309 : BitVec 32 := 32#32
  let v2737 : BitVec 32 := Scalar.addi v14 c32_i32_2309
  let c0_i32_37 : BitVec 32 := 0#32
  let c1_i32_39 : BitVec 32 := 1#32
  let arg17 : BitVec 32 := Scf.iv c0_i32_37 c1_i32_39 k0_t2
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off26 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c32_i32_2354 v2736
  let c0_i32_2356 : BitVec 32 := 0#32
  ![v2839.toNat, 0]
def k0_off27 (v2740 : BitVec 32) : Fin 2 → Nat :=
  let c0_i32_2357 : BitVec 32 := 0#32
  ![v2740.toNat, 0]
def k0_cond9 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk9 (v2740 : BitVec 32) : Prop :=
  (∀ (k0_h9 : k0_cond9 v2740 = 1#1), ∀ a, (k0_off27 v2740) a + S1x1024.size a ≤ S16384x1024.size a)
theorem k0_off27_inb : ∀ (v2740 : BitVec 32) (k0_hw9 : k0_chk9 v2740), ∀ (k0_h9 : k0_cond9 v2740 = 1#1), ∀ a, (k0_off27 v2740) a + S1x1024.size a ≤ S16384x1024.size a := fun v2740 k0_hw9 k0_h9 => k0_hw9 k0_h9

def k0_off28 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2314 : BitVec 32 := 32#32
  let v2750 : BitVec 32 := Scalar.addi v14 c32_i32_2314
  let c0_i32_37 : BitVec 32 := 0#32
  let c1_i32_39 : BitVec 32 := 1#32
  let arg17 : BitVec 32 := Scf.iv c0_i32_37 c1_i32_39 k0_t2
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off29 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c32_i32_2354 v2749
  let c0_i32_2356 : BitVec 32 := 0#32
  ![v2839.toNat, 0]
def k0_off30 (v2753 : BitVec 32) : Fin 2 → Nat :=
  let c0_i32_2357 : BitVec 32 := 0#32
  ![v2753.toNat, 0]
def k0_cond10 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk10 (v2753 : BitVec 32) : Prop :=
  (∀ (k0_h10 : k0_cond10 v2753 = 1#1), ∀ a, (k0_off30 v2753) a + S1x1024.size a ≤ S16384x1024.size a)
theorem k0_off30_inb : ∀ (v2753 : BitVec 32) (k0_hw10 : k0_chk10 v2753), ∀ (k0_h10 : k0_cond10 v2753 = 1#1), ∀ a, (k0_off30 v2753) a + S1x1024.size a ≤ S16384x1024.size a := fun v2753 k0_hw10 k0_h10 => k0_hw10 k0_h10

def k0_off31 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2320 : BitVec 32 := 32#32
  let v2763 : BitVec 32 := Scalar.addi v14 c32_i32_2320
  let c0_i32_37 : BitVec 32 := 0#32
  let c1_i32_39 : BitVec 32 := 1#32
  let arg17 : BitVec 32 := Scf.iv c0_i32_37 c1_i32_39 k0_t2
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off32 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c32_i32_2354 v2762
  let c0_i32_2356 : BitVec 32 := 0#32
  ![v2839.toNat, 0]
def k0_off33 (v2766 : BitVec 32) : Fin 2 → Nat :=
  let c0_i32_2357 : BitVec 32 := 0#32
  ![v2766.toNat, 0]
def k0_cond11 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk11 (v2766 : BitVec 32) : Prop :=
  (∀ (k0_h11 : k0_cond11 v2766 = 1#1), ∀ a, (k0_off33 v2766) a + S1x1024.size a ≤ S16384x1024.size a)
theorem k0_off33_inb : ∀ (v2766 : BitVec 32) (k0_hw11 : k0_chk11 v2766), ∀ (k0_h11 : k0_cond11 v2766 = 1#1), ∀ a, (k0_off33 v2766) a + S1x1024.size a ≤ S16384x1024.size a := fun v2766 k0_hw11 k0_h11 => k0_hw11 k0_h11

def k0_off34 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2326 : BitVec 32 := 32#32
  let v2776 : BitVec 32 := Scalar.addi v14 c32_i32_2326
  let c0_i32_37 : BitVec 32 := 0#32
  let c1_i32_39 : BitVec 32 := 1#32
  let arg17 : BitVec 32 := Scf.iv c0_i32_37 c1_i32_39 k0_t2
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off35 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c32_i32_2354 v2775
  let c0_i32_2356 : BitVec 32 := 0#32
  ![v2839.toNat, 0]
def k0_off36 (v2779 : BitVec 32) : Fin 2 → Nat :=
  let c0_i32_2357 : BitVec 32 := 0#32
  ![v2779.toNat, 0]
def k0_cond12 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk12 (v2779 : BitVec 32) : Prop :=
  (∀ (k0_h12 : k0_cond12 v2779 = 1#1), ∀ a, (k0_off36 v2779) a + S1x1024.size a ≤ S16384x1024.size a)
theorem k0_off36_inb : ∀ (v2779 : BitVec 32) (k0_hw12 : k0_chk12 v2779), ∀ (k0_h12 : k0_cond12 v2779 = 1#1), ∀ a, (k0_off36 v2779) a + S1x1024.size a ≤ S16384x1024.size a := fun v2779 k0_hw12 k0_h12 => k0_hw12 k0_h12

def k0_off37 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2332 : BitVec 32 := 32#32
  let v2789 : BitVec 32 := Scalar.addi v14 c32_i32_2332
  let c0_i32_37 : BitVec 32 := 0#32
  let c1_i32_39 : BitVec 32 := 1#32
  let arg17 : BitVec 32 := Scf.iv c0_i32_37 c1_i32_39 k0_t2
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off38 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c32_i32_2354 v2788
  let c0_i32_2356 : BitVec 32 := 0#32
  ![v2839.toNat, 0]
def k0_off39 (v2792 : BitVec 32) : Fin 2 → Nat :=
  let c0_i32_2357 : BitVec 32 := 0#32
  ![v2792.toNat, 0]
def k0_cond13 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk13 (v2792 : BitVec 32) : Prop :=
  (∀ (k0_h13 : k0_cond13 v2792 = 1#1), ∀ a, (k0_off39 v2792) a + S1x1024.size a ≤ S16384x1024.size a)
theorem k0_off39_inb : ∀ (v2792 : BitVec 32) (k0_hw13 : k0_chk13 v2792), ∀ (k0_h13 : k0_cond13 v2792 = 1#1), ∀ a, (k0_off39 v2792) a + S1x1024.size a ≤ S16384x1024.size a := fun v2792 k0_hw13 k0_h13 => k0_hw13 k0_h13

def k0_off40 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2338 : BitVec 32 := 32#32
  let v2802 : BitVec 32 := Scalar.addi v14 c32_i32_2338
  let c0_i32_37 : BitVec 32 := 0#32
  let c1_i32_39 : BitVec 32 := 1#32
  let arg17 : BitVec 32 := Scf.iv c0_i32_37 c1_i32_39 k0_t2
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off41 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c32_i32_2354 v2801
  let c0_i32_2356 : BitVec 32 := 0#32
  ![v2839.toNat, 0]
def k0_off42 (v2805 : BitVec 32) : Fin 2 → Nat :=
  let c0_i32_2357 : BitVec 32 := 0#32
  ![v2805.toNat, 0]
def k0_cond14 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk14 (v2805 : BitVec 32) : Prop :=
  (∀ (k0_h14 : k0_cond14 v2805 = 1#1), ∀ a, (k0_off42 v2805) a + S1x1024.size a ≤ S16384x1024.size a)
theorem k0_off42_inb : ∀ (v2805 : BitVec 32) (k0_hw14 : k0_chk14 v2805), ∀ (k0_h14 : k0_cond14 v2805 = 1#1), ∀ a, (k0_off42 v2805) a + S1x1024.size a ≤ S16384x1024.size a := fun v2805 k0_hw14 k0_h14 => k0_hw14 k0_h14

def k0_off43 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2344 : BitVec 32 := 32#32
  let v2815 : BitVec 32 := Scalar.addi v14 c32_i32_2344
  let c0_i32_37 : BitVec 32 := 0#32
  let c1_i32_39 : BitVec 32 := 1#32
  let arg17 : BitVec 32 := Scf.iv c0_i32_37 c1_i32_39 k0_t2
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off44 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c32_i32_2354 v2814
  let c0_i32_2356 : BitVec 32 := 0#32
  ![v2839.toNat, 0]
def k0_off45 (v2818 : BitVec 32) : Fin 2 → Nat :=
  let c0_i32_2357 : BitVec 32 := 0#32
  ![v2818.toNat, 0]
def k0_cond15 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk15 (v2818 : BitVec 32) : Prop :=
  (∀ (k0_h15 : k0_cond15 v2818 = 1#1), ∀ a, (k0_off45 v2818) a + S1x1024.size a ≤ S16384x1024.size a)
theorem k0_off45_inb : ∀ (v2818 : BitVec 32) (k0_hw15 : k0_chk15 v2818), ∀ (k0_h15 : k0_cond15 v2818 = 1#1), ∀ a, (k0_off45 v2818) a + S1x1024.size a ≤ S16384x1024.size a := fun v2818 k0_hw15 k0_h15 => k0_hw15 k0_h15

def k0_off46 (d0 : Dev nD) (k0_t2 : Fin k0_t2_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_2350 : BitVec 32 := 32#32
  let v2828 : BitVec 32 := Scalar.addi v14 c32_i32_2350
  let c0_i32_37 : BitVec 32 := 0#32
  let c1_i32_39 : BitVec 32 := 1#32
  let arg17 : BitVec 32 := Scf.iv c0_i32_37 c1_i32_39 k0_t2
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off47 (k0_t2 : Fin k0_t2_loop.trips) : Fin 2 → Nat :=
  let c32_i32_2354 : BitVec 32 := 32#32
  let c0_i32_37 : BitVec 32 := 0#32
  let c1_i32_39 : BitVec 32 := 1#32
  let arg17 : BitVec 32 := Scf.iv c0_i32_37 c1_i32_39 k0_t2
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c32_i32_2354 v2827
  let c0_i32_2356 : BitVec 32 := 0#32
  ![v2839.toNat, 0]
def k0_off48 (v2831 : BitVec 32) : Fin 2 → Nat :=
  let c0_i32_2357 : BitVec 32 := 0#32
  ![v2831.toNat, 0]
def k0_cond16 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk16 (v2831 : BitVec 32) : Prop :=
  (∀ (k0_h16 : k0_cond16 v2831 = 1#1), ∀ a, (k0_off48 v2831) a + S1x1024.size a ≤ S16384x1024.size a)
theorem k0_off48_inb : ∀ (v2831 : BitVec 32) (k0_hw16 : k0_chk16 v2831), ∀ (k0_h16 : k0_cond16 v2831 = 1#1), ∀ a, (k0_off48 v2831) a + S1x1024.size a ≤ S16384x1024.size a := fun v2831 k0_hw16 k0_h16 => k0_hw16 k0_h16

@[reducible] def k0_t3_loop (v48 : BitVec 32) : Scf.Loop 32 :=
  let c0_i32_42 : BitVec 32 := 0#32
  let v51 : BitVec 32 := Scalar.subi v48 c0_i32_42
  let c1_i32_43 : BitVec 32 := 1#32
  let v53 : BitVec 32 := Scalar.divsi v51 c1_i32_43
  let v54 : BitVec 32 := Scalar.muli v53 c1_i32_43
  let v55 : BitVec 32 := Scalar.addi c0_i32_42 v54
  let c1_i32_44 : BitVec 32 := 1#32
  ⟨c0_i32_42, v55, c1_i32_44⟩

@[reducible] def k0_t4_loop (v48 : BitVec 32) : Scf.Loop 32 :=
  let c0_i32_42 : BitVec 32 := 0#32
  let v51 : BitVec 32 := Scalar.subi v48 c0_i32_42
  let c1_i32_43 : BitVec 32 := 1#32
  let v53 : BitVec 32 := Scalar.divsi v51 c1_i32_43
  let v54 : BitVec 32 := Scalar.muli v53 c1_i32_43
  let v55 : BitVec 32 := Scalar.addi c0_i32_42 v54
  let v52 : BitVec 32 := Scalar.addi c0_i32_42 v51
  let c1_i32_45 : BitVec 32 := 1#32
  ⟨v55, v52, c1_i32_45⟩

def k0_chk17 (v48 : BitVec 32) : Prop :=
  ((k0_t3_loop v48).OK) ∧
  ((k0_t4_loop v48).OK)
theorem k0_t3_ok : ∀ (v48 : BitVec 32) (k0_hw17 : k0_chk17 v48), (k0_t3_loop v48).OK := fun v48 k0_hw17 => k0_hw17.1
theorem k0_t4_ok : ∀ (v48 : BitVec 32) (k0_hw17 : k0_chk17 v48), (k0_t4_loop v48).OK := fun v48 k0_hw17 => k0_hw17.2

def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v56 : BitVec 32 := Scalar.muli v2 c4_i32_48
  let v57 : BitVec 32 := Scalar.addi c0_i32_49 v56
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_50 : BitVec 32 := 2#32
  let v58 : BitVec 32 := Scalar.muli v10 c2_i32_50
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v60 : BitVec 32 := Scalar.muli v8 c1_i32_51
  let v61 : BitVec 32 := Scalar.addi v59 v60
  v61.toNat
@[reducible] def k0_t5_loop : Scf.Loop 32 :=
  let c0_i32_57 : BitVec 32 := 0#32
  let c4_i32_58 : BitVec 32 := 4#32
  let v68 : BitVec 32 := Scalar.addi c0_i32_57 c4_i32_58
  let c1_i32_59 : BitVec 32 := 1#32
  ⟨c0_i32_57, v68, c1_i32_59⟩
def k0_off49 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2309 : BitVec 32 := 64#32
  let v2737 : BitVec 32 := Scalar.addi v14 c64_i32_2309
  let c0_i32_57 : BitVec 32 := 0#32
  let c1_i32_59 : BitVec 32 := 1#32
  let arg17 : BitVec 32 := Scf.iv c0_i32_57 c1_i32_59 k0_t5
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off50 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c64_i32_2354 v2736
  let c0_i32_2356 : BitVec 32 := 0#32
  ![v2839.toNat, 0]
def k0_off51 (v2740 : BitVec 32) : Fin 2 → Nat :=
  let c0_i32_2357 : BitVec 32 := 0#32
  ![v2740.toNat, 0]
def k0_cond17 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk18 (v2740 : BitVec 32) : Prop :=
  (∀ (k0_h17 : k0_cond17 v2740 = 1#1), ∀ a, (k0_off51 v2740) a + S1x1024.size a ≤ S16384x1024.size a)
theorem k0_off51_inb : ∀ (v2740 : BitVec 32) (k0_hw18 : k0_chk18 v2740), ∀ (k0_h17 : k0_cond17 v2740 = 1#1), ∀ a, (k0_off51 v2740) a + S1x1024.size a ≤ S16384x1024.size a := fun v2740 k0_hw18 k0_h17 => k0_hw18 k0_h17

def k0_off52 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2314 : BitVec 32 := 64#32
  let v2750 : BitVec 32 := Scalar.addi v14 c64_i32_2314
  let c0_i32_57 : BitVec 32 := 0#32
  let c1_i32_59 : BitVec 32 := 1#32
  let arg17 : BitVec 32 := Scf.iv c0_i32_57 c1_i32_59 k0_t5
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off53 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c64_i32_2354 v2749
  let c0_i32_2356 : BitVec 32 := 0#32
  ![v2839.toNat, 0]
def k0_off54 (v2753 : BitVec 32) : Fin 2 → Nat :=
  let c0_i32_2357 : BitVec 32 := 0#32
  ![v2753.toNat, 0]
def k0_cond18 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk19 (v2753 : BitVec 32) : Prop :=
  (∀ (k0_h18 : k0_cond18 v2753 = 1#1), ∀ a, (k0_off54 v2753) a + S1x1024.size a ≤ S16384x1024.size a)
theorem k0_off54_inb : ∀ (v2753 : BitVec 32) (k0_hw19 : k0_chk19 v2753), ∀ (k0_h18 : k0_cond18 v2753 = 1#1), ∀ a, (k0_off54 v2753) a + S1x1024.size a ≤ S16384x1024.size a := fun v2753 k0_hw19 k0_h18 => k0_hw19 k0_h18

def k0_off55 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2320 : BitVec 32 := 64#32
  let v2763 : BitVec 32 := Scalar.addi v14 c64_i32_2320
  let c0_i32_57 : BitVec 32 := 0#32
  let c1_i32_59 : BitVec 32 := 1#32
  let arg17 : BitVec 32 := Scf.iv c0_i32_57 c1_i32_59 k0_t5
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off56 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c64_i32_2354 v2762
  let c0_i32_2356 : BitVec 32 := 0#32
  ![v2839.toNat, 0]
def k0_off57 (v2766 : BitVec 32) : Fin 2 → Nat :=
  let c0_i32_2357 : BitVec 32 := 0#32
  ![v2766.toNat, 0]
def k0_cond19 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk20 (v2766 : BitVec 32) : Prop :=
  (∀ (k0_h19 : k0_cond19 v2766 = 1#1), ∀ a, (k0_off57 v2766) a + S1x1024.size a ≤ S16384x1024.size a)
theorem k0_off57_inb : ∀ (v2766 : BitVec 32) (k0_hw20 : k0_chk20 v2766), ∀ (k0_h19 : k0_cond19 v2766 = 1#1), ∀ a, (k0_off57 v2766) a + S1x1024.size a ≤ S16384x1024.size a := fun v2766 k0_hw20 k0_h19 => k0_hw20 k0_h19

def k0_off58 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2326 : BitVec 32 := 64#32
  let v2776 : BitVec 32 := Scalar.addi v14 c64_i32_2326
  let c0_i32_57 : BitVec 32 := 0#32
  let c1_i32_59 : BitVec 32 := 1#32
  let arg17 : BitVec 32 := Scf.iv c0_i32_57 c1_i32_59 k0_t5
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off59 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c64_i32_2354 v2775
  let c0_i32_2356 : BitVec 32 := 0#32
  ![v2839.toNat, 0]
def k0_off60 (v2779 : BitVec 32) : Fin 2 → Nat :=
  let c0_i32_2357 : BitVec 32 := 0#32
  ![v2779.toNat, 0]
def k0_cond20 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk21 (v2779 : BitVec 32) : Prop :=
  (∀ (k0_h20 : k0_cond20 v2779 = 1#1), ∀ a, (k0_off60 v2779) a + S1x1024.size a ≤ S16384x1024.size a)
theorem k0_off60_inb : ∀ (v2779 : BitVec 32) (k0_hw21 : k0_chk21 v2779), ∀ (k0_h20 : k0_cond20 v2779 = 1#1), ∀ a, (k0_off60 v2779) a + S1x1024.size a ≤ S16384x1024.size a := fun v2779 k0_hw21 k0_h20 => k0_hw21 k0_h20

def k0_off61 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2332 : BitVec 32 := 64#32
  let v2789 : BitVec 32 := Scalar.addi v14 c64_i32_2332
  let c0_i32_57 : BitVec 32 := 0#32
  let c1_i32_59 : BitVec 32 := 1#32
  let arg17 : BitVec 32 := Scf.iv c0_i32_57 c1_i32_59 k0_t5
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off62 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c64_i32_2354 v2788
  let c0_i32_2356 : BitVec 32 := 0#32
  ![v2839.toNat, 0]
def k0_off63 (v2792 : BitVec 32) : Fin 2 → Nat :=
  let c0_i32_2357 : BitVec 32 := 0#32
  ![v2792.toNat, 0]
def k0_cond21 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk22 (v2792 : BitVec 32) : Prop :=
  (∀ (k0_h21 : k0_cond21 v2792 = 1#1), ∀ a, (k0_off63 v2792) a + S1x1024.size a ≤ S16384x1024.size a)
theorem k0_off63_inb : ∀ (v2792 : BitVec 32) (k0_hw22 : k0_chk22 v2792), ∀ (k0_h21 : k0_cond21 v2792 = 1#1), ∀ a, (k0_off63 v2792) a + S1x1024.size a ≤ S16384x1024.size a := fun v2792 k0_hw22 k0_h21 => k0_hw22 k0_h21

def k0_off64 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2338 : BitVec 32 := 64#32
  let v2802 : BitVec 32 := Scalar.addi v14 c64_i32_2338
  let c0_i32_57 : BitVec 32 := 0#32
  let c1_i32_59 : BitVec 32 := 1#32
  let arg17 : BitVec 32 := Scf.iv c0_i32_57 c1_i32_59 k0_t5
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off65 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c64_i32_2354 v2801
  let c0_i32_2356 : BitVec 32 := 0#32
  ![v2839.toNat, 0]
def k0_off66 (v2805 : BitVec 32) : Fin 2 → Nat :=
  let c0_i32_2357 : BitVec 32 := 0#32
  ![v2805.toNat, 0]
def k0_cond22 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk23 (v2805 : BitVec 32) : Prop :=
  (∀ (k0_h22 : k0_cond22 v2805 = 1#1), ∀ a, (k0_off66 v2805) a + S1x1024.size a ≤ S16384x1024.size a)
theorem k0_off66_inb : ∀ (v2805 : BitVec 32) (k0_hw23 : k0_chk23 v2805), ∀ (k0_h22 : k0_cond22 v2805 = 1#1), ∀ a, (k0_off66 v2805) a + S1x1024.size a ≤ S16384x1024.size a := fun v2805 k0_hw23 k0_h22 => k0_hw23 k0_h22

def k0_off67 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2344 : BitVec 32 := 64#32
  let v2815 : BitVec 32 := Scalar.addi v14 c64_i32_2344
  let c0_i32_57 : BitVec 32 := 0#32
  let c1_i32_59 : BitVec 32 := 1#32
  let arg17 : BitVec 32 := Scf.iv c0_i32_57 c1_i32_59 k0_t5
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off68 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c64_i32_2354 v2814
  let c0_i32_2356 : BitVec 32 := 0#32
  ![v2839.toNat, 0]
def k0_off69 (v2818 : BitVec 32) : Fin 2 → Nat :=
  let c0_i32_2357 : BitVec 32 := 0#32
  ![v2818.toNat, 0]
def k0_cond23 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk24 (v2818 : BitVec 32) : Prop :=
  (∀ (k0_h23 : k0_cond23 v2818 = 1#1), ∀ a, (k0_off69 v2818) a + S1x1024.size a ≤ S16384x1024.size a)
theorem k0_off69_inb : ∀ (v2818 : BitVec 32) (k0_hw24 : k0_chk24 v2818), ∀ (k0_h23 : k0_cond23 v2818 = 1#1), ∀ a, (k0_off69 v2818) a + S1x1024.size a ≤ S16384x1024.size a := fun v2818 k0_hw24 k0_h23 => k0_hw24 k0_h23

def k0_off70 (d0 : Dev nD) (k0_t5 : Fin k0_t5_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_2350 : BitVec 32 := 64#32
  let v2828 : BitVec 32 := Scalar.addi v14 c64_i32_2350
  let c0_i32_57 : BitVec 32 := 0#32
  let c1_i32_59 : BitVec 32 := 1#32
  let arg17 : BitVec 32 := Scf.iv c0_i32_57 c1_i32_59 k0_t5
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off71 (k0_t5 : Fin k0_t5_loop.trips) : Fin 2 → Nat :=
  let c64_i32_2354 : BitVec 32 := 64#32
  let c0_i32_57 : BitVec 32 := 0#32
  let c1_i32_59 : BitVec 32 := 1#32
  let arg17 : BitVec 32 := Scf.iv c0_i32_57 c1_i32_59 k0_t5
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c64_i32_2354 v2827
  let c0_i32_2356 : BitVec 32 := 0#32
  ![v2839.toNat, 0]
def k0_off72 (v2831 : BitVec 32) : Fin 2 → Nat :=
  let c0_i32_2357 : BitVec 32 := 0#32
  ![v2831.toNat, 0]
def k0_cond24 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk25 (v2831 : BitVec 32) : Prop :=
  (∀ (k0_h24 : k0_cond24 v2831 = 1#1), ∀ a, (k0_off72 v2831) a + S1x1024.size a ≤ S16384x1024.size a)
theorem k0_off72_inb : ∀ (v2831 : BitVec 32) (k0_hw25 : k0_chk25 v2831), ∀ (k0_h24 : k0_cond24 v2831 = 1#1), ∀ a, (k0_off72 v2831) a + S1x1024.size a ≤ S16384x1024.size a := fun v2831 k0_hw25 k0_h24 => k0_hw25 k0_h24

@[reducible] def k0_t6_loop (v50 : BitVec 32) : Scf.Loop 32 :=
  let c0_i32_62 : BitVec 32 := 0#32
  let v70 : BitVec 32 := Scalar.subi v50 c0_i32_62
  let c1_i32_63 : BitVec 32 := 1#32
  let v72 : BitVec 32 := Scalar.divsi v70 c1_i32_63
  let v73 : BitVec 32 := Scalar.muli v72 c1_i32_63
  let v74 : BitVec 32 := Scalar.addi c0_i32_62 v73
  let c1_i32_64 : BitVec 32 := 1#32
  ⟨c0_i32_62, v74, c1_i32_64⟩

@[reducible] def k0_t7_loop (v50 : BitVec 32) : Scf.Loop 32 :=
  let c0_i32_62 : BitVec 32 := 0#32
  let v70 : BitVec 32 := Scalar.subi v50 c0_i32_62
  let c1_i32_63 : BitVec 32 := 1#32
  let v72 : BitVec 32 := Scalar.divsi v70 c1_i32_63
  let v73 : BitVec 32 := Scalar.muli v72 c1_i32_63
  let v74 : BitVec 32 := Scalar.addi c0_i32_62 v73
  let v71 : BitVec 32 := Scalar.addi c0_i32_62 v70
  let c1_i32_65 : BitVec 32 := 1#32
  ⟨v74, v71, c1_i32_65⟩

def k0_chk26 (v50 : BitVec 32) : Prop :=
  ((k0_t6_loop v50).OK) ∧
  ((k0_t7_loop v50).OK)
theorem k0_t6_ok : ∀ (v50 : BitVec 32) (k0_hw26 : k0_chk26 v50), (k0_t6_loop v50).OK := fun v50 k0_hw26 => k0_hw26.1
theorem k0_t7_ok : ∀ (v50 : BitVec 32) (k0_hw26 : k0_chk26 v50), (k0_t7_loop v50).OK := fun v50 k0_hw26 => k0_hw26.2

def k0_dev5 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v75 : BitVec 32 := Scalar.muli v2 c4_i32_68
  let v76 : BitVec 32 := Scalar.addi c0_i32_69 v75
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_70 : BitVec 32 := 2#32
  let v77 : BitVec 32 := Scalar.muli v10 c2_i32_70
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v79 : BitVec 32 := Scalar.muli v8 c1_i32_71
  let v80 : BitVec 32 := Scalar.addi v78 v79
  v80.toNat
@[reducible] def k0_t8_loop : Scf.Loop 32 :=
  let c0_i32_76 : BitVec 32 := 0#32
  let c4_i32_77 : BitVec 32 := 4#32
  let v87 : BitVec 32 := Scalar.addi c0_i32_76 c4_i32_77
  let c1_i32_78 : BitVec 32 := 1#32
  ⟨c0_i32_76, v87, c1_i32_78⟩
def k0_off73 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2309 : BitVec 32 := 96#32
  let v2737 : BitVec 32 := Scalar.addi v14 c96_i32_2309
  let c0_i32_76 : BitVec 32 := 0#32
  let c1_i32_78 : BitVec 32 := 1#32
  let arg17 : BitVec 32 := Scf.iv c0_i32_76 c1_i32_78 k0_t8
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off74 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c96_i32_2354 v2736
  let c0_i32_2356 : BitVec 32 := 0#32
  ![v2839.toNat, 0]
def k0_off75 (v2740 : BitVec 32) : Fin 2 → Nat :=
  let c0_i32_2357 : BitVec 32 := 0#32
  ![v2740.toNat, 0]
def k0_cond25 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk27 (v2740 : BitVec 32) : Prop :=
  (∀ (k0_h25 : k0_cond25 v2740 = 1#1), ∀ a, (k0_off75 v2740) a + S1x1024.size a ≤ S16384x1024.size a)
theorem k0_off75_inb : ∀ (v2740 : BitVec 32) (k0_hw27 : k0_chk27 v2740), ∀ (k0_h25 : k0_cond25 v2740 = 1#1), ∀ a, (k0_off75 v2740) a + S1x1024.size a ≤ S16384x1024.size a := fun v2740 k0_hw27 k0_h25 => k0_hw27 k0_h25

def k0_off76 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2314 : BitVec 32 := 96#32
  let v2750 : BitVec 32 := Scalar.addi v14 c96_i32_2314
  let c0_i32_76 : BitVec 32 := 0#32
  let c1_i32_78 : BitVec 32 := 1#32
  let arg17 : BitVec 32 := Scf.iv c0_i32_76 c1_i32_78 k0_t8
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off77 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c96_i32_2354 v2749
  let c0_i32_2356 : BitVec 32 := 0#32
  ![v2839.toNat, 0]
def k0_off78 (v2753 : BitVec 32) : Fin 2 → Nat :=
  let c0_i32_2357 : BitVec 32 := 0#32
  ![v2753.toNat, 0]
def k0_cond26 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk28 (v2753 : BitVec 32) : Prop :=
  (∀ (k0_h26 : k0_cond26 v2753 = 1#1), ∀ a, (k0_off78 v2753) a + S1x1024.size a ≤ S16384x1024.size a)
theorem k0_off78_inb : ∀ (v2753 : BitVec 32) (k0_hw28 : k0_chk28 v2753), ∀ (k0_h26 : k0_cond26 v2753 = 1#1), ∀ a, (k0_off78 v2753) a + S1x1024.size a ≤ S16384x1024.size a := fun v2753 k0_hw28 k0_h26 => k0_hw28 k0_h26

def k0_off79 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2320 : BitVec 32 := 96#32
  let v2763 : BitVec 32 := Scalar.addi v14 c96_i32_2320
  let c0_i32_76 : BitVec 32 := 0#32
  let c1_i32_78 : BitVec 32 := 1#32
  let arg17 : BitVec 32 := Scf.iv c0_i32_76 c1_i32_78 k0_t8
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off80 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c96_i32_2354 v2762
  let c0_i32_2356 : BitVec 32 := 0#32
  ![v2839.toNat, 0]
def k0_off81 (v2766 : BitVec 32) : Fin 2 → Nat :=
  let c0_i32_2357 : BitVec 32 := 0#32
  ![v2766.toNat, 0]
def k0_cond27 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk29 (v2766 : BitVec 32) : Prop :=
  (∀ (k0_h27 : k0_cond27 v2766 = 1#1), ∀ a, (k0_off81 v2766) a + S1x1024.size a ≤ S16384x1024.size a)
theorem k0_off81_inb : ∀ (v2766 : BitVec 32) (k0_hw29 : k0_chk29 v2766), ∀ (k0_h27 : k0_cond27 v2766 = 1#1), ∀ a, (k0_off81 v2766) a + S1x1024.size a ≤ S16384x1024.size a := fun v2766 k0_hw29 k0_h27 => k0_hw29 k0_h27

def k0_off82 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2326 : BitVec 32 := 96#32
  let v2776 : BitVec 32 := Scalar.addi v14 c96_i32_2326
  let c0_i32_76 : BitVec 32 := 0#32
  let c1_i32_78 : BitVec 32 := 1#32
  let arg17 : BitVec 32 := Scf.iv c0_i32_76 c1_i32_78 k0_t8
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off83 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c96_i32_2354 v2775
  let c0_i32_2356 : BitVec 32 := 0#32
  ![v2839.toNat, 0]
def k0_off84 (v2779 : BitVec 32) : Fin 2 → Nat :=
  let c0_i32_2357 : BitVec 32 := 0#32
  ![v2779.toNat, 0]
def k0_cond28 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk30 (v2779 : BitVec 32) : Prop :=
  (∀ (k0_h28 : k0_cond28 v2779 = 1#1), ∀ a, (k0_off84 v2779) a + S1x1024.size a ≤ S16384x1024.size a)
theorem k0_off84_inb : ∀ (v2779 : BitVec 32) (k0_hw30 : k0_chk30 v2779), ∀ (k0_h28 : k0_cond28 v2779 = 1#1), ∀ a, (k0_off84 v2779) a + S1x1024.size a ≤ S16384x1024.size a := fun v2779 k0_hw30 k0_h28 => k0_hw30 k0_h28

def k0_off85 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2332 : BitVec 32 := 96#32
  let v2789 : BitVec 32 := Scalar.addi v14 c96_i32_2332
  let c0_i32_76 : BitVec 32 := 0#32
  let c1_i32_78 : BitVec 32 := 1#32
  let arg17 : BitVec 32 := Scf.iv c0_i32_76 c1_i32_78 k0_t8
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off86 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c96_i32_2354 v2788
  let c0_i32_2356 : BitVec 32 := 0#32
  ![v2839.toNat, 0]
def k0_off87 (v2792 : BitVec 32) : Fin 2 → Nat :=
  let c0_i32_2357 : BitVec 32 := 0#32
  ![v2792.toNat, 0]
def k0_cond29 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk31 (v2792 : BitVec 32) : Prop :=
  (∀ (k0_h29 : k0_cond29 v2792 = 1#1), ∀ a, (k0_off87 v2792) a + S1x1024.size a ≤ S16384x1024.size a)
theorem k0_off87_inb : ∀ (v2792 : BitVec 32) (k0_hw31 : k0_chk31 v2792), ∀ (k0_h29 : k0_cond29 v2792 = 1#1), ∀ a, (k0_off87 v2792) a + S1x1024.size a ≤ S16384x1024.size a := fun v2792 k0_hw31 k0_h29 => k0_hw31 k0_h29

def k0_off88 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2338 : BitVec 32 := 96#32
  let v2802 : BitVec 32 := Scalar.addi v14 c96_i32_2338
  let c0_i32_76 : BitVec 32 := 0#32
  let c1_i32_78 : BitVec 32 := 1#32
  let arg17 : BitVec 32 := Scf.iv c0_i32_76 c1_i32_78 k0_t8
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off89 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c96_i32_2354 v2801
  let c0_i32_2356 : BitVec 32 := 0#32
  ![v2839.toNat, 0]
def k0_off90 (v2805 : BitVec 32) : Fin 2 → Nat :=
  let c0_i32_2357 : BitVec 32 := 0#32
  ![v2805.toNat, 0]
def k0_cond30 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk32 (v2805 : BitVec 32) : Prop :=
  (∀ (k0_h30 : k0_cond30 v2805 = 1#1), ∀ a, (k0_off90 v2805) a + S1x1024.size a ≤ S16384x1024.size a)
theorem k0_off90_inb : ∀ (v2805 : BitVec 32) (k0_hw32 : k0_chk32 v2805), ∀ (k0_h30 : k0_cond30 v2805 = 1#1), ∀ a, (k0_off90 v2805) a + S1x1024.size a ≤ S16384x1024.size a := fun v2805 k0_hw32 k0_h30 => k0_hw32 k0_h30

def k0_off91 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2344 : BitVec 32 := 96#32
  let v2815 : BitVec 32 := Scalar.addi v14 c96_i32_2344
  let c0_i32_76 : BitVec 32 := 0#32
  let c1_i32_78 : BitVec 32 := 1#32
  let arg17 : BitVec 32 := Scf.iv c0_i32_76 c1_i32_78 k0_t8
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off92 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c96_i32_2354 v2814
  let c0_i32_2356 : BitVec 32 := 0#32
  ![v2839.toNat, 0]
def k0_off93 (v2818 : BitVec 32) : Fin 2 → Nat :=
  let c0_i32_2357 : BitVec 32 := 0#32
  ![v2818.toNat, 0]
def k0_cond31 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk33 (v2818 : BitVec 32) : Prop :=
  (∀ (k0_h31 : k0_cond31 v2818 = 1#1), ∀ a, (k0_off93 v2818) a + S1x1024.size a ≤ S16384x1024.size a)
theorem k0_off93_inb : ∀ (v2818 : BitVec 32) (k0_hw33 : k0_chk33 v2818), ∀ (k0_h31 : k0_cond31 v2818 = 1#1), ∀ a, (k0_off93 v2818) a + S1x1024.size a ≤ S16384x1024.size a := fun v2818 k0_hw33 k0_h31 => k0_hw33 k0_h31

def k0_off94 (d0 : Dev nD) (k0_t8 : Fin k0_t8_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_2350 : BitVec 32 := 96#32
  let v2828 : BitVec 32 := Scalar.addi v14 c96_i32_2350
  let c0_i32_76 : BitVec 32 := 0#32
  let c1_i32_78 : BitVec 32 := 1#32
  let arg17 : BitVec 32 := Scf.iv c0_i32_76 c1_i32_78 k0_t8
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off95 (k0_t8 : Fin k0_t8_loop.trips) : Fin 2 → Nat :=
  let c96_i32_2354 : BitVec 32 := 96#32
  let c0_i32_76 : BitVec 32 := 0#32
  let c1_i32_78 : BitVec 32 := 1#32
  let arg17 : BitVec 32 := Scf.iv c0_i32_76 c1_i32_78 k0_t8
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c96_i32_2354 v2827
  let c0_i32_2356 : BitVec 32 := 0#32
  ![v2839.toNat, 0]
def k0_off96 (v2831 : BitVec 32) : Fin 2 → Nat :=
  let c0_i32_2357 : BitVec 32 := 0#32
  ![v2831.toNat, 0]
def k0_cond32 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk34 (v2831 : BitVec 32) : Prop :=
  (∀ (k0_h32 : k0_cond32 v2831 = 1#1), ∀ a, (k0_off96 v2831) a + S1x1024.size a ≤ S16384x1024.size a)
theorem k0_off96_inb : ∀ (v2831 : BitVec 32) (k0_hw34 : k0_chk34 v2831), ∀ (k0_h32 : k0_cond32 v2831 = 1#1), ∀ a, (k0_off96 v2831) a + S1x1024.size a ≤ S16384x1024.size a := fun v2831 k0_hw34 k0_h32 => k0_hw34 k0_h32

@[reducible] def k0_t9_loop (v69 : BitVec 32) : Scf.Loop 32 :=
  let c0_i32_81 : BitVec 32 := 0#32
  let v89 : BitVec 32 := Scalar.subi v69 c0_i32_81
  let c1_i32_82 : BitVec 32 := 1#32
  let v91 : BitVec 32 := Scalar.divsi v89 c1_i32_82
  let v92 : BitVec 32 := Scalar.muli v91 c1_i32_82
  let v93 : BitVec 32 := Scalar.addi c0_i32_81 v92
  let c1_i32_83 : BitVec 32 := 1#32
  ⟨c0_i32_81, v93, c1_i32_83⟩

@[reducible] def k0_t10_loop (v69 : BitVec 32) : Scf.Loop 32 :=
  let c0_i32_81 : BitVec 32 := 0#32
  let v89 : BitVec 32 := Scalar.subi v69 c0_i32_81
  let c1_i32_82 : BitVec 32 := 1#32
  let v91 : BitVec 32 := Scalar.divsi v89 c1_i32_82
  let v92 : BitVec 32 := Scalar.muli v91 c1_i32_82
  let v93 : BitVec 32 := Scalar.addi c0_i32_81 v92
  let v90 : BitVec 32 := Scalar.addi c0_i32_81 v89
  let c1_i32_84 : BitVec 32 := 1#32
  ⟨v93, v90, c1_i32_84⟩

def k0_chk35 (v69 : BitVec 32) : Prop :=
  ((k0_t9_loop v69).OK) ∧
  ((k0_t10_loop v69).OK)
theorem k0_t9_ok : ∀ (v69 : BitVec 32) (k0_hw35 : k0_chk35 v69), (k0_t9_loop v69).OK := fun v69 k0_hw35 => k0_hw35.1
theorem k0_t10_ok : ∀ (v69 : BitVec 32) (k0_hw35 : k0_chk35 v69), (k0_t10_loop v69).OK := fun v69 k0_hw35 => k0_hw35.2

def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v94 : BitVec 32 := Scalar.muli v2 c4_i32_87
  let v95 : BitVec 32 := Scalar.addi c0_i32_88 v94
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_89 : BitVec 32 := 2#32
  let v96 : BitVec 32 := Scalar.muli v10 c2_i32_89
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v98 : BitVec 32 := Scalar.muli v8 c1_i32_90
  let v99 : BitVec 32 := Scalar.addi v97 v98
  v99.toNat
def k0_off97 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_104 : BitVec 32 := 0#32
  let v116 : BitVec 32 := Scalar.addi v14 c0_i32_104
  let v117 : Index := Scalar.indexCast v116
  let c0 : Index := 0#32
  ![v117.toNat, 0]
def k0_off98 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_109 : BitVec 32 := 0#32
  let v129 : BitVec 32 := Scalar.addi v14 c0_i32_109
  let v130 : Index := Scalar.indexCast v129
  let c0_110 : Index := 0#32
  ![v130.toNat, 0]
def k0_off99 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c0_i32_112 : BitVec 32 := 0#32
  let v133 : BitVec 32 := Scalar.addi v14 c0_i32_112
  let c0_i32_119 : BitVec 32 := 0#32
  ![v133.toNat, 0]
def k0_dev7 (d0 : Dev nD) : Nat :=
  let c0_i32_116 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_115 : BitVec 32 := 4#32
  let v134 : BitVec 32 := Scalar.muli v9 c4_i32_115
  let v135 : BitVec 32 := Scalar.addi c0_i32_116 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v136 : BitVec 32 := Scalar.muli v5 c2_i32_117
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v138 : BitVec 32 := Scalar.muli v8 c1_i32_118
  let v139 : BitVec 32 := Scalar.addi v137 v138
  v139.toNat
def k0_dev8 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v148 : BitVec 32 := Scalar.muli v2 c4_i32_125
  let v149 : BitVec 32 := Scalar.addi c0_i32_126 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v150 : BitVec 32 := Scalar.muli v5 c2_i32_127
  let v151 : BitVec 32 := Scalar.addi v149 v150
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_128 : BitVec 32 := 1#32
  let v152 : BitVec 32 := Scalar.muli v11 c1_i32_128
  let v153 : BitVec 32 := Scalar.addi v151 v152
  v153.toNat
@[reducible] def k0_t11_loop : Scf.Loop 32 :=
  let c0_i32_132 : BitVec 32 := 0#32
  let c4_i32_133 : BitVec 32 := 4#32
  let v160 : BitVec 32 := Scalar.addi c0_i32_132 c4_i32_133
  let c1_i32_134 : BitVec 32 := 1#32
  ⟨c0_i32_132, v160, c1_i32_134⟩
def k0_off100 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2309 : BitVec 32 := 128#32
  let v2737 : BitVec 32 := Scalar.addi v14 c128_i32_2309
  let c0_i32_132 : BitVec 32 := 0#32
  let c1_i32_134 : BitVec 32 := 1#32
  let arg17 : BitVec 32 := Scf.iv c0_i32_132 c1_i32_134 k0_t11
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off101 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c128_i32_2354 v2736
  let c0_i32_2356 : BitVec 32 := 0#32
  ![v2839.toNat, 0]
def k0_off102 (v2740 : BitVec 32) : Fin 2 → Nat :=
  let c0_i32_2357 : BitVec 32 := 0#32
  ![v2740.toNat, 0]
def k0_cond33 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk36 (v2740 : BitVec 32) : Prop :=
  (∀ (k0_h33 : k0_cond33 v2740 = 1#1), ∀ a, (k0_off102 v2740) a + S1x1024.size a ≤ S16384x1024.size a)
theorem k0_off102_inb : ∀ (v2740 : BitVec 32) (k0_hw36 : k0_chk36 v2740), ∀ (k0_h33 : k0_cond33 v2740 = 1#1), ∀ a, (k0_off102 v2740) a + S1x1024.size a ≤ S16384x1024.size a := fun v2740 k0_hw36 k0_h33 => k0_hw36 k0_h33

def k0_off103 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2314 : BitVec 32 := 128#32
  let v2750 : BitVec 32 := Scalar.addi v14 c128_i32_2314
  let c0_i32_132 : BitVec 32 := 0#32
  let c1_i32_134 : BitVec 32 := 1#32
  let arg17 : BitVec 32 := Scf.iv c0_i32_132 c1_i32_134 k0_t11
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off104 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c128_i32_2354 v2749
  let c0_i32_2356 : BitVec 32 := 0#32
  ![v2839.toNat, 0]
def k0_off105 (v2753 : BitVec 32) : Fin 2 → Nat :=
  let c0_i32_2357 : BitVec 32 := 0#32
  ![v2753.toNat, 0]
def k0_cond34 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk37 (v2753 : BitVec 32) : Prop :=
  (∀ (k0_h34 : k0_cond34 v2753 = 1#1), ∀ a, (k0_off105 v2753) a + S1x1024.size a ≤ S16384x1024.size a)
theorem k0_off105_inb : ∀ (v2753 : BitVec 32) (k0_hw37 : k0_chk37 v2753), ∀ (k0_h34 : k0_cond34 v2753 = 1#1), ∀ a, (k0_off105 v2753) a + S1x1024.size a ≤ S16384x1024.size a := fun v2753 k0_hw37 k0_h34 => k0_hw37 k0_h34

def k0_off106 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2320 : BitVec 32 := 128#32
  let v2763 : BitVec 32 := Scalar.addi v14 c128_i32_2320
  let c0_i32_132 : BitVec 32 := 0#32
  let c1_i32_134 : BitVec 32 := 1#32
  let arg17 : BitVec 32 := Scf.iv c0_i32_132 c1_i32_134 k0_t11
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off107 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c128_i32_2354 v2762
  let c0_i32_2356 : BitVec 32 := 0#32
  ![v2839.toNat, 0]
def k0_off108 (v2766 : BitVec 32) : Fin 2 → Nat :=
  let c0_i32_2357 : BitVec 32 := 0#32
  ![v2766.toNat, 0]
def k0_cond35 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk38 (v2766 : BitVec 32) : Prop :=
  (∀ (k0_h35 : k0_cond35 v2766 = 1#1), ∀ a, (k0_off108 v2766) a + S1x1024.size a ≤ S16384x1024.size a)
theorem k0_off108_inb : ∀ (v2766 : BitVec 32) (k0_hw38 : k0_chk38 v2766), ∀ (k0_h35 : k0_cond35 v2766 = 1#1), ∀ a, (k0_off108 v2766) a + S1x1024.size a ≤ S16384x1024.size a := fun v2766 k0_hw38 k0_h35 => k0_hw38 k0_h35

def k0_off109 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2326 : BitVec 32 := 128#32
  let v2776 : BitVec 32 := Scalar.addi v14 c128_i32_2326
  let c0_i32_132 : BitVec 32 := 0#32
  let c1_i32_134 : BitVec 32 := 1#32
  let arg17 : BitVec 32 := Scf.iv c0_i32_132 c1_i32_134 k0_t11
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off110 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c128_i32_2354 v2775
  let c0_i32_2356 : BitVec 32 := 0#32
  ![v2839.toNat, 0]
def k0_off111 (v2779 : BitVec 32) : Fin 2 → Nat :=
  let c0_i32_2357 : BitVec 32 := 0#32
  ![v2779.toNat, 0]
def k0_cond36 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk39 (v2779 : BitVec 32) : Prop :=
  (∀ (k0_h36 : k0_cond36 v2779 = 1#1), ∀ a, (k0_off111 v2779) a + S1x1024.size a ≤ S16384x1024.size a)
theorem k0_off111_inb : ∀ (v2779 : BitVec 32) (k0_hw39 : k0_chk39 v2779), ∀ (k0_h36 : k0_cond36 v2779 = 1#1), ∀ a, (k0_off111 v2779) a + S1x1024.size a ≤ S16384x1024.size a := fun v2779 k0_hw39 k0_h36 => k0_hw39 k0_h36

def k0_off112 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2332 : BitVec 32 := 128#32
  let v2789 : BitVec 32 := Scalar.addi v14 c128_i32_2332
  let c0_i32_132 : BitVec 32 := 0#32
  let c1_i32_134 : BitVec 32 := 1#32
  let arg17 : BitVec 32 := Scf.iv c0_i32_132 c1_i32_134 k0_t11
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off113 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c128_i32_2354 v2788
  let c0_i32_2356 : BitVec 32 := 0#32
  ![v2839.toNat, 0]
def k0_off114 (v2792 : BitVec 32) : Fin 2 → Nat :=
  let c0_i32_2357 : BitVec 32 := 0#32
  ![v2792.toNat, 0]
def k0_cond37 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk40 (v2792 : BitVec 32) : Prop :=
  (∀ (k0_h37 : k0_cond37 v2792 = 1#1), ∀ a, (k0_off114 v2792) a + S1x1024.size a ≤ S16384x1024.size a)
theorem k0_off114_inb : ∀ (v2792 : BitVec 32) (k0_hw40 : k0_chk40 v2792), ∀ (k0_h37 : k0_cond37 v2792 = 1#1), ∀ a, (k0_off114 v2792) a + S1x1024.size a ≤ S16384x1024.size a := fun v2792 k0_hw40 k0_h37 => k0_hw40 k0_h37

def k0_off115 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2338 : BitVec 32 := 128#32
  let v2802 : BitVec 32 := Scalar.addi v14 c128_i32_2338
  let c0_i32_132 : BitVec 32 := 0#32
  let c1_i32_134 : BitVec 32 := 1#32
  let arg17 : BitVec 32 := Scf.iv c0_i32_132 c1_i32_134 k0_t11
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off116 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c128_i32_2354 v2801
  let c0_i32_2356 : BitVec 32 := 0#32
  ![v2839.toNat, 0]
def k0_off117 (v2805 : BitVec 32) : Fin 2 → Nat :=
  let c0_i32_2357 : BitVec 32 := 0#32
  ![v2805.toNat, 0]
def k0_cond38 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk41 (v2805 : BitVec 32) : Prop :=
  (∀ (k0_h38 : k0_cond38 v2805 = 1#1), ∀ a, (k0_off117 v2805) a + S1x1024.size a ≤ S16384x1024.size a)
theorem k0_off117_inb : ∀ (v2805 : BitVec 32) (k0_hw41 : k0_chk41 v2805), ∀ (k0_h38 : k0_cond38 v2805 = 1#1), ∀ a, (k0_off117 v2805) a + S1x1024.size a ≤ S16384x1024.size a := fun v2805 k0_hw41 k0_h38 => k0_hw41 k0_h38

def k0_off118 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2344 : BitVec 32 := 128#32
  let v2815 : BitVec 32 := Scalar.addi v14 c128_i32_2344
  let c0_i32_132 : BitVec 32 := 0#32
  let c1_i32_134 : BitVec 32 := 1#32
  let arg17 : BitVec 32 := Scf.iv c0_i32_132 c1_i32_134 k0_t11
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off119 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c128_i32_2354 v2814
  let c0_i32_2356 : BitVec 32 := 0#32
  ![v2839.toNat, 0]
def k0_off120 (v2818 : BitVec 32) : Fin 2 → Nat :=
  let c0_i32_2357 : BitVec 32 := 0#32
  ![v2818.toNat, 0]
def k0_cond39 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk42 (v2818 : BitVec 32) : Prop :=
  (∀ (k0_h39 : k0_cond39 v2818 = 1#1), ∀ a, (k0_off120 v2818) a + S1x1024.size a ≤ S16384x1024.size a)
theorem k0_off120_inb : ∀ (v2818 : BitVec 32) (k0_hw42 : k0_chk42 v2818), ∀ (k0_h39 : k0_cond39 v2818 = 1#1), ∀ a, (k0_off120 v2818) a + S1x1024.size a ≤ S16384x1024.size a := fun v2818 k0_hw42 k0_h39 => k0_hw42 k0_h39

def k0_off121 (d0 : Dev nD) (k0_t11 : Fin k0_t11_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_2350 : BitVec 32 := 128#32
  let v2828 : BitVec 32 := Scalar.addi v14 c128_i32_2350
  let c0_i32_132 : BitVec 32 := 0#32
  let c1_i32_134 : BitVec 32 := 1#32
  let arg17 : BitVec 32 := Scf.iv c0_i32_132 c1_i32_134 k0_t11
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off122 (k0_t11 : Fin k0_t11_loop.trips) : Fin 2 → Nat :=
  let c128_i32_2354 : BitVec 32 := 128#32
  let c0_i32_132 : BitVec 32 := 0#32
  let c1_i32_134 : BitVec 32 := 1#32
  let arg17 : BitVec 32 := Scf.iv c0_i32_132 c1_i32_134 k0_t11
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c128_i32_2354 v2827
  let c0_i32_2356 : BitVec 32 := 0#32
  ![v2839.toNat, 0]
def k0_off123 (v2831 : BitVec 32) : Fin 2 → Nat :=
  let c0_i32_2357 : BitVec 32 := 0#32
  ![v2831.toNat, 0]
def k0_cond40 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk43 (v2831 : BitVec 32) : Prop :=
  (∀ (k0_h40 : k0_cond40 v2831 = 1#1), ∀ a, (k0_off123 v2831) a + S1x1024.size a ≤ S16384x1024.size a)
theorem k0_off123_inb : ∀ (v2831 : BitVec 32) (k0_hw43 : k0_chk43 v2831), ∀ (k0_h40 : k0_cond40 v2831 = 1#1), ∀ a, (k0_off123 v2831) a + S1x1024.size a ≤ S16384x1024.size a := fun v2831 k0_hw43 k0_h40 => k0_hw43 k0_h40

@[reducible] def k0_t12_loop (v88 : BitVec 32) : Scf.Loop 32 :=
  let c0_i32_137 : BitVec 32 := 0#32
  let v162 : BitVec 32 := Scalar.subi v88 c0_i32_137
  let c1_i32_138 : BitVec 32 := 1#32
  let v164 : BitVec 32 := Scalar.divsi v162 c1_i32_138
  let v165 : BitVec 32 := Scalar.muli v164 c1_i32_138
  let v166 : BitVec 32 := Scalar.addi c0_i32_137 v165
  let c1_i32_139 : BitVec 32 := 1#32
  ⟨c0_i32_137, v166, c1_i32_139⟩

@[reducible] def k0_t13_loop (v88 : BitVec 32) : Scf.Loop 32 :=
  let c0_i32_137 : BitVec 32 := 0#32
  let v162 : BitVec 32 := Scalar.subi v88 c0_i32_137
  let c1_i32_138 : BitVec 32 := 1#32
  let v164 : BitVec 32 := Scalar.divsi v162 c1_i32_138
  let v165 : BitVec 32 := Scalar.muli v164 c1_i32_138
  let v166 : BitVec 32 := Scalar.addi c0_i32_137 v165
  let v163 : BitVec 32 := Scalar.addi c0_i32_137 v162
  let c1_i32_140 : BitVec 32 := 1#32
  ⟨v166, v163, c1_i32_140⟩

def k0_chk44 (v88 : BitVec 32) : Prop :=
  ((k0_t12_loop v88).OK) ∧
  ((k0_t13_loop v88).OK)
theorem k0_t12_ok : ∀ (v88 : BitVec 32) (k0_hw44 : k0_chk44 v88), (k0_t12_loop v88).OK := fun v88 k0_hw44 => k0_hw44.1
theorem k0_t13_ok : ∀ (v88 : BitVec 32) (k0_hw44 : k0_chk44 v88), (k0_t13_loop v88).OK := fun v88 k0_hw44 => k0_hw44.2

def k0_dev9 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v167 : BitVec 32 := Scalar.muli v2 c4_i32_143
  let v168 : BitVec 32 := Scalar.addi c0_i32_144 v167
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_145 : BitVec 32 := 2#32
  let v169 : BitVec 32 := Scalar.muli v10 c2_i32_145
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v171 : BitVec 32 := Scalar.muli v8 c1_i32_146
  let v172 : BitVec 32 := Scalar.addi v170 v171
  v172.toNat
def k0_off124 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_160 : BitVec 32 := 32#32
  let v189 : BitVec 32 := Scalar.addi v14 c32_i32_160
  let v190 : Index := Scalar.indexCast v189
  let c0_161 : Index := 0#32
  ![v190.toNat, 0]
def k0_off125 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_166 : BitVec 32 := 32#32
  let v202 : BitVec 32 := Scalar.addi v14 c32_i32_166
  let v203 : Index := Scalar.indexCast v202
  let c0_167 : Index := 0#32
  ![v203.toNat, 0]
def k0_off126 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c32_i32_169 : BitVec 32 := 32#32
  let v206 : BitVec 32 := Scalar.addi v14 c32_i32_169
  let c0_i32_176 : BitVec 32 := 0#32
  ![v206.toNat, 0]
def k0_dev10 (d0 : Dev nD) : Nat :=
  let c0_i32_173 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_172 : BitVec 32 := 4#32
  let v207 : BitVec 32 := Scalar.muli v9 c4_i32_172
  let v208 : BitVec 32 := Scalar.addi c0_i32_173 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v209 : BitVec 32 := Scalar.muli v5 c2_i32_174
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v211 : BitVec 32 := Scalar.muli v8 c1_i32_175
  let v212 : BitVec 32 := Scalar.addi v210 v211
  v212.toNat
def k0_dev11 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v221 : BitVec 32 := Scalar.muli v2 c4_i32_182
  let v222 : BitVec 32 := Scalar.addi c0_i32_183 v221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v223 : BitVec 32 := Scalar.muli v5 c2_i32_184
  let v224 : BitVec 32 := Scalar.addi v222 v223
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_185 : BitVec 32 := 1#32
  let v225 : BitVec 32 := Scalar.muli v11 c1_i32_185
  let v226 : BitVec 32 := Scalar.addi v224 v225
  v226.toNat
@[reducible] def k0_t14_loop : Scf.Loop 32 :=
  let c0_i32_189 : BitVec 32 := 0#32
  let c4_i32_190 : BitVec 32 := 4#32
  let v233 : BitVec 32 := Scalar.addi c0_i32_189 c4_i32_190
  let c1_i32_191 : BitVec 32 := 1#32
  ⟨c0_i32_189, v233, c1_i32_191⟩
def k0_off127 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2309 : BitVec 32 := 160#32
  let v2737 : BitVec 32 := Scalar.addi v14 c160_i32_2309
  let c0_i32_189 : BitVec 32 := 0#32
  let c1_i32_191 : BitVec 32 := 1#32
  let arg17 : BitVec 32 := Scf.iv c0_i32_189 c1_i32_191 k0_t14
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off128 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c160_i32_2354 v2736
  let c0_i32_2356 : BitVec 32 := 0#32
  ![v2839.toNat, 0]
def k0_off129 (v2740 : BitVec 32) : Fin 2 → Nat :=
  let c0_i32_2357 : BitVec 32 := 0#32
  ![v2740.toNat, 0]
def k0_cond41 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk45 (v2740 : BitVec 32) : Prop :=
  (∀ (k0_h41 : k0_cond41 v2740 = 1#1), ∀ a, (k0_off129 v2740) a + S1x1024.size a ≤ S16384x1024.size a)
theorem k0_off129_inb : ∀ (v2740 : BitVec 32) (k0_hw45 : k0_chk45 v2740), ∀ (k0_h41 : k0_cond41 v2740 = 1#1), ∀ a, (k0_off129 v2740) a + S1x1024.size a ≤ S16384x1024.size a := fun v2740 k0_hw45 k0_h41 => k0_hw45 k0_h41

def k0_off130 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2314 : BitVec 32 := 160#32
  let v2750 : BitVec 32 := Scalar.addi v14 c160_i32_2314
  let c0_i32_189 : BitVec 32 := 0#32
  let c1_i32_191 : BitVec 32 := 1#32
  let arg17 : BitVec 32 := Scf.iv c0_i32_189 c1_i32_191 k0_t14
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off131 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c160_i32_2354 v2749
  let c0_i32_2356 : BitVec 32 := 0#32
  ![v2839.toNat, 0]
def k0_off132 (v2753 : BitVec 32) : Fin 2 → Nat :=
  let c0_i32_2357 : BitVec 32 := 0#32
  ![v2753.toNat, 0]
def k0_cond42 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk46 (v2753 : BitVec 32) : Prop :=
  (∀ (k0_h42 : k0_cond42 v2753 = 1#1), ∀ a, (k0_off132 v2753) a + S1x1024.size a ≤ S16384x1024.size a)
theorem k0_off132_inb : ∀ (v2753 : BitVec 32) (k0_hw46 : k0_chk46 v2753), ∀ (k0_h42 : k0_cond42 v2753 = 1#1), ∀ a, (k0_off132 v2753) a + S1x1024.size a ≤ S16384x1024.size a := fun v2753 k0_hw46 k0_h42 => k0_hw46 k0_h42

def k0_off133 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2320 : BitVec 32 := 160#32
  let v2763 : BitVec 32 := Scalar.addi v14 c160_i32_2320
  let c0_i32_189 : BitVec 32 := 0#32
  let c1_i32_191 : BitVec 32 := 1#32
  let arg17 : BitVec 32 := Scf.iv c0_i32_189 c1_i32_191 k0_t14
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off134 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c160_i32_2354 v2762
  let c0_i32_2356 : BitVec 32 := 0#32
  ![v2839.toNat, 0]
def k0_off135 (v2766 : BitVec 32) : Fin 2 → Nat :=
  let c0_i32_2357 : BitVec 32 := 0#32
  ![v2766.toNat, 0]
def k0_cond43 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk47 (v2766 : BitVec 32) : Prop :=
  (∀ (k0_h43 : k0_cond43 v2766 = 1#1), ∀ a, (k0_off135 v2766) a + S1x1024.size a ≤ S16384x1024.size a)
theorem k0_off135_inb : ∀ (v2766 : BitVec 32) (k0_hw47 : k0_chk47 v2766), ∀ (k0_h43 : k0_cond43 v2766 = 1#1), ∀ a, (k0_off135 v2766) a + S1x1024.size a ≤ S16384x1024.size a := fun v2766 k0_hw47 k0_h43 => k0_hw47 k0_h43

def k0_off136 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2326 : BitVec 32 := 160#32
  let v2776 : BitVec 32 := Scalar.addi v14 c160_i32_2326
  let c0_i32_189 : BitVec 32 := 0#32
  let c1_i32_191 : BitVec 32 := 1#32
  let arg17 : BitVec 32 := Scf.iv c0_i32_189 c1_i32_191 k0_t14
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off137 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c160_i32_2354 v2775
  let c0_i32_2356 : BitVec 32 := 0#32
  ![v2839.toNat, 0]
def k0_off138 (v2779 : BitVec 32) : Fin 2 → Nat :=
  let c0_i32_2357 : BitVec 32 := 0#32
  ![v2779.toNat, 0]
def k0_cond44 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk48 (v2779 : BitVec 32) : Prop :=
  (∀ (k0_h44 : k0_cond44 v2779 = 1#1), ∀ a, (k0_off138 v2779) a + S1x1024.size a ≤ S16384x1024.size a)
theorem k0_off138_inb : ∀ (v2779 : BitVec 32) (k0_hw48 : k0_chk48 v2779), ∀ (k0_h44 : k0_cond44 v2779 = 1#1), ∀ a, (k0_off138 v2779) a + S1x1024.size a ≤ S16384x1024.size a := fun v2779 k0_hw48 k0_h44 => k0_hw48 k0_h44

def k0_off139 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2332 : BitVec 32 := 160#32
  let v2789 : BitVec 32 := Scalar.addi v14 c160_i32_2332
  let c0_i32_189 : BitVec 32 := 0#32
  let c1_i32_191 : BitVec 32 := 1#32
  let arg17 : BitVec 32 := Scf.iv c0_i32_189 c1_i32_191 k0_t14
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off140 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c160_i32_2354 v2788
  let c0_i32_2356 : BitVec 32 := 0#32
  ![v2839.toNat, 0]
def k0_off141 (v2792 : BitVec 32) : Fin 2 → Nat :=
  let c0_i32_2357 : BitVec 32 := 0#32
  ![v2792.toNat, 0]
def k0_cond45 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk49 (v2792 : BitVec 32) : Prop :=
  (∀ (k0_h45 : k0_cond45 v2792 = 1#1), ∀ a, (k0_off141 v2792) a + S1x1024.size a ≤ S16384x1024.size a)
theorem k0_off141_inb : ∀ (v2792 : BitVec 32) (k0_hw49 : k0_chk49 v2792), ∀ (k0_h45 : k0_cond45 v2792 = 1#1), ∀ a, (k0_off141 v2792) a + S1x1024.size a ≤ S16384x1024.size a := fun v2792 k0_hw49 k0_h45 => k0_hw49 k0_h45

def k0_off142 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2338 : BitVec 32 := 160#32
  let v2802 : BitVec 32 := Scalar.addi v14 c160_i32_2338
  let c0_i32_189 : BitVec 32 := 0#32
  let c1_i32_191 : BitVec 32 := 1#32
  let arg17 : BitVec 32 := Scf.iv c0_i32_189 c1_i32_191 k0_t14
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off143 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c160_i32_2354 v2801
  let c0_i32_2356 : BitVec 32 := 0#32
  ![v2839.toNat, 0]
def k0_off144 (v2805 : BitVec 32) : Fin 2 → Nat :=
  let c0_i32_2357 : BitVec 32 := 0#32
  ![v2805.toNat, 0]
def k0_cond46 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk50 (v2805 : BitVec 32) : Prop :=
  (∀ (k0_h46 : k0_cond46 v2805 = 1#1), ∀ a, (k0_off144 v2805) a + S1x1024.size a ≤ S16384x1024.size a)
theorem k0_off144_inb : ∀ (v2805 : BitVec 32) (k0_hw50 : k0_chk50 v2805), ∀ (k0_h46 : k0_cond46 v2805 = 1#1), ∀ a, (k0_off144 v2805) a + S1x1024.size a ≤ S16384x1024.size a := fun v2805 k0_hw50 k0_h46 => k0_hw50 k0_h46

def k0_off145 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2344 : BitVec 32 := 160#32
  let v2815 : BitVec 32 := Scalar.addi v14 c160_i32_2344
  let c0_i32_189 : BitVec 32 := 0#32
  let c1_i32_191 : BitVec 32 := 1#32
  let arg17 : BitVec 32 := Scf.iv c0_i32_189 c1_i32_191 k0_t14
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off146 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c160_i32_2354 v2814
  let c0_i32_2356 : BitVec 32 := 0#32
  ![v2839.toNat, 0]
def k0_off147 (v2818 : BitVec 32) : Fin 2 → Nat :=
  let c0_i32_2357 : BitVec 32 := 0#32
  ![v2818.toNat, 0]
def k0_cond47 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk51 (v2818 : BitVec 32) : Prop :=
  (∀ (k0_h47 : k0_cond47 v2818 = 1#1), ∀ a, (k0_off147 v2818) a + S1x1024.size a ≤ S16384x1024.size a)
theorem k0_off147_inb : ∀ (v2818 : BitVec 32) (k0_hw51 : k0_chk51 v2818), ∀ (k0_h47 : k0_cond47 v2818 = 1#1), ∀ a, (k0_off147 v2818) a + S1x1024.size a ≤ S16384x1024.size a := fun v2818 k0_hw51 k0_h47 => k0_hw51 k0_h47

def k0_off148 (d0 : Dev nD) (k0_t14 : Fin k0_t14_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_2350 : BitVec 32 := 160#32
  let v2828 : BitVec 32 := Scalar.addi v14 c160_i32_2350
  let c0_i32_189 : BitVec 32 := 0#32
  let c1_i32_191 : BitVec 32 := 1#32
  let arg17 : BitVec 32 := Scf.iv c0_i32_189 c1_i32_191 k0_t14
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off149 (k0_t14 : Fin k0_t14_loop.trips) : Fin 2 → Nat :=
  let c160_i32_2354 : BitVec 32 := 160#32
  let c0_i32_189 : BitVec 32 := 0#32
  let c1_i32_191 : BitVec 32 := 1#32
  let arg17 : BitVec 32 := Scf.iv c0_i32_189 c1_i32_191 k0_t14
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c160_i32_2354 v2827
  let c0_i32_2356 : BitVec 32 := 0#32
  ![v2839.toNat, 0]
def k0_off150 (v2831 : BitVec 32) : Fin 2 → Nat :=
  let c0_i32_2357 : BitVec 32 := 0#32
  ![v2831.toNat, 0]
def k0_cond48 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk52 (v2831 : BitVec 32) : Prop :=
  (∀ (k0_h48 : k0_cond48 v2831 = 1#1), ∀ a, (k0_off150 v2831) a + S1x1024.size a ≤ S16384x1024.size a)
theorem k0_off150_inb : ∀ (v2831 : BitVec 32) (k0_hw52 : k0_chk52 v2831), ∀ (k0_h48 : k0_cond48 v2831 = 1#1), ∀ a, (k0_off150 v2831) a + S1x1024.size a ≤ S16384x1024.size a := fun v2831 k0_hw52 k0_h48 => k0_hw52 k0_h48

@[reducible] def k0_t15_loop (v161 : BitVec 32) : Scf.Loop 32 :=
  let c0_i32_194 : BitVec 32 := 0#32
  let v235 : BitVec 32 := Scalar.subi v161 c0_i32_194
  let c1_i32_195 : BitVec 32 := 1#32
  let v237 : BitVec 32 := Scalar.divsi v235 c1_i32_195
  let v238 : BitVec 32 := Scalar.muli v237 c1_i32_195
  let v239 : BitVec 32 := Scalar.addi c0_i32_194 v238
  let c1_i32_196 : BitVec 32 := 1#32
  ⟨c0_i32_194, v239, c1_i32_196⟩

@[reducible] def k0_t16_loop (v161 : BitVec 32) : Scf.Loop 32 :=
  let c0_i32_194 : BitVec 32 := 0#32
  let v235 : BitVec 32 := Scalar.subi v161 c0_i32_194
  let c1_i32_195 : BitVec 32 := 1#32
  let v237 : BitVec 32 := Scalar.divsi v235 c1_i32_195
  let v238 : BitVec 32 := Scalar.muli v237 c1_i32_195
  let v239 : BitVec 32 := Scalar.addi c0_i32_194 v238
  let v236 : BitVec 32 := Scalar.addi c0_i32_194 v235
  let c1_i32_197 : BitVec 32 := 1#32
  ⟨v239, v236, c1_i32_197⟩

def k0_chk53 (v161 : BitVec 32) : Prop :=
  ((k0_t15_loop v161).OK) ∧
  ((k0_t16_loop v161).OK)
theorem k0_t15_ok : ∀ (v161 : BitVec 32) (k0_hw53 : k0_chk53 v161), (k0_t15_loop v161).OK := fun v161 k0_hw53 => k0_hw53.1
theorem k0_t16_ok : ∀ (v161 : BitVec 32) (k0_hw53 : k0_chk53 v161), (k0_t16_loop v161).OK := fun v161 k0_hw53 => k0_hw53.2

def k0_dev12 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v240 : BitVec 32 := Scalar.muli v2 c4_i32_200
  let v241 : BitVec 32 := Scalar.addi c0_i32_201 v240
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_202 : BitVec 32 := 2#32
  let v242 : BitVec 32 := Scalar.muli v10 c2_i32_202
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v244 : BitVec 32 := Scalar.muli v8 c1_i32_203
  let v245 : BitVec 32 := Scalar.addi v243 v244
  v245.toNat
def k0_off151 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_217 : BitVec 32 := 64#32
  let v262 : BitVec 32 := Scalar.addi v14 c64_i32_217
  let v263 : Index := Scalar.indexCast v262
  let c0_218 : Index := 0#32
  ![v263.toNat, 0]
def k0_off152 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c64_i32_223 : BitVec 32 := 64#32
  let v275 : BitVec 32 := Scalar.addi v14 c64_i32_223
  let v276 : Index := Scalar.indexCast v275
  let c0_224 : Index := 0#32
  ![v276.toNat, 0]
def k0_off153 (d0 : Dev nD) (c64_i32_226 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v279 : BitVec 32 := Scalar.addi v14 c64_i32_226
  let c0_i32_233 : BitVec 32 := 0#32
  ![v279.toNat, 0]
def k0_dev13 (d0 : Dev nD) : Nat :=
  let c0_i32_230 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_229 : BitVec 32 := 4#32
  let v280 : BitVec 32 := Scalar.muli v9 c4_i32_229
  let v281 : BitVec 32 := Scalar.addi c0_i32_230 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v282 : BitVec 32 := Scalar.muli v5 c2_i32_231
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v284 : BitVec 32 := Scalar.muli v8 c1_i32_232
  let v285 : BitVec 32 := Scalar.addi v283 v284
  v285.toNat
def k0_dev14 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v294 : BitVec 32 := Scalar.muli v2 c4_i32_239
  let v295 : BitVec 32 := Scalar.addi c0_i32_240 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v296 : BitVec 32 := Scalar.muli v5 c2_i32_241
  let v297 : BitVec 32 := Scalar.addi v295 v296
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_242 : BitVec 32 := 1#32
  let v298 : BitVec 32 := Scalar.muli v11 c1_i32_242
  let v299 : BitVec 32 := Scalar.addi v297 v298
  v299.toNat
def k0_off154 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c0_i32_254 : BitVec 32 := 0#32
  let v317 : BitVec 32 := Scalar.addi v18 c0_i32_254
  let c0_i32_261 : BitVec 32 := 0#32
  ![v317.toNat, 0]
def k0_dev15 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v318 : BitVec 32 := Scalar.muli v2 c4_i32_257
  let v319 : BitVec 32 := Scalar.addi c0_i32_258 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v320 : BitVec 32 := Scalar.muli v5 c2_i32_259
  let v321 : BitVec 32 := Scalar.addi v319 v320
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_260 : BitVec 32 := 1#32
  let v322 : BitVec 32 := Scalar.muli v11 c1_i32_260
  let v323 : BitVec 32 := Scalar.addi v321 v322
  v323.toNat
def k0_off155 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c0_i32_272 : BitVec 32 := 0#32
  let v342 : BitVec 32 := Scalar.addi v22 c0_i32_272
  let c16_i32_273 : BitVec 32 := 16#32
  let v343 : BitVec 32 := Scalar.addi v342 c16_i32_273
  let c0_i32_280 : BitVec 32 := 0#32
  ![v343.toNat, 0]
def k0_dev16 (d0 : Dev nD) : Nat :=
  let c0_i32_277 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_276 : BitVec 32 := 4#32
  let v344 : BitVec 32 := Scalar.muli v9 c4_i32_276
  let v345 : BitVec 32 := Scalar.addi c0_i32_277 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v346 : BitVec 32 := Scalar.muli v5 c2_i32_278
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_279 : BitVec 32 := 1#32
  let v348 : BitVec 32 := Scalar.muli v8 c1_i32_279
  let v349 : BitVec 32 := Scalar.addi v347 v348
  v349.toNat
@[reducible] def k0_t17_loop : Scf.Loop 32 :=
  let c0_i32_283 : BitVec 32 := 0#32
  let c4_i32_284 : BitVec 32 := 4#32
  let v356 : BitVec 32 := Scalar.addi c0_i32_283 c4_i32_284
  let c1_i32_285 : BitVec 32 := 1#32
  ⟨c0_i32_283, v356, c1_i32_285⟩
def k0_off156 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2309 : BitVec 32 := 192#32
  let v2737 : BitVec 32 := Scalar.addi v14 c192_i32_2309
  let c0_i32_283 : BitVec 32 := 0#32
  let c1_i32_285 : BitVec 32 := 1#32
  let arg17 : BitVec 32 := Scf.iv c0_i32_283 c1_i32_285 k0_t17
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off157 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c192_i32_2354 v2736
  let c0_i32_2356 : BitVec 32 := 0#32
  ![v2839.toNat, 0]
def k0_off158 (v2740 : BitVec 32) : Fin 2 → Nat :=
  let c0_i32_2357 : BitVec 32 := 0#32
  ![v2740.toNat, 0]
def k0_cond49 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk54 (v2740 : BitVec 32) : Prop :=
  (∀ (k0_h49 : k0_cond49 v2740 = 1#1), ∀ a, (k0_off158 v2740) a + S1x1024.size a ≤ S16384x1024.size a)
theorem k0_off158_inb : ∀ (v2740 : BitVec 32) (k0_hw54 : k0_chk54 v2740), ∀ (k0_h49 : k0_cond49 v2740 = 1#1), ∀ a, (k0_off158 v2740) a + S1x1024.size a ≤ S16384x1024.size a := fun v2740 k0_hw54 k0_h49 => k0_hw54 k0_h49

def k0_off159 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2314 : BitVec 32 := 192#32
  let v2750 : BitVec 32 := Scalar.addi v14 c192_i32_2314
  let c0_i32_283 : BitVec 32 := 0#32
  let c1_i32_285 : BitVec 32 := 1#32
  let arg17 : BitVec 32 := Scf.iv c0_i32_283 c1_i32_285 k0_t17
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off160 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c192_i32_2354 v2749
  let c0_i32_2356 : BitVec 32 := 0#32
  ![v2839.toNat, 0]
def k0_off161 (v2753 : BitVec 32) : Fin 2 → Nat :=
  let c0_i32_2357 : BitVec 32 := 0#32
  ![v2753.toNat, 0]
def k0_cond50 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk55 (v2753 : BitVec 32) : Prop :=
  (∀ (k0_h50 : k0_cond50 v2753 = 1#1), ∀ a, (k0_off161 v2753) a + S1x1024.size a ≤ S16384x1024.size a)
theorem k0_off161_inb : ∀ (v2753 : BitVec 32) (k0_hw55 : k0_chk55 v2753), ∀ (k0_h50 : k0_cond50 v2753 = 1#1), ∀ a, (k0_off161 v2753) a + S1x1024.size a ≤ S16384x1024.size a := fun v2753 k0_hw55 k0_h50 => k0_hw55 k0_h50

def k0_off162 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2320 : BitVec 32 := 192#32
  let v2763 : BitVec 32 := Scalar.addi v14 c192_i32_2320
  let c0_i32_283 : BitVec 32 := 0#32
  let c1_i32_285 : BitVec 32 := 1#32
  let arg17 : BitVec 32 := Scf.iv c0_i32_283 c1_i32_285 k0_t17
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off163 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c192_i32_2354 v2762
  let c0_i32_2356 : BitVec 32 := 0#32
  ![v2839.toNat, 0]
def k0_off164 (v2766 : BitVec 32) : Fin 2 → Nat :=
  let c0_i32_2357 : BitVec 32 := 0#32
  ![v2766.toNat, 0]
def k0_cond51 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk56 (v2766 : BitVec 32) : Prop :=
  (∀ (k0_h51 : k0_cond51 v2766 = 1#1), ∀ a, (k0_off164 v2766) a + S1x1024.size a ≤ S16384x1024.size a)
theorem k0_off164_inb : ∀ (v2766 : BitVec 32) (k0_hw56 : k0_chk56 v2766), ∀ (k0_h51 : k0_cond51 v2766 = 1#1), ∀ a, (k0_off164 v2766) a + S1x1024.size a ≤ S16384x1024.size a := fun v2766 k0_hw56 k0_h51 => k0_hw56 k0_h51

def k0_off165 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2326 : BitVec 32 := 192#32
  let v2776 : BitVec 32 := Scalar.addi v14 c192_i32_2326
  let c0_i32_283 : BitVec 32 := 0#32
  let c1_i32_285 : BitVec 32 := 1#32
  let arg17 : BitVec 32 := Scf.iv c0_i32_283 c1_i32_285 k0_t17
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off166 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c192_i32_2354 v2775
  let c0_i32_2356 : BitVec 32 := 0#32
  ![v2839.toNat, 0]
def k0_off167 (v2779 : BitVec 32) : Fin 2 → Nat :=
  let c0_i32_2357 : BitVec 32 := 0#32
  ![v2779.toNat, 0]
def k0_cond52 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk57 (v2779 : BitVec 32) : Prop :=
  (∀ (k0_h52 : k0_cond52 v2779 = 1#1), ∀ a, (k0_off167 v2779) a + S1x1024.size a ≤ S16384x1024.size a)
theorem k0_off167_inb : ∀ (v2779 : BitVec 32) (k0_hw57 : k0_chk57 v2779), ∀ (k0_h52 : k0_cond52 v2779 = 1#1), ∀ a, (k0_off167 v2779) a + S1x1024.size a ≤ S16384x1024.size a := fun v2779 k0_hw57 k0_h52 => k0_hw57 k0_h52

def k0_off168 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2332 : BitVec 32 := 192#32
  let v2789 : BitVec 32 := Scalar.addi v14 c192_i32_2332
  let c0_i32_283 : BitVec 32 := 0#32
  let c1_i32_285 : BitVec 32 := 1#32
  let arg17 : BitVec 32 := Scf.iv c0_i32_283 c1_i32_285 k0_t17
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off169 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c192_i32_2354 v2788
  let c0_i32_2356 : BitVec 32 := 0#32
  ![v2839.toNat, 0]
def k0_off170 (v2792 : BitVec 32) : Fin 2 → Nat :=
  let c0_i32_2357 : BitVec 32 := 0#32
  ![v2792.toNat, 0]
def k0_cond53 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk58 (v2792 : BitVec 32) : Prop :=
  (∀ (k0_h53 : k0_cond53 v2792 = 1#1), ∀ a, (k0_off170 v2792) a + S1x1024.size a ≤ S16384x1024.size a)
theorem k0_off170_inb : ∀ (v2792 : BitVec 32) (k0_hw58 : k0_chk58 v2792), ∀ (k0_h53 : k0_cond53 v2792 = 1#1), ∀ a, (k0_off170 v2792) a + S1x1024.size a ≤ S16384x1024.size a := fun v2792 k0_hw58 k0_h53 => k0_hw58 k0_h53

def k0_off171 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2338 : BitVec 32 := 192#32
  let v2802 : BitVec 32 := Scalar.addi v14 c192_i32_2338
  let c0_i32_283 : BitVec 32 := 0#32
  let c1_i32_285 : BitVec 32 := 1#32
  let arg17 : BitVec 32 := Scf.iv c0_i32_283 c1_i32_285 k0_t17
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off172 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c192_i32_2354 v2801
  let c0_i32_2356 : BitVec 32 := 0#32
  ![v2839.toNat, 0]
def k0_off173 (v2805 : BitVec 32) : Fin 2 → Nat :=
  let c0_i32_2357 : BitVec 32 := 0#32
  ![v2805.toNat, 0]
def k0_cond54 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk59 (v2805 : BitVec 32) : Prop :=
  (∀ (k0_h54 : k0_cond54 v2805 = 1#1), ∀ a, (k0_off173 v2805) a + S1x1024.size a ≤ S16384x1024.size a)
theorem k0_off173_inb : ∀ (v2805 : BitVec 32) (k0_hw59 : k0_chk59 v2805), ∀ (k0_h54 : k0_cond54 v2805 = 1#1), ∀ a, (k0_off173 v2805) a + S1x1024.size a ≤ S16384x1024.size a := fun v2805 k0_hw59 k0_h54 => k0_hw59 k0_h54

def k0_off174 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2344 : BitVec 32 := 192#32
  let v2815 : BitVec 32 := Scalar.addi v14 c192_i32_2344
  let c0_i32_283 : BitVec 32 := 0#32
  let c1_i32_285 : BitVec 32 := 1#32
  let arg17 : BitVec 32 := Scf.iv c0_i32_283 c1_i32_285 k0_t17
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off175 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c192_i32_2354 v2814
  let c0_i32_2356 : BitVec 32 := 0#32
  ![v2839.toNat, 0]
def k0_off176 (v2818 : BitVec 32) : Fin 2 → Nat :=
  let c0_i32_2357 : BitVec 32 := 0#32
  ![v2818.toNat, 0]
def k0_cond55 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk60 (v2818 : BitVec 32) : Prop :=
  (∀ (k0_h55 : k0_cond55 v2818 = 1#1), ∀ a, (k0_off176 v2818) a + S1x1024.size a ≤ S16384x1024.size a)
theorem k0_off176_inb : ∀ (v2818 : BitVec 32) (k0_hw60 : k0_chk60 v2818), ∀ (k0_h55 : k0_cond55 v2818 = 1#1), ∀ a, (k0_off176 v2818) a + S1x1024.size a ≤ S16384x1024.size a := fun v2818 k0_hw60 k0_h55 => k0_hw60 k0_h55

def k0_off177 (d0 : Dev nD) (k0_t17 : Fin k0_t17_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_2350 : BitVec 32 := 192#32
  let v2828 : BitVec 32 := Scalar.addi v14 c192_i32_2350
  let c0_i32_283 : BitVec 32 := 0#32
  let c1_i32_285 : BitVec 32 := 1#32
  let arg17 : BitVec 32 := Scf.iv c0_i32_283 c1_i32_285 k0_t17
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off178 (k0_t17 : Fin k0_t17_loop.trips) : Fin 2 → Nat :=
  let c192_i32_2354 : BitVec 32 := 192#32
  let c0_i32_283 : BitVec 32 := 0#32
  let c1_i32_285 : BitVec 32 := 1#32
  let arg17 : BitVec 32 := Scf.iv c0_i32_283 c1_i32_285 k0_t17
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c192_i32_2354 v2827
  let c0_i32_2356 : BitVec 32 := 0#32
  ![v2839.toNat, 0]
def k0_off179 (v2831 : BitVec 32) : Fin 2 → Nat :=
  let c0_i32_2357 : BitVec 32 := 0#32
  ![v2831.toNat, 0]
def k0_cond56 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk61 (v2831 : BitVec 32) : Prop :=
  (∀ (k0_h56 : k0_cond56 v2831 = 1#1), ∀ a, (k0_off179 v2831) a + S1x1024.size a ≤ S16384x1024.size a)
theorem k0_off179_inb : ∀ (v2831 : BitVec 32) (k0_hw61 : k0_chk61 v2831), ∀ (k0_h56 : k0_cond56 v2831 = 1#1), ∀ a, (k0_off179 v2831) a + S1x1024.size a ≤ S16384x1024.size a := fun v2831 k0_hw61 k0_h56 => k0_hw61 k0_h56

@[reducible] def k0_t18_loop (v234 : BitVec 32) : Scf.Loop 32 :=
  let c0_i32_288 : BitVec 32 := 0#32
  let v358 : BitVec 32 := Scalar.subi v234 c0_i32_288
  let c1_i32_289 : BitVec 32 := 1#32
  let v360 : BitVec 32 := Scalar.divsi v358 c1_i32_289
  let v361 : BitVec 32 := Scalar.muli v360 c1_i32_289
  let v362 : BitVec 32 := Scalar.addi c0_i32_288 v361
  let c1_i32_290 : BitVec 32 := 1#32
  ⟨c0_i32_288, v362, c1_i32_290⟩

@[reducible] def k0_t19_loop (v234 : BitVec 32) : Scf.Loop 32 :=
  let c0_i32_288 : BitVec 32 := 0#32
  let v358 : BitVec 32 := Scalar.subi v234 c0_i32_288
  let c1_i32_289 : BitVec 32 := 1#32
  let v360 : BitVec 32 := Scalar.divsi v358 c1_i32_289
  let v361 : BitVec 32 := Scalar.muli v360 c1_i32_289
  let v362 : BitVec 32 := Scalar.addi c0_i32_288 v361
  let v359 : BitVec 32 := Scalar.addi c0_i32_288 v358
  let c1_i32_291 : BitVec 32 := 1#32
  ⟨v362, v359, c1_i32_291⟩

def k0_chk62 (v234 : BitVec 32) : Prop :=
  ((k0_t18_loop v234).OK) ∧
  ((k0_t19_loop v234).OK)
theorem k0_t18_ok : ∀ (v234 : BitVec 32) (k0_hw62 : k0_chk62 v234), (k0_t18_loop v234).OK := fun v234 k0_hw62 => k0_hw62.1
theorem k0_t19_ok : ∀ (v234 : BitVec 32) (k0_hw62 : k0_chk62 v234), (k0_t19_loop v234).OK := fun v234 k0_hw62 => k0_hw62.2

def k0_dev17 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v363 : BitVec 32 := Scalar.muli v2 c4_i32_293
  let v364 : BitVec 32 := Scalar.addi c0_i32_294 v363
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_295 : BitVec 32 := 2#32
  let v365 : BitVec 32 := Scalar.muli v10 c2_i32_295
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_296 : BitVec 32 := 1#32
  let v367 : BitVec 32 := Scalar.muli v8 c1_i32_296
  let v368 : BitVec 32 := Scalar.addi v366 v367
  v368.toNat
def k0_off180 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_310 : BitVec 32 := 96#32
  let v385 : BitVec 32 := Scalar.addi v14 c96_i32_310
  let v386 : Index := Scalar.indexCast v385
  let c0_311 : Index := 0#32
  ![v386.toNat, 0]
def k0_off181 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c96_i32_316 : BitVec 32 := 96#32
  let v398 : BitVec 32 := Scalar.addi v14 c96_i32_316
  let v399 : Index := Scalar.indexCast v398
  let c0_317 : Index := 0#32
  ![v399.toNat, 0]
def k0_off182 (d0 : Dev nD) (c96_i32_319 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v402 : BitVec 32 := Scalar.addi v14 c96_i32_319
  let c0_i32_326 : BitVec 32 := 0#32
  ![v402.toNat, 0]
def k0_dev18 (d0 : Dev nD) : Nat :=
  let c0_i32_323 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_322 : BitVec 32 := 4#32
  let v403 : BitVec 32 := Scalar.muli v9 c4_i32_322
  let v404 : BitVec 32 := Scalar.addi c0_i32_323 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v405 : BitVec 32 := Scalar.muli v5 c2_i32_324
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v407 : BitVec 32 := Scalar.muli v8 c1_i32_325
  let v408 : BitVec 32 := Scalar.addi v406 v407
  v408.toNat
def k0_dev19 (d0 : Dev nD) : Nat :=
  let c0_i32_333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_332 : BitVec 32 := 4#32
  let v417 : BitVec 32 := Scalar.muli v2 c4_i32_332
  let v418 : BitVec 32 := Scalar.addi c0_i32_333 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_334 : BitVec 32 := 2#32
  let v419 : BitVec 32 := Scalar.muli v5 c2_i32_334
  let v420 : BitVec 32 := Scalar.addi v418 v419
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_335 : BitVec 32 := 1#32
  let v421 : BitVec 32 := Scalar.muli v11 c1_i32_335
  let v422 : BitVec 32 := Scalar.addi v420 v421
  v422.toNat
def k0_off183 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c32_i32_347 : BitVec 32 := 32#32
  let v440 : BitVec 32 := Scalar.addi v18 c32_i32_347
  let c0_i32_354 : BitVec 32 := 0#32
  ![v440.toNat, 0]
def k0_dev20 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v441 : BitVec 32 := Scalar.muli v2 c4_i32_350
  let v442 : BitVec 32 := Scalar.addi c0_i32_351 v441
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v443 : BitVec 32 := Scalar.muli v5 c2_i32_352
  let v444 : BitVec 32 := Scalar.addi v442 v443
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_353 : BitVec 32 := 1#32
  let v445 : BitVec 32 := Scalar.muli v11 c1_i32_353
  let v446 : BitVec 32 := Scalar.addi v444 v445
  v446.toNat
def k0_off184 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c32_i32_366 : BitVec 32 := 32#32
  let v465 : BitVec 32 := Scalar.addi v22 c32_i32_366
  let c16_i32_367 : BitVec 32 := 16#32
  let v466 : BitVec 32 := Scalar.addi v465 c16_i32_367
  let c0_i32_374 : BitVec 32 := 0#32
  ![v466.toNat, 0]
def k0_dev21 (d0 : Dev nD) : Nat :=
  let c0_i32_371 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_370 : BitVec 32 := 4#32
  let v467 : BitVec 32 := Scalar.muli v9 c4_i32_370
  let v468 : BitVec 32 := Scalar.addi c0_i32_371 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_372 : BitVec 32 := 2#32
  let v469 : BitVec 32 := Scalar.muli v5 c2_i32_372
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_373 : BitVec 32 := 1#32
  let v471 : BitVec 32 := Scalar.muli v8 c1_i32_373
  let v472 : BitVec 32 := Scalar.addi v470 v471
  v472.toNat
@[reducible] def k0_t20_loop : Scf.Loop 32 :=
  let c0_i32_377 : BitVec 32 := 0#32
  let c4_i32_378 : BitVec 32 := 4#32
  let v479 : BitVec 32 := Scalar.addi c0_i32_377 c4_i32_378
  let c1_i32_379 : BitVec 32 := 1#32
  ⟨c0_i32_377, v479, c1_i32_379⟩
def k0_off185 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2309 : BitVec 32 := 224#32
  let v2737 : BitVec 32 := Scalar.addi v14 c224_i32_2309
  let c0_i32_377 : BitVec 32 := 0#32
  let c1_i32_379 : BitVec 32 := 1#32
  let arg17 : BitVec 32 := Scf.iv c0_i32_377 c1_i32_379 k0_t20
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off186 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c224_i32_2354 v2736
  let c0_i32_2356 : BitVec 32 := 0#32
  ![v2839.toNat, 0]
def k0_off187 (v2740 : BitVec 32) : Fin 2 → Nat :=
  let c0_i32_2357 : BitVec 32 := 0#32
  ![v2740.toNat, 0]
def k0_cond57 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk63 (v2740 : BitVec 32) : Prop :=
  (∀ (k0_h57 : k0_cond57 v2740 = 1#1), ∀ a, (k0_off187 v2740) a + S1x1024.size a ≤ S16384x1024.size a)
theorem k0_off187_inb : ∀ (v2740 : BitVec 32) (k0_hw63 : k0_chk63 v2740), ∀ (k0_h57 : k0_cond57 v2740 = 1#1), ∀ a, (k0_off187 v2740) a + S1x1024.size a ≤ S16384x1024.size a := fun v2740 k0_hw63 k0_h57 => k0_hw63 k0_h57

def k0_off188 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2314 : BitVec 32 := 224#32
  let v2750 : BitVec 32 := Scalar.addi v14 c224_i32_2314
  let c0_i32_377 : BitVec 32 := 0#32
  let c1_i32_379 : BitVec 32 := 1#32
  let arg17 : BitVec 32 := Scf.iv c0_i32_377 c1_i32_379 k0_t20
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off189 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c224_i32_2354 v2749
  let c0_i32_2356 : BitVec 32 := 0#32
  ![v2839.toNat, 0]
def k0_off190 (v2753 : BitVec 32) : Fin 2 → Nat :=
  let c0_i32_2357 : BitVec 32 := 0#32
  ![v2753.toNat, 0]
def k0_cond58 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk64 (v2753 : BitVec 32) : Prop :=
  (∀ (k0_h58 : k0_cond58 v2753 = 1#1), ∀ a, (k0_off190 v2753) a + S1x1024.size a ≤ S16384x1024.size a)
theorem k0_off190_inb : ∀ (v2753 : BitVec 32) (k0_hw64 : k0_chk64 v2753), ∀ (k0_h58 : k0_cond58 v2753 = 1#1), ∀ a, (k0_off190 v2753) a + S1x1024.size a ≤ S16384x1024.size a := fun v2753 k0_hw64 k0_h58 => k0_hw64 k0_h58

def k0_off191 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2320 : BitVec 32 := 224#32
  let v2763 : BitVec 32 := Scalar.addi v14 c224_i32_2320
  let c0_i32_377 : BitVec 32 := 0#32
  let c1_i32_379 : BitVec 32 := 1#32
  let arg17 : BitVec 32 := Scf.iv c0_i32_377 c1_i32_379 k0_t20
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off192 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c224_i32_2354 v2762
  let c0_i32_2356 : BitVec 32 := 0#32
  ![v2839.toNat, 0]
def k0_off193 (v2766 : BitVec 32) : Fin 2 → Nat :=
  let c0_i32_2357 : BitVec 32 := 0#32
  ![v2766.toNat, 0]
def k0_cond59 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk65 (v2766 : BitVec 32) : Prop :=
  (∀ (k0_h59 : k0_cond59 v2766 = 1#1), ∀ a, (k0_off193 v2766) a + S1x1024.size a ≤ S16384x1024.size a)
theorem k0_off193_inb : ∀ (v2766 : BitVec 32) (k0_hw65 : k0_chk65 v2766), ∀ (k0_h59 : k0_cond59 v2766 = 1#1), ∀ a, (k0_off193 v2766) a + S1x1024.size a ≤ S16384x1024.size a := fun v2766 k0_hw65 k0_h59 => k0_hw65 k0_h59

def k0_off194 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2326 : BitVec 32 := 224#32
  let v2776 : BitVec 32 := Scalar.addi v14 c224_i32_2326
  let c0_i32_377 : BitVec 32 := 0#32
  let c1_i32_379 : BitVec 32 := 1#32
  let arg17 : BitVec 32 := Scf.iv c0_i32_377 c1_i32_379 k0_t20
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off195 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c224_i32_2354 v2775
  let c0_i32_2356 : BitVec 32 := 0#32
  ![v2839.toNat, 0]
def k0_off196 (v2779 : BitVec 32) : Fin 2 → Nat :=
  let c0_i32_2357 : BitVec 32 := 0#32
  ![v2779.toNat, 0]
def k0_cond60 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk66 (v2779 : BitVec 32) : Prop :=
  (∀ (k0_h60 : k0_cond60 v2779 = 1#1), ∀ a, (k0_off196 v2779) a + S1x1024.size a ≤ S16384x1024.size a)
theorem k0_off196_inb : ∀ (v2779 : BitVec 32) (k0_hw66 : k0_chk66 v2779), ∀ (k0_h60 : k0_cond60 v2779 = 1#1), ∀ a, (k0_off196 v2779) a + S1x1024.size a ≤ S16384x1024.size a := fun v2779 k0_hw66 k0_h60 => k0_hw66 k0_h60

def k0_off197 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2332 : BitVec 32 := 224#32
  let v2789 : BitVec 32 := Scalar.addi v14 c224_i32_2332
  let c0_i32_377 : BitVec 32 := 0#32
  let c1_i32_379 : BitVec 32 := 1#32
  let arg17 : BitVec 32 := Scf.iv c0_i32_377 c1_i32_379 k0_t20
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off198 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c224_i32_2354 v2788
  let c0_i32_2356 : BitVec 32 := 0#32
  ![v2839.toNat, 0]
def k0_off199 (v2792 : BitVec 32) : Fin 2 → Nat :=
  let c0_i32_2357 : BitVec 32 := 0#32
  ![v2792.toNat, 0]
def k0_cond61 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk67 (v2792 : BitVec 32) : Prop :=
  (∀ (k0_h61 : k0_cond61 v2792 = 1#1), ∀ a, (k0_off199 v2792) a + S1x1024.size a ≤ S16384x1024.size a)
theorem k0_off199_inb : ∀ (v2792 : BitVec 32) (k0_hw67 : k0_chk67 v2792), ∀ (k0_h61 : k0_cond61 v2792 = 1#1), ∀ a, (k0_off199 v2792) a + S1x1024.size a ≤ S16384x1024.size a := fun v2792 k0_hw67 k0_h61 => k0_hw67 k0_h61

def k0_off200 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2338 : BitVec 32 := 224#32
  let v2802 : BitVec 32 := Scalar.addi v14 c224_i32_2338
  let c0_i32_377 : BitVec 32 := 0#32
  let c1_i32_379 : BitVec 32 := 1#32
  let arg17 : BitVec 32 := Scf.iv c0_i32_377 c1_i32_379 k0_t20
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off201 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c224_i32_2354 v2801
  let c0_i32_2356 : BitVec 32 := 0#32
  ![v2839.toNat, 0]
def k0_off202 (v2805 : BitVec 32) : Fin 2 → Nat :=
  let c0_i32_2357 : BitVec 32 := 0#32
  ![v2805.toNat, 0]
def k0_cond62 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk68 (v2805 : BitVec 32) : Prop :=
  (∀ (k0_h62 : k0_cond62 v2805 = 1#1), ∀ a, (k0_off202 v2805) a + S1x1024.size a ≤ S16384x1024.size a)
theorem k0_off202_inb : ∀ (v2805 : BitVec 32) (k0_hw68 : k0_chk68 v2805), ∀ (k0_h62 : k0_cond62 v2805 = 1#1), ∀ a, (k0_off202 v2805) a + S1x1024.size a ≤ S16384x1024.size a := fun v2805 k0_hw68 k0_h62 => k0_hw68 k0_h62

def k0_off203 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2344 : BitVec 32 := 224#32
  let v2815 : BitVec 32 := Scalar.addi v14 c224_i32_2344
  let c0_i32_377 : BitVec 32 := 0#32
  let c1_i32_379 : BitVec 32 := 1#32
  let arg17 : BitVec 32 := Scf.iv c0_i32_377 c1_i32_379 k0_t20
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off204 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c224_i32_2354 v2814
  let c0_i32_2356 : BitVec 32 := 0#32
  ![v2839.toNat, 0]
def k0_off205 (v2818 : BitVec 32) : Fin 2 → Nat :=
  let c0_i32_2357 : BitVec 32 := 0#32
  ![v2818.toNat, 0]
def k0_cond63 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk69 (v2818 : BitVec 32) : Prop :=
  (∀ (k0_h63 : k0_cond63 v2818 = 1#1), ∀ a, (k0_off205 v2818) a + S1x1024.size a ≤ S16384x1024.size a)
theorem k0_off205_inb : ∀ (v2818 : BitVec 32) (k0_hw69 : k0_chk69 v2818), ∀ (k0_h63 : k0_cond63 v2818 = 1#1), ∀ a, (k0_off205 v2818) a + S1x1024.size a ≤ S16384x1024.size a := fun v2818 k0_hw69 k0_h63 => k0_hw69 k0_h63

def k0_off206 (d0 : Dev nD) (k0_t20 : Fin k0_t20_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_2350 : BitVec 32 := 224#32
  let v2828 : BitVec 32 := Scalar.addi v14 c224_i32_2350
  let c0_i32_377 : BitVec 32 := 0#32
  let c1_i32_379 : BitVec 32 := 1#32
  let arg17 : BitVec 32 := Scf.iv c0_i32_377 c1_i32_379 k0_t20
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off207 (k0_t20 : Fin k0_t20_loop.trips) : Fin 2 → Nat :=
  let c224_i32_2354 : BitVec 32 := 224#32
  let c0_i32_377 : BitVec 32 := 0#32
  let c1_i32_379 : BitVec 32 := 1#32
  let arg17 : BitVec 32 := Scf.iv c0_i32_377 c1_i32_379 k0_t20
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c224_i32_2354 v2827
  let c0_i32_2356 : BitVec 32 := 0#32
  ![v2839.toNat, 0]
def k0_off208 (v2831 : BitVec 32) : Fin 2 → Nat :=
  let c0_i32_2357 : BitVec 32 := 0#32
  ![v2831.toNat, 0]
def k0_cond64 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk70 (v2831 : BitVec 32) : Prop :=
  (∀ (k0_h64 : k0_cond64 v2831 = 1#1), ∀ a, (k0_off208 v2831) a + S1x1024.size a ≤ S16384x1024.size a)
theorem k0_off208_inb : ∀ (v2831 : BitVec 32) (k0_hw70 : k0_chk70 v2831), ∀ (k0_h64 : k0_cond64 v2831 = 1#1), ∀ a, (k0_off208 v2831) a + S1x1024.size a ≤ S16384x1024.size a := fun v2831 k0_hw70 k0_h64 => k0_hw70 k0_h64

@[reducible] def k0_t21_loop (v357 : BitVec 32) : Scf.Loop 32 :=
  let c0_i32_382 : BitVec 32 := 0#32
  let v481 : BitVec 32 := Scalar.subi v357 c0_i32_382
  let c1_i32_383 : BitVec 32 := 1#32
  let v483 : BitVec 32 := Scalar.divsi v481 c1_i32_383
  let v484 : BitVec 32 := Scalar.muli v483 c1_i32_383
  let v485 : BitVec 32 := Scalar.addi c0_i32_382 v484
  let c1_i32_384 : BitVec 32 := 1#32
  ⟨c0_i32_382, v485, c1_i32_384⟩

@[reducible] def k0_t22_loop (v357 : BitVec 32) : Scf.Loop 32 :=
  let c0_i32_382 : BitVec 32 := 0#32
  let v481 : BitVec 32 := Scalar.subi v357 c0_i32_382
  let c1_i32_383 : BitVec 32 := 1#32
  let v483 : BitVec 32 := Scalar.divsi v481 c1_i32_383
  let v484 : BitVec 32 := Scalar.muli v483 c1_i32_383
  let v485 : BitVec 32 := Scalar.addi c0_i32_382 v484
  let v482 : BitVec 32 := Scalar.addi c0_i32_382 v481
  let c1_i32_385 : BitVec 32 := 1#32
  ⟨v485, v482, c1_i32_385⟩

def k0_chk71 (v357 : BitVec 32) : Prop :=
  ((k0_t21_loop v357).OK) ∧
  ((k0_t22_loop v357).OK)
theorem k0_t21_ok : ∀ (v357 : BitVec 32) (k0_hw71 : k0_chk71 v357), (k0_t21_loop v357).OK := fun v357 k0_hw71 => k0_hw71.1
theorem k0_t22_ok : ∀ (v357 : BitVec 32) (k0_hw71 : k0_chk71 v357), (k0_t22_loop v357).OK := fun v357 k0_hw71 => k0_hw71.2

def k0_dev22 (d0 : Dev nD) : Nat :=
  let c0_i32_388 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_387 : BitVec 32 := 4#32
  let v486 : BitVec 32 := Scalar.muli v2 c4_i32_387
  let v487 : BitVec 32 := Scalar.addi c0_i32_388 v486
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_389 : BitVec 32 := 2#32
  let v488 : BitVec 32 := Scalar.muli v10 c2_i32_389
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_390 : BitVec 32 := 1#32
  let v490 : BitVec 32 := Scalar.muli v8 c1_i32_390
  let v491 : BitVec 32 := Scalar.addi v489 v490
  v491.toNat
def k0_off209 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_404 : BitVec 32 := 128#32
  let v508 : BitVec 32 := Scalar.addi v14 c128_i32_404
  let v509 : Index := Scalar.indexCast v508
  let c0_405 : Index := 0#32
  ![v509.toNat, 0]
def k0_off210 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c128_i32_410 : BitVec 32 := 128#32
  let v521 : BitVec 32 := Scalar.addi v14 c128_i32_410
  let v522 : Index := Scalar.indexCast v521
  let c0_411 : Index := 0#32
  ![v522.toNat, 0]
def k0_off211 (d0 : Dev nD) (c128_i32_413 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v525 : BitVec 32 := Scalar.addi v14 c128_i32_413
  let c0_i32_420 : BitVec 32 := 0#32
  ![v525.toNat, 0]
def k0_dev23 (d0 : Dev nD) : Nat :=
  let c0_i32_417 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_416 : BitVec 32 := 4#32
  let v526 : BitVec 32 := Scalar.muli v9 c4_i32_416
  let v527 : BitVec 32 := Scalar.addi c0_i32_417 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_418 : BitVec 32 := 2#32
  let v528 : BitVec 32 := Scalar.muli v5 c2_i32_418
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_419 : BitVec 32 := 1#32
  let v530 : BitVec 32 := Scalar.muli v8 c1_i32_419
  let v531 : BitVec 32 := Scalar.addi v529 v530
  v531.toNat
def k0_dev24 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v540 : BitVec 32 := Scalar.muli v2 c4_i32_426
  let v541 : BitVec 32 := Scalar.addi c0_i32_427 v540
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v542 : BitVec 32 := Scalar.muli v5 c2_i32_428
  let v543 : BitVec 32 := Scalar.addi v541 v542
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_429 : BitVec 32 := 1#32
  let v544 : BitVec 32 := Scalar.muli v11 c1_i32_429
  let v545 : BitVec 32 := Scalar.addi v543 v544
  v545.toNat
def k0_off212 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c64_i32_441 : BitVec 32 := 64#32
  let v563 : BitVec 32 := Scalar.addi v18 c64_i32_441
  let c0_i32_448 : BitVec 32 := 0#32
  ![v563.toNat, 0]
def k0_dev25 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v564 : BitVec 32 := Scalar.muli v2 c4_i32_444
  let v565 : BitVec 32 := Scalar.addi c0_i32_445 v564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v566 : BitVec 32 := Scalar.muli v5 c2_i32_446
  let v567 : BitVec 32 := Scalar.addi v565 v566
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_447 : BitVec 32 := 1#32
  let v568 : BitVec 32 := Scalar.muli v11 c1_i32_447
  let v569 : BitVec 32 := Scalar.addi v567 v568
  v569.toNat
def k0_off213 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c64_i32_460 : BitVec 32 := 64#32
  let v588 : BitVec 32 := Scalar.addi v22 c64_i32_460
  let c16_i32_461 : BitVec 32 := 16#32
  let v589 : BitVec 32 := Scalar.addi v588 c16_i32_461
  let c0_i32_468 : BitVec 32 := 0#32
  ![v589.toNat, 0]
def k0_dev26 (d0 : Dev nD) : Nat :=
  let c0_i32_465 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_464 : BitVec 32 := 4#32
  let v590 : BitVec 32 := Scalar.muli v9 c4_i32_464
  let v591 : BitVec 32 := Scalar.addi c0_i32_465 v590
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_466 : BitVec 32 := 2#32
  let v592 : BitVec 32 := Scalar.muli v5 c2_i32_466
  let v593 : BitVec 32 := Scalar.addi v591 v592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v594 : BitVec 32 := Scalar.muli v8 c1_i32_467
  let v595 : BitVec 32 := Scalar.addi v593 v594
  v595.toNat
@[reducible] def k0_t23_loop : Scf.Loop 32 :=
  let c0_i32_471 : BitVec 32 := 0#32
  let c4_i32_472 : BitVec 32 := 4#32
  let v602 : BitVec 32 := Scalar.addi c0_i32_471 c4_i32_472
  let c1_i32_473 : BitVec 32 := 1#32
  ⟨c0_i32_471, v602, c1_i32_473⟩
def k0_off214 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2309 : BitVec 32 := 256#32
  let v2737 : BitVec 32 := Scalar.addi v14 c256_i32_2309
  let c0_i32_471 : BitVec 32 := 0#32
  let c1_i32_473 : BitVec 32 := 1#32
  let arg17 : BitVec 32 := Scf.iv c0_i32_471 c1_i32_473 k0_t23
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off215 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c256_i32_2354 v2736
  let c0_i32_2356 : BitVec 32 := 0#32
  ![v2839.toNat, 0]
def k0_off216 (v2740 : BitVec 32) : Fin 2 → Nat :=
  let c0_i32_2357 : BitVec 32 := 0#32
  ![v2740.toNat, 0]
def k0_cond65 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk72 (v2740 : BitVec 32) : Prop :=
  (∀ (k0_h65 : k0_cond65 v2740 = 1#1), ∀ a, (k0_off216 v2740) a + S1x1024.size a ≤ S16384x1024.size a)
theorem k0_off216_inb : ∀ (v2740 : BitVec 32) (k0_hw72 : k0_chk72 v2740), ∀ (k0_h65 : k0_cond65 v2740 = 1#1), ∀ a, (k0_off216 v2740) a + S1x1024.size a ≤ S16384x1024.size a := fun v2740 k0_hw72 k0_h65 => k0_hw72 k0_h65

def k0_off217 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2314 : BitVec 32 := 256#32
  let v2750 : BitVec 32 := Scalar.addi v14 c256_i32_2314
  let c0_i32_471 : BitVec 32 := 0#32
  let c1_i32_473 : BitVec 32 := 1#32
  let arg17 : BitVec 32 := Scf.iv c0_i32_471 c1_i32_473 k0_t23
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off218 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c256_i32_2354 v2749
  let c0_i32_2356 : BitVec 32 := 0#32
  ![v2839.toNat, 0]
def k0_off219 (v2753 : BitVec 32) : Fin 2 → Nat :=
  let c0_i32_2357 : BitVec 32 := 0#32
  ![v2753.toNat, 0]
def k0_cond66 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk73 (v2753 : BitVec 32) : Prop :=
  (∀ (k0_h66 : k0_cond66 v2753 = 1#1), ∀ a, (k0_off219 v2753) a + S1x1024.size a ≤ S16384x1024.size a)
theorem k0_off219_inb : ∀ (v2753 : BitVec 32) (k0_hw73 : k0_chk73 v2753), ∀ (k0_h66 : k0_cond66 v2753 = 1#1), ∀ a, (k0_off219 v2753) a + S1x1024.size a ≤ S16384x1024.size a := fun v2753 k0_hw73 k0_h66 => k0_hw73 k0_h66

def k0_off220 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2320 : BitVec 32 := 256#32
  let v2763 : BitVec 32 := Scalar.addi v14 c256_i32_2320
  let c0_i32_471 : BitVec 32 := 0#32
  let c1_i32_473 : BitVec 32 := 1#32
  let arg17 : BitVec 32 := Scf.iv c0_i32_471 c1_i32_473 k0_t23
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off221 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c256_i32_2354 v2762
  let c0_i32_2356 : BitVec 32 := 0#32
  ![v2839.toNat, 0]
def k0_off222 (v2766 : BitVec 32) : Fin 2 → Nat :=
  let c0_i32_2357 : BitVec 32 := 0#32
  ![v2766.toNat, 0]
def k0_cond67 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk74 (v2766 : BitVec 32) : Prop :=
  (∀ (k0_h67 : k0_cond67 v2766 = 1#1), ∀ a, (k0_off222 v2766) a + S1x1024.size a ≤ S16384x1024.size a)
theorem k0_off222_inb : ∀ (v2766 : BitVec 32) (k0_hw74 : k0_chk74 v2766), ∀ (k0_h67 : k0_cond67 v2766 = 1#1), ∀ a, (k0_off222 v2766) a + S1x1024.size a ≤ S16384x1024.size a := fun v2766 k0_hw74 k0_h67 => k0_hw74 k0_h67

def k0_off223 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2326 : BitVec 32 := 256#32
  let v2776 : BitVec 32 := Scalar.addi v14 c256_i32_2326
  let c0_i32_471 : BitVec 32 := 0#32
  let c1_i32_473 : BitVec 32 := 1#32
  let arg17 : BitVec 32 := Scf.iv c0_i32_471 c1_i32_473 k0_t23
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off224 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c256_i32_2354 v2775
  let c0_i32_2356 : BitVec 32 := 0#32
  ![v2839.toNat, 0]
def k0_off225 (v2779 : BitVec 32) : Fin 2 → Nat :=
  let c0_i32_2357 : BitVec 32 := 0#32
  ![v2779.toNat, 0]
def k0_cond68 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk75 (v2779 : BitVec 32) : Prop :=
  (∀ (k0_h68 : k0_cond68 v2779 = 1#1), ∀ a, (k0_off225 v2779) a + S1x1024.size a ≤ S16384x1024.size a)
theorem k0_off225_inb : ∀ (v2779 : BitVec 32) (k0_hw75 : k0_chk75 v2779), ∀ (k0_h68 : k0_cond68 v2779 = 1#1), ∀ a, (k0_off225 v2779) a + S1x1024.size a ≤ S16384x1024.size a := fun v2779 k0_hw75 k0_h68 => k0_hw75 k0_h68

def k0_off226 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2332 : BitVec 32 := 256#32
  let v2789 : BitVec 32 := Scalar.addi v14 c256_i32_2332
  let c0_i32_471 : BitVec 32 := 0#32
  let c1_i32_473 : BitVec 32 := 1#32
  let arg17 : BitVec 32 := Scf.iv c0_i32_471 c1_i32_473 k0_t23
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off227 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c256_i32_2354 v2788
  let c0_i32_2356 : BitVec 32 := 0#32
  ![v2839.toNat, 0]
def k0_off228 (v2792 : BitVec 32) : Fin 2 → Nat :=
  let c0_i32_2357 : BitVec 32 := 0#32
  ![v2792.toNat, 0]
def k0_cond69 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk76 (v2792 : BitVec 32) : Prop :=
  (∀ (k0_h69 : k0_cond69 v2792 = 1#1), ∀ a, (k0_off228 v2792) a + S1x1024.size a ≤ S16384x1024.size a)
theorem k0_off228_inb : ∀ (v2792 : BitVec 32) (k0_hw76 : k0_chk76 v2792), ∀ (k0_h69 : k0_cond69 v2792 = 1#1), ∀ a, (k0_off228 v2792) a + S1x1024.size a ≤ S16384x1024.size a := fun v2792 k0_hw76 k0_h69 => k0_hw76 k0_h69

def k0_off229 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2338 : BitVec 32 := 256#32
  let v2802 : BitVec 32 := Scalar.addi v14 c256_i32_2338
  let c0_i32_471 : BitVec 32 := 0#32
  let c1_i32_473 : BitVec 32 := 1#32
  let arg17 : BitVec 32 := Scf.iv c0_i32_471 c1_i32_473 k0_t23
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off230 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c256_i32_2354 v2801
  let c0_i32_2356 : BitVec 32 := 0#32
  ![v2839.toNat, 0]
def k0_off231 (v2805 : BitVec 32) : Fin 2 → Nat :=
  let c0_i32_2357 : BitVec 32 := 0#32
  ![v2805.toNat, 0]
def k0_cond70 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk77 (v2805 : BitVec 32) : Prop :=
  (∀ (k0_h70 : k0_cond70 v2805 = 1#1), ∀ a, (k0_off231 v2805) a + S1x1024.size a ≤ S16384x1024.size a)
theorem k0_off231_inb : ∀ (v2805 : BitVec 32) (k0_hw77 : k0_chk77 v2805), ∀ (k0_h70 : k0_cond70 v2805 = 1#1), ∀ a, (k0_off231 v2805) a + S1x1024.size a ≤ S16384x1024.size a := fun v2805 k0_hw77 k0_h70 => k0_hw77 k0_h70

def k0_off232 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2344 : BitVec 32 := 256#32
  let v2815 : BitVec 32 := Scalar.addi v14 c256_i32_2344
  let c0_i32_471 : BitVec 32 := 0#32
  let c1_i32_473 : BitVec 32 := 1#32
  let arg17 : BitVec 32 := Scf.iv c0_i32_471 c1_i32_473 k0_t23
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off233 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c256_i32_2354 v2814
  let c0_i32_2356 : BitVec 32 := 0#32
  ![v2839.toNat, 0]
def k0_off234 (v2818 : BitVec 32) : Fin 2 → Nat :=
  let c0_i32_2357 : BitVec 32 := 0#32
  ![v2818.toNat, 0]
def k0_cond71 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk78 (v2818 : BitVec 32) : Prop :=
  (∀ (k0_h71 : k0_cond71 v2818 = 1#1), ∀ a, (k0_off234 v2818) a + S1x1024.size a ≤ S16384x1024.size a)
theorem k0_off234_inb : ∀ (v2818 : BitVec 32) (k0_hw78 : k0_chk78 v2818), ∀ (k0_h71 : k0_cond71 v2818 = 1#1), ∀ a, (k0_off234 v2818) a + S1x1024.size a ≤ S16384x1024.size a := fun v2818 k0_hw78 k0_h71 => k0_hw78 k0_h71

def k0_off235 (d0 : Dev nD) (k0_t23 : Fin k0_t23_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_2350 : BitVec 32 := 256#32
  let v2828 : BitVec 32 := Scalar.addi v14 c256_i32_2350
  let c0_i32_471 : BitVec 32 := 0#32
  let c1_i32_473 : BitVec 32 := 1#32
  let arg17 : BitVec 32 := Scf.iv c0_i32_471 c1_i32_473 k0_t23
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off236 (k0_t23 : Fin k0_t23_loop.trips) : Fin 2 → Nat :=
  let c256_i32_2354 : BitVec 32 := 256#32
  let c0_i32_471 : BitVec 32 := 0#32
  let c1_i32_473 : BitVec 32 := 1#32
  let arg17 : BitVec 32 := Scf.iv c0_i32_471 c1_i32_473 k0_t23
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c256_i32_2354 v2827
  let c0_i32_2356 : BitVec 32 := 0#32
  ![v2839.toNat, 0]
def k0_off237 (v2831 : BitVec 32) : Fin 2 → Nat :=
  let c0_i32_2357 : BitVec 32 := 0#32
  ![v2831.toNat, 0]
def k0_cond72 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk79 (v2831 : BitVec 32) : Prop :=
  (∀ (k0_h72 : k0_cond72 v2831 = 1#1), ∀ a, (k0_off237 v2831) a + S1x1024.size a ≤ S16384x1024.size a)
theorem k0_off237_inb : ∀ (v2831 : BitVec 32) (k0_hw79 : k0_chk79 v2831), ∀ (k0_h72 : k0_cond72 v2831 = 1#1), ∀ a, (k0_off237 v2831) a + S1x1024.size a ≤ S16384x1024.size a := fun v2831 k0_hw79 k0_h72 => k0_hw79 k0_h72

@[reducible] def k0_t24_loop (v480 : BitVec 32) : Scf.Loop 32 :=
  let c0_i32_476 : BitVec 32 := 0#32
  let v604 : BitVec 32 := Scalar.subi v480 c0_i32_476
  let c1_i32_477 : BitVec 32 := 1#32
  let v606 : BitVec 32 := Scalar.divsi v604 c1_i32_477
  let v607 : BitVec 32 := Scalar.muli v606 c1_i32_477
  let v608 : BitVec 32 := Scalar.addi c0_i32_476 v607
  let c1_i32_478 : BitVec 32 := 1#32
  ⟨c0_i32_476, v608, c1_i32_478⟩

@[reducible] def k0_t25_loop (v480 : BitVec 32) : Scf.Loop 32 :=
  let c0_i32_476 : BitVec 32 := 0#32
  let v604 : BitVec 32 := Scalar.subi v480 c0_i32_476
  let c1_i32_477 : BitVec 32 := 1#32
  let v606 : BitVec 32 := Scalar.divsi v604 c1_i32_477
  let v607 : BitVec 32 := Scalar.muli v606 c1_i32_477
  let v608 : BitVec 32 := Scalar.addi c0_i32_476 v607
  let v605 : BitVec 32 := Scalar.addi c0_i32_476 v604
  let c1_i32_479 : BitVec 32 := 1#32
  ⟨v608, v605, c1_i32_479⟩

def k0_chk80 (v480 : BitVec 32) : Prop :=
  ((k0_t24_loop v480).OK) ∧
  ((k0_t25_loop v480).OK)
theorem k0_t24_ok : ∀ (v480 : BitVec 32) (k0_hw80 : k0_chk80 v480), (k0_t24_loop v480).OK := fun v480 k0_hw80 => k0_hw80.1
theorem k0_t25_ok : ∀ (v480 : BitVec 32) (k0_hw80 : k0_chk80 v480), (k0_t25_loop v480).OK := fun v480 k0_hw80 => k0_hw80.2

def k0_dev27 (d0 : Dev nD) : Nat :=
  let c0_i32_482 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_481 : BitVec 32 := 4#32
  let v609 : BitVec 32 := Scalar.muli v2 c4_i32_481
  let v610 : BitVec 32 := Scalar.addi c0_i32_482 v609
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_483 : BitVec 32 := 2#32
  let v611 : BitVec 32 := Scalar.muli v10 c2_i32_483
  let v612 : BitVec 32 := Scalar.addi v610 v611
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_484 : BitVec 32 := 1#32
  let v613 : BitVec 32 := Scalar.muli v8 c1_i32_484
  let v614 : BitVec 32 := Scalar.addi v612 v613
  v614.toNat
def k0_off238 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_498 : BitVec 32 := 160#32
  let v631 : BitVec 32 := Scalar.addi v14 c160_i32_498
  let v632 : Index := Scalar.indexCast v631
  let c0_499 : Index := 0#32
  ![v632.toNat, 0]
def k0_off239 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c160_i32_504 : BitVec 32 := 160#32
  let v644 : BitVec 32 := Scalar.addi v14 c160_i32_504
  let v645 : Index := Scalar.indexCast v644
  let c0_505 : Index := 0#32
  ![v645.toNat, 0]
def k0_off240 (d0 : Dev nD) (c160_i32_507 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v648 : BitVec 32 := Scalar.addi v14 c160_i32_507
  let c0_i32_514 : BitVec 32 := 0#32
  ![v648.toNat, 0]
def k0_dev28 (d0 : Dev nD) : Nat :=
  let c0_i32_511 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_510 : BitVec 32 := 4#32
  let v649 : BitVec 32 := Scalar.muli v9 c4_i32_510
  let v650 : BitVec 32 := Scalar.addi c0_i32_511 v649
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_512 : BitVec 32 := 2#32
  let v651 : BitVec 32 := Scalar.muli v5 c2_i32_512
  let v652 : BitVec 32 := Scalar.addi v650 v651
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_513 : BitVec 32 := 1#32
  let v653 : BitVec 32 := Scalar.muli v8 c1_i32_513
  let v654 : BitVec 32 := Scalar.addi v652 v653
  v654.toNat
def k0_dev29 (d0 : Dev nD) : Nat :=
  let c0_i32_521 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_520 : BitVec 32 := 4#32
  let v663 : BitVec 32 := Scalar.muli v2 c4_i32_520
  let v664 : BitVec 32 := Scalar.addi c0_i32_521 v663
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_522 : BitVec 32 := 2#32
  let v665 : BitVec 32 := Scalar.muli v5 c2_i32_522
  let v666 : BitVec 32 := Scalar.addi v664 v665
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_523 : BitVec 32 := 1#32
  let v667 : BitVec 32 := Scalar.muli v11 c1_i32_523
  let v668 : BitVec 32 := Scalar.addi v666 v667
  v668.toNat
def k0_off241 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c96_i32_535 : BitVec 32 := 96#32
  let v686 : BitVec 32 := Scalar.addi v18 c96_i32_535
  let c0_i32_542 : BitVec 32 := 0#32
  ![v686.toNat, 0]
def k0_dev30 (d0 : Dev nD) : Nat :=
  let c0_i32_539 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_538 : BitVec 32 := 4#32
  let v687 : BitVec 32 := Scalar.muli v2 c4_i32_538
  let v688 : BitVec 32 := Scalar.addi c0_i32_539 v687
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_540 : BitVec 32 := 2#32
  let v689 : BitVec 32 := Scalar.muli v5 c2_i32_540
  let v690 : BitVec 32 := Scalar.addi v688 v689
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_541 : BitVec 32 := 1#32
  let v691 : BitVec 32 := Scalar.muli v11 c1_i32_541
  let v692 : BitVec 32 := Scalar.addi v690 v691
  v692.toNat
def k0_off242 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c96_i32_554 : BitVec 32 := 96#32
  let v711 : BitVec 32 := Scalar.addi v22 c96_i32_554
  let c16_i32_555 : BitVec 32 := 16#32
  let v712 : BitVec 32 := Scalar.addi v711 c16_i32_555
  let c0_i32_562 : BitVec 32 := 0#32
  ![v712.toNat, 0]
def k0_dev31 (d0 : Dev nD) : Nat :=
  let c0_i32_559 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_558 : BitVec 32 := 4#32
  let v713 : BitVec 32 := Scalar.muli v9 c4_i32_558
  let v714 : BitVec 32 := Scalar.addi c0_i32_559 v713
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_560 : BitVec 32 := 2#32
  let v715 : BitVec 32 := Scalar.muli v5 c2_i32_560
  let v716 : BitVec 32 := Scalar.addi v714 v715
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_561 : BitVec 32 := 1#32
  let v717 : BitVec 32 := Scalar.muli v8 c1_i32_561
  let v718 : BitVec 32 := Scalar.addi v716 v717
  v718.toNat
@[reducible] def k0_t26_loop : Scf.Loop 32 :=
  let c0_i32_565 : BitVec 32 := 0#32
  let c4_i32_566 : BitVec 32 := 4#32
  let v725 : BitVec 32 := Scalar.addi c0_i32_565 c4_i32_566
  let c1_i32_567 : BitVec 32 := 1#32
  ⟨c0_i32_565, v725, c1_i32_567⟩
def k0_off243 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2309 : BitVec 32 := 288#32
  let v2737 : BitVec 32 := Scalar.addi v14 c288_i32_2309
  let c0_i32_565 : BitVec 32 := 0#32
  let c1_i32_567 : BitVec 32 := 1#32
  let arg17 : BitVec 32 := Scf.iv c0_i32_565 c1_i32_567 k0_t26
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off244 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c288_i32_2354 v2736
  let c0_i32_2356 : BitVec 32 := 0#32
  ![v2839.toNat, 0]
def k0_off245 (v2740 : BitVec 32) : Fin 2 → Nat :=
  let c0_i32_2357 : BitVec 32 := 0#32
  ![v2740.toNat, 0]
def k0_cond73 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk81 (v2740 : BitVec 32) : Prop :=
  (∀ (k0_h73 : k0_cond73 v2740 = 1#1), ∀ a, (k0_off245 v2740) a + S1x1024.size a ≤ S16384x1024.size a)
theorem k0_off245_inb : ∀ (v2740 : BitVec 32) (k0_hw81 : k0_chk81 v2740), ∀ (k0_h73 : k0_cond73 v2740 = 1#1), ∀ a, (k0_off245 v2740) a + S1x1024.size a ≤ S16384x1024.size a := fun v2740 k0_hw81 k0_h73 => k0_hw81 k0_h73

def k0_off246 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2314 : BitVec 32 := 288#32
  let v2750 : BitVec 32 := Scalar.addi v14 c288_i32_2314
  let c0_i32_565 : BitVec 32 := 0#32
  let c1_i32_567 : BitVec 32 := 1#32
  let arg17 : BitVec 32 := Scf.iv c0_i32_565 c1_i32_567 k0_t26
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off247 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c288_i32_2354 v2749
  let c0_i32_2356 : BitVec 32 := 0#32
  ![v2839.toNat, 0]
def k0_off248 (v2753 : BitVec 32) : Fin 2 → Nat :=
  let c0_i32_2357 : BitVec 32 := 0#32
  ![v2753.toNat, 0]
def k0_cond74 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk82 (v2753 : BitVec 32) : Prop :=
  (∀ (k0_h74 : k0_cond74 v2753 = 1#1), ∀ a, (k0_off248 v2753) a + S1x1024.size a ≤ S16384x1024.size a)
theorem k0_off248_inb : ∀ (v2753 : BitVec 32) (k0_hw82 : k0_chk82 v2753), ∀ (k0_h74 : k0_cond74 v2753 = 1#1), ∀ a, (k0_off248 v2753) a + S1x1024.size a ≤ S16384x1024.size a := fun v2753 k0_hw82 k0_h74 => k0_hw82 k0_h74

def k0_off249 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2320 : BitVec 32 := 288#32
  let v2763 : BitVec 32 := Scalar.addi v14 c288_i32_2320
  let c0_i32_565 : BitVec 32 := 0#32
  let c1_i32_567 : BitVec 32 := 1#32
  let arg17 : BitVec 32 := Scf.iv c0_i32_565 c1_i32_567 k0_t26
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off250 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c288_i32_2354 v2762
  let c0_i32_2356 : BitVec 32 := 0#32
  ![v2839.toNat, 0]
def k0_off251 (v2766 : BitVec 32) : Fin 2 → Nat :=
  let c0_i32_2357 : BitVec 32 := 0#32
  ![v2766.toNat, 0]
def k0_cond75 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk83 (v2766 : BitVec 32) : Prop :=
  (∀ (k0_h75 : k0_cond75 v2766 = 1#1), ∀ a, (k0_off251 v2766) a + S1x1024.size a ≤ S16384x1024.size a)
theorem k0_off251_inb : ∀ (v2766 : BitVec 32) (k0_hw83 : k0_chk83 v2766), ∀ (k0_h75 : k0_cond75 v2766 = 1#1), ∀ a, (k0_off251 v2766) a + S1x1024.size a ≤ S16384x1024.size a := fun v2766 k0_hw83 k0_h75 => k0_hw83 k0_h75

def k0_off252 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2326 : BitVec 32 := 288#32
  let v2776 : BitVec 32 := Scalar.addi v14 c288_i32_2326
  let c0_i32_565 : BitVec 32 := 0#32
  let c1_i32_567 : BitVec 32 := 1#32
  let arg17 : BitVec 32 := Scf.iv c0_i32_565 c1_i32_567 k0_t26
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off253 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c288_i32_2354 v2775
  let c0_i32_2356 : BitVec 32 := 0#32
  ![v2839.toNat, 0]
def k0_off254 (v2779 : BitVec 32) : Fin 2 → Nat :=
  let c0_i32_2357 : BitVec 32 := 0#32
  ![v2779.toNat, 0]
def k0_cond76 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk84 (v2779 : BitVec 32) : Prop :=
  (∀ (k0_h76 : k0_cond76 v2779 = 1#1), ∀ a, (k0_off254 v2779) a + S1x1024.size a ≤ S16384x1024.size a)
theorem k0_off254_inb : ∀ (v2779 : BitVec 32) (k0_hw84 : k0_chk84 v2779), ∀ (k0_h76 : k0_cond76 v2779 = 1#1), ∀ a, (k0_off254 v2779) a + S1x1024.size a ≤ S16384x1024.size a := fun v2779 k0_hw84 k0_h76 => k0_hw84 k0_h76

def k0_off255 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2332 : BitVec 32 := 288#32
  let v2789 : BitVec 32 := Scalar.addi v14 c288_i32_2332
  let c0_i32_565 : BitVec 32 := 0#32
  let c1_i32_567 : BitVec 32 := 1#32
  let arg17 : BitVec 32 := Scf.iv c0_i32_565 c1_i32_567 k0_t26
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off256 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c288_i32_2354 v2788
  let c0_i32_2356 : BitVec 32 := 0#32
  ![v2839.toNat, 0]
def k0_off257 (v2792 : BitVec 32) : Fin 2 → Nat :=
  let c0_i32_2357 : BitVec 32 := 0#32
  ![v2792.toNat, 0]
def k0_cond77 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk85 (v2792 : BitVec 32) : Prop :=
  (∀ (k0_h77 : k0_cond77 v2792 = 1#1), ∀ a, (k0_off257 v2792) a + S1x1024.size a ≤ S16384x1024.size a)
theorem k0_off257_inb : ∀ (v2792 : BitVec 32) (k0_hw85 : k0_chk85 v2792), ∀ (k0_h77 : k0_cond77 v2792 = 1#1), ∀ a, (k0_off257 v2792) a + S1x1024.size a ≤ S16384x1024.size a := fun v2792 k0_hw85 k0_h77 => k0_hw85 k0_h77

def k0_off258 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2338 : BitVec 32 := 288#32
  let v2802 : BitVec 32 := Scalar.addi v14 c288_i32_2338
  let c0_i32_565 : BitVec 32 := 0#32
  let c1_i32_567 : BitVec 32 := 1#32
  let arg17 : BitVec 32 := Scf.iv c0_i32_565 c1_i32_567 k0_t26
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off259 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c288_i32_2354 v2801
  let c0_i32_2356 : BitVec 32 := 0#32
  ![v2839.toNat, 0]
def k0_off260 (v2805 : BitVec 32) : Fin 2 → Nat :=
  let c0_i32_2357 : BitVec 32 := 0#32
  ![v2805.toNat, 0]
def k0_cond78 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk86 (v2805 : BitVec 32) : Prop :=
  (∀ (k0_h78 : k0_cond78 v2805 = 1#1), ∀ a, (k0_off260 v2805) a + S1x1024.size a ≤ S16384x1024.size a)
theorem k0_off260_inb : ∀ (v2805 : BitVec 32) (k0_hw86 : k0_chk86 v2805), ∀ (k0_h78 : k0_cond78 v2805 = 1#1), ∀ a, (k0_off260 v2805) a + S1x1024.size a ≤ S16384x1024.size a := fun v2805 k0_hw86 k0_h78 => k0_hw86 k0_h78

def k0_off261 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2344 : BitVec 32 := 288#32
  let v2815 : BitVec 32 := Scalar.addi v14 c288_i32_2344
  let c0_i32_565 : BitVec 32 := 0#32
  let c1_i32_567 : BitVec 32 := 1#32
  let arg17 : BitVec 32 := Scf.iv c0_i32_565 c1_i32_567 k0_t26
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off262 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c288_i32_2354 v2814
  let c0_i32_2356 : BitVec 32 := 0#32
  ![v2839.toNat, 0]
def k0_off263 (v2818 : BitVec 32) : Fin 2 → Nat :=
  let c0_i32_2357 : BitVec 32 := 0#32
  ![v2818.toNat, 0]
def k0_cond79 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk87 (v2818 : BitVec 32) : Prop :=
  (∀ (k0_h79 : k0_cond79 v2818 = 1#1), ∀ a, (k0_off263 v2818) a + S1x1024.size a ≤ S16384x1024.size a)
theorem k0_off263_inb : ∀ (v2818 : BitVec 32) (k0_hw87 : k0_chk87 v2818), ∀ (k0_h79 : k0_cond79 v2818 = 1#1), ∀ a, (k0_off263 v2818) a + S1x1024.size a ≤ S16384x1024.size a := fun v2818 k0_hw87 k0_h79 => k0_hw87 k0_h79

def k0_off264 (d0 : Dev nD) (k0_t26 : Fin k0_t26_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_2350 : BitVec 32 := 288#32
  let v2828 : BitVec 32 := Scalar.addi v14 c288_i32_2350
  let c0_i32_565 : BitVec 32 := 0#32
  let c1_i32_567 : BitVec 32 := 1#32
  let arg17 : BitVec 32 := Scf.iv c0_i32_565 c1_i32_567 k0_t26
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off265 (k0_t26 : Fin k0_t26_loop.trips) : Fin 2 → Nat :=
  let c288_i32_2354 : BitVec 32 := 288#32
  let c0_i32_565 : BitVec 32 := 0#32
  let c1_i32_567 : BitVec 32 := 1#32
  let arg17 : BitVec 32 := Scf.iv c0_i32_565 c1_i32_567 k0_t26
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c288_i32_2354 v2827
  let c0_i32_2356 : BitVec 32 := 0#32
  ![v2839.toNat, 0]
def k0_off266 (v2831 : BitVec 32) : Fin 2 → Nat :=
  let c0_i32_2357 : BitVec 32 := 0#32
  ![v2831.toNat, 0]
def k0_cond80 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk88 (v2831 : BitVec 32) : Prop :=
  (∀ (k0_h80 : k0_cond80 v2831 = 1#1), ∀ a, (k0_off266 v2831) a + S1x1024.size a ≤ S16384x1024.size a)
theorem k0_off266_inb : ∀ (v2831 : BitVec 32) (k0_hw88 : k0_chk88 v2831), ∀ (k0_h80 : k0_cond80 v2831 = 1#1), ∀ a, (k0_off266 v2831) a + S1x1024.size a ≤ S16384x1024.size a := fun v2831 k0_hw88 k0_h80 => k0_hw88 k0_h80

@[reducible] def k0_t27_loop (v603 : BitVec 32) : Scf.Loop 32 :=
  let c0_i32_570 : BitVec 32 := 0#32
  let v727 : BitVec 32 := Scalar.subi v603 c0_i32_570
  let c1_i32_571 : BitVec 32 := 1#32
  let v729 : BitVec 32 := Scalar.divsi v727 c1_i32_571
  let v730 : BitVec 32 := Scalar.muli v729 c1_i32_571
  let v731 : BitVec 32 := Scalar.addi c0_i32_570 v730
  let c1_i32_572 : BitVec 32 := 1#32
  ⟨c0_i32_570, v731, c1_i32_572⟩

@[reducible] def k0_t28_loop (v603 : BitVec 32) : Scf.Loop 32 :=
  let c0_i32_570 : BitVec 32 := 0#32
  let v727 : BitVec 32 := Scalar.subi v603 c0_i32_570
  let c1_i32_571 : BitVec 32 := 1#32
  let v729 : BitVec 32 := Scalar.divsi v727 c1_i32_571
  let v730 : BitVec 32 := Scalar.muli v729 c1_i32_571
  let v731 : BitVec 32 := Scalar.addi c0_i32_570 v730
  let v728 : BitVec 32 := Scalar.addi c0_i32_570 v727
  let c1_i32_573 : BitVec 32 := 1#32
  ⟨v731, v728, c1_i32_573⟩

def k0_chk89 (v603 : BitVec 32) : Prop :=
  ((k0_t27_loop v603).OK) ∧
  ((k0_t28_loop v603).OK)
theorem k0_t27_ok : ∀ (v603 : BitVec 32) (k0_hw89 : k0_chk89 v603), (k0_t27_loop v603).OK := fun v603 k0_hw89 => k0_hw89.1
theorem k0_t28_ok : ∀ (v603 : BitVec 32) (k0_hw89 : k0_chk89 v603), (k0_t28_loop v603).OK := fun v603 k0_hw89 => k0_hw89.2

def k0_dev32 (d0 : Dev nD) : Nat :=
  let c0_i32_576 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_575 : BitVec 32 := 4#32
  let v732 : BitVec 32 := Scalar.muli v2 c4_i32_575
  let v733 : BitVec 32 := Scalar.addi c0_i32_576 v732
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_577 : BitVec 32 := 2#32
  let v734 : BitVec 32 := Scalar.muli v10 c2_i32_577
  let v735 : BitVec 32 := Scalar.addi v733 v734
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_578 : BitVec 32 := 1#32
  let v736 : BitVec 32 := Scalar.muli v8 c1_i32_578
  let v737 : BitVec 32 := Scalar.addi v735 v736
  v737.toNat
def k0_off267 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_592 : BitVec 32 := 192#32
  let v754 : BitVec 32 := Scalar.addi v14 c192_i32_592
  let v755 : Index := Scalar.indexCast v754
  let c0_593 : Index := 0#32
  ![v755.toNat, 0]
def k0_off268 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c192_i32_598 : BitVec 32 := 192#32
  let v767 : BitVec 32 := Scalar.addi v14 c192_i32_598
  let v768 : Index := Scalar.indexCast v767
  let c0_599 : Index := 0#32
  ![v768.toNat, 0]
def k0_off269 (d0 : Dev nD) (c192_i32_601 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v771 : BitVec 32 := Scalar.addi v14 c192_i32_601
  let c0_i32_608 : BitVec 32 := 0#32
  ![v771.toNat, 0]
def k0_dev33 (d0 : Dev nD) : Nat :=
  let c0_i32_605 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_604 : BitVec 32 := 4#32
  let v772 : BitVec 32 := Scalar.muli v9 c4_i32_604
  let v773 : BitVec 32 := Scalar.addi c0_i32_605 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_606 : BitVec 32 := 2#32
  let v774 : BitVec 32 := Scalar.muli v5 c2_i32_606
  let v775 : BitVec 32 := Scalar.addi v773 v774
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_607 : BitVec 32 := 1#32
  let v776 : BitVec 32 := Scalar.muli v8 c1_i32_607
  let v777 : BitVec 32 := Scalar.addi v775 v776
  v777.toNat
def k0_dev34 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_614 : BitVec 32 := 4#32
  let v786 : BitVec 32 := Scalar.muli v2 c4_i32_614
  let v787 : BitVec 32 := Scalar.addi c0_i32_615 v786
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_616 : BitVec 32 := 2#32
  let v788 : BitVec 32 := Scalar.muli v5 c2_i32_616
  let v789 : BitVec 32 := Scalar.addi v787 v788
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_617 : BitVec 32 := 1#32
  let v790 : BitVec 32 := Scalar.muli v11 c1_i32_617
  let v791 : BitVec 32 := Scalar.addi v789 v790
  v791.toNat
def k0_off270 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c128_i32_629 : BitVec 32 := 128#32
  let v809 : BitVec 32 := Scalar.addi v18 c128_i32_629
  let c0_i32_636 : BitVec 32 := 0#32
  ![v809.toNat, 0]
def k0_dev35 (d0 : Dev nD) : Nat :=
  let c0_i32_633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_632 : BitVec 32 := 4#32
  let v810 : BitVec 32 := Scalar.muli v2 c4_i32_632
  let v811 : BitVec 32 := Scalar.addi c0_i32_633 v810
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_634 : BitVec 32 := 2#32
  let v812 : BitVec 32 := Scalar.muli v5 c2_i32_634
  let v813 : BitVec 32 := Scalar.addi v811 v812
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_635 : BitVec 32 := 1#32
  let v814 : BitVec 32 := Scalar.muli v11 c1_i32_635
  let v815 : BitVec 32 := Scalar.addi v813 v814
  v815.toNat
def k0_off271 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c128_i32_648 : BitVec 32 := 128#32
  let v834 : BitVec 32 := Scalar.addi v22 c128_i32_648
  let c16_i32_649 : BitVec 32 := 16#32
  let v835 : BitVec 32 := Scalar.addi v834 c16_i32_649
  let c0_i32_656 : BitVec 32 := 0#32
  ![v835.toNat, 0]
def k0_dev36 (d0 : Dev nD) : Nat :=
  let c0_i32_653 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_652 : BitVec 32 := 4#32
  let v836 : BitVec 32 := Scalar.muli v9 c4_i32_652
  let v837 : BitVec 32 := Scalar.addi c0_i32_653 v836
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_654 : BitVec 32 := 2#32
  let v838 : BitVec 32 := Scalar.muli v5 c2_i32_654
  let v839 : BitVec 32 := Scalar.addi v837 v838
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_655 : BitVec 32 := 1#32
  let v840 : BitVec 32 := Scalar.muli v8 c1_i32_655
  let v841 : BitVec 32 := Scalar.addi v839 v840
  v841.toNat
@[reducible] def k0_t29_loop : Scf.Loop 32 :=
  let c0_i32_659 : BitVec 32 := 0#32
  let c4_i32_660 : BitVec 32 := 4#32
  let v848 : BitVec 32 := Scalar.addi c0_i32_659 c4_i32_660
  let c1_i32_661 : BitVec 32 := 1#32
  ⟨c0_i32_659, v848, c1_i32_661⟩
def k0_off272 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2309 : BitVec 32 := 320#32
  let v2737 : BitVec 32 := Scalar.addi v14 c320_i32_2309
  let c0_i32_659 : BitVec 32 := 0#32
  let c1_i32_661 : BitVec 32 := 1#32
  let arg17 : BitVec 32 := Scf.iv c0_i32_659 c1_i32_661 k0_t29
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off273 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c320_i32_2354 v2736
  let c0_i32_2356 : BitVec 32 := 0#32
  ![v2839.toNat, 0]
def k0_off274 (v2740 : BitVec 32) : Fin 2 → Nat :=
  let c0_i32_2357 : BitVec 32 := 0#32
  ![v2740.toNat, 0]
def k0_cond81 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk90 (v2740 : BitVec 32) : Prop :=
  (∀ (k0_h81 : k0_cond81 v2740 = 1#1), ∀ a, (k0_off274 v2740) a + S1x1024.size a ≤ S16384x1024.size a)
theorem k0_off274_inb : ∀ (v2740 : BitVec 32) (k0_hw90 : k0_chk90 v2740), ∀ (k0_h81 : k0_cond81 v2740 = 1#1), ∀ a, (k0_off274 v2740) a + S1x1024.size a ≤ S16384x1024.size a := fun v2740 k0_hw90 k0_h81 => k0_hw90 k0_h81

def k0_off275 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2314 : BitVec 32 := 320#32
  let v2750 : BitVec 32 := Scalar.addi v14 c320_i32_2314
  let c0_i32_659 : BitVec 32 := 0#32
  let c1_i32_661 : BitVec 32 := 1#32
  let arg17 : BitVec 32 := Scf.iv c0_i32_659 c1_i32_661 k0_t29
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off276 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c320_i32_2354 v2749
  let c0_i32_2356 : BitVec 32 := 0#32
  ![v2839.toNat, 0]
def k0_off277 (v2753 : BitVec 32) : Fin 2 → Nat :=
  let c0_i32_2357 : BitVec 32 := 0#32
  ![v2753.toNat, 0]
def k0_cond82 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk91 (v2753 : BitVec 32) : Prop :=
  (∀ (k0_h82 : k0_cond82 v2753 = 1#1), ∀ a, (k0_off277 v2753) a + S1x1024.size a ≤ S16384x1024.size a)
theorem k0_off277_inb : ∀ (v2753 : BitVec 32) (k0_hw91 : k0_chk91 v2753), ∀ (k0_h82 : k0_cond82 v2753 = 1#1), ∀ a, (k0_off277 v2753) a + S1x1024.size a ≤ S16384x1024.size a := fun v2753 k0_hw91 k0_h82 => k0_hw91 k0_h82

def k0_off278 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2320 : BitVec 32 := 320#32
  let v2763 : BitVec 32 := Scalar.addi v14 c320_i32_2320
  let c0_i32_659 : BitVec 32 := 0#32
  let c1_i32_661 : BitVec 32 := 1#32
  let arg17 : BitVec 32 := Scf.iv c0_i32_659 c1_i32_661 k0_t29
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off279 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c320_i32_2354 v2762
  let c0_i32_2356 : BitVec 32 := 0#32
  ![v2839.toNat, 0]
def k0_off280 (v2766 : BitVec 32) : Fin 2 → Nat :=
  let c0_i32_2357 : BitVec 32 := 0#32
  ![v2766.toNat, 0]
def k0_cond83 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk92 (v2766 : BitVec 32) : Prop :=
  (∀ (k0_h83 : k0_cond83 v2766 = 1#1), ∀ a, (k0_off280 v2766) a + S1x1024.size a ≤ S16384x1024.size a)
theorem k0_off280_inb : ∀ (v2766 : BitVec 32) (k0_hw92 : k0_chk92 v2766), ∀ (k0_h83 : k0_cond83 v2766 = 1#1), ∀ a, (k0_off280 v2766) a + S1x1024.size a ≤ S16384x1024.size a := fun v2766 k0_hw92 k0_h83 => k0_hw92 k0_h83

def k0_off281 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2326 : BitVec 32 := 320#32
  let v2776 : BitVec 32 := Scalar.addi v14 c320_i32_2326
  let c0_i32_659 : BitVec 32 := 0#32
  let c1_i32_661 : BitVec 32 := 1#32
  let arg17 : BitVec 32 := Scf.iv c0_i32_659 c1_i32_661 k0_t29
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off282 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c320_i32_2354 v2775
  let c0_i32_2356 : BitVec 32 := 0#32
  ![v2839.toNat, 0]
def k0_off283 (v2779 : BitVec 32) : Fin 2 → Nat :=
  let c0_i32_2357 : BitVec 32 := 0#32
  ![v2779.toNat, 0]
def k0_cond84 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk93 (v2779 : BitVec 32) : Prop :=
  (∀ (k0_h84 : k0_cond84 v2779 = 1#1), ∀ a, (k0_off283 v2779) a + S1x1024.size a ≤ S16384x1024.size a)
theorem k0_off283_inb : ∀ (v2779 : BitVec 32) (k0_hw93 : k0_chk93 v2779), ∀ (k0_h84 : k0_cond84 v2779 = 1#1), ∀ a, (k0_off283 v2779) a + S1x1024.size a ≤ S16384x1024.size a := fun v2779 k0_hw93 k0_h84 => k0_hw93 k0_h84

def k0_off284 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2332 : BitVec 32 := 320#32
  let v2789 : BitVec 32 := Scalar.addi v14 c320_i32_2332
  let c0_i32_659 : BitVec 32 := 0#32
  let c1_i32_661 : BitVec 32 := 1#32
  let arg17 : BitVec 32 := Scf.iv c0_i32_659 c1_i32_661 k0_t29
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off285 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c320_i32_2354 v2788
  let c0_i32_2356 : BitVec 32 := 0#32
  ![v2839.toNat, 0]
def k0_off286 (v2792 : BitVec 32) : Fin 2 → Nat :=
  let c0_i32_2357 : BitVec 32 := 0#32
  ![v2792.toNat, 0]
def k0_cond85 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk94 (v2792 : BitVec 32) : Prop :=
  (∀ (k0_h85 : k0_cond85 v2792 = 1#1), ∀ a, (k0_off286 v2792) a + S1x1024.size a ≤ S16384x1024.size a)
theorem k0_off286_inb : ∀ (v2792 : BitVec 32) (k0_hw94 : k0_chk94 v2792), ∀ (k0_h85 : k0_cond85 v2792 = 1#1), ∀ a, (k0_off286 v2792) a + S1x1024.size a ≤ S16384x1024.size a := fun v2792 k0_hw94 k0_h85 => k0_hw94 k0_h85

def k0_off287 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2338 : BitVec 32 := 320#32
  let v2802 : BitVec 32 := Scalar.addi v14 c320_i32_2338
  let c0_i32_659 : BitVec 32 := 0#32
  let c1_i32_661 : BitVec 32 := 1#32
  let arg17 : BitVec 32 := Scf.iv c0_i32_659 c1_i32_661 k0_t29
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off288 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c320_i32_2354 v2801
  let c0_i32_2356 : BitVec 32 := 0#32
  ![v2839.toNat, 0]
def k0_off289 (v2805 : BitVec 32) : Fin 2 → Nat :=
  let c0_i32_2357 : BitVec 32 := 0#32
  ![v2805.toNat, 0]
def k0_cond86 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk95 (v2805 : BitVec 32) : Prop :=
  (∀ (k0_h86 : k0_cond86 v2805 = 1#1), ∀ a, (k0_off289 v2805) a + S1x1024.size a ≤ S16384x1024.size a)
theorem k0_off289_inb : ∀ (v2805 : BitVec 32) (k0_hw95 : k0_chk95 v2805), ∀ (k0_h86 : k0_cond86 v2805 = 1#1), ∀ a, (k0_off289 v2805) a + S1x1024.size a ≤ S16384x1024.size a := fun v2805 k0_hw95 k0_h86 => k0_hw95 k0_h86

def k0_off290 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2344 : BitVec 32 := 320#32
  let v2815 : BitVec 32 := Scalar.addi v14 c320_i32_2344
  let c0_i32_659 : BitVec 32 := 0#32
  let c1_i32_661 : BitVec 32 := 1#32
  let arg17 : BitVec 32 := Scf.iv c0_i32_659 c1_i32_661 k0_t29
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off291 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c320_i32_2354 v2814
  let c0_i32_2356 : BitVec 32 := 0#32
  ![v2839.toNat, 0]
def k0_off292 (v2818 : BitVec 32) : Fin 2 → Nat :=
  let c0_i32_2357 : BitVec 32 := 0#32
  ![v2818.toNat, 0]
def k0_cond87 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk96 (v2818 : BitVec 32) : Prop :=
  (∀ (k0_h87 : k0_cond87 v2818 = 1#1), ∀ a, (k0_off292 v2818) a + S1x1024.size a ≤ S16384x1024.size a)
theorem k0_off292_inb : ∀ (v2818 : BitVec 32) (k0_hw96 : k0_chk96 v2818), ∀ (k0_h87 : k0_cond87 v2818 = 1#1), ∀ a, (k0_off292 v2818) a + S1x1024.size a ≤ S16384x1024.size a := fun v2818 k0_hw96 k0_h87 => k0_hw96 k0_h87

def k0_off293 (d0 : Dev nD) (k0_t29 : Fin k0_t29_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_2350 : BitVec 32 := 320#32
  let v2828 : BitVec 32 := Scalar.addi v14 c320_i32_2350
  let c0_i32_659 : BitVec 32 := 0#32
  let c1_i32_661 : BitVec 32 := 1#32
  let arg17 : BitVec 32 := Scf.iv c0_i32_659 c1_i32_661 k0_t29
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off294 (k0_t29 : Fin k0_t29_loop.trips) : Fin 2 → Nat :=
  let c320_i32_2354 : BitVec 32 := 320#32
  let c0_i32_659 : BitVec 32 := 0#32
  let c1_i32_661 : BitVec 32 := 1#32
  let arg17 : BitVec 32 := Scf.iv c0_i32_659 c1_i32_661 k0_t29
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c320_i32_2354 v2827
  let c0_i32_2356 : BitVec 32 := 0#32
  ![v2839.toNat, 0]
def k0_off295 (v2831 : BitVec 32) : Fin 2 → Nat :=
  let c0_i32_2357 : BitVec 32 := 0#32
  ![v2831.toNat, 0]
def k0_cond88 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk97 (v2831 : BitVec 32) : Prop :=
  (∀ (k0_h88 : k0_cond88 v2831 = 1#1), ∀ a, (k0_off295 v2831) a + S1x1024.size a ≤ S16384x1024.size a)
theorem k0_off295_inb : ∀ (v2831 : BitVec 32) (k0_hw97 : k0_chk97 v2831), ∀ (k0_h88 : k0_cond88 v2831 = 1#1), ∀ a, (k0_off295 v2831) a + S1x1024.size a ≤ S16384x1024.size a := fun v2831 k0_hw97 k0_h88 => k0_hw97 k0_h88

@[reducible] def k0_t30_loop (v726 : BitVec 32) : Scf.Loop 32 :=
  let c0_i32_664 : BitVec 32 := 0#32
  let v850 : BitVec 32 := Scalar.subi v726 c0_i32_664
  let c1_i32_665 : BitVec 32 := 1#32
  let v852 : BitVec 32 := Scalar.divsi v850 c1_i32_665
  let v853 : BitVec 32 := Scalar.muli v852 c1_i32_665
  let v854 : BitVec 32 := Scalar.addi c0_i32_664 v853
  let c1_i32_666 : BitVec 32 := 1#32
  ⟨c0_i32_664, v854, c1_i32_666⟩

@[reducible] def k0_t31_loop (v726 : BitVec 32) : Scf.Loop 32 :=
  let c0_i32_664 : BitVec 32 := 0#32
  let v850 : BitVec 32 := Scalar.subi v726 c0_i32_664
  let c1_i32_665 : BitVec 32 := 1#32
  let v852 : BitVec 32 := Scalar.divsi v850 c1_i32_665
  let v853 : BitVec 32 := Scalar.muli v852 c1_i32_665
  let v854 : BitVec 32 := Scalar.addi c0_i32_664 v853
  let v851 : BitVec 32 := Scalar.addi c0_i32_664 v850
  let c1_i32_667 : BitVec 32 := 1#32
  ⟨v854, v851, c1_i32_667⟩

def k0_chk98 (v726 : BitVec 32) : Prop :=
  ((k0_t30_loop v726).OK) ∧
  ((k0_t31_loop v726).OK)
theorem k0_t30_ok : ∀ (v726 : BitVec 32) (k0_hw98 : k0_chk98 v726), (k0_t30_loop v726).OK := fun v726 k0_hw98 => k0_hw98.1
theorem k0_t31_ok : ∀ (v726 : BitVec 32) (k0_hw98 : k0_chk98 v726), (k0_t31_loop v726).OK := fun v726 k0_hw98 => k0_hw98.2

def k0_dev37 (d0 : Dev nD) : Nat :=
  let c0_i32_670 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_669 : BitVec 32 := 4#32
  let v855 : BitVec 32 := Scalar.muli v2 c4_i32_669
  let v856 : BitVec 32 := Scalar.addi c0_i32_670 v855
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_671 : BitVec 32 := 2#32
  let v857 : BitVec 32 := Scalar.muli v10 c2_i32_671
  let v858 : BitVec 32 := Scalar.addi v856 v857
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v859 : BitVec 32 := Scalar.muli v8 c1_i32_672
  let v860 : BitVec 32 := Scalar.addi v858 v859
  v860.toNat
def k0_off296 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_686 : BitVec 32 := 224#32
  let v877 : BitVec 32 := Scalar.addi v14 c224_i32_686
  let v878 : Index := Scalar.indexCast v877
  let c0_687 : Index := 0#32
  ![v878.toNat, 0]
def k0_off297 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c224_i32_692 : BitVec 32 := 224#32
  let v890 : BitVec 32 := Scalar.addi v14 c224_i32_692
  let v891 : Index := Scalar.indexCast v890
  let c0_693 : Index := 0#32
  ![v891.toNat, 0]
def k0_off298 (d0 : Dev nD) (c224_i32_695 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v894 : BitVec 32 := Scalar.addi v14 c224_i32_695
  let c0_i32_702 : BitVec 32 := 0#32
  ![v894.toNat, 0]
def k0_dev38 (d0 : Dev nD) : Nat :=
  let c0_i32_699 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_698 : BitVec 32 := 4#32
  let v895 : BitVec 32 := Scalar.muli v9 c4_i32_698
  let v896 : BitVec 32 := Scalar.addi c0_i32_699 v895
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_700 : BitVec 32 := 2#32
  let v897 : BitVec 32 := Scalar.muli v5 c2_i32_700
  let v898 : BitVec 32 := Scalar.addi v896 v897
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_701 : BitVec 32 := 1#32
  let v899 : BitVec 32 := Scalar.muli v8 c1_i32_701
  let v900 : BitVec 32 := Scalar.addi v898 v899
  v900.toNat
def k0_dev39 (d0 : Dev nD) : Nat :=
  let c0_i32_709 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_708 : BitVec 32 := 4#32
  let v909 : BitVec 32 := Scalar.muli v2 c4_i32_708
  let v910 : BitVec 32 := Scalar.addi c0_i32_709 v909
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_710 : BitVec 32 := 2#32
  let v911 : BitVec 32 := Scalar.muli v5 c2_i32_710
  let v912 : BitVec 32 := Scalar.addi v910 v911
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_711 : BitVec 32 := 1#32
  let v913 : BitVec 32 := Scalar.muli v11 c1_i32_711
  let v914 : BitVec 32 := Scalar.addi v912 v913
  v914.toNat
def k0_off299 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c160_i32_723 : BitVec 32 := 160#32
  let v932 : BitVec 32 := Scalar.addi v18 c160_i32_723
  let c0_i32_730 : BitVec 32 := 0#32
  ![v932.toNat, 0]
def k0_dev40 (d0 : Dev nD) : Nat :=
  let c0_i32_727 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_726 : BitVec 32 := 4#32
  let v933 : BitVec 32 := Scalar.muli v2 c4_i32_726
  let v934 : BitVec 32 := Scalar.addi c0_i32_727 v933
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_728 : BitVec 32 := 2#32
  let v935 : BitVec 32 := Scalar.muli v5 c2_i32_728
  let v936 : BitVec 32 := Scalar.addi v934 v935
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_729 : BitVec 32 := 1#32
  let v937 : BitVec 32 := Scalar.muli v11 c1_i32_729
  let v938 : BitVec 32 := Scalar.addi v936 v937
  v938.toNat
def k0_off300 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c160_i32_742 : BitVec 32 := 160#32
  let v957 : BitVec 32 := Scalar.addi v22 c160_i32_742
  let c16_i32_743 : BitVec 32 := 16#32
  let v958 : BitVec 32 := Scalar.addi v957 c16_i32_743
  let c0_i32_750 : BitVec 32 := 0#32
  ![v958.toNat, 0]
def k0_dev41 (d0 : Dev nD) : Nat :=
  let c0_i32_747 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_746 : BitVec 32 := 4#32
  let v959 : BitVec 32 := Scalar.muli v9 c4_i32_746
  let v960 : BitVec 32 := Scalar.addi c0_i32_747 v959
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_748 : BitVec 32 := 2#32
  let v961 : BitVec 32 := Scalar.muli v5 c2_i32_748
  let v962 : BitVec 32 := Scalar.addi v960 v961
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_749 : BitVec 32 := 1#32
  let v963 : BitVec 32 := Scalar.muli v8 c1_i32_749
  let v964 : BitVec 32 := Scalar.addi v962 v963
  v964.toNat
@[reducible] def k0_t32_loop : Scf.Loop 32 :=
  let c0_i32_753 : BitVec 32 := 0#32
  let c4_i32_754 : BitVec 32 := 4#32
  let v971 : BitVec 32 := Scalar.addi c0_i32_753 c4_i32_754
  let c1_i32_755 : BitVec 32 := 1#32
  ⟨c0_i32_753, v971, c1_i32_755⟩
def k0_off301 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2309 : BitVec 32 := 352#32
  let v2737 : BitVec 32 := Scalar.addi v14 c352_i32_2309
  let c0_i32_753 : BitVec 32 := 0#32
  let c1_i32_755 : BitVec 32 := 1#32
  let arg17 : BitVec 32 := Scf.iv c0_i32_753 c1_i32_755 k0_t32
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off302 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c352_i32_2354 v2736
  let c0_i32_2356 : BitVec 32 := 0#32
  ![v2839.toNat, 0]
def k0_off303 (v2740 : BitVec 32) : Fin 2 → Nat :=
  let c0_i32_2357 : BitVec 32 := 0#32
  ![v2740.toNat, 0]
def k0_cond89 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk99 (v2740 : BitVec 32) : Prop :=
  (∀ (k0_h89 : k0_cond89 v2740 = 1#1), ∀ a, (k0_off303 v2740) a + S1x1024.size a ≤ S16384x1024.size a)
theorem k0_off303_inb : ∀ (v2740 : BitVec 32) (k0_hw99 : k0_chk99 v2740), ∀ (k0_h89 : k0_cond89 v2740 = 1#1), ∀ a, (k0_off303 v2740) a + S1x1024.size a ≤ S16384x1024.size a := fun v2740 k0_hw99 k0_h89 => k0_hw99 k0_h89

def k0_off304 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2314 : BitVec 32 := 352#32
  let v2750 : BitVec 32 := Scalar.addi v14 c352_i32_2314
  let c0_i32_753 : BitVec 32 := 0#32
  let c1_i32_755 : BitVec 32 := 1#32
  let arg17 : BitVec 32 := Scf.iv c0_i32_753 c1_i32_755 k0_t32
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off305 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c352_i32_2354 v2749
  let c0_i32_2356 : BitVec 32 := 0#32
  ![v2839.toNat, 0]
def k0_off306 (v2753 : BitVec 32) : Fin 2 → Nat :=
  let c0_i32_2357 : BitVec 32 := 0#32
  ![v2753.toNat, 0]
def k0_cond90 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk100 (v2753 : BitVec 32) : Prop :=
  (∀ (k0_h90 : k0_cond90 v2753 = 1#1), ∀ a, (k0_off306 v2753) a + S1x1024.size a ≤ S16384x1024.size a)
theorem k0_off306_inb : ∀ (v2753 : BitVec 32) (k0_hw100 : k0_chk100 v2753), ∀ (k0_h90 : k0_cond90 v2753 = 1#1), ∀ a, (k0_off306 v2753) a + S1x1024.size a ≤ S16384x1024.size a := fun v2753 k0_hw100 k0_h90 => k0_hw100 k0_h90

def k0_off307 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2320 : BitVec 32 := 352#32
  let v2763 : BitVec 32 := Scalar.addi v14 c352_i32_2320
  let c0_i32_753 : BitVec 32 := 0#32
  let c1_i32_755 : BitVec 32 := 1#32
  let arg17 : BitVec 32 := Scf.iv c0_i32_753 c1_i32_755 k0_t32
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off308 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c352_i32_2354 v2762
  let c0_i32_2356 : BitVec 32 := 0#32
  ![v2839.toNat, 0]
def k0_off309 (v2766 : BitVec 32) : Fin 2 → Nat :=
  let c0_i32_2357 : BitVec 32 := 0#32
  ![v2766.toNat, 0]
def k0_cond91 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk101 (v2766 : BitVec 32) : Prop :=
  (∀ (k0_h91 : k0_cond91 v2766 = 1#1), ∀ a, (k0_off309 v2766) a + S1x1024.size a ≤ S16384x1024.size a)
theorem k0_off309_inb : ∀ (v2766 : BitVec 32) (k0_hw101 : k0_chk101 v2766), ∀ (k0_h91 : k0_cond91 v2766 = 1#1), ∀ a, (k0_off309 v2766) a + S1x1024.size a ≤ S16384x1024.size a := fun v2766 k0_hw101 k0_h91 => k0_hw101 k0_h91

def k0_off310 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2326 : BitVec 32 := 352#32
  let v2776 : BitVec 32 := Scalar.addi v14 c352_i32_2326
  let c0_i32_753 : BitVec 32 := 0#32
  let c1_i32_755 : BitVec 32 := 1#32
  let arg17 : BitVec 32 := Scf.iv c0_i32_753 c1_i32_755 k0_t32
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off311 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c352_i32_2354 v2775
  let c0_i32_2356 : BitVec 32 := 0#32
  ![v2839.toNat, 0]
def k0_off312 (v2779 : BitVec 32) : Fin 2 → Nat :=
  let c0_i32_2357 : BitVec 32 := 0#32
  ![v2779.toNat, 0]
def k0_cond92 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk102 (v2779 : BitVec 32) : Prop :=
  (∀ (k0_h92 : k0_cond92 v2779 = 1#1), ∀ a, (k0_off312 v2779) a + S1x1024.size a ≤ S16384x1024.size a)
theorem k0_off312_inb : ∀ (v2779 : BitVec 32) (k0_hw102 : k0_chk102 v2779), ∀ (k0_h92 : k0_cond92 v2779 = 1#1), ∀ a, (k0_off312 v2779) a + S1x1024.size a ≤ S16384x1024.size a := fun v2779 k0_hw102 k0_h92 => k0_hw102 k0_h92

def k0_off313 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2332 : BitVec 32 := 352#32
  let v2789 : BitVec 32 := Scalar.addi v14 c352_i32_2332
  let c0_i32_753 : BitVec 32 := 0#32
  let c1_i32_755 : BitVec 32 := 1#32
  let arg17 : BitVec 32 := Scf.iv c0_i32_753 c1_i32_755 k0_t32
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off314 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c352_i32_2354 v2788
  let c0_i32_2356 : BitVec 32 := 0#32
  ![v2839.toNat, 0]
def k0_off315 (v2792 : BitVec 32) : Fin 2 → Nat :=
  let c0_i32_2357 : BitVec 32 := 0#32
  ![v2792.toNat, 0]
def k0_cond93 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk103 (v2792 : BitVec 32) : Prop :=
  (∀ (k0_h93 : k0_cond93 v2792 = 1#1), ∀ a, (k0_off315 v2792) a + S1x1024.size a ≤ S16384x1024.size a)
theorem k0_off315_inb : ∀ (v2792 : BitVec 32) (k0_hw103 : k0_chk103 v2792), ∀ (k0_h93 : k0_cond93 v2792 = 1#1), ∀ a, (k0_off315 v2792) a + S1x1024.size a ≤ S16384x1024.size a := fun v2792 k0_hw103 k0_h93 => k0_hw103 k0_h93

def k0_off316 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2338 : BitVec 32 := 352#32
  let v2802 : BitVec 32 := Scalar.addi v14 c352_i32_2338
  let c0_i32_753 : BitVec 32 := 0#32
  let c1_i32_755 : BitVec 32 := 1#32
  let arg17 : BitVec 32 := Scf.iv c0_i32_753 c1_i32_755 k0_t32
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off317 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c352_i32_2354 v2801
  let c0_i32_2356 : BitVec 32 := 0#32
  ![v2839.toNat, 0]
def k0_off318 (v2805 : BitVec 32) : Fin 2 → Nat :=
  let c0_i32_2357 : BitVec 32 := 0#32
  ![v2805.toNat, 0]
def k0_cond94 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk104 (v2805 : BitVec 32) : Prop :=
  (∀ (k0_h94 : k0_cond94 v2805 = 1#1), ∀ a, (k0_off318 v2805) a + S1x1024.size a ≤ S16384x1024.size a)
theorem k0_off318_inb : ∀ (v2805 : BitVec 32) (k0_hw104 : k0_chk104 v2805), ∀ (k0_h94 : k0_cond94 v2805 = 1#1), ∀ a, (k0_off318 v2805) a + S1x1024.size a ≤ S16384x1024.size a := fun v2805 k0_hw104 k0_h94 => k0_hw104 k0_h94

def k0_off319 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2344 : BitVec 32 := 352#32
  let v2815 : BitVec 32 := Scalar.addi v14 c352_i32_2344
  let c0_i32_753 : BitVec 32 := 0#32
  let c1_i32_755 : BitVec 32 := 1#32
  let arg17 : BitVec 32 := Scf.iv c0_i32_753 c1_i32_755 k0_t32
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off320 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c352_i32_2354 v2814
  let c0_i32_2356 : BitVec 32 := 0#32
  ![v2839.toNat, 0]
def k0_off321 (v2818 : BitVec 32) : Fin 2 → Nat :=
  let c0_i32_2357 : BitVec 32 := 0#32
  ![v2818.toNat, 0]
def k0_cond95 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk105 (v2818 : BitVec 32) : Prop :=
  (∀ (k0_h95 : k0_cond95 v2818 = 1#1), ∀ a, (k0_off321 v2818) a + S1x1024.size a ≤ S16384x1024.size a)
theorem k0_off321_inb : ∀ (v2818 : BitVec 32) (k0_hw105 : k0_chk105 v2818), ∀ (k0_h95 : k0_cond95 v2818 = 1#1), ∀ a, (k0_off321 v2818) a + S1x1024.size a ≤ S16384x1024.size a := fun v2818 k0_hw105 k0_h95 => k0_hw105 k0_h95

def k0_off322 (d0 : Dev nD) (k0_t32 : Fin k0_t32_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_2350 : BitVec 32 := 352#32
  let v2828 : BitVec 32 := Scalar.addi v14 c352_i32_2350
  let c0_i32_753 : BitVec 32 := 0#32
  let c1_i32_755 : BitVec 32 := 1#32
  let arg17 : BitVec 32 := Scf.iv c0_i32_753 c1_i32_755 k0_t32
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off323 (k0_t32 : Fin k0_t32_loop.trips) : Fin 2 → Nat :=
  let c352_i32_2354 : BitVec 32 := 352#32
  let c0_i32_753 : BitVec 32 := 0#32
  let c1_i32_755 : BitVec 32 := 1#32
  let arg17 : BitVec 32 := Scf.iv c0_i32_753 c1_i32_755 k0_t32
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c352_i32_2354 v2827
  let c0_i32_2356 : BitVec 32 := 0#32
  ![v2839.toNat, 0]
def k0_off324 (v2831 : BitVec 32) : Fin 2 → Nat :=
  let c0_i32_2357 : BitVec 32 := 0#32
  ![v2831.toNat, 0]
def k0_cond96 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk106 (v2831 : BitVec 32) : Prop :=
  (∀ (k0_h96 : k0_cond96 v2831 = 1#1), ∀ a, (k0_off324 v2831) a + S1x1024.size a ≤ S16384x1024.size a)
theorem k0_off324_inb : ∀ (v2831 : BitVec 32) (k0_hw106 : k0_chk106 v2831), ∀ (k0_h96 : k0_cond96 v2831 = 1#1), ∀ a, (k0_off324 v2831) a + S1x1024.size a ≤ S16384x1024.size a := fun v2831 k0_hw106 k0_h96 => k0_hw106 k0_h96

@[reducible] def k0_t33_loop (v849 : BitVec 32) : Scf.Loop 32 :=
  let c0_i32_758 : BitVec 32 := 0#32
  let v973 : BitVec 32 := Scalar.subi v849 c0_i32_758
  let c1_i32_759 : BitVec 32 := 1#32
  let v975 : BitVec 32 := Scalar.divsi v973 c1_i32_759
  let v976 : BitVec 32 := Scalar.muli v975 c1_i32_759
  let v977 : BitVec 32 := Scalar.addi c0_i32_758 v976
  let c1_i32_760 : BitVec 32 := 1#32
  ⟨c0_i32_758, v977, c1_i32_760⟩

@[reducible] def k0_t34_loop (v849 : BitVec 32) : Scf.Loop 32 :=
  let c0_i32_758 : BitVec 32 := 0#32
  let v973 : BitVec 32 := Scalar.subi v849 c0_i32_758
  let c1_i32_759 : BitVec 32 := 1#32
  let v975 : BitVec 32 := Scalar.divsi v973 c1_i32_759
  let v976 : BitVec 32 := Scalar.muli v975 c1_i32_759
  let v977 : BitVec 32 := Scalar.addi c0_i32_758 v976
  let v974 : BitVec 32 := Scalar.addi c0_i32_758 v973
  let c1_i32_761 : BitVec 32 := 1#32
  ⟨v977, v974, c1_i32_761⟩

def k0_chk107 (v849 : BitVec 32) : Prop :=
  ((k0_t33_loop v849).OK) ∧
  ((k0_t34_loop v849).OK)
theorem k0_t33_ok : ∀ (v849 : BitVec 32) (k0_hw107 : k0_chk107 v849), (k0_t33_loop v849).OK := fun v849 k0_hw107 => k0_hw107.1
theorem k0_t34_ok : ∀ (v849 : BitVec 32) (k0_hw107 : k0_chk107 v849), (k0_t34_loop v849).OK := fun v849 k0_hw107 => k0_hw107.2

def k0_dev42 (d0 : Dev nD) : Nat :=
  let c0_i32_764 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_763 : BitVec 32 := 4#32
  let v978 : BitVec 32 := Scalar.muli v2 c4_i32_763
  let v979 : BitVec 32 := Scalar.addi c0_i32_764 v978
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_765 : BitVec 32 := 2#32
  let v980 : BitVec 32 := Scalar.muli v10 c2_i32_765
  let v981 : BitVec 32 := Scalar.addi v979 v980
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_766 : BitVec 32 := 1#32
  let v982 : BitVec 32 := Scalar.muli v8 c1_i32_766
  let v983 : BitVec 32 := Scalar.addi v981 v982
  v983.toNat
def k0_off325 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_780 : BitVec 32 := 256#32
  let v1000 : BitVec 32 := Scalar.addi v14 c256_i32_780
  let v1001 : Index := Scalar.indexCast v1000
  let c0_781 : Index := 0#32
  ![v1001.toNat, 0]
def k0_off326 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c256_i32_786 : BitVec 32 := 256#32
  let v1013 : BitVec 32 := Scalar.addi v14 c256_i32_786
  let v1014 : Index := Scalar.indexCast v1013
  let c0_787 : Index := 0#32
  ![v1014.toNat, 0]
def k0_off327 (d0 : Dev nD) (c256_i32_789 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1017 : BitVec 32 := Scalar.addi v14 c256_i32_789
  let c0_i32_796 : BitVec 32 := 0#32
  ![v1017.toNat, 0]
def k0_dev43 (d0 : Dev nD) : Nat :=
  let c0_i32_793 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_792 : BitVec 32 := 4#32
  let v1018 : BitVec 32 := Scalar.muli v9 c4_i32_792
  let v1019 : BitVec 32 := Scalar.addi c0_i32_793 v1018
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_794 : BitVec 32 := 2#32
  let v1020 : BitVec 32 := Scalar.muli v5 c2_i32_794
  let v1021 : BitVec 32 := Scalar.addi v1019 v1020
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_795 : BitVec 32 := 1#32
  let v1022 : BitVec 32 := Scalar.muli v8 c1_i32_795
  let v1023 : BitVec 32 := Scalar.addi v1021 v1022
  v1023.toNat
def k0_dev44 (d0 : Dev nD) : Nat :=
  let c0_i32_803 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_802 : BitVec 32 := 4#32
  let v1032 : BitVec 32 := Scalar.muli v2 c4_i32_802
  let v1033 : BitVec 32 := Scalar.addi c0_i32_803 v1032
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_804 : BitVec 32 := 2#32
  let v1034 : BitVec 32 := Scalar.muli v5 c2_i32_804
  let v1035 : BitVec 32 := Scalar.addi v1033 v1034
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_805 : BitVec 32 := 1#32
  let v1036 : BitVec 32 := Scalar.muli v11 c1_i32_805
  let v1037 : BitVec 32 := Scalar.addi v1035 v1036
  v1037.toNat
def k0_off328 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c192_i32_817 : BitVec 32 := 192#32
  let v1055 : BitVec 32 := Scalar.addi v18 c192_i32_817
  let c0_i32_824 : BitVec 32 := 0#32
  ![v1055.toNat, 0]
def k0_dev45 (d0 : Dev nD) : Nat :=
  let c0_i32_821 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_820 : BitVec 32 := 4#32
  let v1056 : BitVec 32 := Scalar.muli v2 c4_i32_820
  let v1057 : BitVec 32 := Scalar.addi c0_i32_821 v1056
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_822 : BitVec 32 := 2#32
  let v1058 : BitVec 32 := Scalar.muli v5 c2_i32_822
  let v1059 : BitVec 32 := Scalar.addi v1057 v1058
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_823 : BitVec 32 := 1#32
  let v1060 : BitVec 32 := Scalar.muli v11 c1_i32_823
  let v1061 : BitVec 32 := Scalar.addi v1059 v1060
  v1061.toNat
def k0_off329 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c192_i32_836 : BitVec 32 := 192#32
  let v1080 : BitVec 32 := Scalar.addi v22 c192_i32_836
  let c16_i32_837 : BitVec 32 := 16#32
  let v1081 : BitVec 32 := Scalar.addi v1080 c16_i32_837
  let c0_i32_844 : BitVec 32 := 0#32
  ![v1081.toNat, 0]
def k0_dev46 (d0 : Dev nD) : Nat :=
  let c0_i32_841 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_840 : BitVec 32 := 4#32
  let v1082 : BitVec 32 := Scalar.muli v9 c4_i32_840
  let v1083 : BitVec 32 := Scalar.addi c0_i32_841 v1082
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_842 : BitVec 32 := 2#32
  let v1084 : BitVec 32 := Scalar.muli v5 c2_i32_842
  let v1085 : BitVec 32 := Scalar.addi v1083 v1084
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_843 : BitVec 32 := 1#32
  let v1086 : BitVec 32 := Scalar.muli v8 c1_i32_843
  let v1087 : BitVec 32 := Scalar.addi v1085 v1086
  v1087.toNat
@[reducible] def k0_t35_loop : Scf.Loop 32 :=
  let c0_i32_847 : BitVec 32 := 0#32
  let c4_i32_848 : BitVec 32 := 4#32
  let v1094 : BitVec 32 := Scalar.addi c0_i32_847 c4_i32_848
  let c1_i32_849 : BitVec 32 := 1#32
  ⟨c0_i32_847, v1094, c1_i32_849⟩
def k0_off330 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2309 : BitVec 32 := 384#32
  let v2737 : BitVec 32 := Scalar.addi v14 c384_i32_2309
  let c0_i32_847 : BitVec 32 := 0#32
  let c1_i32_849 : BitVec 32 := 1#32
  let arg17 : BitVec 32 := Scf.iv c0_i32_847 c1_i32_849 k0_t35
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off331 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c384_i32_2354 v2736
  let c0_i32_2356 : BitVec 32 := 0#32
  ![v2839.toNat, 0]
def k0_off332 (v2740 : BitVec 32) : Fin 2 → Nat :=
  let c0_i32_2357 : BitVec 32 := 0#32
  ![v2740.toNat, 0]
def k0_cond97 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk108 (v2740 : BitVec 32) : Prop :=
  (∀ (k0_h97 : k0_cond97 v2740 = 1#1), ∀ a, (k0_off332 v2740) a + S1x1024.size a ≤ S16384x1024.size a)
theorem k0_off332_inb : ∀ (v2740 : BitVec 32) (k0_hw108 : k0_chk108 v2740), ∀ (k0_h97 : k0_cond97 v2740 = 1#1), ∀ a, (k0_off332 v2740) a + S1x1024.size a ≤ S16384x1024.size a := fun v2740 k0_hw108 k0_h97 => k0_hw108 k0_h97

def k0_off333 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2314 : BitVec 32 := 384#32
  let v2750 : BitVec 32 := Scalar.addi v14 c384_i32_2314
  let c0_i32_847 : BitVec 32 := 0#32
  let c1_i32_849 : BitVec 32 := 1#32
  let arg17 : BitVec 32 := Scf.iv c0_i32_847 c1_i32_849 k0_t35
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off334 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c384_i32_2354 v2749
  let c0_i32_2356 : BitVec 32 := 0#32
  ![v2839.toNat, 0]
def k0_off335 (v2753 : BitVec 32) : Fin 2 → Nat :=
  let c0_i32_2357 : BitVec 32 := 0#32
  ![v2753.toNat, 0]
def k0_cond98 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk109 (v2753 : BitVec 32) : Prop :=
  (∀ (k0_h98 : k0_cond98 v2753 = 1#1), ∀ a, (k0_off335 v2753) a + S1x1024.size a ≤ S16384x1024.size a)
theorem k0_off335_inb : ∀ (v2753 : BitVec 32) (k0_hw109 : k0_chk109 v2753), ∀ (k0_h98 : k0_cond98 v2753 = 1#1), ∀ a, (k0_off335 v2753) a + S1x1024.size a ≤ S16384x1024.size a := fun v2753 k0_hw109 k0_h98 => k0_hw109 k0_h98

def k0_off336 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2320 : BitVec 32 := 384#32
  let v2763 : BitVec 32 := Scalar.addi v14 c384_i32_2320
  let c0_i32_847 : BitVec 32 := 0#32
  let c1_i32_849 : BitVec 32 := 1#32
  let arg17 : BitVec 32 := Scf.iv c0_i32_847 c1_i32_849 k0_t35
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off337 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c384_i32_2354 v2762
  let c0_i32_2356 : BitVec 32 := 0#32
  ![v2839.toNat, 0]
def k0_off338 (v2766 : BitVec 32) : Fin 2 → Nat :=
  let c0_i32_2357 : BitVec 32 := 0#32
  ![v2766.toNat, 0]
def k0_cond99 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk110 (v2766 : BitVec 32) : Prop :=
  (∀ (k0_h99 : k0_cond99 v2766 = 1#1), ∀ a, (k0_off338 v2766) a + S1x1024.size a ≤ S16384x1024.size a)
theorem k0_off338_inb : ∀ (v2766 : BitVec 32) (k0_hw110 : k0_chk110 v2766), ∀ (k0_h99 : k0_cond99 v2766 = 1#1), ∀ a, (k0_off338 v2766) a + S1x1024.size a ≤ S16384x1024.size a := fun v2766 k0_hw110 k0_h99 => k0_hw110 k0_h99

def k0_off339 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2326 : BitVec 32 := 384#32
  let v2776 : BitVec 32 := Scalar.addi v14 c384_i32_2326
  let c0_i32_847 : BitVec 32 := 0#32
  let c1_i32_849 : BitVec 32 := 1#32
  let arg17 : BitVec 32 := Scf.iv c0_i32_847 c1_i32_849 k0_t35
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off340 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c384_i32_2354 v2775
  let c0_i32_2356 : BitVec 32 := 0#32
  ![v2839.toNat, 0]
def k0_off341 (v2779 : BitVec 32) : Fin 2 → Nat :=
  let c0_i32_2357 : BitVec 32 := 0#32
  ![v2779.toNat, 0]
def k0_cond100 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk111 (v2779 : BitVec 32) : Prop :=
  (∀ (k0_h100 : k0_cond100 v2779 = 1#1), ∀ a, (k0_off341 v2779) a + S1x1024.size a ≤ S16384x1024.size a)
theorem k0_off341_inb : ∀ (v2779 : BitVec 32) (k0_hw111 : k0_chk111 v2779), ∀ (k0_h100 : k0_cond100 v2779 = 1#1), ∀ a, (k0_off341 v2779) a + S1x1024.size a ≤ S16384x1024.size a := fun v2779 k0_hw111 k0_h100 => k0_hw111 k0_h100

def k0_off342 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2332 : BitVec 32 := 384#32
  let v2789 : BitVec 32 := Scalar.addi v14 c384_i32_2332
  let c0_i32_847 : BitVec 32 := 0#32
  let c1_i32_849 : BitVec 32 := 1#32
  let arg17 : BitVec 32 := Scf.iv c0_i32_847 c1_i32_849 k0_t35
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off343 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c384_i32_2354 v2788
  let c0_i32_2356 : BitVec 32 := 0#32
  ![v2839.toNat, 0]
def k0_off344 (v2792 : BitVec 32) : Fin 2 → Nat :=
  let c0_i32_2357 : BitVec 32 := 0#32
  ![v2792.toNat, 0]
def k0_cond101 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk112 (v2792 : BitVec 32) : Prop :=
  (∀ (k0_h101 : k0_cond101 v2792 = 1#1), ∀ a, (k0_off344 v2792) a + S1x1024.size a ≤ S16384x1024.size a)
theorem k0_off344_inb : ∀ (v2792 : BitVec 32) (k0_hw112 : k0_chk112 v2792), ∀ (k0_h101 : k0_cond101 v2792 = 1#1), ∀ a, (k0_off344 v2792) a + S1x1024.size a ≤ S16384x1024.size a := fun v2792 k0_hw112 k0_h101 => k0_hw112 k0_h101

def k0_off345 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2338 : BitVec 32 := 384#32
  let v2802 : BitVec 32 := Scalar.addi v14 c384_i32_2338
  let c0_i32_847 : BitVec 32 := 0#32
  let c1_i32_849 : BitVec 32 := 1#32
  let arg17 : BitVec 32 := Scf.iv c0_i32_847 c1_i32_849 k0_t35
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off346 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c384_i32_2354 v2801
  let c0_i32_2356 : BitVec 32 := 0#32
  ![v2839.toNat, 0]
def k0_off347 (v2805 : BitVec 32) : Fin 2 → Nat :=
  let c0_i32_2357 : BitVec 32 := 0#32
  ![v2805.toNat, 0]
def k0_cond102 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk113 (v2805 : BitVec 32) : Prop :=
  (∀ (k0_h102 : k0_cond102 v2805 = 1#1), ∀ a, (k0_off347 v2805) a + S1x1024.size a ≤ S16384x1024.size a)
theorem k0_off347_inb : ∀ (v2805 : BitVec 32) (k0_hw113 : k0_chk113 v2805), ∀ (k0_h102 : k0_cond102 v2805 = 1#1), ∀ a, (k0_off347 v2805) a + S1x1024.size a ≤ S16384x1024.size a := fun v2805 k0_hw113 k0_h102 => k0_hw113 k0_h102

def k0_off348 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2344 : BitVec 32 := 384#32
  let v2815 : BitVec 32 := Scalar.addi v14 c384_i32_2344
  let c0_i32_847 : BitVec 32 := 0#32
  let c1_i32_849 : BitVec 32 := 1#32
  let arg17 : BitVec 32 := Scf.iv c0_i32_847 c1_i32_849 k0_t35
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off349 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c384_i32_2354 v2814
  let c0_i32_2356 : BitVec 32 := 0#32
  ![v2839.toNat, 0]
def k0_off350 (v2818 : BitVec 32) : Fin 2 → Nat :=
  let c0_i32_2357 : BitVec 32 := 0#32
  ![v2818.toNat, 0]
def k0_cond103 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk114 (v2818 : BitVec 32) : Prop :=
  (∀ (k0_h103 : k0_cond103 v2818 = 1#1), ∀ a, (k0_off350 v2818) a + S1x1024.size a ≤ S16384x1024.size a)
theorem k0_off350_inb : ∀ (v2818 : BitVec 32) (k0_hw114 : k0_chk114 v2818), ∀ (k0_h103 : k0_cond103 v2818 = 1#1), ∀ a, (k0_off350 v2818) a + S1x1024.size a ≤ S16384x1024.size a := fun v2818 k0_hw114 k0_h103 => k0_hw114 k0_h103

def k0_off351 (d0 : Dev nD) (k0_t35 : Fin k0_t35_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_2350 : BitVec 32 := 384#32
  let v2828 : BitVec 32 := Scalar.addi v14 c384_i32_2350
  let c0_i32_847 : BitVec 32 := 0#32
  let c1_i32_849 : BitVec 32 := 1#32
  let arg17 : BitVec 32 := Scf.iv c0_i32_847 c1_i32_849 k0_t35
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off352 (k0_t35 : Fin k0_t35_loop.trips) : Fin 2 → Nat :=
  let c384_i32_2354 : BitVec 32 := 384#32
  let c0_i32_847 : BitVec 32 := 0#32
  let c1_i32_849 : BitVec 32 := 1#32
  let arg17 : BitVec 32 := Scf.iv c0_i32_847 c1_i32_849 k0_t35
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c384_i32_2354 v2827
  let c0_i32_2356 : BitVec 32 := 0#32
  ![v2839.toNat, 0]
def k0_off353 (v2831 : BitVec 32) : Fin 2 → Nat :=
  let c0_i32_2357 : BitVec 32 := 0#32
  ![v2831.toNat, 0]
def k0_cond104 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk115 (v2831 : BitVec 32) : Prop :=
  (∀ (k0_h104 : k0_cond104 v2831 = 1#1), ∀ a, (k0_off353 v2831) a + S1x1024.size a ≤ S16384x1024.size a)
theorem k0_off353_inb : ∀ (v2831 : BitVec 32) (k0_hw115 : k0_chk115 v2831), ∀ (k0_h104 : k0_cond104 v2831 = 1#1), ∀ a, (k0_off353 v2831) a + S1x1024.size a ≤ S16384x1024.size a := fun v2831 k0_hw115 k0_h104 => k0_hw115 k0_h104

@[reducible] def k0_t36_loop (v972 : BitVec 32) : Scf.Loop 32 :=
  let c0_i32_852 : BitVec 32 := 0#32
  let v1096 : BitVec 32 := Scalar.subi v972 c0_i32_852
  let c1_i32_853 : BitVec 32 := 1#32
  let v1098 : BitVec 32 := Scalar.divsi v1096 c1_i32_853
  let v1099 : BitVec 32 := Scalar.muli v1098 c1_i32_853
  let v1100 : BitVec 32 := Scalar.addi c0_i32_852 v1099
  let c1_i32_854 : BitVec 32 := 1#32
  ⟨c0_i32_852, v1100, c1_i32_854⟩

@[reducible] def k0_t37_loop (v972 : BitVec 32) : Scf.Loop 32 :=
  let c0_i32_852 : BitVec 32 := 0#32
  let v1096 : BitVec 32 := Scalar.subi v972 c0_i32_852
  let c1_i32_853 : BitVec 32 := 1#32
  let v1098 : BitVec 32 := Scalar.divsi v1096 c1_i32_853
  let v1099 : BitVec 32 := Scalar.muli v1098 c1_i32_853
  let v1100 : BitVec 32 := Scalar.addi c0_i32_852 v1099
  let v1097 : BitVec 32 := Scalar.addi c0_i32_852 v1096
  let c1_i32_855 : BitVec 32 := 1#32
  ⟨v1100, v1097, c1_i32_855⟩

def k0_chk116 (v972 : BitVec 32) : Prop :=
  ((k0_t36_loop v972).OK) ∧
  ((k0_t37_loop v972).OK)
theorem k0_t36_ok : ∀ (v972 : BitVec 32) (k0_hw116 : k0_chk116 v972), (k0_t36_loop v972).OK := fun v972 k0_hw116 => k0_hw116.1
theorem k0_t37_ok : ∀ (v972 : BitVec 32) (k0_hw116 : k0_chk116 v972), (k0_t37_loop v972).OK := fun v972 k0_hw116 => k0_hw116.2

def k0_dev47 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v1101 : BitVec 32 := Scalar.muli v2 c4_i32_857
  let v1102 : BitVec 32 := Scalar.addi c0_i32_858 v1101
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_859 : BitVec 32 := 2#32
  let v1103 : BitVec 32 := Scalar.muli v10 c2_i32_859
  let v1104 : BitVec 32 := Scalar.addi v1102 v1103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_860 : BitVec 32 := 1#32
  let v1105 : BitVec 32 := Scalar.muli v8 c1_i32_860
  let v1106 : BitVec 32 := Scalar.addi v1104 v1105
  v1106.toNat
def k0_off354 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_874 : BitVec 32 := 288#32
  let v1123 : BitVec 32 := Scalar.addi v14 c288_i32_874
  let v1124 : Index := Scalar.indexCast v1123
  let c0_875 : Index := 0#32
  ![v1124.toNat, 0]
def k0_off355 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c288_i32_880 : BitVec 32 := 288#32
  let v1136 : BitVec 32 := Scalar.addi v14 c288_i32_880
  let v1137 : Index := Scalar.indexCast v1136
  let c0_881 : Index := 0#32
  ![v1137.toNat, 0]
def k0_off356 (d0 : Dev nD) (c288_i32_883 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1140 : BitVec 32 := Scalar.addi v14 c288_i32_883
  let c0_i32_890 : BitVec 32 := 0#32
  ![v1140.toNat, 0]
def k0_dev48 (d0 : Dev nD) : Nat :=
  let c0_i32_887 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_886 : BitVec 32 := 4#32
  let v1141 : BitVec 32 := Scalar.muli v9 c4_i32_886
  let v1142 : BitVec 32 := Scalar.addi c0_i32_887 v1141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_888 : BitVec 32 := 2#32
  let v1143 : BitVec 32 := Scalar.muli v5 c2_i32_888
  let v1144 : BitVec 32 := Scalar.addi v1142 v1143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_889 : BitVec 32 := 1#32
  let v1145 : BitVec 32 := Scalar.muli v8 c1_i32_889
  let v1146 : BitVec 32 := Scalar.addi v1144 v1145
  v1146.toNat
def k0_dev49 (d0 : Dev nD) : Nat :=
  let c0_i32_897 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_896 : BitVec 32 := 4#32
  let v1155 : BitVec 32 := Scalar.muli v2 c4_i32_896
  let v1156 : BitVec 32 := Scalar.addi c0_i32_897 v1155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_898 : BitVec 32 := 2#32
  let v1157 : BitVec 32 := Scalar.muli v5 c2_i32_898
  let v1158 : BitVec 32 := Scalar.addi v1156 v1157
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_899 : BitVec 32 := 1#32
  let v1159 : BitVec 32 := Scalar.muli v11 c1_i32_899
  let v1160 : BitVec 32 := Scalar.addi v1158 v1159
  v1160.toNat
def k0_off357 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c224_i32_911 : BitVec 32 := 224#32
  let v1178 : BitVec 32 := Scalar.addi v18 c224_i32_911
  let c0_i32_918 : BitVec 32 := 0#32
  ![v1178.toNat, 0]
def k0_dev50 (d0 : Dev nD) : Nat :=
  let c0_i32_915 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_914 : BitVec 32 := 4#32
  let v1179 : BitVec 32 := Scalar.muli v2 c4_i32_914
  let v1180 : BitVec 32 := Scalar.addi c0_i32_915 v1179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_916 : BitVec 32 := 2#32
  let v1181 : BitVec 32 := Scalar.muli v5 c2_i32_916
  let v1182 : BitVec 32 := Scalar.addi v1180 v1181
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_917 : BitVec 32 := 1#32
  let v1183 : BitVec 32 := Scalar.muli v11 c1_i32_917
  let v1184 : BitVec 32 := Scalar.addi v1182 v1183
  v1184.toNat
def k0_off358 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c224_i32_930 : BitVec 32 := 224#32
  let v1203 : BitVec 32 := Scalar.addi v22 c224_i32_930
  let c16_i32_931 : BitVec 32 := 16#32
  let v1204 : BitVec 32 := Scalar.addi v1203 c16_i32_931
  let c0_i32_938 : BitVec 32 := 0#32
  ![v1204.toNat, 0]
def k0_dev51 (d0 : Dev nD) : Nat :=
  let c0_i32_935 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_934 : BitVec 32 := 4#32
  let v1205 : BitVec 32 := Scalar.muli v9 c4_i32_934
  let v1206 : BitVec 32 := Scalar.addi c0_i32_935 v1205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_936 : BitVec 32 := 2#32
  let v1207 : BitVec 32 := Scalar.muli v5 c2_i32_936
  let v1208 : BitVec 32 := Scalar.addi v1206 v1207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_937 : BitVec 32 := 1#32
  let v1209 : BitVec 32 := Scalar.muli v8 c1_i32_937
  let v1210 : BitVec 32 := Scalar.addi v1208 v1209
  v1210.toNat
@[reducible] def k0_t38_loop : Scf.Loop 32 :=
  let c0_i32_941 : BitVec 32 := 0#32
  let c4_i32_942 : BitVec 32 := 4#32
  let v1217 : BitVec 32 := Scalar.addi c0_i32_941 c4_i32_942
  let c1_i32_943 : BitVec 32 := 1#32
  ⟨c0_i32_941, v1217, c1_i32_943⟩
def k0_off359 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2309 : BitVec 32 := 416#32
  let v2737 : BitVec 32 := Scalar.addi v14 c416_i32_2309
  let c0_i32_941 : BitVec 32 := 0#32
  let c1_i32_943 : BitVec 32 := 1#32
  let arg17 : BitVec 32 := Scf.iv c0_i32_941 c1_i32_943 k0_t38
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off360 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c416_i32_2354 v2736
  let c0_i32_2356 : BitVec 32 := 0#32
  ![v2839.toNat, 0]
def k0_off361 (v2740 : BitVec 32) : Fin 2 → Nat :=
  let c0_i32_2357 : BitVec 32 := 0#32
  ![v2740.toNat, 0]
def k0_cond105 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk117 (v2740 : BitVec 32) : Prop :=
  (∀ (k0_h105 : k0_cond105 v2740 = 1#1), ∀ a, (k0_off361 v2740) a + S1x1024.size a ≤ S16384x1024.size a)
theorem k0_off361_inb : ∀ (v2740 : BitVec 32) (k0_hw117 : k0_chk117 v2740), ∀ (k0_h105 : k0_cond105 v2740 = 1#1), ∀ a, (k0_off361 v2740) a + S1x1024.size a ≤ S16384x1024.size a := fun v2740 k0_hw117 k0_h105 => k0_hw117 k0_h105

def k0_off362 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2314 : BitVec 32 := 416#32
  let v2750 : BitVec 32 := Scalar.addi v14 c416_i32_2314
  let c0_i32_941 : BitVec 32 := 0#32
  let c1_i32_943 : BitVec 32 := 1#32
  let arg17 : BitVec 32 := Scf.iv c0_i32_941 c1_i32_943 k0_t38
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off363 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c416_i32_2354 v2749
  let c0_i32_2356 : BitVec 32 := 0#32
  ![v2839.toNat, 0]
def k0_off364 (v2753 : BitVec 32) : Fin 2 → Nat :=
  let c0_i32_2357 : BitVec 32 := 0#32
  ![v2753.toNat, 0]
def k0_cond106 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk118 (v2753 : BitVec 32) : Prop :=
  (∀ (k0_h106 : k0_cond106 v2753 = 1#1), ∀ a, (k0_off364 v2753) a + S1x1024.size a ≤ S16384x1024.size a)
theorem k0_off364_inb : ∀ (v2753 : BitVec 32) (k0_hw118 : k0_chk118 v2753), ∀ (k0_h106 : k0_cond106 v2753 = 1#1), ∀ a, (k0_off364 v2753) a + S1x1024.size a ≤ S16384x1024.size a := fun v2753 k0_hw118 k0_h106 => k0_hw118 k0_h106

def k0_off365 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2320 : BitVec 32 := 416#32
  let v2763 : BitVec 32 := Scalar.addi v14 c416_i32_2320
  let c0_i32_941 : BitVec 32 := 0#32
  let c1_i32_943 : BitVec 32 := 1#32
  let arg17 : BitVec 32 := Scf.iv c0_i32_941 c1_i32_943 k0_t38
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off366 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c416_i32_2354 v2762
  let c0_i32_2356 : BitVec 32 := 0#32
  ![v2839.toNat, 0]
def k0_off367 (v2766 : BitVec 32) : Fin 2 → Nat :=
  let c0_i32_2357 : BitVec 32 := 0#32
  ![v2766.toNat, 0]
def k0_cond107 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk119 (v2766 : BitVec 32) : Prop :=
  (∀ (k0_h107 : k0_cond107 v2766 = 1#1), ∀ a, (k0_off367 v2766) a + S1x1024.size a ≤ S16384x1024.size a)
theorem k0_off367_inb : ∀ (v2766 : BitVec 32) (k0_hw119 : k0_chk119 v2766), ∀ (k0_h107 : k0_cond107 v2766 = 1#1), ∀ a, (k0_off367 v2766) a + S1x1024.size a ≤ S16384x1024.size a := fun v2766 k0_hw119 k0_h107 => k0_hw119 k0_h107

def k0_off368 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2326 : BitVec 32 := 416#32
  let v2776 : BitVec 32 := Scalar.addi v14 c416_i32_2326
  let c0_i32_941 : BitVec 32 := 0#32
  let c1_i32_943 : BitVec 32 := 1#32
  let arg17 : BitVec 32 := Scf.iv c0_i32_941 c1_i32_943 k0_t38
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off369 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c416_i32_2354 v2775
  let c0_i32_2356 : BitVec 32 := 0#32
  ![v2839.toNat, 0]
def k0_off370 (v2779 : BitVec 32) : Fin 2 → Nat :=
  let c0_i32_2357 : BitVec 32 := 0#32
  ![v2779.toNat, 0]
def k0_cond108 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk120 (v2779 : BitVec 32) : Prop :=
  (∀ (k0_h108 : k0_cond108 v2779 = 1#1), ∀ a, (k0_off370 v2779) a + S1x1024.size a ≤ S16384x1024.size a)
theorem k0_off370_inb : ∀ (v2779 : BitVec 32) (k0_hw120 : k0_chk120 v2779), ∀ (k0_h108 : k0_cond108 v2779 = 1#1), ∀ a, (k0_off370 v2779) a + S1x1024.size a ≤ S16384x1024.size a := fun v2779 k0_hw120 k0_h108 => k0_hw120 k0_h108

def k0_off371 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2332 : BitVec 32 := 416#32
  let v2789 : BitVec 32 := Scalar.addi v14 c416_i32_2332
  let c0_i32_941 : BitVec 32 := 0#32
  let c1_i32_943 : BitVec 32 := 1#32
  let arg17 : BitVec 32 := Scf.iv c0_i32_941 c1_i32_943 k0_t38
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off372 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c416_i32_2354 v2788
  let c0_i32_2356 : BitVec 32 := 0#32
  ![v2839.toNat, 0]
def k0_off373 (v2792 : BitVec 32) : Fin 2 → Nat :=
  let c0_i32_2357 : BitVec 32 := 0#32
  ![v2792.toNat, 0]
def k0_cond109 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk121 (v2792 : BitVec 32) : Prop :=
  (∀ (k0_h109 : k0_cond109 v2792 = 1#1), ∀ a, (k0_off373 v2792) a + S1x1024.size a ≤ S16384x1024.size a)
theorem k0_off373_inb : ∀ (v2792 : BitVec 32) (k0_hw121 : k0_chk121 v2792), ∀ (k0_h109 : k0_cond109 v2792 = 1#1), ∀ a, (k0_off373 v2792) a + S1x1024.size a ≤ S16384x1024.size a := fun v2792 k0_hw121 k0_h109 => k0_hw121 k0_h109

def k0_off374 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2338 : BitVec 32 := 416#32
  let v2802 : BitVec 32 := Scalar.addi v14 c416_i32_2338
  let c0_i32_941 : BitVec 32 := 0#32
  let c1_i32_943 : BitVec 32 := 1#32
  let arg17 : BitVec 32 := Scf.iv c0_i32_941 c1_i32_943 k0_t38
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off375 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c416_i32_2354 v2801
  let c0_i32_2356 : BitVec 32 := 0#32
  ![v2839.toNat, 0]
def k0_off376 (v2805 : BitVec 32) : Fin 2 → Nat :=
  let c0_i32_2357 : BitVec 32 := 0#32
  ![v2805.toNat, 0]
def k0_cond110 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk122 (v2805 : BitVec 32) : Prop :=
  (∀ (k0_h110 : k0_cond110 v2805 = 1#1), ∀ a, (k0_off376 v2805) a + S1x1024.size a ≤ S16384x1024.size a)
theorem k0_off376_inb : ∀ (v2805 : BitVec 32) (k0_hw122 : k0_chk122 v2805), ∀ (k0_h110 : k0_cond110 v2805 = 1#1), ∀ a, (k0_off376 v2805) a + S1x1024.size a ≤ S16384x1024.size a := fun v2805 k0_hw122 k0_h110 => k0_hw122 k0_h110

def k0_off377 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2344 : BitVec 32 := 416#32
  let v2815 : BitVec 32 := Scalar.addi v14 c416_i32_2344
  let c0_i32_941 : BitVec 32 := 0#32
  let c1_i32_943 : BitVec 32 := 1#32
  let arg17 : BitVec 32 := Scf.iv c0_i32_941 c1_i32_943 k0_t38
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off378 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c416_i32_2354 v2814
  let c0_i32_2356 : BitVec 32 := 0#32
  ![v2839.toNat, 0]
def k0_off379 (v2818 : BitVec 32) : Fin 2 → Nat :=
  let c0_i32_2357 : BitVec 32 := 0#32
  ![v2818.toNat, 0]
def k0_cond111 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk123 (v2818 : BitVec 32) : Prop :=
  (∀ (k0_h111 : k0_cond111 v2818 = 1#1), ∀ a, (k0_off379 v2818) a + S1x1024.size a ≤ S16384x1024.size a)
theorem k0_off379_inb : ∀ (v2818 : BitVec 32) (k0_hw123 : k0_chk123 v2818), ∀ (k0_h111 : k0_cond111 v2818 = 1#1), ∀ a, (k0_off379 v2818) a + S1x1024.size a ≤ S16384x1024.size a := fun v2818 k0_hw123 k0_h111 => k0_hw123 k0_h111

def k0_off380 (d0 : Dev nD) (k0_t38 : Fin k0_t38_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c416_i32_2350 : BitVec 32 := 416#32
  let v2828 : BitVec 32 := Scalar.addi v14 c416_i32_2350
  let c0_i32_941 : BitVec 32 := 0#32
  let c1_i32_943 : BitVec 32 := 1#32
  let arg17 : BitVec 32 := Scf.iv c0_i32_941 c1_i32_943 k0_t38
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off381 (k0_t38 : Fin k0_t38_loop.trips) : Fin 2 → Nat :=
  let c416_i32_2354 : BitVec 32 := 416#32
  let c0_i32_941 : BitVec 32 := 0#32
  let c1_i32_943 : BitVec 32 := 1#32
  let arg17 : BitVec 32 := Scf.iv c0_i32_941 c1_i32_943 k0_t38
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c416_i32_2354 v2827
  let c0_i32_2356 : BitVec 32 := 0#32
  ![v2839.toNat, 0]
def k0_off382 (v2831 : BitVec 32) : Fin 2 → Nat :=
  let c0_i32_2357 : BitVec 32 := 0#32
  ![v2831.toNat, 0]
def k0_cond112 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk124 (v2831 : BitVec 32) : Prop :=
  (∀ (k0_h112 : k0_cond112 v2831 = 1#1), ∀ a, (k0_off382 v2831) a + S1x1024.size a ≤ S16384x1024.size a)
theorem k0_off382_inb : ∀ (v2831 : BitVec 32) (k0_hw124 : k0_chk124 v2831), ∀ (k0_h112 : k0_cond112 v2831 = 1#1), ∀ a, (k0_off382 v2831) a + S1x1024.size a ≤ S16384x1024.size a := fun v2831 k0_hw124 k0_h112 => k0_hw124 k0_h112

@[reducible] def k0_t39_loop (v1095 : BitVec 32) : Scf.Loop 32 :=
  let c0_i32_946 : BitVec 32 := 0#32
  let v1219 : BitVec 32 := Scalar.subi v1095 c0_i32_946
  let c1_i32_947 : BitVec 32 := 1#32
  let v1221 : BitVec 32 := Scalar.divsi v1219 c1_i32_947
  let v1222 : BitVec 32 := Scalar.muli v1221 c1_i32_947
  let v1223 : BitVec 32 := Scalar.addi c0_i32_946 v1222
  let c1_i32_948 : BitVec 32 := 1#32
  ⟨c0_i32_946, v1223, c1_i32_948⟩

@[reducible] def k0_t40_loop (v1095 : BitVec 32) : Scf.Loop 32 :=
  let c0_i32_946 : BitVec 32 := 0#32
  let v1219 : BitVec 32 := Scalar.subi v1095 c0_i32_946
  let c1_i32_947 : BitVec 32 := 1#32
  let v1221 : BitVec 32 := Scalar.divsi v1219 c1_i32_947
  let v1222 : BitVec 32 := Scalar.muli v1221 c1_i32_947
  let v1223 : BitVec 32 := Scalar.addi c0_i32_946 v1222
  let v1220 : BitVec 32 := Scalar.addi c0_i32_946 v1219
  let c1_i32_949 : BitVec 32 := 1#32
  ⟨v1223, v1220, c1_i32_949⟩

def k0_chk125 (v1095 : BitVec 32) : Prop :=
  ((k0_t39_loop v1095).OK) ∧
  ((k0_t40_loop v1095).OK)
theorem k0_t39_ok : ∀ (v1095 : BitVec 32) (k0_hw125 : k0_chk125 v1095), (k0_t39_loop v1095).OK := fun v1095 k0_hw125 => k0_hw125.1
theorem k0_t40_ok : ∀ (v1095 : BitVec 32) (k0_hw125 : k0_chk125 v1095), (k0_t40_loop v1095).OK := fun v1095 k0_hw125 => k0_hw125.2

def k0_dev52 (d0 : Dev nD) : Nat :=
  let c0_i32_952 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_951 : BitVec 32 := 4#32
  let v1224 : BitVec 32 := Scalar.muli v2 c4_i32_951
  let v1225 : BitVec 32 := Scalar.addi c0_i32_952 v1224
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_953 : BitVec 32 := 2#32
  let v1226 : BitVec 32 := Scalar.muli v10 c2_i32_953
  let v1227 : BitVec 32 := Scalar.addi v1225 v1226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_954 : BitVec 32 := 1#32
  let v1228 : BitVec 32 := Scalar.muli v8 c1_i32_954
  let v1229 : BitVec 32 := Scalar.addi v1227 v1228
  v1229.toNat
def k0_off383 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_968 : BitVec 32 := 320#32
  let v1246 : BitVec 32 := Scalar.addi v14 c320_i32_968
  let v1247 : Index := Scalar.indexCast v1246
  let c0_969 : Index := 0#32
  ![v1247.toNat, 0]
def k0_off384 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c320_i32_974 : BitVec 32 := 320#32
  let v1259 : BitVec 32 := Scalar.addi v14 c320_i32_974
  let v1260 : Index := Scalar.indexCast v1259
  let c0_975 : Index := 0#32
  ![v1260.toNat, 0]
def k0_off385 (d0 : Dev nD) (c320_i32_977 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1263 : BitVec 32 := Scalar.addi v14 c320_i32_977
  let c0_i32_984 : BitVec 32 := 0#32
  ![v1263.toNat, 0]
def k0_dev53 (d0 : Dev nD) : Nat :=
  let c0_i32_981 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_980 : BitVec 32 := 4#32
  let v1264 : BitVec 32 := Scalar.muli v9 c4_i32_980
  let v1265 : BitVec 32 := Scalar.addi c0_i32_981 v1264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_982 : BitVec 32 := 2#32
  let v1266 : BitVec 32 := Scalar.muli v5 c2_i32_982
  let v1267 : BitVec 32 := Scalar.addi v1265 v1266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_983 : BitVec 32 := 1#32
  let v1268 : BitVec 32 := Scalar.muli v8 c1_i32_983
  let v1269 : BitVec 32 := Scalar.addi v1267 v1268
  v1269.toNat
def k0_dev54 (d0 : Dev nD) : Nat :=
  let c0_i32_991 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_990 : BitVec 32 := 4#32
  let v1278 : BitVec 32 := Scalar.muli v2 c4_i32_990
  let v1279 : BitVec 32 := Scalar.addi c0_i32_991 v1278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_992 : BitVec 32 := 2#32
  let v1280 : BitVec 32 := Scalar.muli v5 c2_i32_992
  let v1281 : BitVec 32 := Scalar.addi v1279 v1280
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_993 : BitVec 32 := 1#32
  let v1282 : BitVec 32 := Scalar.muli v11 c1_i32_993
  let v1283 : BitVec 32 := Scalar.addi v1281 v1282
  v1283.toNat
def k0_off386 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c256_i32_1005 : BitVec 32 := 256#32
  let v1301 : BitVec 32 := Scalar.addi v18 c256_i32_1005
  let c0_i32_1012 : BitVec 32 := 0#32
  ![v1301.toNat, 0]
def k0_dev55 (d0 : Dev nD) : Nat :=
  let c0_i32_1009 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1008 : BitVec 32 := 4#32
  let v1302 : BitVec 32 := Scalar.muli v2 c4_i32_1008
  let v1303 : BitVec 32 := Scalar.addi c0_i32_1009 v1302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1010 : BitVec 32 := 2#32
  let v1304 : BitVec 32 := Scalar.muli v5 c2_i32_1010
  let v1305 : BitVec 32 := Scalar.addi v1303 v1304
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1011 : BitVec 32 := 1#32
  let v1306 : BitVec 32 := Scalar.muli v11 c1_i32_1011
  let v1307 : BitVec 32 := Scalar.addi v1305 v1306
  v1307.toNat
def k0_off387 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c256_i32_1024 : BitVec 32 := 256#32
  let v1326 : BitVec 32 := Scalar.addi v22 c256_i32_1024
  let c16_i32_1025 : BitVec 32 := 16#32
  let v1327 : BitVec 32 := Scalar.addi v1326 c16_i32_1025
  let c0_i32_1032 : BitVec 32 := 0#32
  ![v1327.toNat, 0]
def k0_dev56 (d0 : Dev nD) : Nat :=
  let c0_i32_1029 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1028 : BitVec 32 := 4#32
  let v1328 : BitVec 32 := Scalar.muli v9 c4_i32_1028
  let v1329 : BitVec 32 := Scalar.addi c0_i32_1029 v1328
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1030 : BitVec 32 := 2#32
  let v1330 : BitVec 32 := Scalar.muli v5 c2_i32_1030
  let v1331 : BitVec 32 := Scalar.addi v1329 v1330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1031 : BitVec 32 := 1#32
  let v1332 : BitVec 32 := Scalar.muli v8 c1_i32_1031
  let v1333 : BitVec 32 := Scalar.addi v1331 v1332
  v1333.toNat
@[reducible] def k0_t41_loop : Scf.Loop 32 :=
  let c0_i32_1035 : BitVec 32 := 0#32
  let c4_i32_1036 : BitVec 32 := 4#32
  let v1340 : BitVec 32 := Scalar.addi c0_i32_1035 c4_i32_1036
  let c1_i32_1037 : BitVec 32 := 1#32
  ⟨c0_i32_1035, v1340, c1_i32_1037⟩
def k0_off388 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2309 : BitVec 32 := 448#32
  let v2737 : BitVec 32 := Scalar.addi v14 c448_i32_2309
  let c0_i32_1035 : BitVec 32 := 0#32
  let c1_i32_1037 : BitVec 32 := 1#32
  let arg17 : BitVec 32 := Scf.iv c0_i32_1035 c1_i32_1037 k0_t41
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off389 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c448_i32_2354 v2736
  let c0_i32_2356 : BitVec 32 := 0#32
  ![v2839.toNat, 0]
def k0_off390 (v2740 : BitVec 32) : Fin 2 → Nat :=
  let c0_i32_2357 : BitVec 32 := 0#32
  ![v2740.toNat, 0]
def k0_cond113 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk126 (v2740 : BitVec 32) : Prop :=
  (∀ (k0_h113 : k0_cond113 v2740 = 1#1), ∀ a, (k0_off390 v2740) a + S1x1024.size a ≤ S16384x1024.size a)
theorem k0_off390_inb : ∀ (v2740 : BitVec 32) (k0_hw126 : k0_chk126 v2740), ∀ (k0_h113 : k0_cond113 v2740 = 1#1), ∀ a, (k0_off390 v2740) a + S1x1024.size a ≤ S16384x1024.size a := fun v2740 k0_hw126 k0_h113 => k0_hw126 k0_h113

def k0_off391 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2314 : BitVec 32 := 448#32
  let v2750 : BitVec 32 := Scalar.addi v14 c448_i32_2314
  let c0_i32_1035 : BitVec 32 := 0#32
  let c1_i32_1037 : BitVec 32 := 1#32
  let arg17 : BitVec 32 := Scf.iv c0_i32_1035 c1_i32_1037 k0_t41
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off392 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c448_i32_2354 v2749
  let c0_i32_2356 : BitVec 32 := 0#32
  ![v2839.toNat, 0]
def k0_off393 (v2753 : BitVec 32) : Fin 2 → Nat :=
  let c0_i32_2357 : BitVec 32 := 0#32
  ![v2753.toNat, 0]
def k0_cond114 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk127 (v2753 : BitVec 32) : Prop :=
  (∀ (k0_h114 : k0_cond114 v2753 = 1#1), ∀ a, (k0_off393 v2753) a + S1x1024.size a ≤ S16384x1024.size a)
theorem k0_off393_inb : ∀ (v2753 : BitVec 32) (k0_hw127 : k0_chk127 v2753), ∀ (k0_h114 : k0_cond114 v2753 = 1#1), ∀ a, (k0_off393 v2753) a + S1x1024.size a ≤ S16384x1024.size a := fun v2753 k0_hw127 k0_h114 => k0_hw127 k0_h114

def k0_off394 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2320 : BitVec 32 := 448#32
  let v2763 : BitVec 32 := Scalar.addi v14 c448_i32_2320
  let c0_i32_1035 : BitVec 32 := 0#32
  let c1_i32_1037 : BitVec 32 := 1#32
  let arg17 : BitVec 32 := Scf.iv c0_i32_1035 c1_i32_1037 k0_t41
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off395 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c448_i32_2354 v2762
  let c0_i32_2356 : BitVec 32 := 0#32
  ![v2839.toNat, 0]
def k0_off396 (v2766 : BitVec 32) : Fin 2 → Nat :=
  let c0_i32_2357 : BitVec 32 := 0#32
  ![v2766.toNat, 0]
def k0_cond115 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk128 (v2766 : BitVec 32) : Prop :=
  (∀ (k0_h115 : k0_cond115 v2766 = 1#1), ∀ a, (k0_off396 v2766) a + S1x1024.size a ≤ S16384x1024.size a)
theorem k0_off396_inb : ∀ (v2766 : BitVec 32) (k0_hw128 : k0_chk128 v2766), ∀ (k0_h115 : k0_cond115 v2766 = 1#1), ∀ a, (k0_off396 v2766) a + S1x1024.size a ≤ S16384x1024.size a := fun v2766 k0_hw128 k0_h115 => k0_hw128 k0_h115

def k0_off397 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2326 : BitVec 32 := 448#32
  let v2776 : BitVec 32 := Scalar.addi v14 c448_i32_2326
  let c0_i32_1035 : BitVec 32 := 0#32
  let c1_i32_1037 : BitVec 32 := 1#32
  let arg17 : BitVec 32 := Scf.iv c0_i32_1035 c1_i32_1037 k0_t41
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off398 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c448_i32_2354 v2775
  let c0_i32_2356 : BitVec 32 := 0#32
  ![v2839.toNat, 0]
def k0_off399 (v2779 : BitVec 32) : Fin 2 → Nat :=
  let c0_i32_2357 : BitVec 32 := 0#32
  ![v2779.toNat, 0]
def k0_cond116 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk129 (v2779 : BitVec 32) : Prop :=
  (∀ (k0_h116 : k0_cond116 v2779 = 1#1), ∀ a, (k0_off399 v2779) a + S1x1024.size a ≤ S16384x1024.size a)
theorem k0_off399_inb : ∀ (v2779 : BitVec 32) (k0_hw129 : k0_chk129 v2779), ∀ (k0_h116 : k0_cond116 v2779 = 1#1), ∀ a, (k0_off399 v2779) a + S1x1024.size a ≤ S16384x1024.size a := fun v2779 k0_hw129 k0_h116 => k0_hw129 k0_h116

def k0_off400 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2332 : BitVec 32 := 448#32
  let v2789 : BitVec 32 := Scalar.addi v14 c448_i32_2332
  let c0_i32_1035 : BitVec 32 := 0#32
  let c1_i32_1037 : BitVec 32 := 1#32
  let arg17 : BitVec 32 := Scf.iv c0_i32_1035 c1_i32_1037 k0_t41
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off401 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c448_i32_2354 v2788
  let c0_i32_2356 : BitVec 32 := 0#32
  ![v2839.toNat, 0]
def k0_off402 (v2792 : BitVec 32) : Fin 2 → Nat :=
  let c0_i32_2357 : BitVec 32 := 0#32
  ![v2792.toNat, 0]
def k0_cond117 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk130 (v2792 : BitVec 32) : Prop :=
  (∀ (k0_h117 : k0_cond117 v2792 = 1#1), ∀ a, (k0_off402 v2792) a + S1x1024.size a ≤ S16384x1024.size a)
theorem k0_off402_inb : ∀ (v2792 : BitVec 32) (k0_hw130 : k0_chk130 v2792), ∀ (k0_h117 : k0_cond117 v2792 = 1#1), ∀ a, (k0_off402 v2792) a + S1x1024.size a ≤ S16384x1024.size a := fun v2792 k0_hw130 k0_h117 => k0_hw130 k0_h117

def k0_off403 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2338 : BitVec 32 := 448#32
  let v2802 : BitVec 32 := Scalar.addi v14 c448_i32_2338
  let c0_i32_1035 : BitVec 32 := 0#32
  let c1_i32_1037 : BitVec 32 := 1#32
  let arg17 : BitVec 32 := Scf.iv c0_i32_1035 c1_i32_1037 k0_t41
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off404 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c448_i32_2354 v2801
  let c0_i32_2356 : BitVec 32 := 0#32
  ![v2839.toNat, 0]
def k0_off405 (v2805 : BitVec 32) : Fin 2 → Nat :=
  let c0_i32_2357 : BitVec 32 := 0#32
  ![v2805.toNat, 0]
def k0_cond118 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk131 (v2805 : BitVec 32) : Prop :=
  (∀ (k0_h118 : k0_cond118 v2805 = 1#1), ∀ a, (k0_off405 v2805) a + S1x1024.size a ≤ S16384x1024.size a)
theorem k0_off405_inb : ∀ (v2805 : BitVec 32) (k0_hw131 : k0_chk131 v2805), ∀ (k0_h118 : k0_cond118 v2805 = 1#1), ∀ a, (k0_off405 v2805) a + S1x1024.size a ≤ S16384x1024.size a := fun v2805 k0_hw131 k0_h118 => k0_hw131 k0_h118

def k0_off406 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2344 : BitVec 32 := 448#32
  let v2815 : BitVec 32 := Scalar.addi v14 c448_i32_2344
  let c0_i32_1035 : BitVec 32 := 0#32
  let c1_i32_1037 : BitVec 32 := 1#32
  let arg17 : BitVec 32 := Scf.iv c0_i32_1035 c1_i32_1037 k0_t41
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off407 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c448_i32_2354 v2814
  let c0_i32_2356 : BitVec 32 := 0#32
  ![v2839.toNat, 0]
def k0_off408 (v2818 : BitVec 32) : Fin 2 → Nat :=
  let c0_i32_2357 : BitVec 32 := 0#32
  ![v2818.toNat, 0]
def k0_cond119 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk132 (v2818 : BitVec 32) : Prop :=
  (∀ (k0_h119 : k0_cond119 v2818 = 1#1), ∀ a, (k0_off408 v2818) a + S1x1024.size a ≤ S16384x1024.size a)
theorem k0_off408_inb : ∀ (v2818 : BitVec 32) (k0_hw132 : k0_chk132 v2818), ∀ (k0_h119 : k0_cond119 v2818 = 1#1), ∀ a, (k0_off408 v2818) a + S1x1024.size a ≤ S16384x1024.size a := fun v2818 k0_hw132 k0_h119 => k0_hw132 k0_h119

def k0_off409 (d0 : Dev nD) (k0_t41 : Fin k0_t41_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c448_i32_2350 : BitVec 32 := 448#32
  let v2828 : BitVec 32 := Scalar.addi v14 c448_i32_2350
  let c0_i32_1035 : BitVec 32 := 0#32
  let c1_i32_1037 : BitVec 32 := 1#32
  let arg17 : BitVec 32 := Scf.iv c0_i32_1035 c1_i32_1037 k0_t41
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off410 (k0_t41 : Fin k0_t41_loop.trips) : Fin 2 → Nat :=
  let c448_i32_2354 : BitVec 32 := 448#32
  let c0_i32_1035 : BitVec 32 := 0#32
  let c1_i32_1037 : BitVec 32 := 1#32
  let arg17 : BitVec 32 := Scf.iv c0_i32_1035 c1_i32_1037 k0_t41
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c448_i32_2354 v2827
  let c0_i32_2356 : BitVec 32 := 0#32
  ![v2839.toNat, 0]
def k0_off411 (v2831 : BitVec 32) : Fin 2 → Nat :=
  let c0_i32_2357 : BitVec 32 := 0#32
  ![v2831.toNat, 0]
def k0_cond120 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk133 (v2831 : BitVec 32) : Prop :=
  (∀ (k0_h120 : k0_cond120 v2831 = 1#1), ∀ a, (k0_off411 v2831) a + S1x1024.size a ≤ S16384x1024.size a)
theorem k0_off411_inb : ∀ (v2831 : BitVec 32) (k0_hw133 : k0_chk133 v2831), ∀ (k0_h120 : k0_cond120 v2831 = 1#1), ∀ a, (k0_off411 v2831) a + S1x1024.size a ≤ S16384x1024.size a := fun v2831 k0_hw133 k0_h120 => k0_hw133 k0_h120

@[reducible] def k0_t42_loop (v1218 : BitVec 32) : Scf.Loop 32 :=
  let c0_i32_1040 : BitVec 32 := 0#32
  let v1342 : BitVec 32 := Scalar.subi v1218 c0_i32_1040
  let c1_i32_1041 : BitVec 32 := 1#32
  let v1344 : BitVec 32 := Scalar.divsi v1342 c1_i32_1041
  let v1345 : BitVec 32 := Scalar.muli v1344 c1_i32_1041
  let v1346 : BitVec 32 := Scalar.addi c0_i32_1040 v1345
  let c1_i32_1042 : BitVec 32 := 1#32
  ⟨c0_i32_1040, v1346, c1_i32_1042⟩

@[reducible] def k0_t43_loop (v1218 : BitVec 32) : Scf.Loop 32 :=
  let c0_i32_1040 : BitVec 32 := 0#32
  let v1342 : BitVec 32 := Scalar.subi v1218 c0_i32_1040
  let c1_i32_1041 : BitVec 32 := 1#32
  let v1344 : BitVec 32 := Scalar.divsi v1342 c1_i32_1041
  let v1345 : BitVec 32 := Scalar.muli v1344 c1_i32_1041
  let v1346 : BitVec 32 := Scalar.addi c0_i32_1040 v1345
  let v1343 : BitVec 32 := Scalar.addi c0_i32_1040 v1342
  let c1_i32_1043 : BitVec 32 := 1#32
  ⟨v1346, v1343, c1_i32_1043⟩

def k0_chk134 (v1218 : BitVec 32) : Prop :=
  ((k0_t42_loop v1218).OK) ∧
  ((k0_t43_loop v1218).OK)
theorem k0_t42_ok : ∀ (v1218 : BitVec 32) (k0_hw134 : k0_chk134 v1218), (k0_t42_loop v1218).OK := fun v1218 k0_hw134 => k0_hw134.1
theorem k0_t43_ok : ∀ (v1218 : BitVec 32) (k0_hw134 : k0_chk134 v1218), (k0_t43_loop v1218).OK := fun v1218 k0_hw134 => k0_hw134.2

def k0_dev57 (d0 : Dev nD) : Nat :=
  let c0_i32_1046 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1045 : BitVec 32 := 4#32
  let v1347 : BitVec 32 := Scalar.muli v2 c4_i32_1045
  let v1348 : BitVec 32 := Scalar.addi c0_i32_1046 v1347
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1047 : BitVec 32 := 2#32
  let v1349 : BitVec 32 := Scalar.muli v10 c2_i32_1047
  let v1350 : BitVec 32 := Scalar.addi v1348 v1349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1048 : BitVec 32 := 1#32
  let v1351 : BitVec 32 := Scalar.muli v8 c1_i32_1048
  let v1352 : BitVec 32 := Scalar.addi v1350 v1351
  v1352.toNat
def k0_off412 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_1062 : BitVec 32 := 352#32
  let v1369 : BitVec 32 := Scalar.addi v14 c352_i32_1062
  let v1370 : Index := Scalar.indexCast v1369
  let c0_1063 : Index := 0#32
  ![v1370.toNat, 0]
def k0_off413 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c352_i32_1068 : BitVec 32 := 352#32
  let v1382 : BitVec 32 := Scalar.addi v14 c352_i32_1068
  let v1383 : Index := Scalar.indexCast v1382
  let c0_1069 : Index := 0#32
  ![v1383.toNat, 0]
def k0_off414 (d0 : Dev nD) (c352_i32_1071 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1386 : BitVec 32 := Scalar.addi v14 c352_i32_1071
  let c0_i32_1078 : BitVec 32 := 0#32
  ![v1386.toNat, 0]
def k0_dev58 (d0 : Dev nD) : Nat :=
  let c0_i32_1075 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1074 : BitVec 32 := 4#32
  let v1387 : BitVec 32 := Scalar.muli v9 c4_i32_1074
  let v1388 : BitVec 32 := Scalar.addi c0_i32_1075 v1387
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1076 : BitVec 32 := 2#32
  let v1389 : BitVec 32 := Scalar.muli v5 c2_i32_1076
  let v1390 : BitVec 32 := Scalar.addi v1388 v1389
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1077 : BitVec 32 := 1#32
  let v1391 : BitVec 32 := Scalar.muli v8 c1_i32_1077
  let v1392 : BitVec 32 := Scalar.addi v1390 v1391
  v1392.toNat
def k0_dev59 (d0 : Dev nD) : Nat :=
  let c0_i32_1085 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1084 : BitVec 32 := 4#32
  let v1401 : BitVec 32 := Scalar.muli v2 c4_i32_1084
  let v1402 : BitVec 32 := Scalar.addi c0_i32_1085 v1401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1086 : BitVec 32 := 2#32
  let v1403 : BitVec 32 := Scalar.muli v5 c2_i32_1086
  let v1404 : BitVec 32 := Scalar.addi v1402 v1403
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1087 : BitVec 32 := 1#32
  let v1405 : BitVec 32 := Scalar.muli v11 c1_i32_1087
  let v1406 : BitVec 32 := Scalar.addi v1404 v1405
  v1406.toNat
def k0_off415 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c288_i32_1099 : BitVec 32 := 288#32
  let v1424 : BitVec 32 := Scalar.addi v18 c288_i32_1099
  let c0_i32_1106 : BitVec 32 := 0#32
  ![v1424.toNat, 0]
def k0_dev60 (d0 : Dev nD) : Nat :=
  let c0_i32_1103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1102 : BitVec 32 := 4#32
  let v1425 : BitVec 32 := Scalar.muli v2 c4_i32_1102
  let v1426 : BitVec 32 := Scalar.addi c0_i32_1103 v1425
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1104 : BitVec 32 := 2#32
  let v1427 : BitVec 32 := Scalar.muli v5 c2_i32_1104
  let v1428 : BitVec 32 := Scalar.addi v1426 v1427
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1105 : BitVec 32 := 1#32
  let v1429 : BitVec 32 := Scalar.muli v11 c1_i32_1105
  let v1430 : BitVec 32 := Scalar.addi v1428 v1429
  v1430.toNat
def k0_off416 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c288_i32_1118 : BitVec 32 := 288#32
  let v1449 : BitVec 32 := Scalar.addi v22 c288_i32_1118
  let c16_i32_1119 : BitVec 32 := 16#32
  let v1450 : BitVec 32 := Scalar.addi v1449 c16_i32_1119
  let c0_i32_1126 : BitVec 32 := 0#32
  ![v1450.toNat, 0]
def k0_dev61 (d0 : Dev nD) : Nat :=
  let c0_i32_1123 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1122 : BitVec 32 := 4#32
  let v1451 : BitVec 32 := Scalar.muli v9 c4_i32_1122
  let v1452 : BitVec 32 := Scalar.addi c0_i32_1123 v1451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1124 : BitVec 32 := 2#32
  let v1453 : BitVec 32 := Scalar.muli v5 c2_i32_1124
  let v1454 : BitVec 32 := Scalar.addi v1452 v1453
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1125 : BitVec 32 := 1#32
  let v1455 : BitVec 32 := Scalar.muli v8 c1_i32_1125
  let v1456 : BitVec 32 := Scalar.addi v1454 v1455
  v1456.toNat
@[reducible] def k0_t44_loop : Scf.Loop 32 :=
  let c0_i32_1129 : BitVec 32 := 0#32
  let c4_i32_1130 : BitVec 32 := 4#32
  let v1463 : BitVec 32 := Scalar.addi c0_i32_1129 c4_i32_1130
  let c1_i32_1131 : BitVec 32 := 1#32
  ⟨c0_i32_1129, v1463, c1_i32_1131⟩
def k0_off417 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2309 : BitVec 32 := 480#32
  let v2737 : BitVec 32 := Scalar.addi v14 c480_i32_2309
  let c0_i32_1129 : BitVec 32 := 0#32
  let c1_i32_1131 : BitVec 32 := 1#32
  let arg17 : BitVec 32 := Scf.iv c0_i32_1129 c1_i32_1131 k0_t44
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2738 : BitVec 32 := Scalar.addi v2737 v2736
  let v2739 : Index := Scalar.indexCast v2738
  ![v2739.toNat]
def k0_off418 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2307 : BitVec 32 := 8#32
  let v2735 : BitVec 32 := Scalar.muli arg17 c8_i32_2307
  let c0_i32_2308 : BitVec 32 := 0#32
  let v2736 : BitVec 32 := Scalar.addi v2735 c0_i32_2308
  let v2839 : BitVec 32 := Scalar.addi c480_i32_2354 v2736
  let c0_i32_2356 : BitVec 32 := 0#32
  ![v2839.toNat, 0]
def k0_off419 (v2740 : BitVec 32) : Fin 2 → Nat :=
  let c0_i32_2357 : BitVec 32 := 0#32
  ![v2740.toNat, 0]
def k0_cond121 (v2740 : BitVec 32) : BitVec 1 :=
  let c0_i32_2310 : BitVec 32 := 0#32
  let v2741 : BitVec 1 := Scalar.cmpi .sge v2740 c0_i32_2310
  let c16384_i32 : BitVec 32 := 16384#32
  let v2742 : BitVec 1 := Scalar.cmpi .slt v2740 c16384_i32
  let v2743 : BitVec 1 := Scalar.andi v2741 v2742
  let v2744 : BitVec 32 := Scalar.extui v2743
  let c0_i32_2311 : BitVec 32 := 0#32
  let v2745 : BitVec 1 := Scalar.cmpi .ne v2744 c0_i32_2311
  v2745

def k0_chk135 (v2740 : BitVec 32) : Prop :=
  (∀ (k0_h121 : k0_cond121 v2740 = 1#1), ∀ a, (k0_off419 v2740) a + S1x1024.size a ≤ S16384x1024.size a)
theorem k0_off419_inb : ∀ (v2740 : BitVec 32) (k0_hw135 : k0_chk135 v2740), ∀ (k0_h121 : k0_cond121 v2740 = 1#1), ∀ a, (k0_off419 v2740) a + S1x1024.size a ≤ S16384x1024.size a := fun v2740 k0_hw135 k0_h121 => k0_hw135 k0_h121

def k0_off420 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2314 : BitVec 32 := 480#32
  let v2750 : BitVec 32 := Scalar.addi v14 c480_i32_2314
  let c0_i32_1129 : BitVec 32 := 0#32
  let c1_i32_1131 : BitVec 32 := 1#32
  let arg17 : BitVec 32 := Scf.iv c0_i32_1129 c1_i32_1131 k0_t44
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2751 : BitVec 32 := Scalar.addi v2750 v2749
  let v2752 : Index := Scalar.indexCast v2751
  ![v2752.toNat]
def k0_off421 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2312 : BitVec 32 := 8#32
  let v2748 : BitVec 32 := Scalar.muli arg17 c8_i32_2312
  let c1_i32_2313 : BitVec 32 := 1#32
  let v2749 : BitVec 32 := Scalar.addi v2748 c1_i32_2313
  let v2839 : BitVec 32 := Scalar.addi c480_i32_2354 v2749
  let c0_i32_2356 : BitVec 32 := 0#32
  ![v2839.toNat, 0]
def k0_off422 (v2753 : BitVec 32) : Fin 2 → Nat :=
  let c0_i32_2357 : BitVec 32 := 0#32
  ![v2753.toNat, 0]
def k0_cond122 (v2753 : BitVec 32) : BitVec 1 :=
  let c0_i32_2315 : BitVec 32 := 0#32
  let v2754 : BitVec 1 := Scalar.cmpi .sge v2753 c0_i32_2315
  let c16384_i32_2316 : BitVec 32 := 16384#32
  let v2755 : BitVec 1 := Scalar.cmpi .slt v2753 c16384_i32_2316
  let v2756 : BitVec 1 := Scalar.andi v2754 v2755
  let v2757 : BitVec 32 := Scalar.extui v2756
  let c0_i32_2317 : BitVec 32 := 0#32
  let v2758 : BitVec 1 := Scalar.cmpi .ne v2757 c0_i32_2317
  v2758

def k0_chk136 (v2753 : BitVec 32) : Prop :=
  (∀ (k0_h122 : k0_cond122 v2753 = 1#1), ∀ a, (k0_off422 v2753) a + S1x1024.size a ≤ S16384x1024.size a)
theorem k0_off422_inb : ∀ (v2753 : BitVec 32) (k0_hw136 : k0_chk136 v2753), ∀ (k0_h122 : k0_cond122 v2753 = 1#1), ∀ a, (k0_off422 v2753) a + S1x1024.size a ≤ S16384x1024.size a := fun v2753 k0_hw136 k0_h122 => k0_hw136 k0_h122

def k0_off423 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2320 : BitVec 32 := 480#32
  let v2763 : BitVec 32 := Scalar.addi v14 c480_i32_2320
  let c0_i32_1129 : BitVec 32 := 0#32
  let c1_i32_1131 : BitVec 32 := 1#32
  let arg17 : BitVec 32 := Scf.iv c0_i32_1129 c1_i32_1131 k0_t44
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2764 : BitVec 32 := Scalar.addi v2763 v2762
  let v2765 : Index := Scalar.indexCast v2764
  ![v2765.toNat]
def k0_off424 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2318 : BitVec 32 := 8#32
  let v2761 : BitVec 32 := Scalar.muli arg17 c8_i32_2318
  let c2_i32_2319 : BitVec 32 := 2#32
  let v2762 : BitVec 32 := Scalar.addi v2761 c2_i32_2319
  let v2839 : BitVec 32 := Scalar.addi c480_i32_2354 v2762
  let c0_i32_2356 : BitVec 32 := 0#32
  ![v2839.toNat, 0]
def k0_off425 (v2766 : BitVec 32) : Fin 2 → Nat :=
  let c0_i32_2357 : BitVec 32 := 0#32
  ![v2766.toNat, 0]
def k0_cond123 (v2766 : BitVec 32) : BitVec 1 :=
  let c0_i32_2321 : BitVec 32 := 0#32
  let v2767 : BitVec 1 := Scalar.cmpi .sge v2766 c0_i32_2321
  let c16384_i32_2322 : BitVec 32 := 16384#32
  let v2768 : BitVec 1 := Scalar.cmpi .slt v2766 c16384_i32_2322
  let v2769 : BitVec 1 := Scalar.andi v2767 v2768
  let v2770 : BitVec 32 := Scalar.extui v2769
  let c0_i32_2323 : BitVec 32 := 0#32
  let v2771 : BitVec 1 := Scalar.cmpi .ne v2770 c0_i32_2323
  v2771

def k0_chk137 (v2766 : BitVec 32) : Prop :=
  (∀ (k0_h123 : k0_cond123 v2766 = 1#1), ∀ a, (k0_off425 v2766) a + S1x1024.size a ≤ S16384x1024.size a)
theorem k0_off425_inb : ∀ (v2766 : BitVec 32) (k0_hw137 : k0_chk137 v2766), ∀ (k0_h123 : k0_cond123 v2766 = 1#1), ∀ a, (k0_off425 v2766) a + S1x1024.size a ≤ S16384x1024.size a := fun v2766 k0_hw137 k0_h123 => k0_hw137 k0_h123

def k0_off426 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2326 : BitVec 32 := 480#32
  let v2776 : BitVec 32 := Scalar.addi v14 c480_i32_2326
  let c0_i32_1129 : BitVec 32 := 0#32
  let c1_i32_1131 : BitVec 32 := 1#32
  let arg17 : BitVec 32 := Scf.iv c0_i32_1129 c1_i32_1131 k0_t44
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2777 : BitVec 32 := Scalar.addi v2776 v2775
  let v2778 : Index := Scalar.indexCast v2777
  ![v2778.toNat]
def k0_off427 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2324 : BitVec 32 := 8#32
  let v2774 : BitVec 32 := Scalar.muli arg17 c8_i32_2324
  let c3_i32_2325 : BitVec 32 := 3#32
  let v2775 : BitVec 32 := Scalar.addi v2774 c3_i32_2325
  let v2839 : BitVec 32 := Scalar.addi c480_i32_2354 v2775
  let c0_i32_2356 : BitVec 32 := 0#32
  ![v2839.toNat, 0]
def k0_off428 (v2779 : BitVec 32) : Fin 2 → Nat :=
  let c0_i32_2357 : BitVec 32 := 0#32
  ![v2779.toNat, 0]
def k0_cond124 (v2779 : BitVec 32) : BitVec 1 :=
  let c0_i32_2327 : BitVec 32 := 0#32
  let v2780 : BitVec 1 := Scalar.cmpi .sge v2779 c0_i32_2327
  let c16384_i32_2328 : BitVec 32 := 16384#32
  let v2781 : BitVec 1 := Scalar.cmpi .slt v2779 c16384_i32_2328
  let v2782 : BitVec 1 := Scalar.andi v2780 v2781
  let v2783 : BitVec 32 := Scalar.extui v2782
  let c0_i32_2329 : BitVec 32 := 0#32
  let v2784 : BitVec 1 := Scalar.cmpi .ne v2783 c0_i32_2329
  v2784

def k0_chk138 (v2779 : BitVec 32) : Prop :=
  (∀ (k0_h124 : k0_cond124 v2779 = 1#1), ∀ a, (k0_off428 v2779) a + S1x1024.size a ≤ S16384x1024.size a)
theorem k0_off428_inb : ∀ (v2779 : BitVec 32) (k0_hw138 : k0_chk138 v2779), ∀ (k0_h124 : k0_cond124 v2779 = 1#1), ∀ a, (k0_off428 v2779) a + S1x1024.size a ≤ S16384x1024.size a := fun v2779 k0_hw138 k0_h124 => k0_hw138 k0_h124

def k0_off429 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2332 : BitVec 32 := 480#32
  let v2789 : BitVec 32 := Scalar.addi v14 c480_i32_2332
  let c0_i32_1129 : BitVec 32 := 0#32
  let c1_i32_1131 : BitVec 32 := 1#32
  let arg17 : BitVec 32 := Scf.iv c0_i32_1129 c1_i32_1131 k0_t44
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2790 : BitVec 32 := Scalar.addi v2789 v2788
  let v2791 : Index := Scalar.indexCast v2790
  ![v2791.toNat]
def k0_off430 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2330 : BitVec 32 := 8#32
  let v2787 : BitVec 32 := Scalar.muli arg17 c8_i32_2330
  let c4_i32_2331 : BitVec 32 := 4#32
  let v2788 : BitVec 32 := Scalar.addi v2787 c4_i32_2331
  let v2839 : BitVec 32 := Scalar.addi c480_i32_2354 v2788
  let c0_i32_2356 : BitVec 32 := 0#32
  ![v2839.toNat, 0]
def k0_off431 (v2792 : BitVec 32) : Fin 2 → Nat :=
  let c0_i32_2357 : BitVec 32 := 0#32
  ![v2792.toNat, 0]
def k0_cond125 (v2792 : BitVec 32) : BitVec 1 :=
  let c0_i32_2333 : BitVec 32 := 0#32
  let v2793 : BitVec 1 := Scalar.cmpi .sge v2792 c0_i32_2333
  let c16384_i32_2334 : BitVec 32 := 16384#32
  let v2794 : BitVec 1 := Scalar.cmpi .slt v2792 c16384_i32_2334
  let v2795 : BitVec 1 := Scalar.andi v2793 v2794
  let v2796 : BitVec 32 := Scalar.extui v2795
  let c0_i32_2335 : BitVec 32 := 0#32
  let v2797 : BitVec 1 := Scalar.cmpi .ne v2796 c0_i32_2335
  v2797

def k0_chk139 (v2792 : BitVec 32) : Prop :=
  (∀ (k0_h125 : k0_cond125 v2792 = 1#1), ∀ a, (k0_off431 v2792) a + S1x1024.size a ≤ S16384x1024.size a)
theorem k0_off431_inb : ∀ (v2792 : BitVec 32) (k0_hw139 : k0_chk139 v2792), ∀ (k0_h125 : k0_cond125 v2792 = 1#1), ∀ a, (k0_off431 v2792) a + S1x1024.size a ≤ S16384x1024.size a := fun v2792 k0_hw139 k0_h125 => k0_hw139 k0_h125

def k0_off432 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2338 : BitVec 32 := 480#32
  let v2802 : BitVec 32 := Scalar.addi v14 c480_i32_2338
  let c0_i32_1129 : BitVec 32 := 0#32
  let c1_i32_1131 : BitVec 32 := 1#32
  let arg17 : BitVec 32 := Scf.iv c0_i32_1129 c1_i32_1131 k0_t44
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2803 : BitVec 32 := Scalar.addi v2802 v2801
  let v2804 : Index := Scalar.indexCast v2803
  ![v2804.toNat]
def k0_off433 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2336 : BitVec 32 := 8#32
  let v2800 : BitVec 32 := Scalar.muli arg17 c8_i32_2336
  let c5_i32_2337 : BitVec 32 := 5#32
  let v2801 : BitVec 32 := Scalar.addi v2800 c5_i32_2337
  let v2839 : BitVec 32 := Scalar.addi c480_i32_2354 v2801
  let c0_i32_2356 : BitVec 32 := 0#32
  ![v2839.toNat, 0]
def k0_off434 (v2805 : BitVec 32) : Fin 2 → Nat :=
  let c0_i32_2357 : BitVec 32 := 0#32
  ![v2805.toNat, 0]
def k0_cond126 (v2805 : BitVec 32) : BitVec 1 :=
  let c0_i32_2339 : BitVec 32 := 0#32
  let v2806 : BitVec 1 := Scalar.cmpi .sge v2805 c0_i32_2339
  let c16384_i32_2340 : BitVec 32 := 16384#32
  let v2807 : BitVec 1 := Scalar.cmpi .slt v2805 c16384_i32_2340
  let v2808 : BitVec 1 := Scalar.andi v2806 v2807
  let v2809 : BitVec 32 := Scalar.extui v2808
  let c0_i32_2341 : BitVec 32 := 0#32
  let v2810 : BitVec 1 := Scalar.cmpi .ne v2809 c0_i32_2341
  v2810

def k0_chk140 (v2805 : BitVec 32) : Prop :=
  (∀ (k0_h126 : k0_cond126 v2805 = 1#1), ∀ a, (k0_off434 v2805) a + S1x1024.size a ≤ S16384x1024.size a)
theorem k0_off434_inb : ∀ (v2805 : BitVec 32) (k0_hw140 : k0_chk140 v2805), ∀ (k0_h126 : k0_cond126 v2805 = 1#1), ∀ a, (k0_off434 v2805) a + S1x1024.size a ≤ S16384x1024.size a := fun v2805 k0_hw140 k0_h126 => k0_hw140 k0_h126

def k0_off435 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2344 : BitVec 32 := 480#32
  let v2815 : BitVec 32 := Scalar.addi v14 c480_i32_2344
  let c0_i32_1129 : BitVec 32 := 0#32
  let c1_i32_1131 : BitVec 32 := 1#32
  let arg17 : BitVec 32 := Scf.iv c0_i32_1129 c1_i32_1131 k0_t44
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2816 : BitVec 32 := Scalar.addi v2815 v2814
  let v2817 : Index := Scalar.indexCast v2816
  ![v2817.toNat]
def k0_off436 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2342 : BitVec 32 := 8#32
  let v2813 : BitVec 32 := Scalar.muli arg17 c8_i32_2342
  let c6_i32_2343 : BitVec 32 := 6#32
  let v2814 : BitVec 32 := Scalar.addi v2813 c6_i32_2343
  let v2839 : BitVec 32 := Scalar.addi c480_i32_2354 v2814
  let c0_i32_2356 : BitVec 32 := 0#32
  ![v2839.toNat, 0]
def k0_off437 (v2818 : BitVec 32) : Fin 2 → Nat :=
  let c0_i32_2357 : BitVec 32 := 0#32
  ![v2818.toNat, 0]
def k0_cond127 (v2818 : BitVec 32) : BitVec 1 :=
  let c0_i32_2345 : BitVec 32 := 0#32
  let v2819 : BitVec 1 := Scalar.cmpi .sge v2818 c0_i32_2345
  let c16384_i32_2346 : BitVec 32 := 16384#32
  let v2820 : BitVec 1 := Scalar.cmpi .slt v2818 c16384_i32_2346
  let v2821 : BitVec 1 := Scalar.andi v2819 v2820
  let v2822 : BitVec 32 := Scalar.extui v2821
  let c0_i32_2347 : BitVec 32 := 0#32
  let v2823 : BitVec 1 := Scalar.cmpi .ne v2822 c0_i32_2347
  v2823

def k0_chk141 (v2818 : BitVec 32) : Prop :=
  (∀ (k0_h127 : k0_cond127 v2818 = 1#1), ∀ a, (k0_off437 v2818) a + S1x1024.size a ≤ S16384x1024.size a)
theorem k0_off437_inb : ∀ (v2818 : BitVec 32) (k0_hw141 : k0_chk141 v2818), ∀ (k0_h127 : k0_cond127 v2818 = 1#1), ∀ a, (k0_off437 v2818) a + S1x1024.size a ≤ S16384x1024.size a := fun v2818 k0_hw141 k0_h127 => k0_hw141 k0_h127

def k0_off438 (d0 : Dev nD) (k0_t44 : Fin k0_t44_loop.trips) : Fin 1 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c480_i32_2350 : BitVec 32 := 480#32
  let v2828 : BitVec 32 := Scalar.addi v14 c480_i32_2350
  let c0_i32_1129 : BitVec 32 := 0#32
  let c1_i32_1131 : BitVec 32 := 1#32
  let arg17 : BitVec 32 := Scf.iv c0_i32_1129 c1_i32_1131 k0_t44
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2829 : BitVec 32 := Scalar.addi v2828 v2827
  let v2830 : Index := Scalar.indexCast v2829
  ![v2830.toNat]
def k0_off439 (k0_t44 : Fin k0_t44_loop.trips) : Fin 2 → Nat :=
  let c480_i32_2354 : BitVec 32 := 480#32
  let c0_i32_1129 : BitVec 32 := 0#32
  let c1_i32_1131 : BitVec 32 := 1#32
  let arg17 : BitVec 32 := Scf.iv c0_i32_1129 c1_i32_1131 k0_t44
  let c8_i32_2348 : BitVec 32 := 8#32
  let v2826 : BitVec 32 := Scalar.muli arg17 c8_i32_2348
  let c7_i32_2349 : BitVec 32 := 7#32
  let v2827 : BitVec 32 := Scalar.addi v2826 c7_i32_2349
  let v2839 : BitVec 32 := Scalar.addi c480_i32_2354 v2827
  let c0_i32_2356 : BitVec 32 := 0#32
  ![v2839.toNat, 0]
def k0_off440 (v2831 : BitVec 32) : Fin 2 → Nat :=
  let c0_i32_2357 : BitVec 32 := 0#32
  ![v2831.toNat, 0]
def k0_cond128 (v2831 : BitVec 32) : BitVec 1 :=
  let c0_i32_2351 : BitVec 32 := 0#32
  let v2832 : BitVec 1 := Scalar.cmpi .sge v2831 c0_i32_2351
  let c16384_i32_2352 : BitVec 32 := 16384#32
  let v2833 : BitVec 1 := Scalar.cmpi .slt v2831 c16384_i32_2352
  let v2834 : BitVec 1 := Scalar.andi v2832 v2833
  let v2835 : BitVec 32 := Scalar.extui v2834
  let c0_i32_2353 : BitVec 32 := 0#32
  let v2836 : BitVec 1 := Scalar.cmpi .ne v2835 c0_i32_2353
  v2836

def k0_chk142 (v2831 : BitVec 32) : Prop :=
  (∀ (k0_h128 : k0_cond128 v2831 = 1#1), ∀ a, (k0_off440 v2831) a + S1x1024.size a ≤ S16384x1024.size a)
theorem k0_off440_inb : ∀ (v2831 : BitVec 32) (k0_hw142 : k0_chk142 v2831), ∀ (k0_h128 : k0_cond128 v2831 = 1#1), ∀ a, (k0_off440 v2831) a + S1x1024.size a ≤ S16384x1024.size a := fun v2831 k0_hw142 k0_h128 => k0_hw142 k0_h128

@[reducible] def k0_t45_loop (v1341 : BitVec 32) : Scf.Loop 32 :=
  let c0_i32_1134 : BitVec 32 := 0#32
  let v1465 : BitVec 32 := Scalar.subi v1341 c0_i32_1134
  let c1_i32_1135 : BitVec 32 := 1#32
  let v1467 : BitVec 32 := Scalar.divsi v1465 c1_i32_1135
  let v1468 : BitVec 32 := Scalar.muli v1467 c1_i32_1135
  let v1469 : BitVec 32 := Scalar.addi c0_i32_1134 v1468
  let c1_i32_1136 : BitVec 32 := 1#32
  ⟨c0_i32_1134, v1469, c1_i32_1136⟩

@[reducible] def k0_t46_loop (v1341 : BitVec 32) : Scf.Loop 32 :=
  let c0_i32_1134 : BitVec 32 := 0#32
  let v1465 : BitVec 32 := Scalar.subi v1341 c0_i32_1134
  let c1_i32_1135 : BitVec 32 := 1#32
  let v1467 : BitVec 32 := Scalar.divsi v1465 c1_i32_1135
  let v1468 : BitVec 32 := Scalar.muli v1467 c1_i32_1135
  let v1469 : BitVec 32 := Scalar.addi c0_i32_1134 v1468
  let v1466 : BitVec 32 := Scalar.addi c0_i32_1134 v1465
  let c1_i32_1137 : BitVec 32 := 1#32
  ⟨v1469, v1466, c1_i32_1137⟩

def k0_chk143 (v1341 : BitVec 32) : Prop :=
  ((k0_t45_loop v1341).OK) ∧
  ((k0_t46_loop v1341).OK)
theorem k0_t45_ok : ∀ (v1341 : BitVec 32) (k0_hw143 : k0_chk143 v1341), (k0_t45_loop v1341).OK := fun v1341 k0_hw143 => k0_hw143.1
theorem k0_t46_ok : ∀ (v1341 : BitVec 32) (k0_hw143 : k0_chk143 v1341), (k0_t46_loop v1341).OK := fun v1341 k0_hw143 => k0_hw143.2

def k0_dev62 (d0 : Dev nD) : Nat :=
  let c0_i32_1140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1139 : BitVec 32 := 4#32
  let v1470 : BitVec 32 := Scalar.muli v2 c4_i32_1139
  let v1471 : BitVec 32 := Scalar.addi c0_i32_1140 v1470
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1141 : BitVec 32 := 2#32
  let v1472 : BitVec 32 := Scalar.muli v10 c2_i32_1141
  let v1473 : BitVec 32 := Scalar.addi v1471 v1472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1142 : BitVec 32 := 1#32
  let v1474 : BitVec 32 := Scalar.muli v8 c1_i32_1142
  let v1475 : BitVec 32 := Scalar.addi v1473 v1474
  v1475.toNat
def k0_off441 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_1156 : BitVec 32 := 384#32
  let v1492 : BitVec 32 := Scalar.addi v14 c384_i32_1156
  let v1493 : Index := Scalar.indexCast v1492
  let c0_1157 : Index := 0#32
  ![v1493.toNat, 0]
def k0_off442 (d0 : Dev nD) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let c384_i32_1162 : BitVec 32 := 384#32
  let v1505 : BitVec 32 := Scalar.addi v14 c384_i32_1162
  let v1506 : Index := Scalar.indexCast v1505
  let c0_1163 : Index := 0#32
  ![v1506.toNat, 0]
def k0_off443 (d0 : Dev nD) (c384_i32_1165 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1509 : BitVec 32 := Scalar.addi v14 c384_i32_1165
  let c0_i32_1172 : BitVec 32 := 0#32
  ![v1509.toNat, 0]
def k0_dev63 (d0 : Dev nD) : Nat :=
  let c0_i32_1169 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1168 : BitVec 32 := 4#32
  let v1510 : BitVec 32 := Scalar.muli v9 c4_i32_1168
  let v1511 : BitVec 32 := Scalar.addi c0_i32_1169 v1510
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1170 : BitVec 32 := 2#32
  let v1512 : BitVec 32 := Scalar.muli v5 c2_i32_1170
  let v1513 : BitVec 32 := Scalar.addi v1511 v1512
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1171 : BitVec 32 := 1#32
  let v1514 : BitVec 32 := Scalar.muli v8 c1_i32_1171
  let v1515 : BitVec 32 := Scalar.addi v1513 v1514
  v1515.toNat
def k0_dev64 (d0 : Dev nD) : Nat :=
  let c0_i32_1179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1178 : BitVec 32 := 4#32
  let v1524 : BitVec 32 := Scalar.muli v2 c4_i32_1178
  let v1525 : BitVec 32 := Scalar.addi c0_i32_1179 v1524
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1180 : BitVec 32 := 2#32
  let v1526 : BitVec 32 := Scalar.muli v5 c2_i32_1180
  let v1527 : BitVec 32 := Scalar.addi v1525 v1526
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1181 : BitVec 32 := 1#32
  let v1528 : BitVec 32 := Scalar.muli v11 c1_i32_1181
  let v1529 : BitVec 32 := Scalar.addi v1527 v1528
  v1529.toNat
def k0_off444 (d0 : Dev nD) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let c320_i32_1193 : BitVec 32 := 320#32
  let v1547 : BitVec 32 := Scalar.addi v18 c320_i32_1193
  let c0_i32_1200 : BitVec 32 := 0#32
  ![v1547.toNat, 0]
def k0_dev65 (d0 : Dev nD) : Nat :=
  let c0_i32_1197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1196 : BitVec 32 := 4#32
  let v1548 : BitVec 32 := Scalar.muli v2 c4_i32_1196
  let v1549 : BitVec 32 := Scalar.addi c0_i32_1197 v1548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1198 : BitVec 32 := 2#32
  let v1550 : BitVec 32 := Scalar.muli v5 c2_i32_1198
  let v1551 : BitVec 32 := Scalar.addi v1549 v1550
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1199 : BitVec 32 := 1#32
  let v1552 : BitVec 32 := Scalar.muli v11 c1_i32_1199
  let v1553 : BitVec 32 := Scalar.addi v1551 v1552
  v1553.toNat
def k0_off445 (d0 : Dev nD) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let c320_i32_1212 : BitVec 32 := 320#32
  let v1572 : BitVec 32 := Scalar.addi v22 c320_i32_1212
  let c16_i32_1213 : BitVec 32 := 16#32
  let v1573 : BitVec 32 := Scalar.addi v1572 c16_i32_1213
  let c0_i32_1220 : BitVec 32 := 0#32
  ![v1573.toNat, 0]
def k0_dev66 (d0 : Dev nD) : Nat :=
  let c0_i32_1217 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1216 : BitVec 32 := 4#32
  let v1574 : BitVec 32 := Scalar.muli v9 c4_i32_1216
  let v1575 : BitVec 32 := Scalar.addi c0_i32_1217 v1574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1218 : BitVec 32 := 2#32
  let v1576 : BitVec 32 := Scalar.muli v5 c2_i32_1218
  let v1577 : BitVec 32 := Scalar.addi v1575 v1576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1219 : BitVec 32 := 1#32
  let v1578 : BitVec 32 := Scalar.muli v8 c1_i32_1219
  let v1579 : BitVec 32 := Scalar.addi v1577 v1578
  v1579.toNat
@[reducible] def k0_t47_loop (v1464 : BitVec 32) : Scf.Loop 32 :=
  let c0_i32_1223 : BitVec 32 := 0#32
  let v1586 : BitVec 32 := Scalar.subi v1464 c0_i32_1223
  let c1_i32_1224 : BitVec 32 := 1#32
  let v1588 : BitVec 32 := Scalar.divsi v1586 c1_i32_1224
  let v1589 : BitVec 32 := Scalar.muli v1588 c1_i32_1224
  let v1590 : BitVec 32 := Scalar.addi c0_i32_1223 v1589
  let c1_i32_1225 : BitVec 32 := 1#32
  ⟨c0_i32_1223, v1590, c1_i32_1225⟩

@[reducible] def k0_t48_loop (v1464 : BitVec 32) : Scf.Loop 32 :=
  let c0_i32_1223 : BitVec 32 := 0#32
  let v1586 : BitVec 32 := Scalar.subi v1464 c0_i32_1223
  let c1_i32_1224 : BitVec 32 := 1#32
  let v1588 : BitVec 32 := Scalar.divsi v1586 c1_i32_1224
  let v1589 : BitVec 32 := Scalar.muli v1588 c1_i32_1224
  let v1590 : BitVec 32 := Scalar.addi c0_i32_1223 v1589
  let v1587 : BitVec 32 := Scalar.addi c0_i32_1223 v1586
  let c1_i32_1226 : BitVec 32 := 1#32
  ⟨v1590, v1587, c1_i32_1226⟩

def k0_chk144 (v1464 : BitVec 32) : Prop :=
  ((k0_t47_loop v1464).OK) ∧
  ((k0_t48_loop v1464).OK)
theorem k0_t47_ok : ∀ (v1464 : BitVec 32) (k0_hw144 : k0_chk144 v1464), (k0_t47_loop v1464).OK := fun v1464 k0_hw144 => k0_hw144.1
theorem k0_t48_ok : ∀ (v1464 : BitVec 32) (k0_hw144 : k0_chk144 v1464), (k0_t48_loop v1464).OK := fun v1464 k0_hw144 => k0_hw144.2

def k0_dev67 (d0 : Dev nD) : Nat :=
  let c0_i32_1229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1228 : BitVec 32 := 4#32
  let v1591 : BitVec 32 := Scalar.muli v2 c4_i32_1228
  let v1592 : BitVec 32 := Scalar.addi c0_i32_1229 v1591
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1230 : BitVec 32 := 2#32
  let v1593 : BitVec 32 := Scalar.muli v10 c2_i32_1230
  let v1594 : BitVec 32 := Scalar.addi v1592 v1593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1231 : BitVec 32 := 1#32
  let v1595 : BitVec 32 := Scalar.muli v8 c1_i32_1231
  let v1596 : BitVec 32 := Scalar.addi v1594 v1595
  v1596.toNat
def k0_off446 (d0 : Dev nD) (c416_i32_1245 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1613 : BitVec 32 := Scalar.addi v14 c416_i32_1245
  let v1614 : Index := Scalar.indexCast v1613
  let c0_1246 : Index := 0#32
  ![v1614.toNat, 0]
def k0_off447 (d0 : Dev nD) (c416_i32_1251 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1626 : BitVec 32 := Scalar.addi v14 c416_i32_1251
  let v1627 : Index := Scalar.indexCast v1626
  let c0_1252 : Index := 0#32
  ![v1627.toNat, 0]
def k0_off448 (d0 : Dev nD) (c416_i32_1254 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v1630 : BitVec 32 := Scalar.addi v14 c416_i32_1254
  let c0_i32_1261 : BitVec 32 := 0#32
  ![v1630.toNat, 0]
def k0_dev68 (d0 : Dev nD) : Nat :=
  let c0_i32_1258 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1257 : BitVec 32 := 4#32
  let v1631 : BitVec 32 := Scalar.muli v9 c4_i32_1257
  let v1632 : BitVec 32 := Scalar.addi c0_i32_1258 v1631
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1259 : BitVec 32 := 2#32
  let v1633 : BitVec 32 := Scalar.muli v5 c2_i32_1259
  let v1634 : BitVec 32 := Scalar.addi v1632 v1633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1260 : BitVec 32 := 1#32
  let v1635 : BitVec 32 := Scalar.muli v8 c1_i32_1260
  let v1636 : BitVec 32 := Scalar.addi v1634 v1635
  v1636.toNat
def k0_dev69 (d0 : Dev nD) : Nat :=
  let c0_i32_1268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1267 : BitVec 32 := 4#32
  let v1645 : BitVec 32 := Scalar.muli v2 c4_i32_1267
  let v1646 : BitVec 32 := Scalar.addi c0_i32_1268 v1645
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1269 : BitVec 32 := 2#32
  let v1647 : BitVec 32 := Scalar.muli v5 c2_i32_1269
  let v1648 : BitVec 32 := Scalar.addi v1646 v1647
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1270 : BitVec 32 := 1#32
  let v1649 : BitVec 32 := Scalar.muli v11 c1_i32_1270
  let v1650 : BitVec 32 := Scalar.addi v1648 v1649
  v1650.toNat
def k0_off449 (d0 : Dev nD) (c352_i32_1282 : BitVec 32) : Fin 2 → Nat :=
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c512_i32_9 : BitVec 32 := 512#32
  let v18 : BitVec 32 := Scalar.muli v17 c512_i32_9
  let v1668 : BitVec 32 := Scalar.addi v18 c352_i32_1282
  let c0_i32_1289 : BitVec 32 := 0#32
  ![v1668.toNat, 0]
def k0_dev70 (d0 : Dev nD) : Nat :=
  let c0_i32_1286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1285 : BitVec 32 := 4#32
  let v1669 : BitVec 32 := Scalar.muli v2 c4_i32_1285
  let v1670 : BitVec 32 := Scalar.addi c0_i32_1286 v1669
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1287 : BitVec 32 := 2#32
  let v1671 : BitVec 32 := Scalar.muli v5 c2_i32_1287
  let v1672 : BitVec 32 := Scalar.addi v1670 v1671
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1288 : BitVec 32 := 1#32
  let v1673 : BitVec 32 := Scalar.muli v11 c1_i32_1288
  let v1674 : BitVec 32 := Scalar.addi v1672 v1673
  v1674.toNat
def k0_off450 (d0 : Dev nD) (c352_i32_1301 : BitVec 32) : Fin 2 → Nat :=
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c512_i32_12 : BitVec 32 := 512#32
  let v22 : BitVec 32 := Scalar.muli v21 c512_i32_12
  let v1693 : BitVec 32 := Scalar.addi v22 c352_i32_1301
  let c16_i32_1302 : BitVec 32 := 16#32
  let v1694 : BitVec 32 := Scalar.addi v1693 c16_i32_1302
  let c0_i32_1309 : BitVec 32 := 0#32
  ![v1694.toNat, 0]
def k0_dev71 (d0 : Dev nD) : Nat :=
  let c0_i32_1306 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1305 : BitVec 32 := 4#32
  let v1695 : BitVec 32 := Scalar.muli v9 c4_i32_1305
  let v1696 : BitVec 32 := Scalar.addi c0_i32_1306 v1695
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1307 : BitVec 32 := 2#32
  let v1697 : BitVec 32 := Scalar.muli v5 c2_i32_1307
  let v1698 : BitVec 32 := Scalar.addi v1696 v1697
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1308 : BitVec 32 := 1#32
  let v1699 : BitVec 32 := Scalar.muli v8 c1_i32_1308
  let v1700 : BitVec 32 := Scalar.addi v1698 v1699
  v1700.toNat
def k0_dev72 (d0 : Dev nD) : Nat :=
  let c0_i32_1334 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1333 : BitVec 32 := 4#32
  let v1735 : BitVec 32 := Scalar.muli v9 c4_i32_1333
  let v1736 : BitVec 32 := Scalar.addi c0_i32_1334 v1735
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1335 : BitVec 32 := 2#32
  let v1737 : BitVec 32 := Scalar.muli v5 c2_i32_1335
  let v1738 : BitVec 32 := Scalar.addi v1736 v1737
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1336 : BitVec 32 := 1#32
  let v1739 : BitVec 32 := Scalar.muli v8 c1_i32_1336
  let v1740 : BitVec 32 := Scalar.addi v1738 v1739
  v1740.toNat
def k0_dev73 (d0 : Dev nD) : Nat :=
  let c0_i32_1344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1343 : BitVec 32 := 4#32
  let v1749 : BitVec 32 := Scalar.muli v2 c4_i32_1343
  let v1750 : BitVec 32 := Scalar.addi c0_i32_1344 v1749
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1345 : BitVec 32 := 2#32
  let v1751 : BitVec 32 := Scalar.muli v5 c2_i32_1345
  let v1752 : BitVec 32 := Scalar.addi v1750 v1751
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1346 : BitVec 32 := 1#32
  let v1753 : BitVec 32 := Scalar.muli v11 c1_i32_1346
  let v1754 : BitVec 32 := Scalar.addi v1752 v1753
  v1754.toNat
def k0_dev74 (d0 : Dev nD) : Nat :=
  let c0_i32_1372 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1371 : BitVec 32 := 4#32
  let v1789 : BitVec 32 := Scalar.muli v9 c4_i32_1371
  let v1790 : BitVec 32 := Scalar.addi c0_i32_1372 v1789
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1373 : BitVec 32 := 2#32
  let v1791 : BitVec 32 := Scalar.muli v5 c2_i32_1373
  let v1792 : BitVec 32 := Scalar.addi v1790 v1791
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1374 : BitVec 32 := 1#32
  let v1793 : BitVec 32 := Scalar.muli v8 c1_i32_1374
  let v1794 : BitVec 32 := Scalar.addi v1792 v1793
  v1794.toNat
def k0_dev75 (d0 : Dev nD) : Nat :=
  let c0_i32_1382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1381 : BitVec 32 := 4#32
  let v1803 : BitVec 32 := Scalar.muli v2 c4_i32_1381
  let v1804 : BitVec 32 := Scalar.addi c0_i32_1382 v1803
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1383 : BitVec 32 := 2#32
  let v1805 : BitVec 32 := Scalar.muli v5 c2_i32_1383
  let v1806 : BitVec 32 := Scalar.addi v1804 v1805
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1384 : BitVec 32 := 1#32
  let v1807 : BitVec 32 := Scalar.muli v11 c1_i32_1384
  let v1808 : BitVec 32 := Scalar.addi v1806 v1807
  v1808.toNat
def k0_dev76 (d0 : Dev nD) : Nat :=
  let c0_i32_1400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1399 : BitVec 32 := 4#32
  let v1827 : BitVec 32 := Scalar.muli v2 c4_i32_1399
  let v1828 : BitVec 32 := Scalar.addi c0_i32_1400 v1827
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1401 : BitVec 32 := 2#32
  let v1829 : BitVec 32 := Scalar.muli v5 c2_i32_1401
  let v1830 : BitVec 32 := Scalar.addi v1828 v1829
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1402 : BitVec 32 := 1#32
  let v1831 : BitVec 32 := Scalar.muli v11 c1_i32_1402
  let v1832 : BitVec 32 := Scalar.addi v1830 v1831
  v1832.toNat
def k0_dev77 (d0 : Dev nD) : Nat :=
  let c0_i32_1420 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1419 : BitVec 32 := 4#32
  let v1853 : BitVec 32 := Scalar.muli v9 c4_i32_1419
  let v1854 : BitVec 32 := Scalar.addi c0_i32_1420 v1853
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1421 : BitVec 32 := 2#32
  let v1855 : BitVec 32 := Scalar.muli v5 c2_i32_1421
  let v1856 : BitVec 32 := Scalar.addi v1854 v1855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1422 : BitVec 32 := 1#32
  let v1857 : BitVec 32 := Scalar.muli v8 c1_i32_1422
  let v1858 : BitVec 32 := Scalar.addi v1856 v1857
  v1858.toNat
def k0_dev78 (d0 : Dev nD) : Nat :=
  let c0_i32_1438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1437 : BitVec 32 := 4#32
  let v1877 : BitVec 32 := Scalar.muli v2 c4_i32_1437
  let v1878 : BitVec 32 := Scalar.addi c0_i32_1438 v1877
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1439 : BitVec 32 := 2#32
  let v1879 : BitVec 32 := Scalar.muli v5 c2_i32_1439
  let v1880 : BitVec 32 := Scalar.addi v1878 v1879
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1440 : BitVec 32 := 1#32
  let v1881 : BitVec 32 := Scalar.muli v11 c1_i32_1440
  let v1882 : BitVec 32 := Scalar.addi v1880 v1881
  v1882.toNat
def k0_dev79 (d0 : Dev nD) : Nat :=
  let c0_i32_1458 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1457 : BitVec 32 := 4#32
  let v1903 : BitVec 32 := Scalar.muli v9 c4_i32_1457
  let v1904 : BitVec 32 := Scalar.addi c0_i32_1458 v1903
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1459 : BitVec 32 := 2#32
  let v1905 : BitVec 32 := Scalar.muli v5 c2_i32_1459
  let v1906 : BitVec 32 := Scalar.addi v1904 v1905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1460 : BitVec 32 := 1#32
  let v1907 : BitVec 32 := Scalar.muli v8 c1_i32_1460
  let v1908 : BitVec 32 := Scalar.addi v1906 v1907
  v1908.toNat
def k0_dev80 (d0 : Dev nD) : Nat :=
  let c0_i32_1476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1475 : BitVec 32 := 4#32
  let v1927 : BitVec 32 := Scalar.muli v2 c4_i32_1475
  let v1928 : BitVec 32 := Scalar.addi c0_i32_1476 v1927
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1477 : BitVec 32 := 2#32
  let v1929 : BitVec 32 := Scalar.muli v5 c2_i32_1477
  let v1930 : BitVec 32 := Scalar.addi v1928 v1929
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1478 : BitVec 32 := 1#32
  let v1931 : BitVec 32 := Scalar.muli v11 c1_i32_1478
  let v1932 : BitVec 32 := Scalar.addi v1930 v1931
  v1932.toNat
def k0_dev81 (d0 : Dev nD) : Nat :=
  let c0_i32_1496 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1495 : BitVec 32 := 4#32
  let v1953 : BitVec 32 := Scalar.muli v9 c4_i32_1495
  let v1954 : BitVec 32 := Scalar.addi c0_i32_1496 v1953
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1497 : BitVec 32 := 2#32
  let v1955 : BitVec 32 := Scalar.muli v5 c2_i32_1497
  let v1956 : BitVec 32 := Scalar.addi v1954 v1955
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1498 : BitVec 32 := 1#32
  let v1957 : BitVec 32 := Scalar.muli v8 c1_i32_1498
  let v1958 : BitVec 32 := Scalar.addi v1956 v1957
  v1958.toNat
def k0_dev82 (d0 : Dev nD) : Nat :=
  let c0_i32_1514 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1513 : BitVec 32 := 4#32
  let v1977 : BitVec 32 := Scalar.muli v2 c4_i32_1513
  let v1978 : BitVec 32 := Scalar.addi c0_i32_1514 v1977
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1515 : BitVec 32 := 2#32
  let v1979 : BitVec 32 := Scalar.muli v5 c2_i32_1515
  let v1980 : BitVec 32 := Scalar.addi v1978 v1979
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1516 : BitVec 32 := 1#32
  let v1981 : BitVec 32 := Scalar.muli v11 c1_i32_1516
  let v1982 : BitVec 32 := Scalar.addi v1980 v1981
  v1982.toNat
def k0_dev83 (d0 : Dev nD) : Nat :=
  let c0_i32_1534 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1533 : BitVec 32 := 4#32
  let v2003 : BitVec 32 := Scalar.muli v9 c4_i32_1533
  let v2004 : BitVec 32 := Scalar.addi c0_i32_1534 v2003
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1535 : BitVec 32 := 2#32
  let v2005 : BitVec 32 := Scalar.muli v5 c2_i32_1535
  let v2006 : BitVec 32 := Scalar.addi v2004 v2005
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1536 : BitVec 32 := 1#32
  let v2007 : BitVec 32 := Scalar.muli v8 c1_i32_1536
  let v2008 : BitVec 32 := Scalar.addi v2006 v2007
  v2008.toNat
def k0_off451 (d0 : Dev nD) (c0_i32_1540 : BitVec 32) : Fin 2 → Nat :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let v24 : BitVec 32 := Scalar.muli c2_i32_14 v23
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let v26 : BitVec 32 := Scalar.addi v24 v25
  let c512_i32_16 : BitVec 32 := 512#32
  let v27 : BitVec 32 := Scalar.muli v26 c512_i32_16
  let v2016 : BitVec 32 := Scalar.addi v27 c0_i32_1540
  let c0_i32_1547 : BitVec 32 := 0#32
  ![v2016.toNat, 0]
def k0_off452 (d0 : Dev nD) (c0_i32_1539 : BitVec 32) : Fin 2 → Nat :=
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c512_i32 : BitVec 32 := 512#32
  let v14 : BitVec 32 := Scalar.muli v13 c512_i32
  let v2015 : BitVec 32 := Scalar.addi v14 c0_i32_1539
  let c0_i32_1548 : BitVec 32 := 0#32
  ![v2015.toNat, 0]
def k0_off453 (d0 : Dev nD) (c0_i32_1550 : BitVec 32) : Fin 2 → Nat :=
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let v24 : BitVec 32 := Scalar.muli c2_i32_14 v23
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let v26 : BitVec 32 := Scalar.addi v24 v25
  let c512_i32_16 : BitVec 32 := 512#32
  let v27 : BitVec 32 := Scalar.muli v26 c512_i32_16
  let v2028 : BitVec 32 := Scalar.addi v27 c0_i32_1550
  let c16_i32_1551 : BitVec 32 := 16#32
  let v2029 : BitVec 32 := Scalar.addi v2028 c16_i32_1551
  let c0_i32_1558 : BitVec 32 := 0#32
  ![v2029.toNat, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/-
  The protocol of the embedding lookup on a 2 x 2 x 2 mesh: neighbours, cells, regions of the buffers held as row
  intervals with a predicate on their elements, and what each row is to hold.
-/
module

public import proofs.«01_k».proof.Proof.Gen.KernelIdeal
public import proofs.«01_k».proof.Proof.Gen.KernelIdeal.Skeleton
public import Idealize.ShloMosaic.Lib.Rounds
public import Idealize.ShloMosaic.Lib.Batch
public import Idealize.ShloMosaic.Lib.Ring
public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

/-! ## The resource algebra: the staging pipeline's copy, the exchange protocol's rounds, the gather batches' counters -/

abbrev UU : Type := UR sig nD τ × (URounds (GSem nD τ sig) (Fin 3) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) :=
  (Emb.inl : Emb (URounds (GSem nD τ sig) (Fin 3)) (URounds (GSem nD τ sig) (Fin 3) × Counters)).trans embR
abbrev EC : UEmb Counters (MT nD τ sig Unit (Elt F) ℕ UU ℕ) := countersEmb

/-! ## Separating conjunctions over finite families -/

omit [FloatOps F] in
theorem bigSep_ins {I : Type} [DecidableEq I] {s : Finset I} {i : I} (h : i ∉ s) (Φ : I → sProp 𝕄) :
    bigSep (insert i s) Φ = iprop(Φ i ∗ bigSep s Φ) := BI.bigSep_insert h

omit [FloatOps F] in
theorem bigSep_out {I : Type} [DecidableEq I] {s : Finset I} {i : I} (h : i ∈ s) (Φ : I → sProp 𝕄) :
    bigSep s Φ = iprop(Φ i ∗ bigSep (s.erase i) Φ) := by
  conv_lhs => rw [← Finset.insert_erase h]
  exact bigSep_ins (Finset.notMem_erase i s) Φ

omit [FloatOps F] in
theorem bigSep_fin_succ (N : ℕ) (Φ : Fin (N + 1) → sProp 𝕄) :
    bigSep Finset.univ Φ = iprop(Φ (Fin.last N) ∗ bigSep Finset.univ fun k : Fin N => Φ k.castSucc) := by
  rw [Fin.univ_castSuccEmb, Finset.cons_eq_insert, BI.bigSep_insert (by simp), BI.bigSep_map]; rfl

/-! ## Neighbours -/

/-- The neighbours along x, y and z: one bit of the device's number flipped. -/
def xn (c : Dev nD) : Dev nD := ⟨(c.val + 4) % 8, Nat.mod_lt _ (by decide)⟩
def yn (c : Dev nD) : Dev nD := ⟨if c.val / 2 % 2 = 0 then c.val + 2 else c.val - 2, by revert c; decide⟩
def zn (c : Dev nD) : Dev nD := ⟨if c.val % 2 = 0 then c.val + 1 else c.val - 1, by revert c; decide⟩

theorem xn_xn (c : Dev nD) : xn (xn c) = c := by revert c; decide
theorem yn_yn (c : Dev nD) : yn (yn c) = c := by revert c; decide
theorem zn_zn (c : Dev nD) : zn (zn c) = c := by revert c; decide

/-- The quarter of the rows a device gathers. -/
def qb (c : Dev nD) : ℕ := 2 * (c.val % 2) + c.val / 4

theorem qb_lt (c : Dev nD) : qb c < 4 := by revert c; decide
theorem qb_xz (c : Dev nD) : qb (xn (zn c)) = qb (zn (xn c)) := by revert c; decide
theorem qb_yn (c : Dev nD) : qb (yn c) = qb c := by revert c; decide

/-- The device, in `c`'s half of the table, that gathers quarter `q`. -/
def srcDev (c : Dev nD) (q : ℕ) : Dev nD := ⟨(4 * (q % 2) + 2 * (c.val / 2 % 2) + q / 2 % 2) % 8, Nat.mod_lt _ (by decide)⟩

theorem srcDev_qb (c : Dev nD) : srcDev c (qb c) = c := by revert c; decide
theorem srcDev_xn (c : Dev nD) (q : ℕ) : srcDev (xn c) q = srcDev c q := by
  have h : (xn c).val / 2 % 2 = c.val / 2 % 2 := by revert c; decide
  apply Fin.ext; unfold srcDev; dsimp only; rw [h]
theorem srcDev_zn (c : Dev nD) (q : ℕ) : srcDev (zn c) q = srcDev c q := by
  have h : (zn c).val / 2 % 2 = c.val / 2 % 2 := by revert c; decide
  apply Fin.ext; unfold srcDev; dsimp only; rw [h]

/-! ## Semaphores -/

/-- The DMA semaphore of kind `a` (0 gather; 1, 2 the exchange along y, sent and received; 3, 4 along x; 5, 6 along z;
    7, 8 the forwards along z; 9, 10 the forwards along x) for chunk `k`. -/
def dS (a : Fin 11) (k : Fin 16) : DmaSem sig := ⟨3 + 16 * a.val + k.val, by have := a.isLt; have := k.isLt; show _ < 179; omega⟩

abbrev barS : Sem sig := ⟨0, by decide⟩
abbrev barCell (c : Dev nD) : GSem nD τ sig := ((c : Thread nD τ), .reg barS)
abbrev cell (c : Dev nD) (a : Fin 11) (k : Fin 16) : GSem nD τ sig := ((c : Thread nD τ), .dma (dS a k))

/-- The kind and the chunk of a DMA semaphore. -/
def semKind (q : DmaSem sig) : ℕ := (q.val - 3) / 16
def semChunk (q : DmaSem sig) : Fin 16 := ⟨(q.val - 3) % 16, Nat.mod_lt _ (by decide)⟩

theorem semKind_dS (a : Fin 11) (k : Fin 16) : semKind (dS a k) = a.val := by
  unfold semKind dS; have := k.isLt; dsimp only; omega
theorem semChunk_dS (a : Fin 11) (k : Fin 16) : semChunk (dS a k) = k := by
  apply Fin.ext; unfold semChunk dS; have := k.isLt; dsimp only; omega

/-! ## Rows of a buffer -/

/-- The elements of a buffer whose leading coordinate lies in `[lo, lo + n)`. -/
def rows (b : Ref sig .tc) (lo n : ℕ) : Finset b.ty.Idx :=
  Finset.univ.filter fun i => ∀ a : Fin b.ty.shape.rank, a.val = 0 → lo ≤ (i a).val ∧ (i a).val < lo + n

theorem mem_rows {b : Ref sig .tc} {lo n : ℕ} {i : b.ty.Idx} :
    i ∈ rows b lo n ↔ ∀ a : Fin b.ty.shape.rank, a.val = 0 → lo ≤ (i a).val ∧ (i a).val < lo + n := by
  unfold rows; rw [Finset.mem_filter]; exact and_iff_right (Finset.mem_univ _)

/-- A rectangle of a buffer is the rows `[lo, lo + n)`, whole. -/
def RowRect (b : Ref sig .tc) (off size : Fin b.ty.shape.rank → ℕ) (lo n : ℕ) : Prop :=
  ∀ a : Fin b.ty.shape.rank, if a.val = 0 then off a = lo ∧ size a = n else off a = 0 ∧ size a = b.ty.shape.size a

theorem set_rowRect {b : Ref sig .tc} {off size : Fin b.ty.shape.rank → ℕ} {lo n : ℕ} (h : RowRect b off size lo n)
    (inb : ∀ a, off a + size a ≤ b.ty.shape.size a) :
    ((View.whole b : View sig .tc _ _ _).slice (Rect.unit off size inb)).set = rows b lo n := by
  rw [View.set_slice_whole]
  ext i
  rw [mem_rows, LoadRect.mem_set]
  constructor
  · intro hi a ha
    obtain ⟨j, hj, e⟩ := hi a
    have ha' := h a
    rw [if_pos ha] at ha'
    have e' : (i a : ℕ) = off a + 1 * j := e
    have hj' : j < size a := hj
    omega
  · intro hi a
    have ha' := h a
    by_cases ha : a.val = 0
    · rw [if_pos ha] at ha'
      have := hi a ha
      refine ⟨(i a).val - lo, ?_, ?_⟩
      · show (i a).val - lo < size a; omega
      · show (i a : ℕ) = off a + 1 * ((i a).val - lo); omega
    · rw [if_neg ha] at ha'
      have := (i a).isLt
      refine ⟨(i a).val, ?_, ?_⟩
      · show (i a).val < size a; rw [ha'.2]; exact this
      · show (i a : ℕ) = off a + 1 * (i a).val; omega

theorem rows_union (b : Ref sig .tc) (lo n m : ℕ) : rows b lo (n + m) = rows b lo n ∪ rows b (lo + n) m ∨ ¬ 0 < b.ty.shape.rank := by
  by_cases h : 0 < b.ty.shape.rank
  · refine .inl ?_
    ext i
    rw [Finset.mem_union, mem_rows, mem_rows, mem_rows]
    constructor
    · intro hi
      have h0 := hi ⟨0, h⟩ rfl
      by_cases hl : (i ⟨0, h⟩).val < lo + n
      · refine .inl fun a ha => ?_
        have : a = ⟨0, h⟩ := Fin.ext ha
        subst this; omega
      · refine .inr fun a ha => ?_
        have : a = ⟨0, h⟩ := Fin.ext ha
        subst this; omega
    · rintro (hi | hi) a ha
      · have := hi a ha; omega
      · have := hi a ha; omega
  · exact .inr h

theorem rows_disjoint (b : Ref sig .tc) (hb : 0 < b.ty.shape.rank) {lo n lo' m : ℕ} (h : lo + n ≤ lo') : Disjoint (rows b lo n) (rows b lo' m) := by
  rw [Finset.disjoint_left]
  intro i h1 h2
  have := (mem_rows.mp h1) ⟨0, hb⟩ rfl
  have := (mem_rows.mp h2) ⟨0, hb⟩ rfl
  omega

/-! ## Regions: rows held at a share, each element satisfying a predicate -/

/-- Device `c`'s rows `[lo, lo + n)` of buffer `b`, at share `q`, at contents of which each element satisfies `OK`. -/
def Rg (c : Dev nD) (b : Ref sig .tc) (lo n : ℕ) (q : PosShare TreeShare) (OK : b.ty.Idx → Elt F b.ty.elt → Prop) : sProp 𝕄 :=
  iprop(∃ f : Buf (Elt F) ((c : Thread nD τ).loc b), (((c : Thread nD τ).loc b) ↦[rows b lo n]{q} f) ∗ ⌜∀ i ∈ rows b lo n, OK i (f i)⌝)

omit [FloatOps F] in
instance Rg_storable (c : Dev nD) (b : Ref sig .tc) (lo n : ℕ) (q : PosShare TreeShare) (OK : b.ty.Idx → Elt F b.ty.elt → Prop) :
    BI.Storable (upEmb : UEmb _ 𝕄) (Rg (F := F) c b lo n q OK) := by unfold Rg; infer_instance

/-- Any contents. -/
def anyOK (b : Ref sig .tc) : b.ty.Idx → Elt F b.ty.elt → Prop := fun _ _ => True

section Regions

variable {c : Dev nD} {b : Ref sig .tc} {lo n m : ℕ} {q : PosShare TreeShare} {OK OK' : b.ty.Idx → Elt F b.ty.elt → Prop}

omit [FloatOps F] in
theorem Rg_mono (h : ∀ i ∈ rows b lo n, ∀ v, OK i v → OK' i v) : Rg (F := F) c b lo n q OK ⊢ Rg c b lo n q OK' := by
  unfold Rg
  iintro ⟨%f, H, %hf⟩
  iexists f
  isplitl [H]; · iexact H
  ipureintro; exact fun i hi => h i hi _ (hf i hi)

omit [FloatOps F] in
theorem Rg_split (hb : 0 < b.ty.shape.rank) : Rg (F := F) c b lo (n + m) q OK ⊢ Rg c b lo n q OK ∗ Rg c b (lo + n) m q OK := by
  have hu := (rows_union b lo n m).resolve_right (not_not.mpr hb)
  unfold Rg
  iintro ⟨%f, H, %hf⟩
  rw [hu] at hf
  rw [hu]
  ihave H := (pointsTo_union (rows_disjoint b hb (le_refl _))).1 $$ H
  icases H with ⟨H1, H2⟩
  isplitl [H1]
  · iexists f
    isplitl [H1]; · iexact H1
    ipureintro; exact fun i hi => hf i (Finset.mem_union_left _ hi)
  · iexists f
    isplitl [H2]; · iexact H2
    ipureintro; exact fun i hi => hf i (Finset.mem_union_right _ hi)

omit [FloatOps F] in
theorem Rg_join (hb : 0 < b.ty.shape.rank) : Rg (F := F) c b lo n q OK ∗ Rg c b (lo + n) m q OK ⊢ Rg c b lo (n + m) q OK := by
  have hu := (rows_union b lo n m).resolve_right (not_not.mpr hb)
  have hd := rows_disjoint b hb (m := m) (le_refl (lo + n))
  unfold Rg
  iintro ⟨⟨%f, H1, %hf⟩, ⟨%g, H2, %hg⟩⟩
  ihave H := (pointsTo_join (ℓ := (c : Thread nD τ).loc b) hd) $$ [H1 H2]
  · isplitl [H1]; · iexact H1
    iexact H2
  rw [hu]
  iexists _
  isplitl [H]; · iexact H
  ipureintro
  intro i hi
  by_cases h : i ∈ rows b (lo + n) m
  · rw [Finset.piecewise_eq_of_mem _ _ _ h]; exact hg i h
  · rw [Finset.piecewise_eq_of_notMem _ _ _ h]; exact hf i ((Finset.mem_union.mp hi).resolve_right h)

omit [FloatOps F] in
theorem Rg_halves : Rg (F := F) c b lo n q OK ⊢ Rg c b lo n q.left OK ∗ Rg c b lo n q.right OK := by
  unfold Rg
  iintro ⟨%f, H, %hf⟩
  ihave H := (pointsTo_share (PosShare.mem_left_op_right q)).1 $$ H
  icases H with ⟨H1, H2⟩
  isplitl [H1]
  · iexists f
    isplitl [H1]; · iexact H1
    ipureintro; exact hf
  · iexists f
    isplitl [H2]; · iexact H2
    ipureintro; exact hf

omit [FloatOps F] in
theorem pts_unhalve {f : Buf (Elt F) ((c : Thread nD τ).loc b)} :
    iprop((((c : Thread nD τ).loc b) ↦[rows b lo n]{q.left} f) ∗ (((c : Thread nD τ).loc b) ↦[rows b lo n]{q.right} f))
      ⊢ ((((c : Thread nD τ).loc b) ↦[rows b lo n]{q} f) : sProp 𝕄) := (pointsTo_share (PosShare.mem_left_op_right q)).2

omit [FloatOps F] in
theorem Rg_unhalve : Rg (F := F) c b lo n q.left OK ∗ Rg c b lo n q.right OK ⊢ Rg c b lo n q OK := by
  unfold Rg
  iintro ⟨⟨%f, H1, %hf⟩, ⟨%g, H2, -⟩⟩
  icombine H1 H2 gives %h
  iexists f
  isplitl [H1 H2]
  · rw [← pointsTo_congr (q := q.right) (f := f) (g := g) fun i hi => (h i (Finset.mem_inter.mpr ⟨hi, hi⟩)).1]
    exact pts_unhalve
  ipureintro; exact hf

omit [FloatOps F] in
theorem Rg_chunks (hb : 0 < b.ty.shape.rank) (N : ℕ) :
    Rg (F := F) c b lo (N * n) q OK ⊢ bigSep (Finset.univ : Finset (Fin N)) fun k => Rg c b (lo + n * k.val) n q OK := by
  induction N with
  | zero => rw [Finset.univ_eq_empty, BI.bigSep_empty]; iintro -; iempintro
  | succ N ih =>
    rw [Nat.succ_mul, bigSep_fin_succ]
    refine (Rg_split hb).trans ((sep_mono_left ih).trans ?_)
    iintro ⟨H1, H2⟩
    isplitl [H2]
    · rw [show lo + n * (Fin.last N).val = lo + N * n by rw [Fin.val_last, Nat.mul_comm]]; iexact H2
    · iexact H1

omit [FloatOps F] in
theorem Rg_unchunk (hb : 0 < b.ty.shape.rank) (N : ℕ) :
    (bigSep (Finset.univ : Finset (Fin (N + 1))) fun k => Rg (F := F) c b (lo + n * k.val) n q OK) ⊢ Rg c b lo ((N + 1) * n) q OK := by
  induction N with
  | zero =>
    rw [bigSep_fin_succ, Fin.val_last, Nat.mul_zero, Nat.add_zero]
    iintro ⟨H, -⟩
    rw [Nat.zero_add, Nat.one_mul]; iexact H
  | succ N ih =>
    rw [Nat.succ_mul, bigSep_fin_succ]
    refine BIBase.Entails.trans ?_ (Rg_join hb)
    refine BIBase.Entails.trans ?_ (sep_mono_left ih)
    iintro ⟨H2, H1⟩
    isplitl [H1]
    · iexact H1
    · rw [show lo + n * (Fin.last (N + 1)).val = lo + (N + 1) * n by rw [Fin.val_last, Nat.mul_comm]]; iexact H2

end Regions

end Cert.KernelIdeal.Lookup
-- ==== Proof.Protocol.lean ====
/-
  The schedule of the exchange: what each cell hands over, what each device owes after each step of its program, the
  levels at which it waits, and what a device holds of each chunk at each of the chunk's steps.
-/
module

public import proofs.«01_k».proof.Proof.Common

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

abbrev 𝒱₀ : Variants := Variants.none

/-! ## Buffers and what their rows hold -/

abbrev bG : Ref sig .tc := cc0_scratch0
abbrev bR : Ref sig .tc := cc0_scratch1
abbrev bO : Ref sig .tc := cc0_stg2_0

/-- The contents the kernel reads, on every device: the row numbers within the device's shard, the mask, the shard. -/
structure Vals (F : FTy → Type) where
  lid : Dev nD → cc0_stg0_0.ty.Contents (Elt F)
  msk : Dev nD → cc0_stg1_0.ty.Contents (Elt F)
  emb : Dev nD → main_arg1.ty.Contents (Elt F)

variable (V : Vals F)

/-- The index of row `row` among the 2048 row numbers. -/
def idx1 (row : ℕ) : S2048.Idx := fun a => ⟨row % 2048, by
  have : a = 0 := Subsingleton.elim _ _
  subst this; exact Nat.mod_lt _ (by decide)⟩

def lidAt (d : Dev nD) (row : ℕ) : BitVec 32 := V.lid d (idx1 row)

/-- The row number at `row` lies in the device's shard. -/
def vld (d : Dev nD) (row : ℕ) : Prop := k0_cond1 (lidAt V d row) = 1#1
instance vld_dec (d : Dev nD) (row : ℕ) : Decidable (vld V d row) := by unfold vld; infer_instance

/-- What device `d`'s gathered row `row` (of its quarter) holds at column `col`: where the row number lies in the
    shard, the shard's element; otherwise anything. -/
def GOK (d : Dev nD) (row col : ℕ) (v : Elt F .f32) : Prop :=
  ∀ j : S16384x1024.Idx, vld V d (512 * qb d + row) → (j 0).val = (lidAt V d (512 * qb d + row)).toNat → (j 1).val = col →
    v = V.emb d j

/-- The choice by the mask. -/
def selv (m a b : F .f32) : F .f32 :=
  FloatOps.addf (FloatOps.mulf m a) (FloatOps.mulf (FloatOps.subf (Scalar.ofBits .f32 0x3F800000#32) m) b)

/-- What row `row` of the result holds at column `col` on device `c`. -/
def OOK (c : Dev nD) (row col : ℕ) (v : Elt F .f32) : Prop :=
  ∃ a b : Elt F .f32, GOK V (srcDev c (row / 512)) (row % 512) col a ∧ GOK V (yn (srcDev c (row / 512))) (row % 512) col b
    ∧ ∀ i : S2048x1.Idx, (i 0).val = row → v = selv (V.msk (srcDev c (row / 512)) i) a b

def gOK (c : Dev nD) : bG.ty.Idx → Elt F bG.ty.elt → Prop := fun i v =>
  GOK V c ((i : S512x1024.Idx) 0).val ((i : S512x1024.Idx) 1).val v
def rOK (c : Dev nD) : bR.ty.Idx → Elt F bR.ty.elt → Prop := fun i v =>
  GOK V (yn c) ((i : S512x1024.Idx) 0).val ((i : S512x1024.Idx) 1).val v
def oOK (c : Dev nD) : bO.ty.Idx → Elt F bO.ty.elt → Prop := fun i v =>
  OOK V c ((i : S2048x1024.Idx) 0).val ((i : S2048x1024.Idx) 1).val v

theorem oOK_xn (c : Dev nD) : oOK V (xn c) = oOK V c := by
  funext i v; unfold oOK OOK; rw [srcDev_xn]
theorem oOK_zn (c : Dev nD) : oOK V (zn c) = oOK V c := by
  funext i v; unfold oOK OOK; rw [srcDev_zn]

/-! ## The rows of the result, by quarter -/

/-- The first row of chunk `k` of the own quarter, and of the quarters gathered along x, along z, across. -/
def ownR (c : Dev nD) (k : Fin 16) : ℕ := 512 * qb c + 32 * k.val
def xR (c : Dev nD) (k : Fin 16) : ℕ := 512 * qb (xn c) + 32 * k.val
def zR (c : Dev nD) (k : Fin 16) : ℕ := 512 * qb (zn c) + 32 * k.val
def dR (c : Dev nD) (k : Fin 16) : ℕ := 512 * qb (xn (zn c)) + 32 * k.val

theorem xR_xn (c : Dev nD) (k : Fin 16) : xR (xn c) k = ownR c k := by unfold xR ownR; rw [xn_xn]
theorem zR_zn (c : Dev nD) (k : Fin 16) : zR (zn c) k = ownR c k := by unfold zR ownR; rw [zn_zn]
theorem dR_zn (c : Dev nD) (k : Fin 16) : dR (zn c) k = xR c k := by unfold dR xR; rw [zn_zn]
theorem dR_xn (c : Dev nD) (k : Fin 16) : dR (xn c) k = zR c k := by unfold dR zR; rw [qb_xz, xn_xn]

/-! ## Credits -/

/-- The units a transfer of a chunk raises, of half a chunk, of a row. -/
def NF : ℕ := cc0_scratch0.dmaCredit S32x1024 .f32
def NH : ℕ := cc0_stg2_0.dmaCredit S16x1024 .f32
def N1 : ℕ := cc0_scratch0.dmaCredit S1x1024 .f32

/-! ## The schedule -/

abbrev q₀ : PosShare TreeShare := fullShare
abbrev qL : PosShare TreeShare := fullShare.left
abbrev qR : PosShare TreeShare := fullShare.right

/-- Paid to a DMA cell of device `c`, of kind `a`, chunk `k`. -/
def dmaPay (c : Dev nD) (a : ℕ) (k : Fin 16) : sProp 𝕄 :=
  match a with
  | 1 => Rg c bG (32 * k.val) 32 qL (gOK V c)
  | 2 => Rg c bR (32 * k.val) 32 q₀ (rOK V c)
  | 3 => Rg c bO (ownR c k) 32 qL (oOK V c)
  | 4 => Rg c bO (xR c k) 32 q₀ (oOK V c)
  | 5 => Rg c bO (ownR c k) 32 qR (oOK V c)
  | 6 => Rg c bO (zR c k) 32 q₀ (oOK V c)
  | 7 => Rg c bO (xR c k) 16 q₀ (oOK V c)
  | 8 => Rg c bO (dR c k) 16 q₀ (oOK V c)
  | 9 => Rg c bO (zR c k + 16) 16 q₀ (oOK V c)
  | 10 => Rg c bO (dR c k + 16) 16 q₀ (oOK V c)
  | _ => iprop(emp)

/-- What device `n` gives away when it signals a neighbour: the rows the neighbour writes, and that the cells it raises
    by them are open. -/
def roomX (n c : Dev nD) (k : Fin 16) : sProp 𝕄 :=
  iprop((Rg (F := F) n bO (ownR c k) 32 q₀ (anyOK bO) ∗ reached ER (cell n 4 k) 0)
    ∗ (Rg (F := F) n bO (zR c k + 16) 16 q₀ (anyOK bO) ∗ reached ER (cell n 10 k) 0))
def roomY (n : Dev nD) (k : Fin 16) : sProp 𝕄 :=
  iprop(Rg (F := F) n bR (32 * k.val) 32 q₀ (anyOK bR) ∗ reached ER (cell n 2 k) 0)
def roomZ (n c : Dev nD) (k : Fin 16) : sProp 𝕄 :=
  iprop((Rg (F := F) n bO (ownR c k) 32 q₀ (anyOK bO) ∗ reached ER (cell n 6 k) 0)
    ∗ (Rg (F := F) n bO (xR c k) 16 q₀ (anyOK bO) ∗ reached ER (cell n 8 k) 0))

/-- Paid to device `c`'s barrier cell by its neighbour along x (0), y (1), z (2). -/
def barPay (c : Dev nD) (d : Fin 3) : sProp 𝕄 :=
  match d with
  | 0 => bigSep Finset.univ fun k => roomX (F := F) (xn c) c k
  | 1 => bigSep Finset.univ fun k => roomY (F := F) (yn c) k
  | 2 => bigSep Finset.univ fun k => roomZ (F := F) (zn c) c k

def dutiesOf (g : GSem nD τ sig) : Finset (Fin 3) :=
  match g.2 with
  | .reg _ => Finset.univ
  | .dma q => if 19 ≤ q.val then {0} else ∅
def amountOf (g : GSem nD τ sig) : ℕ :=
  match g.2 with
  | .reg _ => 1
  | .dma q => if 7 ≤ semKind q then NH else NF
def payloadOf (g : GSem nD τ sig) (d : Fin 3) : sProp 𝕄 :=
  match g.2 with
  | .reg _ => barPay (F := F) g.1.1 d
  | .dma q => dmaPay V g.1.1 (semKind q) (semChunk q)

theorem NF_pos : 0 < NF := View.dmaCredit_pos (Memref.whole (sig := sig) cc0_scratch0 |>.view |>.slice (Rect.unit (s := S512x1024) ![0, 0] S32x1024.size inb_S512x1024_S32x1024_0_0)) (by decide)
theorem NH_pos : 0 < NH := View.dmaCredit_pos (Memref.whole (sig := sig) cc0_stg2_0 |>.view |>.slice (Rect.unit (s := S2048x1024) ![0, 0] S16x1024.size (by decide))) (by decide)
theorem N1_pos : 0 < N1 := View.dmaCredit_pos (Memref.whole (sig := sig) cc0_scratch0 |>.view |>.slice (Rect.unit (s := S512x1024) ![0, 0] S1x1024.size inb_S512x1024_S1x1024_0_0)) (by decide)

def Rd : Rounds.Schedule (GSem nD τ sig) (Fin 3) 𝕄 where
  duties g r := if r = 0 ∧ g.1.2 = .tc then dutiesOf g else ∅
  unitless _ := False
  amount g _ _ := amountOf g
  payload g _ d := payloadOf V g d
  amount_pos g _ _ _ := by
    unfold amountOf
    split
    · exact Nat.one_pos
    · split
      · exact NH_pos
      · exact NF_pos

instance dmaPay_storable (c : Dev nD) (a : ℕ) (k : Fin 16) : BI.Storable (upEmb : UEmb _ 𝕄) (dmaPay V c a k) := by
  unfold dmaPay; split <;> infer_instance
instance barPay_storable (c : Dev nD) (d : Fin 3) : BI.Storable (upEmb : UEmb _ 𝕄) (barPay (F := F) c d) := by
  unfold barPay roomX roomY roomZ; split <;> infer_instance
instance Rd_storable (g : GSem nD τ sig) (r : ℕ) (d : Fin 3) : BI.Storable (upEmb : UEmb _ 𝕄) ((Rd V).payload g r d) := by
  show BI.Storable upEmb (payloadOf V g d)
  unfold payloadOf; split <;> infer_instance

section Sched

variable (c : Dev nD) (a : Fin 11) (k : Fin 16)

theorem duties_bar : (Rd V).duties (barCell c) 0 = Finset.univ := by
  show (if 0 = 0 ∧ (barCell c).1.2 = .tc then dutiesOf (barCell c) else ∅) = _
  rw [if_pos ⟨rfl, rfl⟩]; rfl
theorem duties_cell (ha : 0 < a.val) : (Rd V).duties (cell c a k) 0 = {0} := by
  show (if 0 = 0 ∧ (cell c a k).1.2 = .tc then dutiesOf (cell c a k) else ∅) = _
  rw [if_pos ⟨rfl, rfl⟩]
  show (if 19 ≤ 3 + 16 * a.val + k.val then _ else _) = _
  rw [if_pos (by omega)]
theorem duties_later (g : GSem nD τ sig) : ∀ r, 1 ≤ r → (Rd V).duties g r = ∅ :=
  fun r hr => if_neg (fun h => by omega)

theorem amount_bar (d : Fin 3) : (Rd V).amount (barCell c) 0 d = 1 := rfl
theorem amount_cell (d : Fin 3) : (Rd V).amount (cell c a k) 0 d = if 7 ≤ a.val then NH else NF := by
  show (if 7 ≤ semKind (dS a k) then NH else NF) = _
  rw [semKind_dS]

theorem expect_bar : (Rd V).expect (barCell c) 0 = 3 := by
  unfold Schedule.expect Schedule.amountOf; rw [duties_bar]; rfl
theorem expect_cell (ha : 0 < a.val) : (Rd V).expect (cell c a k) 0 = if 7 ≤ a.val then NH else NF := by
  unfold Schedule.expect Schedule.amountOf; rw [duties_cell V c a k ha, Finset.sum_singleton, amount_cell]

theorem payload_bar (d : Fin 3) : (Rd V).payload (barCell c) 0 d = barPay c d := rfl
theorem payload_cell (d : Fin 3) : (Rd V).payload (cell c a k) 0 d = dmaPay V c a.val k := by
  show dmaPay V c (semKind (dS a k)) (semChunk (dS a k)) = _
  rw [semKind_dS, semChunk_dS]

theorem rest_cell (ha : 0 < a.val) :
    bigSep ((Rd V).duties (cell c a k) 0 \ ∅) (fun u => (Rd V).payload (cell c a k) 0 u) = dmaPay V c a.val k := by
  rw [Finset.sdiff_empty, duties_cell V c a k ha, BI.bigSep_singleton, payload_cell]

end Sched

/-! ## The program's steps, in order -/

/-- Step `j` of chunk `k`. The steps of a chunk: 0 issue the gathers, 1 wait for them, 2 send along y, 3 wait for the
    partner's, 4 select, 5 send along x, 6 along z, 7 wait x, 8 forward along z, 9 wait z, 10 forward along x,
    11, 12 wait for the forwards, 13 to 17 wait for the own sends. -/
def acts : List (Fin 16 × ℕ) :=
  (0, 0) :: ((List.finRange 16).flatMap fun i =>
      (if h : i.val + 1 < 16 then [((⟨i.val + 1, h⟩ : Fin 16), 0)] else []) ++ [(i, 1), (i, 2)]
        ++ (if 2 ≤ i.val then [(i - 2, 3), (i - 2, 4), (i - 2, 5), (i - 2, 6)] else [])
        ++ (if 4 ≤ i.val then [(i - 4, 7), (i - 4, 8), (i - 4, 9), (i - 4, 10)] else []))
    ++ ([14, 15].flatMap fun i => [(i, 3), (i, 4), (i, 5), (i, 6)])
    ++ ([12, 13, 14, 15].flatMap fun i => [(i, 7), (i, 8), (i, 9), (i, 10)])
    ++ ((List.finRange 16).flatMap fun i => [(i, 11), (i, 12)])
    ++ ((List.finRange 16).flatMap fun i => [(i, 13), (i, 14), (i, 15), (i, 16), (i, 17)])

theorem acts_length : acts.length = 288 := by decide +kernel

/-- Step `n` of the program. -/
def act (n : ℕ) : Fin 16 × ℕ := acts[n]?.getD (0, 100)
theorem act_eq {n : ℕ} (h : n < acts.length) : act n = acts[n] := by unfold act; rw [List.getElem?_eq_getElem h]; rfl
/-- How many steps of chunk `k` are among the first `n`. -/
def ph (n : ℕ) (k : Fin 16) : ℕ := ((acts.take n).filter fun x => x.1 = k).length

theorem ph_zero (k : Fin 16) : ph 0 k = 0 := rfl
theorem ph_end (k : Fin 16) : ph 288 k = 18 := by revert k; decide +kernel
theorem ph_act : ∀ n : Fin 288, ph n.val (act n.val).1 = (act n.val).2 := by decide +kernel
theorem ph_succ : ∀ n : Fin 288, ∀ k : Fin 16, ph (n.val + 1) k = if k = (act n.val).1 then ph n.val k + 1 else ph n.val k := by
  intro n k
  have h : n.val < acts.length := by rw [acts_length]; exact n.isLt
  unfold ph
  rw [act_eq h, List.take_succ_eq_append_getElem h, List.filter_append, List.length_append]
  by_cases hk : k = (acts[n.val]).1
  · rw [if_pos hk, List.filter_cons_of_pos (by simpa using hk.symm)]; rfl
  · rw [if_neg hk, List.filter_cons_of_neg (by simpa using fun e => hk e.symm)]; rfl

/-- The cell a step's send raises at its destination, with the amount. -/
def tal (c : Dev nD) (x : Fin 16 × ℕ) : CellTallies nD τ sig Unit :=
  match x.2 with
  | 2 => tallyAt (cell (yn c) 2 x.1) () NF
  | 5 => tallyAt (cell (xn c) 4 x.1) () NF
  | 6 => tallyAt (cell (zn c) 6 x.1) () NF
  | 8 => tallyAt (cell (zn c) 8 x.1) () NH
  | 10 => tallyAt (cell (xn c) 10 x.1) () NH
  | _ => 0

def owedL (c : Dev nD) : List (Fin 16 × ℕ) → CellTallies nD τ sig Unit
  | [] => 0
  | x :: l => owedL c l + tal c x
/-- What device `c` still owes once `n` steps are done. -/
def owed (c : Dev nD) (n : ℕ) : CellTallies nD τ sig Unit := owedL c (acts.drop n)
/-- What it owes at launch: its sends and the three signals. -/
def O₀ (c : Dev nD) : CellTallies nD τ sig Unit :=
  ((owed c 0 + tallyAt (barCell (zn c)) () 1) + tallyAt (barCell (yn c)) () 1) + tallyAt (barCell (xn c)) () 1

theorem owed_succ (c : Dev nD) (n : Fin 288) : owed c n.val = owed c (n.val + 1) + tal c (act n.val) := by
  have h : n.val < acts.length := by rw [acts_length]; exact n.isLt
  unfold owed
  rw [List.drop_eq_getElem_cons h, act_eq h]
  rfl
theorem owed_end (c : Dev nD) : owed c 288 = 0 := by
  unfold owed; rw [List.drop_eq_nil_of_le (by rw [acts_length])]; rfl

/-! ## Levels -/

def L (g : GSem nD τ sig) : Finset Unit := if g.1.2 = .tc then {()} else ∅
/-- The step that raises a receive cell of kind `a`. -/
def sendStep (a : ℕ) : ℕ :=
  match a with
  | 2 => 2
  | 4 => 5
  | 6 => 6
  | 8 => 8
  | 10 => 10
  | _ => 0
def lvD (a : ℕ) (k : Fin 16) : ℕ := if sendStep a = 0 then 0 else 2 + acts.idxOf (k, sendStep a)
def lv (g : GSem nD τ sig) (_ : Unit) : ℕ :=
  match g.2 with
  | .reg _ => 1
  | .dma q => if q.val < 3 then 0 else lvD (semKind q) (semChunk q)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (a : Fin 11) (k : Fin 16) (u : Unit) : lv (cell c a k) u = lvD a.val k := by
  show (if 3 + 16 * a.val + k.val < 3 then 0 else lvD (semKind (dS a k)) (semChunk (dS a k))) = _
  rw [if_neg (by omega), semKind_dS, semChunk_dS]

theorem idx_act : ∀ n : Fin 288, acts.idxOf (act n.val) = n.val := by decide +kernel

/-- A cell that a step still to come raises is of a core, and at the level of that step. -/
theorem tal_pos {c : Dev nD} {x : Fin 16 × ℕ} {g : GSem nD τ sig} {u : Unit} (h : 0 < tal c x g u) :
    u ∈ L g ∧ lv g u = 2 + acts.idxOf x := by
  obtain ⟨k, j⟩ := x
  unfold tal at h
  dsimp only at h
  split at h
  all_goals first
    | exact absurd h (Nat.lt_irrefl 0)
    | (rw [tallyAt_apply] at h
       split at h
       · next hg =>
         rw [hg.1]
         refine ⟨by rw [L_tc]; exact Finset.mem_singleton_self _, ?_⟩
         rw [lv_cell]; rfl
       · exact absurd h (Nat.lt_irrefl 0))

theorem owedL_pos {c : Dev nD} {g : GSem nD τ sig} {u : Unit} : ∀ {l : List (Fin 16 × ℕ)}, 0 < owedL c l g u → ∃ x ∈ l, 0 < tal c x g u
  | [], h => absurd h (Nat.lt_irrefl 0)
  | x :: l, h => by
    have h' : 0 < owedL c l g u + tal c x g u := h
    by_cases hx : 0 < tal c x g u
    · exact ⟨x, List.mem_cons_self, hx⟩
    · have hl : 0 < owedL c l g u := by
        rw [Nat.eq_zero_of_not_pos hx, Nat.add_zero] at h'; exact h'
      obtain ⟨y, hy, hy'⟩ := owedL_pos hl
      exact ⟨y, List.mem_cons_of_mem _ hy, hy'⟩

theorem owed_pos {c : Dev nD} {n : ℕ} {g : GSem nD τ sig} {u : Unit} (h : 0 < owed c n g u) : u ∈ L g ∧ 2 + n ≤ lv g u := by
  obtain ⟨x, hx, hx'⟩ := owedL_pos h
  obtain ⟨h1, h2⟩ := tal_pos hx'
  refine ⟨h1, ?_⟩
  rw [h2]
  obtain ⟨i, hi, e⟩ := List.mem_iff_getElem.mp hx
  rw [List.getElem_drop] at e
  have hl : n + i < acts.length := by rw [List.length_drop] at hi; omega
  have := idx_act ⟨n + i, by rw [← acts_length]; exact hl⟩
  rw [act_eq hl, e] at this
  dsimp only at this
  omega

/-- A wait below everything still owed. -/
theorem mayWait (c : Dev nD) (sm : SemLoc sig) (n : ℕ) (h : lv ((c : Thread nD τ), sm) () ≤ 1 + n) :
    (levAts L lv : sProp 𝕄) ⊢ MayWait (c : Thread nD τ) sm () (owed c n) :=
  MayOwe.of_cut (L := L) (lev := lv) (1 + n) (fun p hp => by rw [Finset.mem_singleton.mp hp, L_tc]; exact Finset.mem_singleton_self _)
    (fun g u hg => (owed_pos hg).1)
    (fun p hp => by rw [Finset.mem_singleton.mp hp]; exact h)
    (fun g u hg => by have := (owed_pos hg).2; omega)

end Cert.KernelIdeal.Lookup
-- ==== Proof.State.lean ====
/-
  What a device holds of each chunk, by the chunk's step, and how one step of the program changes it.
-/
module

public import proofs.«01_k».proof.Proof.Protocol

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)

/-! ## The gathers of a chunk -/

/-- How many of chunk `k`'s first `t` row numbers lie in the device's shard. -/
def cnt (c : Dev nD) (k : Fin 16) : ℕ → ℕ
  | 0 => 0
  | t + 1 => cnt c k t + if vld V c (ownR c k + t) then 1 else 0

/-- The same as the program's word. -/
def cntW (c : Dev nD) (k : Fin 16) : ℕ → BitVec 32
  | 0 => 0#32
  | t + 1 => Scalar.addi (cntW c k t) (Scalar.extui (Scalar.andi (Scalar.cmpi .sge (lidAt V c (ownR c k + t)) 0#32)
      (Scalar.cmpi .slt (lidAt V c (ownR c k + t)) 16384#32)))

/-- Row `t` of chunk `k`'s gathered rows, gathered or left. -/
def rowRes (c : Dev nD) (k : Fin 16) (t : ℕ) : sProp 𝕄 := Rg c bG (32 * k.val + t) 1 q₀ (gOK V c)
def rowAny (c : Dev nD) (k : Fin 16) (t : ℕ) : sProp 𝕄 := Rg (F := F) c bG (32 * k.val + t) 1 q₀ (anyOK bG)

/-- Of the first 32 rows, those whose transfer is issued once `t` row numbers are read. -/
def fetched (c : Dev nD) (k : Fin 16) (t : ℕ) : Finset (Fin 32) := Finset.univ.filter fun i => i.val < t ∧ vld V c (ownR c k + i.val)

/-- All deliveries of a batch. -/
def allD (Ds : List (sProp 𝕄)) : sProp 𝕄 := bigSep (Finset.univ : Finset (Fin Ds.length)) fun t => Ds.getD t.val iprop(emp)

/-- Before row number `t` of chunk `k` is read: the transfers issued, and the rows for which none is. -/
def GIS (c : Dev nD) (k : Fin 16) (t : ℕ) : sProp 𝕄 :=
  iprop(∃ Ds : List (sProp 𝕄), ⌜Ds.length = cnt V c k t ∧ (allD Ds ⊢ bigSep (fetched V c k t) fun i => rowRes V c k i.val)⌝
    ∗ Batched EC (c : Thread nD τ) (.dma (dS 0 k)) () N1 (cnt V c k 32) Ds 0
    ∗ bigSep (Finset.univ \ fetched V c k t) fun i => rowAny (F := F) c k i.val)

/-! ## What a device holds of a chunk -/

inductive Res
  | gsv | gAny | bat | gF | gR | gL | tYS | yr0 | yr1 | oAny | oF | oR | oL | tXS | tZS | xr0 | xr1 | XL | XU | tFZ
  | zr0 | zr1 | ZL | ZU | tFX | zd0 | zd1 | xd0 | xd1 | ysC | ys1 | xsC | xs1 | zsC | zs1 | zfC | zf1 | xfC | xf1
  deriving DecidableEq

instance : Fintype Res :=
  ⟨⟨([.gsv, .gAny, .bat, .gF, .gR, .gL, .tYS, .yr0, .yr1, .oAny, .oF, .oR, .oL, .tXS, .tZS, .xr0, .xr1, .XL, .XU, .tFZ,
    .zr0, .zr1, .ZL, .ZU, .tFX, .zd0, .zd1, .xd0, .xd1, .ysC, .ys1, .xsC, .xs1, .zsC, .zs1, .zfC, .zf1, .xfC, .xf1] : List Res),
    by decide⟩, fun x => by cases x <;> decide⟩

/-- Whether it holds it once `p` of the chunk's steps are done. -/
def Res.on (x : Res) (p : ℕ) : Bool :=
  match x with
  | .gsv => p == 0 || 2 ≤ p
  | .gAny => p == 0
  | .bat => p == 1
  | .gF => p == 2
  | .gR => 3 ≤ p
  | .gL => 14 ≤ p
  | .tYS => p ≤ 2
  | .yr0 => p ≤ 3
  | .yr1 => 4 ≤ p
  | .oAny => p ≤ 4
  | .oF => p == 5
  | .oR => p == 6 || 16 ≤ p
  | .oL => 15 ≤ p
  | .tXS => p ≤ 5
  | .tZS => p ≤ 6
  | .xr0 => p ≤ 7
  | .xr1 => 8 ≤ p
  | .XL => p == 8 || 17 ≤ p
  | .XU => 8 ≤ p
  | .tFZ => p ≤ 8
  | .zr0 => p ≤ 9
  | .zr1 => 10 ≤ p
  | .ZL => 10 ≤ p
  | .ZU => p == 10 || 18 ≤ p
  | .tFX => p ≤ 10
  | .zd0 => p ≤ 11
  | .zd1 => 12 ≤ p
  | .xd0 => p ≤ 12
  | .xd1 => 13 ≤ p
  | .ysC => 3 ≤ p && p ≤ 13
  | .ys1 => 14 ≤ p
  | .xsC => 6 ≤ p && p ≤ 14
  | .xs1 => 15 ≤ p
  | .zsC => 7 ≤ p && p ≤ 15
  | .zs1 => 16 ≤ p
  | .zfC => 9 ≤ p && p ≤ 16
  | .zf1 => 17 ≤ p
  | .xfC => 11 ≤ p && p ≤ 17
  | .xf1 => 18 ≤ p

def amt (a : Fin 11) : ℕ := if 7 ≤ a.val then NH else NF

/-- A cell to be waited on: the units to come, the position. -/
def unw (c : Dev nD) (a : Fin 11) (k : Fin 16) : sProp 𝕄 :=
  iprop(cred (tallyAt (cell c a k) () (amt a)) ∗ atPos ER (cell c a k) 0 ∅ 0)
/-- One waited on. -/
def wtd (c : Dev nD) (a : Fin 11) (k : Fin 16) : sProp 𝕄 := atPos ER (cell c a k) 1 ∅ 0
/-- What a send of kind `a` to device `n`'s cell of kind `a'` needs besides the source: the rows it writes, and its
    duties at the two cells. -/
def snd (c n : Dev nD) (a a' : Fin 11) (k : Fin 16) (b : Ref sig .tc) (lo len : ℕ) : sProp 𝕄 :=
  iprop((Rg (F := F) n b lo len q₀ (anyOK b) ∗ reached ER (cell n a' k) 0)
    ∗ dutyTok ER (cell c a k) 0 0 ∗ reached ER (cell c a k) 0 ∗ dutyTok ER (cell n a' k) 0 0 ∗ atPos ER (cell c a k) 0 ∅ 0)

def res (c : Dev nD) (k : Fin 16) (x : Res) : sProp 𝕄 :=
  match x with
  | .gsv => semVal (cell c 0 k) 0
  | .gAny => Rg (F := F) c bG (32 * k.val) 32 q₀ (anyOK bG)
  | .bat => GIS V c k 32
  | .gF => Rg c bG (32 * k.val) 32 q₀ (gOK V c)
  | .gR => Rg c bG (32 * k.val) 32 qR (gOK V c)
  | .gL => Rg c bG (32 * k.val) 32 qL (gOK V c)
  | .tYS => snd (F := F) c (yn c) 1 2 k bR (32 * k.val) 32
  | .yr0 => unw (F := F) c 2 k
  | .yr1 => iprop(wtd (F := F) c 2 k ∗ Rg c bR (32 * k.val) 32 q₀ (rOK V c))
  | .oAny => Rg (F := F) c bO (ownR c k) 32 q₀ (anyOK bO)
  | .oF => Rg c bO (ownR c k) 32 q₀ (oOK V c)
  | .oR => Rg c bO (ownR c k) 32 qR (oOK V c)
  | .oL => Rg c bO (ownR c k) 32 qL (oOK V c)
  | .tXS => snd (F := F) c (xn c) 3 4 k bO (ownR c k) 32
  | .tZS => snd (F := F) c (zn c) 5 6 k bO (ownR c k) 32
  | .xr0 => unw (F := F) c 4 k
  | .xr1 => wtd (F := F) c 4 k
  | .XL => Rg c bO (xR c k) 16 q₀ (oOK V c)
  | .XU => Rg c bO (xR c k + 16) 16 q₀ (oOK V c)
  | .tFZ => snd (F := F) c (zn c) 7 8 k bO (xR c k) 16
  | .zr0 => unw (F := F) c 6 k
  | .zr1 => wtd (F := F) c 6 k
  | .ZL => Rg c bO (zR c k) 16 q₀ (oOK V c)
  | .ZU => Rg c bO (zR c k + 16) 16 q₀ (oOK V c)
  | .tFX => snd (F := F) c (xn c) 9 10 k bO (zR c k + 16) 16
  | .zd0 => unw (F := F) c 8 k
  | .zd1 => iprop(wtd (F := F) c 8 k ∗ Rg c bO (dR c k) 16 q₀ (oOK V c))
  | .xd0 => unw (F := F) c 10 k
  | .xd1 => iprop(wtd (F := F) c 10 k ∗ Rg c bO (dR c k + 16) 16 q₀ (oOK V c))
  | .ysC => unw (F := F) c 1 k
  | .ys1 => wtd (F := F) c 1 k
  | .xsC => unw (F := F) c 3 k
  | .xs1 => wtd (F := F) c 3 k
  | .zsC => unw (F := F) c 5 k
  | .zs1 => wtd (F := F) c 5 k
  | .zfC => unw (F := F) c 7 k
  | .zf1 => wtd (F := F) c 7 k
  | .xfC => unw (F := F) c 9 k
  | .xf1 => wtd (F := F) c 9 k

def active (p : ℕ) : Finset Res := Finset.univ.filter fun x => x.on p = true

/-- What device `c` holds of chunk `k` once `p` of its steps are done. -/
def Ph (c : Dev nD) (p : ℕ) (k : Fin 16) : sProp 𝕄 := bigSep (active p) (res V c k)

/-- All cells are under their invariants, at the names `K`. -/
def records (K : GSem nD τ sig → ℕ) : sProp 𝕄 :=
  iprop((bigSep (Finset.univ : Finset (Dev nD)) fun c => cellInv ER (Rd V) (K (barCell c)) (barCell c))
    ∗ bigSep (Finset.univ : Finset (Dev nD × Fin 10 × Fin 16)) fun x =>
        cellInv ER (Rd V) (K (cell x.1 x.2.1.succ x.2.2)) (cell x.1 x.2.1.succ x.2.2))
instance records_persistent (K : GSem nD τ sig → ℕ) : BI.Persistent (records V K) := by unfold records; infer_instance

theorem records_bar (K : GSem nD τ sig → ℕ) (c : Dev nD) : records V K ⊢ cellInv ER (Rd V) (K (barCell c)) (barCell c) :=
  sep_elim_left.trans (bigSep_elim (Φ := fun c => cellInv ER (Rd V) (K (barCell c)) (barCell c)) (Finset.mem_univ c))
theorem records_cell (K : GSem nD τ sig → ℕ) (c : Dev nD) (a : Fin 11) (k : Fin 16) (ha : 0 < a.val) :
    records V K ⊢ cellInv ER (Rd V) (K (cell c a k)) (cell c a k) := by
  obtain ⟨b, rfl⟩ : ∃ b : Fin 10, a = b.succ := ⟨a.pred (fun h => by rw [h] at ha; exact absurd ha (Nat.lt_irrefl 0)), (Fin.succ_pred _ _).symm⟩
  exact sep_elim_right.trans (bigSep_elim (Φ := fun x : Dev nD × Fin 10 × Fin 16 =>
    cellInv ER (Rd V) (K (cell x.1 x.2.1.succ x.2.2)) (cell x.1 x.2.1.succ x.2.2)) (Finset.mem_univ (c, b, k)))

/-- What the kernel reads, held beside. -/
def reads (c : Dev nD) : sProp 𝕄 :=
  iprop((((c : Thread nD τ).loc cc0_stg0_0) ↦{fullShare} V.lid c) ∗ (((c : Thread nD τ).loc cc0_stg1_0) ↦{fullShare} V.msk c)
    ∗ ∃ q, ((c : Thread nD τ).loc main_arg1) ↦{q} V.emb c)

/-- What device `c` holds once `n` steps are done. -/
def St (K : GSem nD τ sig → ℕ) (c : Dev nD) (n : ℕ) : sProp 𝕄 :=
  iprop(records V K ∗ levAts L lv ∗ (∃ W, owes (c : Thread nD τ) (owed c n) W) ∗ reads V c
    ∗ bigSep Finset.univ fun k => Ph V c (ph n k) k)

/-- What a step of chunk `k` uses comes out, and what it makes goes back. -/
theorem St_act {K : GSem nD τ sig → ℕ} {c : Dev nD} {n : ℕ} (hn : n < 288) {k : Fin 16} {j : ℕ} (h : act n = (k, j)) (A B : Finset Res)
    (hA : A ⊆ active j) (hB : active (j + 1) = (active j \ A) ∪ B) (hd : Disjoint (active j \ A) B) :
    St V K c n ⊢ iprop(records V K ∗ levAts L lv ∗ (∃ W, owes (c : Thread nD τ) (owed c n) W) ∗ reads V c ∗ bigSep A (res V c k)
      ∗ ((∃ W, owes (c : Thread nD τ) (owed c (n + 1)) W) -∗ reads V c -∗ bigSep B (res V c k) -∗ St V K c (n + 1))) := by
  have hp : ph n k = j := by have := ph_act ⟨n, hn⟩; dsimp only at this; rw [h] at this; exact this
  have hp1 : ph (n + 1) k = j + 1 := by have := ph_succ ⟨n, hn⟩ k; dsimp only at this; rw [h, if_pos rfl, hp] at this; exact this
  have hpo : ∀ k' ∈ Finset.univ.erase k, ph (n + 1) k' = ph n k' := fun k' hk' => by
    have := ph_succ ⟨n, hn⟩ k'; dsimp only at this; rw [h, if_neg (Finset.ne_of_mem_erase hk')] at this; exact this
  have e1 : (bigSep Finset.univ fun k => Ph V c (ph n k) k) = iprop((bigSep A (res V c k) ∗ bigSep (active j \ A) (res V c k))
      ∗ bigSep (Finset.univ.erase k) fun k => Ph V c (ph n k) k) := by
    rw [bigSep_out (Finset.mem_univ k)]
    congr 1
    unfold Ph
    rw [hp]
    exact (congrArg (fun s => bigSep s (res V c k)) (Finset.union_sdiff_of_subset hA).symm).trans (BI.bigSep_union Finset.disjoint_sdiff)
  have e2 : (bigSep Finset.univ fun k => Ph V c (ph (n + 1) k) k) = iprop((bigSep (active j \ A) (res V c k) ∗ bigSep B (res V c k))
      ∗ bigSep (Finset.univ.erase k) fun k => Ph V c (ph n k) k) := by
    rw [bigSep_out (Finset.mem_univ k)]
    congr 1
    · unfold Ph
      rw [hp1, hB]
      exact BI.bigSep_union hd
    · exact bigSep_congr fun k' hk' => by rw [hpo k' hk']
  unfold St
  rw [e1, e2]
  iintro ⟨#HK, #Hl, HO, Hr, ⟨HA, HC⟩, HE⟩
  isplitr; · iexact HK
  isplitr; · iexact Hl
  isplitl [HO]; · iexact HO
  isplitl [Hr]; · iexact Hr
  isplitl [HA]; · iexact HA
  iintro HO Hr HB
  isplitr; · iexact HK
  isplitr; · iexact Hl
  isplitl [HO]; · iexact HO
  isplitl [Hr]; · iexact Hr
  isplitr [HE]
  · isplitl [HC] <;> iassumption
  · iexact HE

end Cert.KernelIdeal.Lookup
-- ==== Proof.Steps.lean ====
/-
  The steps of the program on what a device holds: waits, sends, the choice by the mask.
-/
module

public import proofs.«01_k».proof.Proof.State

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)

/-! ## Waits -/

section Wait

variable {V} {K : GSem nD τ sig → ℕ} {c : Dev nD} {n : ℕ} {k : Fin 16} {j : ℕ}

theorem step_wait {α : Type} {Q : α → sProp 𝕄} (hn : n < 288) (h : act n = (k, j)) (a : Fin 11) (ha : 0 < a.val) (x : Res) (B : Finset Res)
    (hx : res V c k x = unw (F := F) c a k) (hB : iprop(wtd (F := F) c a k ∗ dmaPay V c a.val k) ⊢ bigSep B (res V c k))
    (hA : {x} ⊆ active j) (hA' : active (j + 1) = (active j \ {x}) ∪ B) (hd : Disjoint (active j \ {x}) B)
    (ht : tal c (k, j) = 0) (hlv : lvD a.val k ≤ 1 + n)
    {sem : DmaSem sig} (hs : sem = dS a k) {sp sp' : Space} {s s' : Shape} {e e' : EltTy}
    {src : Memref sig .tc sp' s' e'} {dst : Memref sig .tc sp s e} {h1 : src.view.WordExact} {h2 : dst.view.WordExact}
    (hc : dst.view.dmaCredit = amt a) {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.waitDma2 (p := .tc) sem src dst h1 h2) >>= Kt) Q := by
  subst hs
  have hO : owed c n = owed c (n + 1) := by
    have := owed_succ c ⟨n, hn⟩; dsimp only at this; rw [h, ht, add_zero] at this; exact this
  have hm : (levAts L lv : sProp 𝕄) ⊢ MayWait (c : Thread nD τ) (.dma (dS a k)) () (owed c n) :=
    mayWait c _ n (by have := lv_cell c a k (); rw [this]; exact hlv)
  have hexp : 0 + dst.view.dmaCredit = (Rd V).expect (cell c a k) 0 := by rw [expect_cell V c a k ha, hc, Nat.zero_add]; rfl
  refine (St_act V hn h {x} B hA hA' hd).trans ?_
  rw [BI.bigSep_singleton, hx, ← hO]
  unfold unw
  rw [← hc]
  change _ ⊢ wp frame (wpE (defs₀ (F := F)) 𝒱₀ c none) Set.univ (.op (TpuEff.waitDma2 (p := .tc) (dS a k) src dst h1 h2) fun y => Kt y) _
  iintro ⟨#HK, #Hl, ⟨%W, HO⟩, Hr, ⟨Hc, Hat⟩, Hb⟩
  iapply (Rounds.wp_wait_rest_token 𝒱₀ ER (Rd V) (c : Thread nD τ) none (κ := K (cell c a k))
      (wpE_waitDma2_eq 𝒱₀ (c : Thread nD τ) none Set.univ) (Set.mem_univ _) () (O := owed c n) (W := W) (R := 0) (m := 0) (T := ∅)
      hexp) $$ [Hc HO Hat]
  · isplitr; · iapply (records_cell V K c a k ha); iexact HK
    isplitl [Hc]; · iexact Hc
    isplitl [HO]; · iexact HO
    isplitr; · iapply hm; iexact Hl
    iexact Hat
  iintro ⟨HO, Hat, -, Hp⟩
  ihave Hp := (Entails.of_eq (rest_cell V c a k ha)) $$ Hp
  iapply hK
  iapply Hb $$ [HO] [Hr] [Hat Hp]
  · iexists _; iexact HO
  · iexact Hr
  · iapply hB
    isplitl [Hat]
    · unfold wtd; iexact Hat
    · iexact Hp

end Wait

/-! ## Sends -/

section Send

variable {V} {K : GSem nD τ sig → ℕ} {c : Dev nD} {n : ℕ} {k : Fin 16} {j : ℕ}

theorem step_send {α : Type} {Q : α → sProp 𝕄} (hn : n < 288) (h : act n = (k, j)) (nb : Dev nD) (a a' : Fin 11) (ha : 0 < a.val)
    (ha' : 0 < a'.val) (haa : amt a' = amt a) (xs xt : Res) (hne : xs ≠ xt) (B : Finset Res)
    {sp sp' : Space} {s : Shape} {e : EltTy} {src : Memref sig .tc sp s e} {dst : Memref sig .tc sp' s e}
    (q : PosShare TreeShare) (P : Buf (Elt F) (src.view.loc (c : Thread nD τ)) → Prop) (Z : sProp 𝕄)
    (b : Ref sig .tc) (lo len : ℕ)
    (hsrc : res V c k xs ⊢ iprop((∃ fs, (src.view.loc (c : Thread nD τ) ↦[src.view.set]{q} fs) ∗ ⌜P fs⌝) ∗ Z))
    (hxt : res V c k xt = snd (F := F) c nb a a' k b lo len)
    (hdst : Rg (F := F) nb b lo len q₀ (anyOK b) ⊢ iprop(∃ fd, dst.view.loc (nb : Thread nD τ) ↦[dst.view.set]{fullShare} fd))
    (hB : iprop(unw (F := F) c a k ∗ Z) ⊢ bigSep B (res V c k))
    (hp1 : ∀ fs, P fs → (src.view.loc (c : Thread nD τ) ↦[src.view.set]{q} fs) ⊢ dmaPay V c a.val k)
    (hp2 : ∀ fs fd, P fs → (dst.view.loc (nb : Thread nD τ) ↦[dst.view.set]{fullShare}
      (dst.view.write (Elt F) fd (src.view.read (Elt F) fs) Finset.univ)) ⊢ dmaPay V nb a'.val k)
    (hA : {xs, xt} ⊆ active j) (hA' : active (j + 1) = (active j \ {xs, xt}) ∪ B) (hd : Disjoint (active j \ {xs, xt}) B)
    (ht : tal c (k, j) = tallyAt (cell nb a' k) () (amt a))
    {sS sem : DmaSem sig} (hs : sS = dS a k) (hs' : sem = dS a' k) {d : Dev nD} (hdv : d = nb)
    {hsc : dst.view.ref.isScScratch = false} {h1 : src.view.WordExact} {h2 : dst.view.WordExact}
    {h3 : DmaTarget.Typed sp (.dma sem) (.remote (Dev.tc d) dst (.dma sS) hsc : DmaTarget nD τ sig .tc sp' s e)}
    (hc : dst.view.dmaCredit = amt a) {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.enqueueDma (p := .tc) src (.remote (Dev.tc d) dst (.dma sS) hsc) (.dma sem) h1 h2 h3) >>= Kt) Q := by
  subst hs hs' hdv
  have hO : owed c n = owed c (n + 1) + tallyAt (cell d a' k) () (amt a) := by
    have := owed_succ c ⟨n, hn⟩; dsimp only at this; rw [h, ht] at this; exact this
  refine (St_act V hn h {xs, xt} B hA hA' hd).trans ?_
  rw [bigSep_ins (by rw [Finset.mem_singleton]; exact hne), BI.bigSep_singleton, hxt]
  unfold snd
  change _ ⊢ wp frame (wpE (defs₀ (F := F)) 𝒱₀ c none) Set.univ
    (.op (TpuEff.enqueueDma (p := .tc) src (.remote (Dev.tc d) dst (.dma (dS a k)) hsc) (.dma (dS a' k)) h1 h2 h3) fun y => Kt y) _
  iintro ⟨#HK, #Hl, ⟨%W, HO⟩, Hr, ⟨Hs, ⟨Hd, #Hrd⟩, Ht1, #Hrs, Ht2, Hat⟩, Hb⟩
  ihave Hs := hsrc $$ Hs
  icases Hs with ⟨⟨%fs, Hs, %hP⟩, HZ⟩
  ihave Hd := hdst $$ Hd
  icases Hd with ⟨%fd, Hd⟩
  iapply (Rounds.wp_send_pointsTo 𝒱₀ ER (Rd V) (c : Thread nD τ) none (c' := (d : Thread nD τ)) (src := src) (dst := dst)
      (sS := .dma (dS a k)) (sem := .dma (dS a' k)) (q := q) (fs := fs) (κ₁ := K (cell c a k)) (κ₂ := K (cell d a' k))
      (r₁ := 0) (r₂ := 0) (d₁ := 0) (d₂ := 0) (fd := fd)
      (by rw [duties_cell V c a k ha]; exact Finset.mem_singleton_self _)
      (by rw [duties_cell V d a' k ha']; exact Finset.mem_singleton_self _)
      () () (amt a) hc (amount_cell V c a k 0) ((amount_cell V d a' k 0).trans haa) (owed c (n + 1)) hO (W := W)
      (by rw [payload_cell]; exact hp1 fs hP)
      (by rw [payload_cell]; exact hp2 fs fd hP)) $$ [Hs Hd HO Ht1 Ht2]
  · isplitr; · iapply (records_cell V K c a k ha); iexact HK
    isplitr; · iapply (records_cell V K d a' k ha'); iexact HK
    isplitl [Hs]; · iexact Hs
    isplitl [Hd]; · iexact Hd
    isplitl [HO]; · iexact HO
    isplitl [Ht1]; · iexact Ht1
    isplitr; · iexact Hrs
    isplitl [Ht2]; · iexact Ht2
    iexact Hrd
  iintro ⟨Hc, HO⟩
  iapply hK
  iapply Hb $$ [HO] [Hr] [Hc Hat HZ]
  · iexists _; iexact HO
  · iexact Hr
  · iapply hB
    isplitr [HZ]
    · unfold unw
      isplitl [Hc]; · iexact Hc
      iexact Hat
    · iexact HZ

end Send

theorem rowRectO {lo m : ℕ} : RowRect bO ![lo, 0] ![m, 1024] lo m := fun a =>
  match a with
  | ⟨0, _⟩ => ⟨rfl, rfl⟩
  | ⟨1, _⟩ => ⟨rfl, rfl⟩
theorem rowRectG {lo m : ℕ} : RowRect bG ![lo, 0] ![m, 1024] lo m := fun a =>
  match a with
  | ⟨0, _⟩ => ⟨rfl, rfl⟩
  | ⟨1, _⟩ => ⟨rfl, rfl⟩
theorem rowRectR {lo m : ℕ} : RowRect bR ![lo, 0] ![m, 1024] lo m := fun a =>
  match a with
  | ⟨0, _⟩ => ⟨rfl, rfl⟩
  | ⟨1, _⟩ => ⟨rfl, rfl⟩

/-- The kernel's buffers, whole. -/
abbrev mIds : Memref sig .tc .smem S2048 .i32 := Memref.whole cc0_stg0_0
abbrev mMsk : Memref sig .tc .vmem S2048x1 .f32 := Memref.whole cc0_stg1_0
abbrev mE : Memref sig .tc .hbm S16384x1024 .f32 := Memref.whole main_arg1
abbrev mO : Memref sig .tc .vmem S2048x1024 .f32 := Memref.whole cc0_stg2_0
abbrev mG : Memref sig .tc .vmem S512x1024 .f32 := Memref.whole cc0_scratch0
abbrev mR : Memref sig .tc .vmem S512x1024 .f32 := Memref.whole cc0_scratch1

section Rows

variable {V} {d : Dev nD} {lo m : ℕ} {q : PosShare TreeShare} {sz : Fin 2 → ℕ}

theorem set_O {off : Fin 2 → ℕ} {inb} (ho : off = ![lo, 0]) (hs : sz = ![m, 1024]) :
    (mO.slice (Rect.unit (s := S2048x1024) off sz inb) (fun _ => rfl)).view.set = rows bO lo m := by
  subst ho hs; exact set_rowRect rowRectO inb
theorem set_G {off : Fin 2 → ℕ} {inb} (ho : off = ![lo, 0]) (hs : sz = ![m, 1024]) :
    (mG.slice (Rect.unit (s := S512x1024) off sz inb) (fun _ => rfl)).view.set = rows bG lo m := by
  subst ho hs; exact set_rowRect rowRectG inb
theorem set_R {off : Fin 2 → ℕ} {inb} (ho : off = ![lo, 0]) (hs : sz = ![m, 1024]) :
    (mR.slice (Rect.unit (s := S512x1024) off sz inb) (fun _ => rfl)).view.set = rows bR lo m := by
  subst ho hs; exact set_rowRect rowRectR inb

/-- What lands of the result's rows is what was sent. -/
theorem land_O {off : Fin 2 → ℕ} {inb} (ho : off = ![lo, 0]) (hs : sz = ![m, 1024]) {c : Dev nD}
    {OK : bO.ty.Idx → Elt F bO.ty.elt → Prop} (fs : Buf (Elt F) ((c : Thread nD τ).loc bO)) (fd : Buf (Elt F) ((d : Thread nD τ).loc bO))
    (hf : ∀ i ∈ rows bO lo m, OK i (fs i)) :
    (((d : Thread nD τ).loc bO) ↦[(mO.slice (Rect.unit (s := S2048x1024) off sz inb) (fun _ => rfl)).view.set]{fullShare}
      ((mO.slice (Rect.unit (s := S2048x1024) off sz inb) (fun _ => rfl)).view.write (Elt F) fd
        ((mO.slice (Rect.unit (s := S2048x1024) off sz inb) (fun _ => rfl)).view.read (Elt F) fs) Finset.univ))
      ⊢ Rg d bO lo m q₀ OK := by
  have e : ∀ i ∈ rows bO lo m, (mO.slice (Rect.unit (s := S2048x1024) off sz inb) (fun _ => rfl)).view.write (Elt F) fd
        ((mO.slice (Rect.unit (s := S2048x1024) off sz inb) (fun _ => rfl)).view.read (Elt F) fs) Finset.univ i = fs i := by
    intro i hi
    rw [← set_O (inb := inb) ho hs] at hi
    obtain ⟨x, -, rfl⟩ := Finset.mem_map.mp hi
    rw [View.write_emb_of_mem (v := (mO.slice (Rect.unit (s := S2048x1024) off sz inb) (fun _ => rfl)).view) _ _ (Finset.mem_univ x), View.read_apply]
    rfl
  rw [set_O ho hs]
  unfold Rg
  iintro H
  iexists _
  isplitl [H]; · iexact H
  ipureintro
  intro i hi
  rw [e i hi]; exact hf i hi

/-- What lands of the partner's rows is what was sent. -/
theorem land_R {off : Fin 2 → ℕ} {inb inb'} (ho : off = ![lo, 0]) (hs : sz = ![m, 1024]) {c : Dev nD} (hd : yn d = c)
    (fs : Buf (Elt F) ((c : Thread nD τ).loc bG)) (fd : Buf (Elt F) ((d : Thread nD τ).loc bR))
    (hf : ∀ i ∈ rows bG lo m, gOK V c i (fs i)) :
    (((d : Thread nD τ).loc bR) ↦[(mR.slice (Rect.unit (s := S512x1024) off sz inb) (fun _ => rfl)).view.set]{fullShare}
      ((mR.slice (Rect.unit (s := S512x1024) off sz inb) (fun _ => rfl)).view.write (Elt F) fd
        ((mG.slice (Rect.unit (s := S512x1024) off sz inb') (fun _ => rfl)).view.read (Elt F) fs) Finset.univ))
      ⊢ Rg d bR lo m q₀ (rOK V d) := by
  have e : ∀ i ∈ rows bR lo m, rOK V d i ((mR.slice (Rect.unit (s := S512x1024) off sz inb) (fun _ => rfl)).view.write (Elt F) fd
        ((mG.slice (Rect.unit (s := S512x1024) off sz inb') (fun _ => rfl)).view.read (Elt F) fs) Finset.univ i) := by
    intro i hi
    rw [← set_R (inb := inb) ho hs] at hi
    obtain ⟨x, -, rfl⟩ := Finset.mem_map.mp hi
    rw [View.write_emb_of_mem (v := (mR.slice (Rect.unit (s := S512x1024) off sz inb) (fun _ => rfl)).view) _ _ (Finset.mem_univ x), View.read_apply]
    have hx := hf ((mG.slice (Rect.unit (s := S512x1024) off sz inb') (fun _ => rfl)).view.emb x)
      (by rw [← set_G (inb := inb') ho hs]; exact View.emb_mem_set _ x)
    unfold gOK at hx
    unfold rOK
    rw [hd]
    exact hx
  rw [set_R ho hs]
  unfold Rg
  iintro H
  iexists _
  isplitl [H]; · iexact H
  ipureintro
  exact e

end Rows

theorem amt_lo {a : Fin 11} (h : a.val < 7) : amt a = NF := if_neg (by omega)
theorem amt_hi {a : Fin 11} (h : 7 ≤ a.val) : amt a = NH := if_pos h
theorem tal_2 (c : Dev nD) (k : Fin 16) : tal c (k, 2) = tallyAt (cell (yn c) 2 k) () (amt 1) := by rw [amt_lo (by decide)]; rfl
theorem tal_5 (c : Dev nD) (k : Fin 16) : tal c (k, 5) = tallyAt (cell (xn c) 4 k) () (amt 3) := by rw [amt_lo (by decide)]; rfl
theorem tal_6 (c : Dev nD) (k : Fin 16) : tal c (k, 6) = tallyAt (cell (zn c) 6 k) () (amt 5) := by rw [amt_lo (by decide)]; rfl
theorem tal_8 (c : Dev nD) (k : Fin 16) : tal c (k, 8) = tallyAt (cell (zn c) 8 k) () (amt 7) := by rw [amt_hi (by decide)]; rfl
theorem tal_10 (c : Dev nD) (k : Fin 16) : tal c (k, 10) = tallyAt (cell (xn c) 10 k) () (amt 9) := by rw [amt_hi (by decide)]; rfl

section Sends

variable {V} {K : GSem nD τ sig → ℕ} {c : Dev nD} {n : ℕ} {k : Fin 16} {j : ℕ}

theorem cred_R : cc0_scratch1.dmaCredit S32x1024 .f32 = NF := rfl

/-- The send of a chunk's gathered rows along y. -/
theorem step_YS {α : Type} {Q : α → sProp 𝕄} (hn : n < 288) (h : act n = (k, 2)) {off : Fin 2 → ℕ} {inb inb'} (ho : off = ![32 * k.val, 0])
    {sS sem : DmaSem sig} (hs : sS = dS 1 k) (hs' : sem = dS 2 k) {d : Dev nD} (hdv : d = yn c)
    {hsc h1 h2 h3} {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.enqueueDma (p := .tc) (mG.slice (Rect.unit (s := S512x1024) off S32x1024.size inb) (fun _ => rfl))
        (.remote (Dev.tc d) (mR.slice (Rect.unit (s := S512x1024) off S32x1024.size inb') (fun _ => rfl)) (.dma sS) hsc) (.dma sem) h1 h2 h3) >>= Kt) Q := by
  refine step_send hn h (yn c) 1 2 (by decide) (by decide) ((amt_lo (by decide)).trans (amt_lo (by decide)).symm) .gF .tYS (by decide) {.gR, .ysC}
    (src := mG.slice (Rect.unit (s := S512x1024) off S32x1024.size inb) (fun _ => rfl))
    (dst := mR.slice (Rect.unit (s := S512x1024) off S32x1024.size inb') (fun _ => rfl)) qL
    (fun (fs : Buf (Elt F) ((c : Thread nD τ).loc bG)) => ∀ i ∈ rows bG (32 * k.val) 32, gOK V c i (fs i)) (Rg c bG (32 * k.val) 32 qR (gOK V c)) bR (32 * k.val) 32
    ?_ rfl ?_ ?_ ?_ ?_ (by decide) (by decide) (by decide) (tal_2 c k) hs hs' hdv (cred_R.trans (amt_lo (by decide)).symm) hK
  · rw [set_G ho rfl]
    exact Rg_halves
  · rw [set_R ho rfl]
    unfold Rg
    iintro ⟨%f, H, -⟩
    iexists f; iexact H
  · rw [bigSep_ins (by decide), BI.bigSep_singleton]
    show _ ⊢ iprop(Rg c bG (32 * k.val) 32 qR (gOK V c) ∗ unw (F := F) c 1 k)
    iintro ⟨H1, H2⟩
    isplitl [H2]; · iexact H2
    iexact H1
  · intro fs hP
    rw [set_G ho rfl]
    show _ ⊢ Rg c bG (32 * k.val) 32 qL (gOK V c)
    unfold Rg
    iintro H
    iexists fs
    isplitl [H]; · iexact H
    ipureintro; exact hP
  · intro fs fd hP
    exact land_R ho rfl (yn_yn c) fs fd hP

/-- A send of rows of the result. -/
theorem step_OO {α : Type} {Q : α → sProp 𝕄} (hn : n < 288) (h : act n = (k, j)) (nb : Dev nD) (a a' : Fin 11) (ha : 0 < a.val)
    (ha' : 0 < a'.val) (haa : amt a' = amt a) (xs xt : Res) (hne : xs ≠ xt) (B : Finset Res)
    (q : PosShare TreeShare) (Z : sProp 𝕄) (lo m : ℕ)
    (hsrc : res V c k xs ⊢ iprop(Rg c bO lo m q (oOK V c) ∗ Z))
    (hxt : res V c k xt = snd (F := F) c nb a a' k bO lo m)
    (hB : iprop(unw (F := F) c a k ∗ Z) ⊢ bigSep B (res V c k))
    (hp1 : dmaPay V c a.val k = Rg c bO lo m q (oOK V c)) (hp2 : dmaPay V nb a'.val k = Rg nb bO lo m q₀ (oOK V c))
    (hA : {xs, xt} ⊆ active j) (hA' : active (j + 1) = (active j \ {xs, xt}) ∪ B) (hd : Disjoint (active j \ {xs, xt}) B)
    (ht : tal c (k, j) = tallyAt (cell nb a' k) () (amt a))
    {off sz : Fin 2 → ℕ} {inb inb'} (ho : off = ![lo, 0]) (hsz : sz = ![m, 1024])
    {sS sem : DmaSem sig} (hs : sS = dS a k) (hs' : sem = dS a' k) {d : Dev nD} (hdv : d = nb)
    {hsc h1 h2 h3} (hc : cc0_stg2_0.dmaCredit ⟨2, sz⟩ .f32 = amt a) {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.enqueueDma (p := .tc) (mO.slice (Rect.unit (s := S2048x1024) off sz inb) (fun _ => rfl))
        (.remote (Dev.tc d) (mO.slice (Rect.unit (s := S2048x1024) off sz inb') (fun _ => rfl)) (.dma sS) hsc) (.dma sem) h1 h2 h3) >>= Kt) Q := by
  refine step_send hn h nb a a' ha ha' haa xs xt hne B
    (src := mO.slice (Rect.unit (s := S2048x1024) off sz inb) (fun _ => rfl))
    (dst := mO.slice (Rect.unit (s := S2048x1024) off sz inb') (fun _ => rfl)) q
    (fun (fs : Buf (Elt F) ((c : Thread nD τ).loc bO)) => ∀ i ∈ rows bO lo m, oOK V c i (fs i)) Z bO lo m
    ?_ hxt ?_ hB ?_ ?_ hA hA' hd ht hs hs' hdv hc hK
  · rw [set_O ho hsz]
    exact hsrc
  · rw [set_O ho hsz]
    unfold Rg
    iintro ⟨%f, H, -⟩
    iexists f; iexact H
  · intro fs hP
    rw [set_O ho hsz, hp1]
    unfold Rg
    iintro H
    iexists fs
    isplitl [H]; · iexact H
    ipureintro; exact hP
  · intro fs fd hP
    rw [hp2]
    exact land_O ho hsz fs fd hP

/-- The send of a chunk's own rows of the result along x. -/
theorem step_XS {α : Type} {Q : α → sProp 𝕄} (hn : n < 288) (h : act n = (k, 5)) {off : Fin 2 → ℕ} {inb inb'} (ho : off = ![ownR c k, 0])
    {sS sem : DmaSem sig} (hs : sS = dS 3 k) (hs' : sem = dS 4 k) {d : Dev nD} (hdv : d = xn c)
    {hsc h1 h2 h3} {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.enqueueDma (p := .tc) (mO.slice (Rect.unit (s := S2048x1024) off S32x1024.size inb) (fun _ => rfl))
        (.remote (Dev.tc d) (mO.slice (Rect.unit (s := S2048x1024) off S32x1024.size inb') (fun _ => rfl)) (.dma sS) hsc) (.dma sem) h1 h2 h3) >>= Kt) Q :=
  step_OO hn h (xn c) 3 4 (by decide) (by decide) rfl .oF .tXS (by decide) {.oR, .xsC} qL (Rg c bO (ownR c k) 32 qR (oOK V c)) (ownR c k) 32
    Rg_halves rfl (by rw [bigSep_ins (by decide), BI.bigSep_singleton]; exact sep_comm.1) rfl
    (by show Rg (xn c) bO (xR (xn c) k) 32 q₀ (oOK V (xn c)) = _; rw [xR_xn, oOK_xn])
    (by decide) (by decide) (by decide) (tal_5 c k) ho rfl hs hs' hdv rfl hK

/-- The send of a chunk's own rows of the result along z. -/
theorem step_ZS {α : Type} {Q : α → sProp 𝕄} (hn : n < 288) (h : act n = (k, 6)) {off : Fin 2 → ℕ} {inb inb'} (ho : off = ![ownR c k, 0])
    {sS sem : DmaSem sig} (hs : sS = dS 5 k) (hs' : sem = dS 6 k) {d : Dev nD} (hdv : d = zn c)
    {hsc h1 h2 h3} {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.enqueueDma (p := .tc) (mO.slice (Rect.unit (s := S2048x1024) off S32x1024.size inb) (fun _ => rfl))
        (.remote (Dev.tc d) (mO.slice (Rect.unit (s := S2048x1024) off S32x1024.size inb') (fun _ => rfl)) (.dma sS) hsc) (.dma sem) h1 h2 h3) >>= Kt) Q :=
  step_OO hn h (zn c) 5 6 (by decide) (by decide) rfl .oR .tZS (by decide) {.zsC} qR iprop(emp) (ownR c k) 32
    (sep_emp (PROP := sProp 𝕄)).2 rfl (by rw [BI.bigSep_singleton]; exact (sep_emp (PROP := sProp 𝕄)).1) rfl
    (by show Rg (zn c) bO (zR (zn c) k) 32 q₀ (oOK V (zn c)) = _; rw [zR_zn, oOK_zn])
    (by decide) (by decide) (by decide) (tal_6 c k) ho rfl hs hs' hdv rfl hK

/-- The forward along z of the lower half of what came along x. -/
theorem step_FZ {α : Type} {Q : α → sProp 𝕄} (hn : n < 288) (h : act n = (k, 8)) {off : Fin 2 → ℕ} {inb inb'} (ho : off = ![xR c k, 0])
    {sS sem : DmaSem sig} (hs : sS = dS 7 k) (hs' : sem = dS 8 k) {d : Dev nD} (hdv : d = zn c)
    {hsc h1 h2 h3} {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.enqueueDma (p := .tc) (mO.slice (Rect.unit (s := S2048x1024) off S16x1024.size inb) (fun _ => rfl))
        (.remote (Dev.tc d) (mO.slice (Rect.unit (s := S2048x1024) off S16x1024.size inb') (fun _ => rfl)) (.dma sS) hsc) (.dma sem) h1 h2 h3) >>= Kt) Q :=
  step_OO hn h (zn c) 7 8 (by decide) (by decide) rfl .XL .tFZ (by decide) {.zfC} q₀ iprop(emp) (xR c k) 16
    (sep_emp (PROP := sProp 𝕄)).2 rfl (by rw [BI.bigSep_singleton]; exact (sep_emp (PROP := sProp 𝕄)).1) rfl
    (by show Rg (zn c) bO (dR (zn c) k) 16 q₀ (oOK V (zn c)) = _; rw [dR_zn, oOK_zn])
    (by decide) (by decide) (by decide) (tal_8 c k) ho rfl hs hs' hdv rfl hK

/-- The forward along x of the upper half of what came along z. -/
theorem step_FX {α : Type} {Q : α → sProp 𝕄} (hn : n < 288) (h : act n = (k, 10)) {off : Fin 2 → ℕ} {inb inb'} (ho : off = ![zR c k + 16, 0])
    {sS sem : DmaSem sig} (hs : sS = dS 9 k) (hs' : sem = dS 10 k) {d : Dev nD} (hdv : d = xn c)
    {hsc h1 h2 h3} {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.enqueueDma (p := .tc) (mO.slice (Rect.unit (s := S2048x1024) off S16x1024.size inb) (fun _ => rfl))
        (.remote (Dev.tc d) (mO.slice (Rect.unit (s := S2048x1024) off S16x1024.size inb') (fun _ => rfl)) (.dma sS) hsc) (.dma sem) h1 h2 h3) >>= Kt) Q :=
  step_OO hn h (xn c) 9 10 (by decide) (by decide) rfl .ZU .tFX (by decide) {.xfC} q₀ iprop(emp) (zR c k + 16) 16
    (sep_emp (PROP := sProp 𝕄)).2 rfl (by rw [BI.bigSep_singleton]; exact (sep_emp (PROP := sProp 𝕄)).1) rfl
    (by show Rg (xn c) bO (dR (xn c) k + 16) 16 q₀ (oOK V (xn c)) = _; rw [dR_xn, oOK_xn])
    (by decide) (by decide) (by decide) (tal_10 c k) ho rfl hs hs' hdv rfl hK

end Sends

/-! ## The waits -/

section Waits

variable {V} {K : GSem nD τ sig → ℕ} {c : Dev nD} {n : ℕ} {k : Fin 16}

/-- The wait that is step `j` of a chunk: the kind of cell, what is held before and after. -/
def waitOf : ℕ → Fin 11 × Res × Finset Res
  | 3 => (2, .yr0, {.yr1})
  | 7 => (4, .xr0, {.xr1, .XL, .XU})
  | 9 => (6, .zr0, {.zr1, .ZL, .ZU})
  | 11 => (8, .zd0, {.zd1})
  | 12 => (10, .xd0, {.xd1})
  | 13 => (1, .ysC, {.ys1, .gL})
  | 14 => (3, .xsC, {.xs1, .oL})
  | 15 => (5, .zsC, {.zs1, .oR})
  | 16 => (7, .zfC, {.zf1, .XL})
  | 17 => (9, .xfC, {.xf1, .ZU})
  | _ => (0, .gsv, ∅)

theorem wait_res (c : Dev nD) (k : Fin 16) : ∀ j ∈ [3, 7, 9, 11, 12, 13, 14, 15, 16, 17], res V c k (waitOf j).2.1 = unw (F := F) c (waitOf j).1 k := by
  intro j hj
  simp only [List.mem_cons, List.mem_nil_iff, or_false] at hj
  rcases hj with rfl | rfl | rfl | rfl | rfl | rfl | rfl | rfl | rfl | rfl <;> rfl

theorem wait_tal (c : Dev nD) (k : Fin 16) : ∀ j ∈ [3, 7, 9, 11, 12, 13, 14, 15, 16, 17], tal c (k, j) = 0 := by
  intro j hj
  simp only [List.mem_cons, List.mem_nil_iff, or_false] at hj
  rcases hj with rfl | rfl | rfl | rfl | rfl | rfl | rfl | rfl | rfl | rfl <;> rfl

theorem wait_pay (c : Dev nD) (k : Fin 16) : ∀ j ∈ [3, 7, 9, 11, 12, 13, 14, 15, 16, 17],
    iprop(wtd (F := F) c (waitOf j).1 k ∗ dmaPay V c (waitOf j).1.val k) ⊢ bigSep (waitOf j).2.2 (res V c k) := by
  intro j hj
  simp only [List.mem_cons, List.mem_nil_iff, or_false] at hj
  rcases hj with rfl | rfl | rfl | rfl | rfl | rfl | rfl | rfl | rfl | rfl
  · show _ ⊢ bigSep {Res.yr1} _
    rw [BI.bigSep_singleton]; exact .rfl
  · show _ ⊢ bigSep {Res.xr1, Res.XL, Res.XU} _
    rw [bigSep_ins (by decide), bigSep_ins (by decide), BI.bigSep_singleton]
    exact sep_mono_right (Rg_split (n := 16) (m := 16) (by decide))
  · show _ ⊢ bigSep {Res.zr1, Res.ZL, Res.ZU} _
    rw [bigSep_ins (by decide), bigSep_ins (by decide), BI.bigSep_singleton]
    exact sep_mono_right (Rg_split (n := 16) (m := 16) (by decide))
  · show _ ⊢ bigSep {Res.zd1} _
    rw [BI.bigSep_singleton]; exact .rfl
  · show _ ⊢ bigSep {Res.xd1} _
    rw [BI.bigSep_singleton]; exact .rfl
  · show _ ⊢ bigSep {Res.ys1, Res.gL} _
    rw [bigSep_ins (by decide), BI.bigSep_singleton]; exact .rfl
  · show _ ⊢ bigSep {Res.xs1, Res.oL} _
    rw [bigSep_ins (by decide), BI.bigSep_singleton]; exact .rfl
  · show _ ⊢ bigSep {Res.zs1, Res.oR} _
    rw [bigSep_ins (by decide), BI.bigSep_singleton]; exact .rfl
  · show _ ⊢ bigSep {Res.zf1, Res.XL} _
    rw [bigSep_ins (by decide), BI.bigSep_singleton]; exact .rfl
  · show _ ⊢ bigSep {Res.xf1, Res.ZU} _
    rw [bigSep_ins (by decide), BI.bigSep_singleton]; exact .rfl

theorem wait_fin : ∀ j ∈ [3, 7, 9, 11, 12, 13, 14, 15, 16, 17], 0 < (waitOf j).1.val ∧ {(waitOf j).2.1} ⊆ active j
    ∧ active (j + 1) = (active j \ {(waitOf j).2.1}) ∪ (waitOf j).2.2 ∧ Disjoint (active j \ {(waitOf j).2.1}) (waitOf j).2.2 := by decide

theorem wait_lv : ∀ n : Fin 288, (act n.val).2 ∈ [3, 7, 9, 11, 12, 13, 14, 15, 16, 17] →
    lvD (waitOf (act n.val).2).1.val (act n.val).1 ≤ 1 + n.val := by decide +kernel

/-- A wait of a chunk. -/
theorem step_W {α : Type} {Q : α → sProp 𝕄} (n : ℕ) (hn : n < 288) (k : Fin 16) (j : ℕ) (h : act n = (k, j))
    (hj : j ∈ [3, 7, 9, 11, 12, 13, 14, 15, 16, 17])
    {sem : DmaSem sig} (hs : sem = dS (waitOf j).1 k) {sp sp' : Space} {s s' : Shape} {e e' : EltTy}
    {src : Memref sig .tc sp' s' e'} {dst : Memref sig .tc sp s e} {h1 : src.view.WordExact} {h2 : dst.view.WordExact}
    (hc : dst.view.dmaCredit = amt (waitOf j).1) {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.waitDma2 (p := .tc) sem src dst h1 h2) >>= Kt) Q := by
  have hf := wait_fin j hj
  have hl := wait_lv ⟨n, hn⟩
  rw [h] at hl
  exact step_wait hn h (waitOf j).1 hf.1 (waitOf j).2.1 (waitOf j).2.2 (wait_res c k j hj) (wait_pay c k j hj) hf.2.1 hf.2.2.1 hf.2.2.2
    (wait_tal c k j hj) (hl hj) hs hc hK

end Waits

end Cert.KernelIdeal.Lookup
-- ==== Proof.Gather.lean ====
/-
  The gather of a chunk: one row after another is issued where its number lies in the shard, then all are waited for.
-/
module

public import proofs.«01_k».proof.Proof.Steps

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)

/-! ## The rows of a batch -/

theorem cond_iff : ∀ b : BitVec 1, (Scalar.cmpi .ne (Scalar.extui b : BitVec 32) 0#32 = 1#1 ↔ b = 1#1) := by decide
theorem and_one : ∀ a b : BitVec 1, Scalar.andi a b = 1#1 → a = 1#1 ∧ b = 1#1 := by decide

theorem cond_lt (v : BitVec 32) (h : k0_cond1 v = 1#1) : v.toNat < 16384 := by
  have h1 := and_one _ _ ((cond_iff _).1 h)
  have h2 : (0#32).toInt ≤ v.toInt := IntOp.cmpi_sge.1 h1.1
  have h3 : v.toInt < (16384#32).toInt := IntOp.cmpi_slt.1 h1.2
  have h4 : (0#32).toInt = 0 := by decide
  have h5 : (16384#32).toInt = 16384 := by decide
  have h6 := v.isLt
  rw [h4] at h2
  rw [h5] at h3
  rw [BitVec.toInt_eq_toNat_cond] at h2 h3
  split at h2 <;> omega

theorem row_lt (c : Dev nD) (k : Fin 16) {t : ℕ} (ht : t < 32) : ownR c k + t < 2048 := by
  have h1 := qb_lt c
  have h2 := k.isLt
  unfold ownR; omega

theorem cnt_le (c : Dev nD) (k : Fin 16) (t : ℕ) : cnt V c k t ≤ t := by
  induction t with
  | zero => exact Nat.le_refl 0
  | succ t ih =>
    show cnt V c k t + (if vld V c (ownR c k + t) then 1 else 0) ≤ t + 1
    split <;> omega

theorem cnt_mono (c : Dev nD) (k : Fin 16) {t u : ℕ} (h : t ≤ u) : cnt V c k t ≤ cnt V c k u := by
  induction h with
  | refl => exact Nat.le_refl _
  | step _ ih => exact Nat.le_trans ih (Nat.le_add_right _ _)

theorem cnt_lt (c : Dev nD) (k : Fin 16) {t : ℕ} (ht : t < 32) (h : vld V c (ownR c k + t)) : cnt V c k t < cnt V c k 32 := by
  have h1 : cnt V c k (t + 1) = cnt V c k t + 1 := by
    show cnt V c k t + (if vld V c (ownR c k + t) then 1 else 0) = _
    rw [if_pos h]
  have h2 := cnt_mono V c k (show t + 1 ≤ 32 from ht)
  omega

theorem cntW_eq (c : Dev nD) (k : Fin 16) (t : ℕ) : cntW V c k t = BitVec.ofNat 32 (cnt V c k t) := by
  induction t with
  | zero => rfl
  | succ t ih =>
    show Scalar.addi (cntW V c k t) (Scalar.extui (Scalar.andi (Scalar.cmpi .sge (lidAt V c (ownR c k + t)) 0#32)
      (Scalar.cmpi .slt (lidAt V c (ownR c k + t)) 16384#32)))
      = BitVec.ofNat 32 (cnt V c k t + if vld V c (ownR c k + t) then 1 else 0)
    rw [ih]
    generalize hb : Scalar.andi (Scalar.cmpi .sge (lidAt V c (ownR c k + t)) 0#32) (Scalar.cmpi .slt (lidAt V c (ownR c k + t)) 16384#32) = b
    have hv : vld V c (ownR c k + t) ↔ b = 1#1 := by rw [← hb]; unfold vld k0_cond1; exact cond_iff _
    rcases BitVec.eq_zero_or_eq_one b with h | h
    · subst h
      rw [if_neg (fun hh => absurd (hv.1 hh) (by decide))]
      show BitVec.ofNat 32 (cnt V c k t) + 0#32 = _
      rw [BitVec.add_zero, Nat.add_zero]
    · subst h
      rw [if_pos (hv.2 rfl)]
      show BitVec.ofNat 32 (cnt V c k t) + 1#32 = _
      rw [BitVec.ofNat_add]

theorem fetched_zero (c : Dev nD) (k : Fin 16) : fetched V c k 0 = ∅ := by
  unfold fetched
  exact Finset.filter_false_of_mem fun i _ h => absurd h.1 (Nat.not_lt_zero _)

theorem fetched_skip (c : Dev nD) (k : Fin 16) {t : ℕ} (h : ¬ vld V c (ownR c k + t)) : fetched V c k (t + 1) = fetched V c k t := by
  unfold fetched
  refine Finset.filter_congr fun i _ => ?_
  constructor
  · rintro ⟨h1, h2⟩
    refine ⟨?_, h2⟩
    rcases Nat.lt_succ_iff_lt_or_eq.mp h1 with h3 | h3
    · exact h3
    · exact absurd (h3 ▸ h2) h
  · rintro ⟨h1, h2⟩
    exact ⟨Nat.lt_succ_of_lt h1, h2⟩

theorem not_fetched (c : Dev nD) (k : Fin 16) {t : ℕ} (ht : t < 32) : (⟨t, ht⟩ : Fin 32) ∉ fetched V c k t := by
  unfold fetched
  rw [Finset.mem_filter]
  exact fun h => absurd h.2.1 (Nat.lt_irrefl t)

theorem fetched_succ (c : Dev nD) (k : Fin 16) {t : ℕ} (ht : t < 32) (h : vld V c (ownR c k + t)) :
    fetched V c k (t + 1) = insert (⟨t, ht⟩ : Fin 32) (fetched V c k t) := by
  unfold fetched
  ext i
  rw [Finset.mem_insert, Finset.mem_filter, Finset.mem_filter]
  constructor
  · rintro ⟨h0, h1, h2⟩
    rcases Nat.lt_succ_iff_lt_or_eq.mp h1 with h3 | h3
    · exact .inr ⟨h0, h3, h2⟩
    · exact .inl (Fin.ext h3)
  · rintro (rfl | ⟨h0, h1, h2⟩)
    · exact ⟨Finset.mem_univ _, Nat.lt_succ_self t, h⟩
    · exact ⟨h0, Nat.lt_succ_of_lt h1, h2⟩

omit [FloatOps F] in
theorem allD_snoc (Ds : List (sProp 𝕄)) (D : sProp 𝕄) : allD (Ds ++ [D]) ⊢ iprop(D ∗ allD Ds) := by
  unfold allD
  have key : ∀ n, n = Ds.length + 1 → (bigSep (Finset.univ : Finset (Fin n)) fun t => (Ds ++ [D]).getD t.val iprop(emp))
      ⊢ iprop(D ∗ bigSep (Finset.univ : Finset (Fin Ds.length)) fun t => Ds.getD t.val iprop(emp)) := by
    rintro n rfl
    rw [bigSep_fin_succ]
    refine BIClass.sep_mono ?_ ?_
    · refine Entails.of_eq ?_
      rw [Fin.val_last, List.getD_eq_getElem?_getD, List.getElem?_append_right (Nat.le_refl _), Nat.sub_self]
      rfl
    · refine Entails.of_eq (congrArg (bigSep Finset.univ) (funext fun t => ?_))
      rw [List.getD_eq_getElem?_getD, List.getD_eq_getElem?_getD]
      exact congrArg (fun o => o.getD iprop(emp)) (List.getElem?_append_left t.isLt)
  exact key _ (by rw [List.length_append]; rfl)

/-! ## One row of a gather -/

/-- What a gather's loop keeps before row number `t` is read. -/
def GL (c : Dev nD) (k : Fin 16) (t : ℕ) : sProp 𝕄 := iprop(reads V c ∗ GIS V c k t)

theorem chk_all (v : BitVec 32) : k0_chk1 v := by
  intro h a
  have hv : v.toNat < 16384 := cond_lt v h
  match a with
  | ⟨0, _⟩ => show v.toNat + 1 ≤ 16384; omega
  | ⟨1, _⟩ => show 0 + 1024 ≤ 1024; omega

section Unit

variable {V} {c : Dev nD} {k : Fin 16} {t : ℕ}

theorem unit_load {α : Type} {Q : α → sProp 𝕄} (ht : t < 32) {off : Fin 1 → ℕ} {inb} (ho : off = ![ownR c k + t]) {h1 h2}
    {Kt : BitVec 32 → Prog (TpuEff nD τ sig (Elt F) Λ₀ .tc) α}
    (hK : GL V c k t ⊢ wp frame (wpE (defs₀ (F := F)) 𝒱₀ c none) Set.univ (Kt (lidAt V c (ownR c k + t))) Q) :
    GL V c k t ⊢ wp frame (wpE (defs₀ (F := F)) 𝒱₀ c none) Set.univ
      (smemLoad (p := .tc) (Val := Elt F) mIds (Rect.unit (s := S2048) off S1.size inb) h1 h2 >>= Kt) Q := by
  subst ho
  change _ ⊢ wp frame (wpE (defs₀ (F := F)) 𝒱₀ c none) Set.univ
    (smemLoadElt (p := .tc) mIds (Rect.unit (s := S2048) ![ownR c k + t] S1.size inb) (View.loads_smem_one h2 h1) (Shape.Idx.first (h1.symm ▸ Nat.one_pos)) fun y => Kt y) _
  have hv : View.read (Elt F) (mIds.access (Rect.unit (s := S2048) ![ownR c k + t] S1.size inb)) (V.lid c) (Shape.Idx.first (h1.symm ▸ Nat.one_pos))
      = lidAt V c (ownR c k + t) := by
    rw [View.read_apply]
    refine congrArg (V.lid c) (funext fun a => Fin.ext ?_)
    match a with
    | ⟨0, _⟩ =>
      show ownR c k + t + 1 * _ = (ownR c k + t) % 2048
      have h0 := row_lt c k ht
      have hx : ∀ z : Fin 1, ownR c k + t + 1 * z.val = (ownR c k + t) % 2048 := fun z => by omega
      exact hx _
  unfold GL reads
  iintro ⟨⟨H1, H2, H3⟩, HG⟩
  iapply (wp_smemLoadElt (m := mIds) (r := Rect.unit (s := S2048) ![ownR c k + t] S1.size inb) 𝒱₀ (c : Thread nD τ) none Set.univ (Finset.subset_univ _)) $$ H1
  iintro H1
  rw [hv]
  iapply hK
  unfold GL reads
  isplitr [HG]
  · isplitl [H1]; · iexact H1
    isplitl [H2]; · iexact H2
    iexact H3
  · iexact HG

theorem unit_assume {α : Type} {Q : α → sProp 𝕄} {R : sProp 𝕄} {P : Prop} {d : Decidable P} (hP : P)
    {Kt : PLift P → Prog (TpuEff nD τ sig (Elt F) Λ₀ .tc) α}
    (hK : R ⊢ wp frame (wpE (defs₀ (F := F)) 𝒱₀ c none) Set.univ (Kt ⟨hP⟩) Q) :
    R ⊢ wp frame (wpE (defs₀ (F := F)) 𝒱₀ c none) Set.univ (Prog.lift (TpuEff.assume (p := .tc) P d) >>= Kt) Q :=
  hK.trans (wp_assume (k := fun h => Kt h) 𝒱₀ (c : Thread nD τ) none Set.univ hP)

/-- A row number outside the shard: nothing is issued. -/
theorem GIS_skip (h : ¬ vld V c (ownR c k + t)) : GIS V c k t ⊢ GIS V c k (t + 1) := by
  have e : cnt V c k (t + 1) = cnt V c k t := by
    show cnt V c k t + (if vld V c (ownR c k + t) then 1 else 0) = _
    rw [if_neg h, Nat.add_zero]
  unfold GIS
  rw [fetched_skip V c k h, e]

omit [FloatOps F] in
theorem credit_row : cc0_scratch0.dmaCredit S1x1024 .f32 = N1 := rfl

/-- What lands of a row of the shard. -/
theorem land_E (ht : t < 32) (h : vld V c (ownR c k + t)) {offE offG : Fin 2 → ℕ} {inb inb'}
    (hoE : offE = ![(lidAt V c (ownR c k + t)).toNat, 0]) (hoG : offG = ![32 * k.val + t, 0])
    (fd : Buf (Elt F) ((c : Thread nD τ).loc bG)) :
    (((c : Thread nD τ).loc bG) ↦[rows bG (32 * k.val + t) 1]{fullShare}
      ((mG.slice (Rect.unit (s := S512x1024) offG S1x1024.size inb) (fun _ => rfl)).view.write (Elt F) fd
        ((mE.slice (Rect.unit (s := S16384x1024) offE S1x1024.size inb') (fun _ => rfl)).view.read (Elt F) (V.emb c)) Finset.univ))
      ⊢ rowRes V c k t := by
  unfold rowRes Rg
  iintro H
  iexists _
  isplitl [H]; · iexact H
  ipureintro
  intro i hi
  rw [← set_G (inb := inb) hoG rfl] at hi
  obtain ⟨x, -, rfl⟩ := Finset.mem_map.mp hi
  rw [View.write_emb_of_mem (v := (mG.slice (Rect.unit (s := S512x1024) offG S1x1024.size inb) (fun _ => rfl)).view) _ _ (Finset.mem_univ x), View.read_apply]
  subst hoE hoG
  have h0 : (x 0).val < 1 := (x 0).isLt
  unfold gOK
  show GOK V c (32 * k.val + t + 1 * (x 0).val) (0 + 1 * (x 1).val) _
  have er : 512 * qb c + (32 * k.val + t + 1 * (x 0).val) = ownR c k + t := by unfold ownR; omega
  intro j _ hj0 hj1
  rw [er] at hj0
  refine congrArg (V.emb c) (funext fun a => Fin.ext ?_)
  match a with
  | ⟨0, _⟩ =>
    show (lidAt V c (ownR c k + t)).toNat + 1 * (x 0).val = (j 0).val
    omega
  | ⟨1, _⟩ =>
    show 0 + 1 * (x 1).val = (j 1).val
    omega

/-- A row number in the shard: the row's transfer is issued. -/
theorem unit_dma {α : Type} {Q : α → sProp 𝕄} (ht : t < 32) (h : vld V c (ownR c k + t)) {offE offG : Fin 2 → ℕ} {inb inb'}
    (hoE : offE = ![(lidAt V c (ownR c k + t)).toNat, 0]) (hoG : offG = ![32 * k.val + t, 0]) {sem : DmaSem sig} (hs : sem = dS 0 k)
    {h1 h2 h3} {Kt : PUnit → Prog (TpuEff nD τ sig (Elt F) Λ₀ .tc) α}
    (hK : GL V c k (t + 1) ⊢ wp frame (wpE (defs₀ (F := F)) 𝒱₀ c none) Set.univ (Kt ⟨⟩) Q) :
    GL V c k t ⊢ wp frame (wpE (defs₀ (F := F)) 𝒱₀ c none) Set.univ
      (Prog.lift (TpuEff.enqueueDma (p := .tc) (mE.slice (Rect.unit (s := S16384x1024) offE S1x1024.size inb') (fun _ => rfl))
        (.here (mG.slice (Rect.unit (s := S512x1024) offG S1x1024.size inb) (fun _ => rfl))) (.dma sem) h1 h2 h3) >>= Kt) Q := by
  subst hs
  change _ ⊢ wp frame (wpE (defs₀ (F := F)) 𝒱₀ c none) Set.univ
    (.op (TpuEff.enqueueDma (p := .tc) (mE.slice (Rect.unit (s := S16384x1024) offE S1x1024.size inb') (fun _ => rfl))
        (.here (mG.slice (Rect.unit (s := S512x1024) offG S1x1024.size inb) (fun _ => rfl))) (.dma (dS 0 k)) h1 h2 h3) fun y => Kt y) _
  have e : cnt V c k (t + 1) = cnt V c k t + 1 := by
    show cnt V c k t + (if vld V c (ownR c k + t) then 1 else 0) = _
    rw [if_pos h]
  have hmem : (⟨t, ht⟩ : Fin 32) ∈ Finset.univ \ fetched V c k t := Finset.mem_sdiff.mpr ⟨Finset.mem_univ _, not_fetched V c k ht⟩
  have hset : (mG.slice (Rect.unit (s := S512x1024) offG S1x1024.size inb) (fun _ => rfl)).view.set = rows bG (32 * k.val + t) 1 := set_G hoG rfl
  have hrest : (Finset.univ \ fetched V c k t).erase (⟨t, ht⟩ : Fin 32) = Finset.univ \ fetched V c k (t + 1) := by
    rw [fetched_succ V c k ht h, Finset.sdiff_insert]
  unfold GL reads GIS
  rw [bigSep_out hmem, hrest]
  unfold rowAny Rg
  iintro ⟨⟨H1, H2, ⟨%q, H3⟩⟩, ⟨%Ds, %hD, HB, ⟨%fd, Hd, -⟩, Hrest⟩⟩
  ihave H3 := (pointsTo_share (PosShare.mem_left_op_right q)).1 $$ H3
  icases H3 with ⟨H3, Hs⟩
  ihave Hs := (pointsTo_split_subset (Finset.subset_univ (mE.slice (Rect.unit (s := S16384x1024) offE S1x1024.size inb') (fun _ => rfl)).view.set)).1 $$ Hs
  icases Hs with ⟨Hs, -⟩
  iapply (wp_dmaBatched EC 𝒱₀ (c : Thread nD τ) none (src := mE.slice (Rect.unit (s := S16384x1024) offE S1x1024.size inb') (fun _ => rfl))
      (dst := mG.slice (Rect.unit (s := S512x1024) offG S1x1024.size inb) (fun _ => rfl)) (sm := .dma (dS 0 k)) (Sd := rows bG (32 * k.val + t) 1)
      (fs := V.emb c) (fd := fd) (Ds := Ds) (u := 0) (q := q.right) () N1 credit_row hset.subset (hD.1 ▸ cnt_lt V c k ht h) (Nat.zero_le _)) $$ [Hs Hd HB]
  · isplitl [Hs]; · iexact Hs
    isplitl [Hd]; · iexact Hd
    iexact HB
  iintro HB
  iapply hK
  unfold GL reads GIS
  isplitl [H1 H2 H3]
  · isplitl [H1]; · iexact H1
    isplitl [H2]; · iexact H2
    iexists q.left; iexact H3
  iexists _
  isplitr
  rotate_left
  · isplitl [HB]; · iexact HB
    iexact Hrest
  ipureintro
  refine ⟨by rw [List.length_append, hD.1, e]; rfl, (allD_snoc _ _).trans ?_⟩
  rw [fetched_succ V c k ht h, bigSep_ins (not_fetched V c k ht)]
  refine BIClass.sep_mono ?_ hD.2
  refine BIBase.Entails.trans ?_ (land_E ht h (inb := inb) (inb' := inb') hoE hoG fd)
  iintro ⟨H, -⟩
  iexact H

theorem unit_fetch {α : Type} {Q : α → sProp 𝕄} (ht : t < 32) {b : BitVec 1} (hb : b = k0_cond1 (lidAt V c (ownR c k + t)))
    {offE offG : Fin 2 → ℕ} {inb} {inb' : b = 1#1 → ∀ a, offE a + S1x1024.size a ≤ S16384x1024.size a}
    (hoE : offE = ![(lidAt V c (ownR c k + t)).toNat, 0]) (hoG : offG = ![32 * k.val + t, 0]) {sem : DmaSem sig} (hs : sem = dS 0 k)
    {h1 : ∀ hc : b = 1#1, (mE.slice (Rect.unit (s := S16384x1024) offE S1x1024.size (inb' hc)) (fun _ => rfl)).view.WordExact}
    {h2 : (DmaTarget.here (nD := nD) (τ := τ) (sig := sig) (p := .tc) (mG.slice (Rect.unit (s := S512x1024) offG S1x1024.size inb) (fun _ => rfl))).view.WordExact}
    {h3 : DmaTarget.Typed .hbm (.dma sem) (DmaTarget.here (nD := nD) (τ := τ) (sig := sig) (p := .tc) (mG.slice (Rect.unit (s := S512x1024) offG S1x1024.size inb) (fun _ => rfl)))}
    {J : Prog (TpuEff nD τ sig (Elt F) Λ₀ .tc) α}
    (hK : GL V c k (t + 1) ⊢ wp frame (wpE (defs₀ (F := F)) 𝒱₀ c none) Set.univ J Q) :
    GL V c k t ⊢ wp frame (wpE (defs₀ (F := F)) 𝒱₀ c none) Set.univ
      (if hc : b = 1#1 then
        (Prog.lift (TpuEff.enqueueDma (p := .tc) (mE.slice (Rect.unit (s := S16384x1024) offE S1x1024.size (inb' hc)) (fun _ => rfl))
          (.here (mG.slice (Rect.unit (s := S512x1024) offG S1x1024.size inb) (fun _ => rfl))) (.dma sem) (h1 hc) h2 h3) >>= fun _ => J)
       else J) Q := by
  subst hb
  by_cases h : vld V c (ownR c k + t)
  · rw [dif_pos (show k0_cond1 (lidAt V c (ownR c k + t)) = 1#1 from h)]
    exact unit_dma ht h hoE hoG hs hK
  · rw [dif_neg (show ¬ k0_cond1 (lidAt V c (ownR c k + t)) = 1#1 from h)]
    refine BIBase.Entails.trans ?_ hK
    unfold GL
    exact sep_mono_right (GIS_skip h)

end Unit

/-! ## The gather of a chunk, and its waits -/

theorem trips_w : ∀ m : Fin 33, (k0_t3_loop (BitVec.ofNat 32 m.val)).trips = m.val ∧ (k0_t4_loop (BitVec.ofNat 32 m.val)).trips = 0
    ∧ k0_chk17 (BitVec.ofNat 32 m.val) := by decide +kernel

theorem trips_cnt (c : Dev nD) (k : Fin 16) : (k0_t3_loop (cntW V c k 32)).trips = cnt V c k 32 ∧ (k0_t4_loop (cntW V c k 32)).trips = 0
    ∧ k0_chk17 (cntW V c k 32) := by
  rw [cntW_eq]
  exact trips_w ⟨cnt V c k 32, Nat.lt_succ_of_le (cnt_le V c k 32)⟩

section Loops

variable {V} {K : GSem nD τ sig → ℕ} {c : Dev nD} {n : ℕ} {k : Fin 16}

theorem GIS_zero : iprop(semVal (cell c 0 k) 0 ∗ Rg (F := F) c bG (32 * k.val) 32 q₀ (anyOK bG)) ⊢ (|={Set.univ}=> GIS V c k 0 : sProp 𝕄) := by
  unfold GIS
  iintro ⟨Hv, HR⟩
  imod (batched_alloc EC (c := (c : Thread nD τ)) (sm := .dma (dS 0 k)) () N1 (cnt V c k 32) (E := Set.univ)) $$ Hv with HB
  imodintro
  iexists []
  isplitr
  · ipureintro
    refine ⟨rfl, ?_⟩
    rw [fetched_zero, BI.bigSep_empty]
    iintro -; iempintro
  isplitl [HB]; · iexact HB
  rw [fetched_zero, Finset.sdiff_empty]
  ihave HR := (Rg_chunks (c := c) (b := bG) (lo := 32 * k.val) (n := 1) (q := q₀) (OK := anyOK bG) (by decide) 32) $$ HR
  unfold rowAny
  simp only [Nat.one_mul]
  iexact HR

/-- The gather of a chunk issued. -/
theorem step_GI {α : Type} {Q : α → sProp 𝕄} (hn : n < 288) (h : act n = (k, 0)) {lp : Scf.Loop 32} (hl : lp.trips = 4) {ok}
    {body : Fin lp.trips → BitVec 32 → Prog (TpuEff nD τ sig (Elt F) Λ₀ .tc) (BitVec 32)}
    (hbody : ∀ t : Fin lp.trips, GL V c k (8 * t.val) ⊢ wp frame (wpE (defs₀ (F := F)) 𝒱₀ c none) Set.univ (body t (cntW V c k (8 * t.val)))
      fun r => iprop(⌜r = cntW V c k (8 * t.val + 8)⌝ ∗ GL V c k (8 * t.val + 8)))
    {Kt : BitVec 32 → Prog (TpuEff nD τ sig (Elt F) Λ₀ .tc) α}
    (hK : St V K c (n + 1) ⊢ wp frame (wpE (defs₀ (F := F)) 𝒱₀ c none) Set.univ (Kt (cntW V c k 32)) Q) :
    St V K c n ⊢ wp frame (wpE (defs₀ (F := F)) 𝒱₀ c none) Set.univ (Scf.Loop.for lp ok 0#32 body >>= Kt) Q := by
  have hO : owed c n = owed c (n + 1) := by
    have := owed_succ c ⟨n, hn⟩; dsimp only at this; rw [h] at this; rw [this]; exact add_zero _
  refine (St_act V hn h {.gsv, .gAny} {.bat} (by decide) (by decide) (by decide)).trans ?_
  rw [bigSep_ins (by decide), BI.bigSep_singleton, BI.bigSep_singleton, hO]
  show iprop(_ ∗ _ ∗ _ ∗ _ ∗ (semVal (cell c 0 k) 0 ∗ Rg (F := F) c bG (32 * k.val) 32 q₀ (anyOK bG)) ∗ (_ -∗ _ -∗ GIS V c k 32 -∗ St V K c (n + 1))) ⊢ _
  iintro ⟨-, -, HO, Hr, HA, Hb⟩
  imod (GIS_zero (V := V)) $$ HA with HG
  iapply (Scf.wp_for_bind _ _ _ lp.lb lp.ub lp.st ok 0#32 body
    (fun i a => iprop(⌜a = cntW V c k (8 * i)⌝ ∗ GL V c k (8 * i))) (fun t a => by
      iintro ⟨%ha, H⟩
      subst ha
      iapply (hbody t)
      iexact H)) $$ [Hr HG]
  · isplitr
    · ipureintro; rfl
    · unfold GL
      isplitl [Hr]; · iexact Hr
      iexact HG
  iintro %a ⟨%ha, HL⟩
  have e : 8 * Scf.trips lp.lb lp.ub lp.st = 32 := by rw [show Scf.trips lp.lb lp.ub lp.st = 4 from hl]
  rw [e] at ha
  rw [e]
  subst ha
  unfold GL
  icases HL with ⟨Hr, HG⟩
  iapply hK
  iapply Hb $$ HO Hr HG

theorem rows_done : iprop((bigSep (fetched V c k 32) fun i => rowRes V c k i.val) ∗ bigSep (Finset.univ \ fetched V c k 32) fun i => rowAny (F := F) c k i.val)
    ⊢ Rg c bG (32 * k.val) 32 q₀ (gOK V c) := by
  have h1 : (bigSep (Finset.univ \ fetched V c k 32) fun i => rowAny (F := F) c k i.val)
      ⊢ bigSep (Finset.univ \ fetched V c k 32) fun i => rowRes V c k i.val := by
    refine BI.bigSep_mono fun i hi => ?_
    have hv : ¬ vld V c (ownR c k + i.val) := fun hv => (Finset.mem_sdiff.mp hi).2 (by
      unfold fetched
      exact Finset.mem_filter.mpr ⟨Finset.mem_univ _, i.isLt, hv⟩)
    unfold rowAny rowRes
    refine Rg_mono fun x hx v _ => ?_
    have hx0 := mem_rows.mp hx (⟨0, by decide⟩ : Fin bG.ty.shape.rank) rfl
    have er : 512 * qb c + ((x : S512x1024.Idx) 0).val = ownR c k + i.val := by
      have h2 : 32 * k.val + i.val ≤ ((x : S512x1024.Idx) 0).val ∧ ((x : S512x1024.Idx) 0).val < 32 * k.val + i.val + 1 := hx0
      unfold ownR; omega
    intro j hj
    rw [er] at hj
    exact absurd hj hv
  refine (BIClass.sep_mono .rfl h1).trans ?_
  refine BIBase.Entails.trans ?_ (Rg_unchunk (c := c) (b := bG) (lo := 32 * k.val) (n := 1) (q := q₀) (OK := gOK V c) (by decide) 31)
  simp only [Nat.one_mul]
  refine Entails.of_eq ?_
  have hu : (Finset.univ : Finset (Fin 32)) = fetched V c k 32 ∪ (Finset.univ \ fetched V c k 32) := (Finset.union_sdiff_of_subset (Finset.subset_univ _)).symm
  conv_rhs => rw [show (Finset.univ : Finset (Fin (31 + 1))) = fetched V c k 32 ∪ (Finset.univ \ fetched V c k 32) from hu]
  exact (BI.bigSep_union Finset.disjoint_sdiff).symm

/-- The waits of a chunk's gather. -/
theorem step_GW {α : Type} {Q : α → sProp 𝕄} (hn : n < 288) (h : act n = (k, 1)) {lp : Scf.Loop 32} (hl : lp.trips = cnt V c k 32) {ok}
    {sem : DmaSem sig} (hs : sem = dS 0 k) {sp sp' : Space} {s s' : Shape} {e e' : EltTy}
    {src : Memref sig .tc sp' s' e'} {dst : Memref sig .tc sp s e} {h1 : src.view.WordExact} {h2 : dst.view.WordExact}
    (hc : dst.view.dmaCredit = N1) {Kt : Unit → Prog (TpuEff nD τ sig (Elt F) Λ₀ .tc) α}
    (hK : St V K c (n + 1) ⊢ wp frame (wpE (defs₀ (F := F)) 𝒱₀ c none) Set.univ (Kt ()) Q) :
    St V K c n ⊢ wp frame (wpE (defs₀ (F := F)) 𝒱₀ c none) Set.univ
      (Scf.Loop.for lp ok () (fun _ _ => Prog.lift (TpuEff.waitDma2 (p := .tc) sem src dst h1 h2) >>= fun _ => pure ()) >>= Kt) Q := by
  subst hs
  have hO : owed c n = owed c (n + 1) := by
    have := owed_succ c ⟨n, hn⟩; dsimp only at this; rw [h] at this; rw [this]; exact add_zero _
  refine (St_act V hn h {.bat} {.gsv, .gF} (by decide) (by decide) (by decide)).trans ?_
  rw [bigSep_ins (by decide), BI.bigSep_singleton, BI.bigSep_singleton, ← hO]
  show iprop(_ ∗ _ ∗ _ ∗ _ ∗ GIS V c k 32 ∗ (_ -∗ _ -∗ (semVal (cell c 0 k) 0 ∗ Rg c bG (32 * k.val) 32 q₀ (gOK V c)) -∗ St V K c (n + 1))) ⊢ _
  unfold GIS
  iintro ⟨-, #Hl, HO, Hr, ⟨%Ds, %hD, HB, Hrest⟩, Hb⟩
  iapply (Scf.wp_for_bind _ _ _ lp.lb lp.ub lp.st ok () _
    (fun i _ => iprop(levAts L lv ∗ Batched EC (c : Thread nD τ) (.dma (dS 0 k)) () N1 (cnt V c k 32) Ds (i * N1) ∗ ∃ W, owes (c : Thread nD τ) (owed c n) W)) (fun t a => by
      change _ ⊢ wp frame (wpE (defs₀ (F := F)) 𝒱₀ c none) Set.univ (.op (TpuEff.waitDma2 (p := .tc) (dS 0 k) src dst h1 h2) fun _ => .ret ()) _
      iintro ⟨#Hl, HB, ⟨%W, HO⟩⟩
      ihave HM := (mayWait (F := F) c (.dma (dS 0 k)) n (by rw [lv_cell]; exact Nat.zero_le _)) $$ Hl
      iapply (wp_waitBatchedMulO EC 𝒱₀ (c : Thread nD τ) none (srcw := src) (dstw := dst) () 1 (by rw [hc, Nat.one_mul])
        (by
          have ht : t.val < cnt V c k 32 := hl ▸ t.isLt
          rw [hD.1, ← Nat.add_mul, Nat.mul_comm N1]
          exact Nat.mul_le_mul_right _ ht)) $$ [HB HO HM]
      · isplitl [HB]; · iexact HB
        isplitl [HO]; · iexact HO
        iexact HM
      iintro ⟨HB, HO⟩
      rw [wp_ret]
      imodintro
      isplitr; · iexact Hl
      isplitl [HB]
      · rw [← Nat.add_mul]; iexact HB
      · iexists _; iexact HO)) $$ [HB HO]
  · isplitr; · iexact Hl
    isplitl [HB]
    · rw [Nat.zero_mul]; iexact HB
    · iexact HO
  iintro %a ⟨-, HB, HO⟩
  have et : Scf.trips lp.lb lp.ub lp.st = cnt V c k 32 := hl
  rw [et, Nat.mul_comm (cnt V c k 32) N1]
  imod (batched_collect EC (c : Thread nD τ) (show 0 < N1 by decide) hD.1) $$ HB with ⟨HD, Hv⟩
  iapply hK
  iapply Hb $$ HO Hr [HD Hv Hrest]
  isplitl [Hv]; · iexact Hv
  iapply (rows_done (V := V))
  isplitl [HD]
  · iapply hD.2
    unfold allD
    have key : ∀ m, m = Ds.length → (bigSep (Finset.univ : Finset (Fin m)) (deliv Ds)
        ⊢ bigSep (Finset.univ : Finset (Fin Ds.length)) fun t => Ds.getD t.val iprop(emp)) := by
      rintro m rfl; exact .rfl
    iapply (key _ hD.1.symm)
    iexact HD
  · iexact Hrest

theorem step_none {α : Type} {Q : α → sProp 𝕄} {R : sProp 𝕄} {lp : Scf.Loop 32} (hl : lp.trips = 0) {ok}
    {body : Fin lp.trips → Unit → Prog (TpuEff nD τ sig (Elt F) Λ₀ .tc) Unit} {Kt : Unit → Prog (TpuEff nD τ sig (Elt F) Λ₀ .tc) α}
    (hK : R ⊢ wp frame (wpE (defs₀ (F := F)) 𝒱₀ c none) Set.univ (Kt ()) Q) :
    R ⊢ wp frame (wpE (defs₀ (F := F)) 𝒱₀ c none) Set.univ (Scf.Loop.for lp ok () body >>= Kt) Q := by
  iintro H
  iapply (Scf.wp_for_bind _ _ _ lp.lb lp.ub lp.st ok () body (fun _ _ => R) (fun t _ => absurd (hl ▸ t.isLt) (Nat.not_lt_zero t.val))) $$ H
  iintro %a H
  iapply hK
  iexact H

end Loops

end Cert.KernelIdeal.Lookup
-- ==== Proof.Loop0.lean ====
/-
  The gather loops of chunks 0 to 3.
-/
module

public import proofs.«01_k».proof.Proof.Gather

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)

theorem vec1 {a b : ℕ} (h : a = b) : (![a] : Fin 1 → ℕ) = ![b] := by rw [h]
theorem vec2 {a b : ℕ} (h : a = b) : (![a, 0] : Fin 2 → ℕ) = ![b, 0] := by rw [h]
theorem own_eq (c : Dev nD) (k : Fin 16) (kk t m : ℕ) (hk : k.val = kk) (hm : m = 1024 * (c.val % 2) + 512 * (c.val / 4) + 32 * kk + t) :
    m = ownR c k + t := by unfold ownR qb; omega

theorem ret_intro {c : Dev nD} {α : Type} {Q : α → sProp 𝕄} {R : sProp 𝕄} {a : α} (h : R ⊢ Q a) :
    R ⊢ wp frame (wpE (defs₀ (F := F)) 𝒱₀ c none) Set.univ (pure a) Q := by
  change R ⊢ wp frame (wpE (defs₀ (F := F)) 𝒱₀ c none) Set.univ (.ret a) Q
  rw [wp_ret]
  exact h.trans BI.fupd_intro

theorem bind_intro {c : Dev nD} {α β : Type} {Q : β → sProp 𝕄} {R : sProp 𝕄} {p : Prog (TpuEff nD τ sig (Elt F) Λ₀ .tc) α}
    {k : α → Prog (TpuEff nD τ sig (Elt F) Λ₀ .tc) β}
    (h : R ⊢ wp frame (wpE (defs₀ (F := F)) 𝒱₀ c none) Set.univ p fun a => wp frame (wpE (defs₀ (F := F)) 𝒱₀ c none) Set.univ (k a) Q) :
    R ⊢ wp frame (wpE (defs₀ (F := F)) 𝒱₀ c none) Set.univ (p >>= k) Q := by
  rw [wp_bind]; exact h

/-- The gather loop of chunk 0: eight rows are looked up and counted. -/
theorem gi0 (c : Dev nD) (v2 : BitVec 32) (v5 : BitVec 32) (v8 : BitVec 32) (v10 : BitVec 32) (v11 : BitVec 32) (v14 : BitVec 32) (v28 : Sems sig S_) (v32 : BitVec 32) (c1_i32_20 : BitVec 32)
    (t : Fin k0_t1_loop.trips) :
    GL V c 0 (8 * t.val) ⊢ wp frame (wpE (defs₀ (F := F)) 𝒱₀ c none) Set.univ
      (k0_t1_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v10 v11 v14 v28 v32 c1_i32_20 t (cntW V c 0 (8 * t.val)))
      fun r => iprop(⌜r = cntW V c 0 (8 * t.val + 8)⌝ ∗ GL V c 0 (8 * t.val + 8)) := by
  have ht : t.val < 4 := t.isLt
  unfold k0_t1_body
  rw [k0_part1_eq_skeleton, wp_bind]; unfold k0_part1_skel
  refine unit_load (by omega) ((k0_off1_eq c t).trans (vec1 (own_eq c 0 0 _ _ rfl (by omega)))) ?_
  refine unit_assume (chk_all _) ?_
  refine unit_fetch (by omega) rfl rfl ((k0_off2_eq t).trans (vec2 (show _ = 32 * 0 + _ by omega))) rfl ?_
  refine unit_load (by omega) ((k0_off4_eq c t).trans (vec1 (own_eq c 0 0 _ _ rfl (by omega)))) ?_
  refine unit_assume (chk_all _) ?_
  refine unit_fetch (by omega) rfl rfl ((k0_off5_eq t).trans (vec2 (show _ = 32 * 0 + _ by omega))) rfl ?_
  refine unit_load (by omega) ((k0_off7_eq c t).trans (vec1 (own_eq c 0 0 _ _ rfl (by omega)))) ?_
  refine unit_assume (chk_all _) ?_
  refine ret_intro ?_
  rw [k0_part2_eq_skeleton, wp_bind]; unfold k0_part2_skel
  refine unit_fetch (by omega) rfl rfl ((k0_off8_eq t).trans (vec2 (show _ = 32 * 0 + _ by omega))) rfl ?_
  refine unit_load (by omega) ((k0_off10_eq c t).trans (vec1 (own_eq c 0 0 _ _ rfl (by omega)))) ?_
  refine unit_assume (chk_all _) ?_
  refine unit_fetch (by omega) rfl rfl ((k0_off11_eq t).trans (vec2 (show _ = 32 * 0 + _ by omega))) rfl ?_
  refine unit_load (by omega) ((k0_off13_eq c t).trans (vec1 (own_eq c 0 0 _ _ rfl (by omega)))) ?_
  refine unit_assume (chk_all _) ?_
  refine unit_fetch (by omega) rfl rfl ((k0_off14_eq t).trans (vec2 (show _ = 32 * 0 + _ by omega))) rfl ?_
  refine unit_load (by omega) ((k0_off16_eq c t).trans (vec1 (own_eq c 0 0 _ _ rfl (by omega)))) ?_
  refine unit_assume (chk_all _) ?_
  refine ret_intro ?_
  refine unit_fetch (by omega) rfl rfl ((k0_off17_eq t).trans (vec2 (show _ = 32 * 0 + _ by omega))) rfl ?_
  refine unit_load (by omega) ((k0_off19_eq c t).trans (vec1 (own_eq c 0 0 _ _ rfl (by omega)))) ?_
  refine unit_assume (chk_all _) ?_
  refine unit_fetch (by omega) rfl rfl ((k0_off20_eq t).trans (vec2 (show _ = 32 * 0 + _ by omega))) rfl ?_
  refine unit_load (by omega) ((k0_off22_eq c t).trans (vec1 (own_eq c 0 0 _ _ rfl (by omega)))) ?_
  refine unit_assume (chk_all _) ?_
  refine unit_fetch (by omega) rfl rfl ((k0_off23_eq t).trans (vec2 (show _ = 32 * 0 + _ by omega))) rfl ?_
  refine ret_intro ?_
  iintro H
  isplitr
  · ipureintro; rfl
  · iexact H

/-- The gather loop of chunk 1: eight rows are looked up and counted. -/
theorem gi1 (c : Dev nD) (v2 : BitVec 32) (v5 : BitVec 32) (v8 : BitVec 32) (v10 : BitVec 32) (v11 : BitVec 32) (v14 : BitVec 32) (v28 : Sems sig S_) (v32 : BitVec 32) (c1_i32_20 : BitVec 32)
    (t : Fin k0_t2_loop.trips) :
    GL V c 1 (8 * t.val) ⊢ wp frame (wpE (defs₀ (F := F)) 𝒱₀ c none) Set.univ
      (k0_t2_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v10 v11 v14 v28 v32 c1_i32_20 t (cntW V c 1 (8 * t.val)))
      fun r => iprop(⌜r = cntW V c 1 (8 * t.val + 8)⌝ ∗ GL V c 1 (8 * t.val + 8)) := by
  have ht : t.val < 4 := t.isLt
  unfold k0_t2_body
  rw [k0_part3_eq_skeleton, wp_bind]; unfold k0_part3_skel
  refine unit_load (by omega) ((k0_off25_eq c t).trans (vec1 (own_eq c 1 1 _ _ rfl (by omega)))) ?_
  refine unit_assume (chk_all _) ?_
  refine unit_fetch (by omega) rfl rfl ((k0_off26_eq t).trans (vec2 (show _ = 32 * 1 + _ by omega))) rfl ?_
  refine unit_load (by omega) ((k0_off28_eq c t).trans (vec1 (own_eq c 1 1 _ _ rfl (by omega)))) ?_
  refine unit_assume (chk_all _) ?_
  refine unit_fetch (by omega) rfl rfl ((k0_off29_eq t).trans (vec2 (show _ = 32 * 1 + _ by omega))) rfl ?_
  refine unit_load (by omega) ((k0_off31_eq c t).trans (vec1 (own_eq c 1 1 _ _ rfl (by omega)))) ?_
  refine unit_assume (chk_all _) ?_
  refine ret_intro ?_
  rw [k0_part4_eq_skeleton, wp_bind]; unfold k0_part4_skel
  refine unit_fetch (by omega) rfl rfl ((k0_off32_eq t).trans (vec2 (show _ = 32 * 1 + _ by omega))) rfl ?_
  refine unit_load (by omega) ((k0_off34_eq c t).trans (vec1 (own_eq c 1 1 _ _ rfl (by omega)))) ?_
  refine unit_assume (chk_all _) ?_
  refine unit_fetch (by omega) rfl rfl ((k0_off35_eq t).trans (vec2 (show _ = 32 * 1 + _ by omega))) rfl ?_
  refine unit_load (by omega) ((k0_off37_eq c t).trans (vec1 (own_eq c 1 1 _ _ rfl (by omega)))) ?_
  refine unit_assume (chk_all _) ?_
  refine unit_fetch (by omega) rfl rfl ((k0_off38_eq t).trans (vec2 (show _ = 32 * 1 + _ by omega))) rfl ?_
  refine unit_load (by omega) ((k0_off40_eq c t).trans (vec1 (own_eq c 1 1 _ _ rfl (by omega)))) ?_
  refine unit_assume (chk_all _) ?_
  refine ret_intro ?_
  refine unit_fetch (by omega) rfl rfl ((k0_off41_eq t).trans (vec2 (show _ = 32 * 1 + _ by omega))) rfl ?_
  refine unit_load (by omega) ((k0_off43_eq c t).trans (vec1 (own_eq c 1 1 _ _ rfl (by omega)))) ?_
  refine unit_assume (chk_all _) ?_
  refine unit_fetch (by omega) rfl rfl ((k0_off44_eq t).trans (vec2 (show _ = 32 * 1 + _ by omega))) rfl ?_
  refine unit_load (by omega) ((k0_off46_eq c t).trans (vec1 (own_eq c 1 1 _ _ rfl (by omega)))) ?_
  refine unit_assume (chk_all _) ?_
  refine unit_fetch (by omega) rfl rfl ((k0_off47_eq t).trans (vec2 (show _ = 32 * 1 + _ by omega))) rfl ?_
  refine ret_intro ?_
  iintro H
  isplitr
  · ipureintro; rfl
  · iexact H

/-- The gather loop of chunk 2: eight rows are looked up and counted. -/
theorem gi2 (c : Dev nD) (v2 : BitVec 32) (v8 : BitVec 32) (v10 : BitVec 32) (v14 : BitVec 32) (v50 : BitVec 32) (k0_hw26 : k0_chk26 v50)
    (t : Fin k0_t5_loop.trips) :
    GL V c 2 (8 * t.val) ⊢ wp frame (wpE (defs₀ (F := F)) 𝒱₀ c none) Set.univ
      (k0_t5_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v8 v10 v14 v50 k0_hw26 t (cntW V c 2 (8 * t.val)))
      fun r => iprop(⌜r = cntW V c 2 (8 * t.val + 8)⌝ ∗ GL V c 2 (8 * t.val + 8)) := by
  have ht : t.val < 4 := t.isLt
  unfold k0_t5_body
  rw [k0_part5_eq_skeleton, wp_bind]; unfold k0_part5_skel
  refine unit_load (by omega) ((k0_off49_eq c t).trans (vec1 (own_eq c 2 2 _ _ rfl (by omega)))) ?_
  refine unit_assume (chk_all _) ?_
  refine unit_fetch (by omega) rfl rfl ((k0_off50_eq t).trans (vec2 (show _ = 32 * 2 + _ by omega))) rfl ?_
  refine unit_load (by omega) ((k0_off52_eq c t).trans (vec1 (own_eq c 2 2 _ _ rfl (by omega)))) ?_
  refine unit_assume (chk_all _) ?_
  refine unit_fetch (by omega) rfl rfl ((k0_off53_eq t).trans (vec2 (show _ = 32 * 2 + _ by omega))) rfl ?_
  refine unit_load (by omega) ((k0_off55_eq c t).trans (vec1 (own_eq c 2 2 _ _ rfl (by omega)))) ?_
  refine unit_assume (chk_all _) ?_
  refine ret_intro ?_
  rw [k0_part6_eq_skeleton, wp_bind]; unfold k0_part6_skel
  refine unit_fetch (by omega) rfl rfl ((k0_off56_eq t).trans (vec2 (show _ = 32 * 2 + _ by omega))) rfl ?_
  refine unit_load (by omega) ((k0_off58_eq c t).trans (vec1 (own_eq c 2 2 _ _ rfl (by omega)))) ?_
  refine unit_assume (chk_all _) ?_
  refine unit_fetch (by omega) rfl rfl ((k0_off59_eq t).trans (vec2 (show _ = 32 * 2 + _ by omega))) rfl ?_
  refine unit_load (by omega) ((k0_off61_eq c t).trans (vec1 (own_eq c 2 2 _ _ rfl (by omega)))) ?_
  refine unit_assume (chk_all _) ?_
  refine unit_fetch (by omega) rfl rfl ((k0_off62_eq t).trans (vec2 (show _ = 32 * 2 + _ by omega))) rfl ?_
  refine unit_load (by omega) ((k0_off64_eq c t).trans (vec1 (own_eq c 2 2 _ _ rfl (by omega)))) ?_
  refine unit_assume (chk_all _) ?_
  refine ret_intro ?_
  refine unit_fetch (by omega) rfl rfl ((k0_off65_eq t).trans (vec2 (show _ = 32 * 2 + _ by omega))) rfl ?_
  refine unit_load (by omega) ((k0_off67_eq c t).trans (vec1 (own_eq c 2 2 _ _ rfl (by omega)))) ?_
  refine unit_assume (chk_all _) ?_
  refine unit_fetch (by omega) rfl rfl ((k0_off68_eq t).trans (vec2 (show _ = 32 * 2 + _ by omega))) rfl ?_
  refine unit_load (by omega) ((k0_off70_eq c t).trans (vec1 (own_eq c 2 2 _ _ rfl (by omega)))) ?_
  refine unit_assume (chk_all _) ?_
  refine unit_fetch (by omega) rfl rfl ((k0_off71_eq t).trans (vec2 (show _ = 32 * 2 + _ by omega))) rfl ?_
  refine ret_intro ?_
  iintro H
  isplitr
  · ipureintro; rfl
  · iexact H

/-- The gather loop of chunk 3: eight rows are looked up and counted. -/
theorem gi3 (c : Dev nD) (v2 : BitVec 32) (v8 : BitVec 32) (v10 : BitVec 32) (v14 : BitVec 32) (v69 : BitVec 32) (k0_hw35 : k0_chk35 v69)
    (t : Fin k0_t8_loop.trips) :
    GL V c 3 (8 * t.val) ⊢ wp frame (wpE (defs₀ (F := F)) 𝒱₀ c none) Set.univ
      (k0_t8_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v8 v10 v14 v69 k0_hw35 t (cntW V c 3 (8 * t.val)))
      fun r => iprop(⌜r = cntW V c 3 (8 * t.val + 8)⌝ ∗ GL V c 3 (8 * t.val + 8)) := by
  have ht : t.val < 4 := t.isLt
  unfold k0_t8_body
  rw [k0_part7_eq_skeleton, wp_bind]; unfold k0_part7_skel
  refine unit_load (by omega) ((k0_off73_eq c t).trans (vec1 (own_eq c 3 3 _ _ rfl (by omega)))) ?_
  refine unit_assume (chk_all _) ?_
  refine unit_fetch (by omega) rfl rfl ((k0_off74_eq t).trans (vec2 (show _ = 32 * 3 + _ by omega))) rfl ?_
  refine unit_load (by omega) ((k0_off76_eq c t).trans (vec1 (own_eq c 3 3 _ _ rfl (by omega)))) ?_
  refine unit_assume (chk_all _) ?_
  refine unit_fetch (by omega) rfl rfl ((k0_off77_eq t).trans (vec2 (show _ = 32 * 3 + _ by omega))) rfl ?_
  refine unit_load (by omega) ((k0_off79_eq c t).trans (vec1 (own_eq c 3 3 _ _ rfl (by omega)))) ?_
  refine unit_assume (chk_all _) ?_
  refine ret_intro ?_
  rw [k0_part8_eq_skeleton, wp_bind]; unfold k0_part8_skel
  refine unit_fetch (by omega) rfl rfl ((k0_off80_eq t).trans (vec2 (show _ = 32 * 3 + _ by omega))) rfl ?_
  refine unit_load (by omega) ((k0_off82_eq c t).trans (vec1 (own_eq c 3 3 _ _ rfl (by omega)))) ?_
  refine unit_assume (chk_all _) ?_
  refine unit_fetch (by omega) rfl rfl ((k0_off83_eq t).trans (vec2 (show _ = 32 * 3 + _ by omega))) rfl ?_
  refine unit_load (by omega) ((k0_off85_eq c t).trans (vec1 (own_eq c 3 3 _ _ rfl (by omega)))) ?_
  refine unit_assume (chk_all _) ?_
  refine unit_fetch (by omega) rfl rfl ((k0_off86_eq t).trans (vec2 (show _ = 32 * 3 + _ by omega))) rfl ?_
  refine unit_load (by omega) ((k0_off88_eq c t).trans (vec1 (own_eq c 3 3 _ _ rfl (by omega)))) ?_
  refine unit_assume (chk_all _) ?_
  refine ret_intro ?_
  refine unit_fetch (by omega) rfl rfl ((k0_off89_eq t).trans (vec2 (show _ = 32 * 3 + _ by omega))) rfl ?_
  refine unit_load (by omega) ((k0_off91_eq c t).trans (vec1 (own_eq c 3 3 _ _ rfl (by omega)))) ?_
  refine unit_assume (chk_all _) ?_
  refine unit_fetch (by omega) rfl rfl ((k0_off92_eq t).trans (vec2 (show _ = 32 * 3 + _ by omega))) rfl ?_
  refine unit_load (by omega) ((k0_off94_eq c t).trans (vec1 (own_eq c 3 3 _ _ rfl (by omega)))) ?_
  refine unit_assume (chk_all _) ?_
  refine unit_fetch (by omega) rfl rfl ((k0_off95_eq t).trans (vec2 (show _ = 32 * 3 + _ by omega))) rfl ?_
  refine ret_intro ?_
  iintro H
  isplitr
  · ipureintro; rfl
  · iexact H

end Cert.KernelIdeal.Lookup
-- ==== Proof.Loop1.lean ====
/-
  The gather loops of chunks 4 to 7.
-/
module

public import proofs.«01_k».proof.Proof.Loop0

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)
/-- The gather loop of chunk 4: eight rows are looked up and counted. -/
theorem gi4 (c : Dev nD) (v2 : BitVec 32) (v5 : BitVec 32) (v8 : BitVec 32) (v10 : BitVec 32) (v11 : BitVec 32) (v14 : BitVec 32) (v88 : BitVec 32) (k0_hw44 : k0_chk44 v88) (c0_i32_121 : BitVec 32)
    (t : Fin k0_t11_loop.trips) :
    GL V c 4 (8 * t.val) ⊢ wp frame (wpE (defs₀ (F := F)) 𝒱₀ c none) Set.univ
      (k0_t11_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v10 v11 v14 v88 k0_hw44 c0_i32_121 t (cntW V c 4 (8 * t.val)))
      fun r => iprop(⌜r = cntW V c 4 (8 * t.val + 8)⌝ ∗ GL V c 4 (8 * t.val + 8)) := by
  have ht : t.val < 4 := t.isLt
  unfold k0_t11_body
  rw [k0_part9_eq_skeleton, wp_bind]; unfold k0_part9_skel
  refine unit_load (by omega) ((k0_off100_eq c t).trans (vec1 (own_eq c 4 4 _ _ rfl (by omega)))) ?_
  refine unit_assume (chk_all _) ?_
  refine unit_fetch (by omega) rfl rfl ((k0_off101_eq t).trans (vec2 (show _ = 32 * 4 + _ by omega))) rfl ?_
  refine unit_load (by omega) ((k0_off103_eq c t).trans (vec1 (own_eq c 4 4 _ _ rfl (by omega)))) ?_
  refine unit_assume (chk_all _) ?_
  refine unit_fetch (by omega) rfl rfl ((k0_off104_eq t).trans (vec2 (show _ = 32 * 4 + _ by omega))) rfl ?_
  refine unit_load (by omega) ((k0_off106_eq c t).trans (vec1 (own_eq c 4 4 _ _ rfl (by omega)))) ?_
  refine unit_assume (chk_all _) ?_
  refine ret_intro ?_
  rw [k0_part10_eq_skeleton, wp_bind]; unfold k0_part10_skel
  refine unit_fetch (by omega) rfl rfl ((k0_off107_eq t).trans (vec2 (show _ = 32 * 4 + _ by omega))) rfl ?_
  refine unit_load (by omega) ((k0_off109_eq c t).trans (vec1 (own_eq c 4 4 _ _ rfl (by omega)))) ?_
  refine unit_assume (chk_all _) ?_
  refine unit_fetch (by omega) rfl rfl ((k0_off110_eq t).trans (vec2 (show _ = 32 * 4 + _ by omega))) rfl ?_
  refine unit_load (by omega) ((k0_off112_eq c t).trans (vec1 (own_eq c 4 4 _ _ rfl (by omega)))) ?_
  refine unit_assume (chk_all _) ?_
  refine unit_fetch (by omega) rfl rfl ((k0_off113_eq t).trans (vec2 (show _ = 32 * 4 + _ by omega))) rfl ?_
  refine unit_load (by omega) ((k0_off115_eq c t).trans (vec1 (own_eq c 4 4 _ _ rfl (by omega)))) ?_
  refine unit_assume (chk_all _) ?_
  refine ret_intro ?_
  refine unit_fetch (by omega) rfl rfl ((k0_off116_eq t).trans (vec2 (show _ = 32 * 4 + _ by omega))) rfl ?_
  refine unit_load (by omega) ((k0_off118_eq c t).trans (vec1 (own_eq c 4 4 _ _ rfl (by omega)))) ?_
  refine unit_assume (chk_all _) ?_
  refine unit_fetch (by omega) rfl rfl ((k0_off119_eq t).trans (vec2 (show _ = 32 * 4 + _ by omega))) rfl ?_
  refine unit_load (by omega) ((k0_off121_eq c t).trans (vec1 (own_eq c 4 4 _ _ rfl (by omega)))) ?_
  refine unit_assume (chk_all _) ?_
  refine unit_fetch (by omega) rfl rfl ((k0_off122_eq t).trans (vec2 (show _ = 32 * 4 + _ by omega))) rfl ?_
  refine ret_intro ?_
  iintro H
  isplitr
  · ipureintro; rfl
  · iexact H

/-- The gather loop of chunk 5: eight rows are looked up and counted. -/
theorem gi5 (c : Dev nD) (v2 : BitVec 32) (v5 : BitVec 32) (v8 : BitVec 32) (v9 : BitVec 32) (v11 : BitVec 32) (v14 : BitVec 32) (v161 : BitVec 32)
    (t : Fin k0_t14_loop.trips) :
    GL V c 5 (8 * t.val) ⊢ wp frame (wpE (defs₀ (F := F)) 𝒱₀ c none) Set.univ
      (k0_t14_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v9 v11 v14 v161 t (cntW V c 5 (8 * t.val)))
      fun r => iprop(⌜r = cntW V c 5 (8 * t.val + 8)⌝ ∗ GL V c 5 (8 * t.val + 8)) := by
  have ht : t.val < 4 := t.isLt
  unfold k0_t14_body
  rw [k0_part11_eq_skeleton, wp_bind]; unfold k0_part11_skel
  refine unit_load (by omega) ((k0_off127_eq c t).trans (vec1 (own_eq c 5 5 _ _ rfl (by omega)))) ?_
  refine unit_assume (chk_all _) ?_
  refine unit_fetch (by omega) rfl rfl ((k0_off128_eq t).trans (vec2 (show _ = 32 * 5 + _ by omega))) rfl ?_
  refine unit_load (by omega) ((k0_off130_eq c t).trans (vec1 (own_eq c 5 5 _ _ rfl (by omega)))) ?_
  refine unit_assume (chk_all _) ?_
  refine unit_fetch (by omega) rfl rfl ((k0_off131_eq t).trans (vec2 (show _ = 32 * 5 + _ by omega))) rfl ?_
  refine unit_load (by omega) ((k0_off133_eq c t).trans (vec1 (own_eq c 5 5 _ _ rfl (by omega)))) ?_
  refine unit_assume (chk_all _) ?_
  refine ret_intro ?_
  rw [k0_part12_eq_skeleton, wp_bind]; unfold k0_part12_skel
  refine unit_fetch (by omega) rfl rfl ((k0_off134_eq t).trans (vec2 (show _ = 32 * 5 + _ by omega))) rfl ?_
  refine unit_load (by omega) ((k0_off136_eq c t).trans (vec1 (own_eq c 5 5 _ _ rfl (by omega)))) ?_
  refine unit_assume (chk_all _) ?_
  refine unit_fetch (by omega) rfl rfl ((k0_off137_eq t).trans (vec2 (show _ = 32 * 5 + _ by omega))) rfl ?_
  refine unit_load (by omega) ((k0_off139_eq c t).trans (vec1 (own_eq c 5 5 _ _ rfl (by omega)))) ?_
  refine unit_assume (chk_all _) ?_
  refine unit_fetch (by omega) rfl rfl ((k0_off140_eq t).trans (vec2 (show _ = 32 * 5 + _ by omega))) rfl ?_
  refine unit_load (by omega) ((k0_off142_eq c t).trans (vec1 (own_eq c 5 5 _ _ rfl (by omega)))) ?_
  refine unit_assume (chk_all _) ?_
  refine ret_intro ?_
  refine unit_fetch (by omega) rfl rfl ((k0_off143_eq t).trans (vec2 (show _ = 32 * 5 + _ by omega))) rfl ?_
  refine unit_load (by omega) ((k0_off145_eq c t).trans (vec1 (own_eq c 5 5 _ _ rfl (by omega)))) ?_
  refine unit_assume (chk_all _) ?_
  refine unit_fetch (by omega) rfl rfl ((k0_off146_eq t).trans (vec2 (show _ = 32 * 5 + _ by omega))) rfl ?_
  refine unit_load (by omega) ((k0_off148_eq c t).trans (vec1 (own_eq c 5 5 _ _ rfl (by omega)))) ?_
  refine unit_assume (chk_all _) ?_
  refine unit_fetch (by omega) rfl rfl ((k0_off149_eq t).trans (vec2 (show _ = 32 * 5 + _ by omega))) rfl ?_
  refine ret_intro ?_
  iintro H
  isplitr
  · ipureintro; rfl
  · iexact H

/-- The gather loop of chunk 6: eight rows are looked up and counted. -/
theorem gi6 (c : Dev nD) (v2 : BitVec 32) (v5 : BitVec 32) (v8 : BitVec 32) (v9 : BitVec 32) (v14 : BitVec 32) (v22 : BitVec 32) (v234 : BitVec 32) (k0_hw62 : k0_chk62 v234)
    (t : Fin k0_t17_loop.trips) :
    GL V c 6 (8 * t.val) ⊢ wp frame (wpE (defs₀ (F := F)) 𝒱₀ c none) Set.univ
      (k0_t17_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v9 v14 v22 v234 k0_hw62 t (cntW V c 6 (8 * t.val)))
      fun r => iprop(⌜r = cntW V c 6 (8 * t.val + 8)⌝ ∗ GL V c 6 (8 * t.val + 8)) := by
  have ht : t.val < 4 := t.isLt
  unfold k0_t17_body
  rw [k0_part13_eq_skeleton, wp_bind]; unfold k0_part13_skel
  refine unit_load (by omega) ((k0_off156_eq c t).trans (vec1 (own_eq c 6 6 _ _ rfl (by omega)))) ?_
  refine unit_assume (chk_all _) ?_
  refine unit_fetch (by omega) rfl rfl ((k0_off157_eq t).trans (vec2 (show _ = 32 * 6 + _ by omega))) rfl ?_
  refine unit_load (by omega) ((k0_off159_eq c t).trans (vec1 (own_eq c 6 6 _ _ rfl (by omega)))) ?_
  refine unit_assume (chk_all _) ?_
  refine unit_fetch (by omega) rfl rfl ((k0_off160_eq t).trans (vec2 (show _ = 32 * 6 + _ by omega))) rfl ?_
  refine unit_load (by omega) ((k0_off162_eq c t).trans (vec1 (own_eq c 6 6 _ _ rfl (by omega)))) ?_
  refine unit_assume (chk_all _) ?_
  refine ret_intro ?_
  rw [k0_part14_eq_skeleton, wp_bind]; unfold k0_part14_skel
  refine unit_fetch (by omega) rfl rfl ((k0_off163_eq t).trans (vec2 (show _ = 32 * 6 + _ by omega))) rfl ?_
  refine unit_load (by omega) ((k0_off165_eq c t).trans (vec1 (own_eq c 6 6 _ _ rfl (by omega)))) ?_
  refine unit_assume (chk_all _) ?_
  refine unit_fetch (by omega) rfl rfl ((k0_off166_eq t).trans (vec2 (show _ = 32 * 6 + _ by omega))) rfl ?_
  refine unit_load (by omega) ((k0_off168_eq c t).trans (vec1 (own_eq c 6 6 _ _ rfl (by omega)))) ?_
  refine unit_assume (chk_all _) ?_
  refine unit_fetch (by omega) rfl rfl ((k0_off169_eq t).trans (vec2 (show _ = 32 * 6 + _ by omega))) rfl ?_
  refine unit_load (by omega) ((k0_off171_eq c t).trans (vec1 (own_eq c 6 6 _ _ rfl (by omega)))) ?_
  refine unit_assume (chk_all _) ?_
  refine ret_intro ?_
  refine unit_fetch (by omega) rfl rfl ((k0_off172_eq t).trans (vec2 (show _ = 32 * 6 + _ by omega))) rfl ?_
  refine unit_load (by omega) ((k0_off174_eq c t).trans (vec1 (own_eq c 6 6 _ _ rfl (by omega)))) ?_
  refine unit_assume (chk_all _) ?_
  refine unit_fetch (by omega) rfl rfl ((k0_off175_eq t).trans (vec2 (show _ = 32 * 6 + _ by omega))) rfl ?_
  refine unit_load (by omega) ((k0_off177_eq c t).trans (vec1 (own_eq c 6 6 _ _ rfl (by omega)))) ?_
  refine unit_assume (chk_all _) ?_
  refine unit_fetch (by omega) rfl rfl ((k0_off178_eq t).trans (vec2 (show _ = 32 * 6 + _ by omega))) rfl ?_
  refine ret_intro ?_
  iintro H
  isplitr
  · ipureintro; rfl
  · iexact H

/-- The gather loop of chunk 7: eight rows are looked up and counted. -/
theorem gi7 (c : Dev nD) (v2 : BitVec 32) (v5 : BitVec 32) (v8 : BitVec 32) (v9 : BitVec 32) (v10 : BitVec 32) (v14 : BitVec 32) (v22 : BitVec 32) (v357 : BitVec 32) (k0_hw71 : k0_chk71 v357) (c32_i32_364 : BitVec 32)
    (t : Fin k0_t20_loop.trips) :
    GL V c 7 (8 * t.val) ⊢ wp frame (wpE (defs₀ (F := F)) 𝒱₀ c none) Set.univ
      (k0_t20_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v9 v10 v14 v22 v357 k0_hw71 c32_i32_364 t (cntW V c 7 (8 * t.val)))
      fun r => iprop(⌜r = cntW V c 7 (8 * t.val + 8)⌝ ∗ GL V c 7 (8 * t.val + 8)) := by
  have ht : t.val < 4 := t.isLt
  unfold k0_t20_body
  rw [k0_part15_eq_skeleton, wp_bind]; unfold k0_part15_skel
  refine unit_load (by omega) ((k0_off185_eq c t).trans (vec1 (own_eq c 7 7 _ _ rfl (by omega)))) ?_
  refine unit_assume (chk_all _) ?_
  refine unit_fetch (by omega) rfl rfl ((k0_off186_eq t).trans (vec2 (show _ = 32 * 7 + _ by omega))) rfl ?_
  refine unit_load (by omega) ((k0_off188_eq c t).trans (vec1 (own_eq c 7 7 _ _ rfl (by omega)))) ?_
  refine unit_assume (chk_all _) ?_
  refine unit_fetch (by omega) rfl rfl ((k0_off189_eq t).trans (vec2 (show _ = 32 * 7 + _ by omega))) rfl ?_
  refine unit_load (by omega) ((k0_off191_eq c t).trans (vec1 (own_eq c 7 7 _ _ rfl (by omega)))) ?_
  refine unit_assume (chk_all _) ?_
  refine ret_intro ?_
  rw [k0_part16_eq_skeleton, wp_bind]; unfold k0_part16_skel
  refine unit_fetch (by omega) rfl rfl ((k0_off192_eq t).trans (vec2 (show _ = 32 * 7 + _ by omega))) rfl ?_
  refine unit_load (by omega) ((k0_off194_eq c t).trans (vec1 (own_eq c 7 7 _ _ rfl (by omega)))) ?_
  refine unit_assume (chk_all _) ?_
  refine unit_fetch (by omega) rfl rfl ((k0_off195_eq t).trans (vec2 (show _ = 32 * 7 + _ by omega))) rfl ?_
  refine unit_load (by omega) ((k0_off197_eq c t).trans (vec1 (own_eq c 7 7 _ _ rfl (by omega)))) ?_
  refine unit_assume (chk_all _) ?_
  refine unit_fetch (by omega) rfl rfl ((k0_off198_eq t).trans (vec2 (show _ = 32 * 7 + _ by omega))) rfl ?_
  refine unit_load (by omega) ((k0_off200_eq c t).trans (vec1 (own_eq c 7 7 _ _ rfl (by omega)))) ?_
  refine unit_assume (chk_all _) ?_
  refine ret_intro ?_
  refine unit_fetch (by omega) rfl rfl ((k0_off201_eq t).trans (vec2 (show _ = 32 * 7 + _ by omega))) rfl ?_
  refine unit_load (by omega) ((k0_off203_eq c t).trans (vec1 (own_eq c 7 7 _ _ rfl (by omega)))) ?_
  refine unit_assume (chk_all _) ?_
  refine unit_fetch (by omega) rfl rfl ((k0_off204_eq t).trans (vec2 (show _ = 32 * 7 + _ by omega))) rfl ?_
  refine unit_load (by omega) ((k0_off206_eq c t).trans (vec1 (own_eq c 7 7 _ _ rfl (by omega)))) ?_
  refine unit_assume (chk_all _) ?_
  refine unit_fetch (by omega) rfl rfl ((k0_off207_eq t).trans (vec2 (show _ = 32 * 7 + _ by omega))) rfl ?_
  refine ret_intro ?_
  iintro H
  isplitr
  · ipureintro; rfl
  · iexact H

end Cert.KernelIdeal.Lookup
-- ==== Proof.Loop2.lean ====
/-
  The gather loops of chunks 8 to 11.
-/
module

public import proofs.«01_k».proof.Proof.Loop0

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)
/-- The gather loop of chunk 8: eight rows are looked up and counted. -/
theorem gi8 (c : Dev nD) (v2 : BitVec 32) (v5 : BitVec 32) (v8 : BitVec 32) (v9 : BitVec 32) (v10 : BitVec 32) (v14 : BitVec 32) (v480 : BitVec 32) (k0_hw80 : k0_chk80 v480)
    (t : Fin k0_t23_loop.trips) :
    GL V c 8 (8 * t.val) ⊢ wp frame (wpE (defs₀ (F := F)) 𝒱₀ c none) Set.univ
      (k0_t23_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v9 v10 v14 v480 k0_hw80 t (cntW V c 8 (8 * t.val)))
      fun r => iprop(⌜r = cntW V c 8 (8 * t.val + 8)⌝ ∗ GL V c 8 (8 * t.val + 8)) := by
  have ht : t.val < 4 := t.isLt
  unfold k0_t23_body
  rw [k0_part17_eq_skeleton, wp_bind]; unfold k0_part17_skel
  refine unit_load (by omega) ((k0_off214_eq c t).trans (vec1 (own_eq c 8 8 _ _ rfl (by omega)))) ?_
  refine unit_assume (chk_all _) ?_
  refine unit_fetch (by omega) rfl rfl ((k0_off215_eq t).trans (vec2 (show _ = 32 * 8 + _ by omega))) rfl ?_
  refine unit_load (by omega) ((k0_off217_eq c t).trans (vec1 (own_eq c 8 8 _ _ rfl (by omega)))) ?_
  refine unit_assume (chk_all _) ?_
  refine unit_fetch (by omega) rfl rfl ((k0_off218_eq t).trans (vec2 (show _ = 32 * 8 + _ by omega))) rfl ?_
  refine unit_load (by omega) ((k0_off220_eq c t).trans (vec1 (own_eq c 8 8 _ _ rfl (by omega)))) ?_
  refine unit_assume (chk_all _) ?_
  refine ret_intro ?_
  rw [k0_part18_eq_skeleton, wp_bind]; unfold k0_part18_skel
  refine unit_fetch (by omega) rfl rfl ((k0_off221_eq t).trans (vec2 (show _ = 32 * 8 + _ by omega))) rfl ?_
  refine unit_load (by omega) ((k0_off223_eq c t).trans (vec1 (own_eq c 8 8 _ _ rfl (by omega)))) ?_
  refine unit_assume (chk_all _) ?_
  refine unit_fetch (by omega) rfl rfl ((k0_off224_eq t).trans (vec2 (show _ = 32 * 8 + _ by omega))) rfl ?_
  refine unit_load (by omega) ((k0_off226_eq c t).trans (vec1 (own_eq c 8 8 _ _ rfl (by omega)))) ?_
  refine unit_assume (chk_all _) ?_
  refine unit_fetch (by omega) rfl rfl ((k0_off227_eq t).trans (vec2 (show _ = 32 * 8 + _ by omega))) rfl ?_
  refine unit_load (by omega) ((k0_off229_eq c t).trans (vec1 (own_eq c 8 8 _ _ rfl (by omega)))) ?_
  refine unit_assume (chk_all _) ?_
  refine ret_intro ?_
  refine unit_fetch (by omega) rfl rfl ((k0_off230_eq t).trans (vec2 (show _ = 32 * 8 + _ by omega))) rfl ?_
  refine unit_load (by omega) ((k0_off232_eq c t).trans (vec1 (own_eq c 8 8 _ _ rfl (by omega)))) ?_
  refine unit_assume (chk_all _) ?_
  refine unit_fetch (by omega) rfl rfl ((k0_off233_eq t).trans (vec2 (show _ = 32 * 8 + _ by omega))) rfl ?_
  refine unit_load (by omega) ((k0_off235_eq c t).trans (vec1 (own_eq c 8 8 _ _ rfl (by omega)))) ?_
  refine unit_assume (chk_all _) ?_
  refine unit_fetch (by omega) rfl rfl ((k0_off236_eq t).trans (vec2 (show _ = 32 * 8 + _ by omega))) rfl ?_
  refine ret_intro ?_
  iintro H
  isplitr
  · ipureintro; rfl
  · iexact H

/-- The gather loop of chunk 9: eight rows are looked up and counted. -/
theorem gi9 (c : Dev nD) (v2 : BitVec 32) (v8 : BitVec 32) (v10 : BitVec 32) (v14 : BitVec 32) (v603 : BitVec 32) (k0_hw89 : k0_chk89 v603) (v716 : BitVec 32)
    (t : Fin k0_t26_loop.trips) :
    GL V c 9 (8 * t.val) ⊢ wp frame (wpE (defs₀ (F := F)) 𝒱₀ c none) Set.univ
      (k0_t26_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v8 v10 v14 v603 k0_hw89 v716 t (cntW V c 9 (8 * t.val)))
      fun r => iprop(⌜r = cntW V c 9 (8 * t.val + 8)⌝ ∗ GL V c 9 (8 * t.val + 8)) := by
  have ht : t.val < 4 := t.isLt
  unfold k0_t26_body
  rw [k0_part19_eq_skeleton, wp_bind]; unfold k0_part19_skel
  refine unit_load (by omega) ((k0_off243_eq c t).trans (vec1 (own_eq c 9 9 _ _ rfl (by omega)))) ?_
  refine unit_assume (chk_all _) ?_
  refine unit_fetch (by omega) rfl rfl ((k0_off244_eq t).trans (vec2 (show _ = 32 * 9 + _ by omega))) rfl ?_
  refine unit_load (by omega) ((k0_off246_eq c t).trans (vec1 (own_eq c 9 9 _ _ rfl (by omega)))) ?_
  refine unit_assume (chk_all _) ?_
  refine unit_fetch (by omega) rfl rfl ((k0_off247_eq t).trans (vec2 (show _ = 32 * 9 + _ by omega))) rfl ?_
  refine unit_load (by omega) ((k0_off249_eq c t).trans (vec1 (own_eq c 9 9 _ _ rfl (by omega)))) ?_
  refine unit_assume (chk_all _) ?_
  refine ret_intro ?_
  rw [k0_part20_eq_skeleton, wp_bind]; unfold k0_part20_skel
  refine unit_fetch (by omega) rfl rfl ((k0_off250_eq t).trans (vec2 (show _ = 32 * 9 + _ by omega))) rfl ?_
  refine unit_load (by omega) ((k0_off252_eq c t).trans (vec1 (own_eq c 9 9 _ _ rfl (by omega)))) ?_
  refine unit_assume (chk_all _) ?_
  refine unit_fetch (by omega) rfl rfl ((k0_off253_eq t).trans (vec2 (show _ = 32 * 9 + _ by omega))) rfl ?_
  refine unit_load (by omega) ((k0_off255_eq c t).trans (vec1 (own_eq c 9 9 _ _ rfl (by omega)))) ?_
  refine unit_assume (chk_all _) ?_
  refine unit_fetch (by omega) rfl rfl ((k0_off256_eq t).trans (vec2 (show _ = 32 * 9 + _ by omega))) rfl ?_
  refine unit_load (by omega) ((k0_off258_eq c t).trans (vec1 (own_eq c 9 9 _ _ rfl (by omega)))) ?_
  refine unit_assume (chk_all _) ?_
  refine ret_intro ?_
  refine unit_fetch (by omega) rfl rfl ((k0_off259_eq t).trans (vec2 (show _ = 32 * 9 + _ by omega))) rfl ?_
  refine unit_load (by omega) ((k0_off261_eq c t).trans (vec1 (own_eq c 9 9 _ _ rfl (by omega)))) ?_
  refine unit_assume (chk_all _) ?_
  refine unit_fetch (by omega) rfl rfl ((k0_off262_eq t).trans (vec2 (show _ = 32 * 9 + _ by omega))) rfl ?_
  refine unit_load (by omega) ((k0_off264_eq c t).trans (vec1 (own_eq c 9 9 _ _ rfl (by omega)))) ?_
  refine unit_assume (chk_all _) ?_
  refine unit_fetch (by omega) rfl rfl ((k0_off265_eq t).trans (vec2 (show _ = 32 * 9 + _ by omega))) rfl ?_
  refine ret_intro ?_
  iintro H
  isplitr
  · ipureintro; rfl
  · iexact H

/-- The gather loop of chunk 10: eight rows are looked up and counted. -/
theorem gi10 (c : Dev nD) (v2 : BitVec 32) (v8 : BitVec 32) (v10 : BitVec 32) (v14 : BitVec 32) (v726 : BitVec 32) (k0_hw98 : k0_chk98 v726)
    (t : Fin k0_t29_loop.trips) :
    GL V c 10 (8 * t.val) ⊢ wp frame (wpE (defs₀ (F := F)) 𝒱₀ c none) Set.univ
      (k0_t29_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v8 v10 v14 v726 k0_hw98 t (cntW V c 10 (8 * t.val)))
      fun r => iprop(⌜r = cntW V c 10 (8 * t.val + 8)⌝ ∗ GL V c 10 (8 * t.val + 8)) := by
  have ht : t.val < 4 := t.isLt
  unfold k0_t29_body
  rw [k0_part21_eq_skeleton, wp_bind]; unfold k0_part21_skel
  refine unit_load (by omega) ((k0_off272_eq c t).trans (vec1 (own_eq c 10 10 _ _ rfl (by omega)))) ?_
  refine unit_assume (chk_all _) ?_
  refine unit_fetch (by omega) rfl rfl ((k0_off273_eq t).trans (vec2 (show _ = 32 * 10 + _ by omega))) rfl ?_
  refine unit_load (by omega) ((k0_off275_eq c t).trans (vec1 (own_eq c 10 10 _ _ rfl (by omega)))) ?_
  refine unit_assume (chk_all _) ?_
  refine unit_fetch (by omega) rfl rfl ((k0_off276_eq t).trans (vec2 (show _ = 32 * 10 + _ by omega))) rfl ?_
  refine unit_load (by omega) ((k0_off278_eq c t).trans (vec1 (own_eq c 10 10 _ _ rfl (by omega)))) ?_
  refine unit_assume (chk_all _) ?_
  refine ret_intro ?_
  rw [k0_part22_eq_skeleton, wp_bind]; unfold k0_part22_skel
  refine unit_fetch (by omega) rfl rfl ((k0_off279_eq t).trans (vec2 (show _ = 32 * 10 + _ by omega))) rfl ?_
  refine unit_load (by omega) ((k0_off281_eq c t).trans (vec1 (own_eq c 10 10 _ _ rfl (by omega)))) ?_
  refine unit_assume (chk_all _) ?_
  refine unit_fetch (by omega) rfl rfl ((k0_off282_eq t).trans (vec2 (show _ = 32 * 10 + _ by omega))) rfl ?_
  refine unit_load (by omega) ((k0_off284_eq c t).trans (vec1 (own_eq c 10 10 _ _ rfl (by omega)))) ?_
  refine unit_assume (chk_all _) ?_
  refine unit_fetch (by omega) rfl rfl ((k0_off285_eq t).trans (vec2 (show _ = 32 * 10 + _ by omega))) rfl ?_
  refine unit_load (by omega) ((k0_off287_eq c t).trans (vec1 (own_eq c 10 10 _ _ rfl (by omega)))) ?_
  refine unit_assume (chk_all _) ?_
  refine ret_intro ?_
  refine unit_fetch (by omega) rfl rfl ((k0_off288_eq t).trans (vec2 (show _ = 32 * 10 + _ by omega))) rfl ?_
  refine unit_load (by omega) ((k0_off290_eq c t).trans (vec1 (own_eq c 10 10 _ _ rfl (by omega)))) ?_
  refine unit_assume (chk_all _) ?_
  refine unit_fetch (by omega) rfl rfl ((k0_off291_eq t).trans (vec2 (show _ = 32 * 10 + _ by omega))) rfl ?_
  refine unit_load (by omega) ((k0_off293_eq c t).trans (vec1 (own_eq c 10 10 _ _ rfl (by omega)))) ?_
  refine unit_assume (chk_all _) ?_
  refine unit_fetch (by omega) rfl rfl ((k0_off294_eq t).trans (vec2 (show _ = 32 * 10 + _ by omega))) rfl ?_
  refine ret_intro ?_
  iintro H
  isplitr
  · ipureintro; rfl
  · iexact H

/-- The gather loop of chunk 11: eight rows are looked up and counted. -/
theorem gi11 (c : Dev nD) (v2 : BitVec 32) (v8 : BitVec 32) (v10 : BitVec 32) (v14 : BitVec 32) (v849 : BitVec 32) (k0_hw107 : k0_chk107 v849) (c0_i32_752 : BitVec 32) (c0_i32_753 : BitVec 32)
    (t : Fin k0_t32_loop.trips) :
    GL V c 11 (8 * t.val) ⊢ wp frame (wpE (defs₀ (F := F)) 𝒱₀ c none) Set.univ
      (k0_t32_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v8 v10 v14 v849 k0_hw107 c0_i32_752 c0_i32_753 t (cntW V c 11 (8 * t.val)))
      fun r => iprop(⌜r = cntW V c 11 (8 * t.val + 8)⌝ ∗ GL V c 11 (8 * t.val + 8)) := by
  have ht : t.val < 4 := t.isLt
  unfold k0_t32_body
  rw [k0_part23_eq_skeleton, wp_bind]; unfold k0_part23_skel
  refine unit_load (by omega) ((k0_off301_eq c t).trans (vec1 (own_eq c 11 11 _ _ rfl (by omega)))) ?_
  refine unit_assume (chk_all _) ?_
  refine unit_fetch (by omega) rfl rfl ((k0_off302_eq t).trans (vec2 (show _ = 32 * 11 + _ by omega))) rfl ?_
  refine unit_load (by omega) ((k0_off304_eq c t).trans (vec1 (own_eq c 11 11 _ _ rfl (by omega)))) ?_
  refine unit_assume (chk_all _) ?_
  refine unit_fetch (by omega) rfl rfl ((k0_off305_eq t).trans (vec2 (show _ = 32 * 11 + _ by omega))) rfl ?_
  refine unit_load (by omega) ((k0_off307_eq c t).trans (vec1 (own_eq c 11 11 _ _ rfl (by omega)))) ?_
  refine unit_assume (chk_all _) ?_
  refine ret_intro ?_
  rw [k0_part24_eq_skeleton, wp_bind]; unfold k0_part24_skel
  refine unit_fetch (by omega) rfl rfl ((k0_off308_eq t).trans (vec2 (show _ = 32 * 11 + _ by omega))) rfl ?_
  refine unit_load (by omega) ((k0_off310_eq c t).trans (vec1 (own_eq c 11 11 _ _ rfl (by omega)))) ?_
  refine unit_assume (chk_all _) ?_
  refine unit_fetch (by omega) rfl rfl ((k0_off311_eq t).trans (vec2 (show _ = 32 * 11 + _ by omega))) rfl ?_
  refine unit_load (by omega) ((k0_off313_eq c t).trans (vec1 (own_eq c 11 11 _ _ rfl (by omega)))) ?_
  refine unit_assume (chk_all _) ?_
  refine unit_fetch (by omega) rfl rfl ((k0_off314_eq t).trans (vec2 (show _ = 32 * 11 + _ by omega))) rfl ?_
  refine unit_load (by omega) ((k0_off316_eq c t).trans (vec1 (own_eq c 11 11 _ _ rfl (by omega)))) ?_
  refine unit_assume (chk_all _) ?_
  refine ret_intro ?_
  refine unit_fetch (by omega) rfl rfl ((k0_off317_eq t).trans (vec2 (show _ = 32 * 11 + _ by omega))) rfl ?_
  refine unit_load (by omega) ((k0_off319_eq c t).trans (vec1 (own_eq c 11 11 _ _ rfl (by omega)))) ?_
  refine unit_assume (chk_all _) ?_
  refine unit_fetch (by omega) rfl rfl ((k0_off320_eq t).trans (vec2 (show _ = 32 * 11 + _ by omega))) rfl ?_
  refine unit_load (by omega) ((k0_off322_eq c t).trans (vec1 (own_eq c 11 11 _ _ rfl (by omega)))) ?_
  refine unit_assume (chk_all _) ?_
  refine unit_fetch (by omega) rfl rfl ((k0_off323_eq t).trans (vec2 (show _ = 32 * 11 + _ by omega))) rfl ?_
  refine ret_intro ?_
  iintro H
  isplitr
  · ipureintro; rfl
  · iexact H

end Cert.KernelIdeal.Lookup
-- ==== Proof.Loop3.lean ====
/-
  The gather loops of chunks 12 to 15.
-/
module

public import proofs.«01_k».proof.Proof.Loop0

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)
/-- The gather loop of chunk 12: eight rows are looked up and counted. -/
theorem gi12 (c : Dev nD) (v2 : BitVec 32) (v5 : BitVec 32) (v8 : BitVec 32) (v9 : BitVec 32) (v11 : BitVec 32) (v14 : BitVec 32) (v22 : BitVec 32) (v972 : BitVec 32)
    (t : Fin k0_t35_loop.trips) :
    GL V c 12 (8 * t.val) ⊢ wp frame (wpE (defs₀ (F := F)) 𝒱₀ c none) Set.univ
      (k0_t35_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v9 v11 v14 v22 v972 t (cntW V c 12 (8 * t.val)))
      fun r => iprop(⌜r = cntW V c 12 (8 * t.val + 8)⌝ ∗ GL V c 12 (8 * t.val + 8)) := by
  have ht : t.val < 4 := t.isLt
  unfold k0_t35_body
  rw [k0_part25_eq_skeleton, wp_bind]; unfold k0_part25_skel
  refine unit_load (by omega) ((k0_off330_eq c t).trans (vec1 (own_eq c 12 12 _ _ rfl (by omega)))) ?_
  refine unit_assume (chk_all _) ?_
  refine unit_fetch (by omega) rfl rfl ((k0_off331_eq t).trans (vec2 (show _ = 32 * 12 + _ by omega))) rfl ?_
  refine unit_load (by omega) ((k0_off333_eq c t).trans (vec1 (own_eq c 12 12 _ _ rfl (by omega)))) ?_
  refine unit_assume (chk_all _) ?_
  refine unit_fetch (by omega) rfl rfl ((k0_off334_eq t).trans (vec2 (show _ = 32 * 12 + _ by omega))) rfl ?_
  refine unit_load (by omega) ((k0_off336_eq c t).trans (vec1 (own_eq c 12 12 _ _ rfl (by omega)))) ?_
  refine unit_assume (chk_all _) ?_
  refine ret_intro ?_
  rw [k0_part26_eq_skeleton, wp_bind]; unfold k0_part26_skel
  refine unit_fetch (by omega) rfl rfl ((k0_off337_eq t).trans (vec2 (show _ = 32 * 12 + _ by omega))) rfl ?_
  refine unit_load (by omega) ((k0_off339_eq c t).trans (vec1 (own_eq c 12 12 _ _ rfl (by omega)))) ?_
  refine unit_assume (chk_all _) ?_
  refine unit_fetch (by omega) rfl rfl ((k0_off340_eq t).trans (vec2 (show _ = 32 * 12 + _ by omega))) rfl ?_
  refine unit_load (by omega) ((k0_off342_eq c t).trans (vec1 (own_eq c 12 12 _ _ rfl (by omega)))) ?_
  refine unit_assume (chk_all _) ?_
  refine unit_fetch (by omega) rfl rfl ((k0_off343_eq t).trans (vec2 (show _ = 32 * 12 + _ by omega))) rfl ?_
  refine unit_load (by omega) ((k0_off345_eq c t).trans (vec1 (own_eq c 12 12 _ _ rfl (by omega)))) ?_
  refine unit_assume (chk_all _) ?_
  refine ret_intro ?_
  refine unit_fetch (by omega) rfl rfl ((k0_off346_eq t).trans (vec2 (show _ = 32 * 12 + _ by omega))) rfl ?_
  refine unit_load (by omega) ((k0_off348_eq c t).trans (vec1 (own_eq c 12 12 _ _ rfl (by omega)))) ?_
  refine unit_assume (chk_all _) ?_
  refine unit_fetch (by omega) rfl rfl ((k0_off349_eq t).trans (vec2 (show _ = 32 * 12 + _ by omega))) rfl ?_
  refine unit_load (by omega) ((k0_off351_eq c t).trans (vec1 (own_eq c 12 12 _ _ rfl (by omega)))) ?_
  refine unit_assume (chk_all _) ?_
  refine unit_fetch (by omega) rfl rfl ((k0_off352_eq t).trans (vec2 (show _ = 32 * 12 + _ by omega))) rfl ?_
  refine ret_intro ?_
  iintro H
  isplitr
  · ipureintro; rfl
  · iexact H

/-- The gather loop of chunk 13: eight rows are looked up and counted. -/
theorem gi13 (c : Dev nD) (v5 : BitVec 32) (v8 : BitVec 32) (v9 : BitVec 32) (v11 : BitVec 32) (v14 : BitVec 32) (v22 : BitVec 32) (v1095 : BitVec 32) (k0_hw125 : k0_chk125 v1095) (v1192 : BitVec 32) (v1193 : BitVec 32)
    (t : Fin k0_t38_loop.trips) :
    GL V c 13 (8 * t.val) ⊢ wp frame (wpE (defs₀ (F := F)) 𝒱₀ c none) Set.univ
      (k0_t38_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v5 v8 v9 v11 v14 v22 v1095 k0_hw125 v1192 v1193 t (cntW V c 13 (8 * t.val)))
      fun r => iprop(⌜r = cntW V c 13 (8 * t.val + 8)⌝ ∗ GL V c 13 (8 * t.val + 8)) := by
  have ht : t.val < 4 := t.isLt
  unfold k0_t38_body
  rw [k0_part27_eq_skeleton, wp_bind]; unfold k0_part27_skel
  refine unit_load (by omega) ((k0_off359_eq c t).trans (vec1 (own_eq c 13 13 _ _ rfl (by omega)))) ?_
  refine unit_assume (chk_all _) ?_
  refine unit_fetch (by omega) rfl rfl ((k0_off360_eq t).trans (vec2 (show _ = 32 * 13 + _ by omega))) rfl ?_
  refine unit_load (by omega) ((k0_off362_eq c t).trans (vec1 (own_eq c 13 13 _ _ rfl (by omega)))) ?_
  refine unit_assume (chk_all _) ?_
  refine unit_fetch (by omega) rfl rfl ((k0_off363_eq t).trans (vec2 (show _ = 32 * 13 + _ by omega))) rfl ?_
  refine unit_load (by omega) ((k0_off365_eq c t).trans (vec1 (own_eq c 13 13 _ _ rfl (by omega)))) ?_
  refine unit_assume (chk_all _) ?_
  refine ret_intro ?_
  rw [k0_part28_eq_skeleton, wp_bind]; unfold k0_part28_skel
  refine unit_fetch (by omega) rfl rfl ((k0_off366_eq t).trans (vec2 (show _ = 32 * 13 + _ by omega))) rfl ?_
  refine unit_load (by omega) ((k0_off368_eq c t).trans (vec1 (own_eq c 13 13 _ _ rfl (by omega)))) ?_
  refine unit_assume (chk_all _) ?_
  refine unit_fetch (by omega) rfl rfl ((k0_off369_eq t).trans (vec2 (show _ = 32 * 13 + _ by omega))) rfl ?_
  refine unit_load (by omega) ((k0_off371_eq c t).trans (vec1 (own_eq c 13 13 _ _ rfl (by omega)))) ?_
  refine unit_assume (chk_all _) ?_
  refine unit_fetch (by omega) rfl rfl ((k0_off372_eq t).trans (vec2 (show _ = 32 * 13 + _ by omega))) rfl ?_
  refine unit_load (by omega) ((k0_off374_eq c t).trans (vec1 (own_eq c 13 13 _ _ rfl (by omega)))) ?_
  refine unit_assume (chk_all _) ?_
  refine ret_intro ?_
  refine unit_fetch (by omega) rfl rfl ((k0_off375_eq t).trans (vec2 (show _ = 32 * 13 + _ by omega))) rfl ?_
  refine unit_load (by omega) ((k0_off377_eq c t).trans (vec1 (own_eq c 13 13 _ _ rfl (by omega)))) ?_
  refine unit_assume (chk_all _) ?_
  refine unit_fetch (by omega) rfl rfl ((k0_off378_eq t).trans (vec2 (show _ = 32 * 13 + _ by omega))) rfl ?_
  refine unit_load (by omega) ((k0_off380_eq c t).trans (vec1 (own_eq c 13 13 _ _ rfl (by omega)))) ?_
  refine unit_assume (chk_all _) ?_
  refine unit_fetch (by omega) rfl rfl ((k0_off381_eq t).trans (vec2 (show _ = 32 * 13 + _ by omega))) rfl ?_
  refine ret_intro ?_
  iintro H
  isplitr
  · ipureintro; rfl
  · iexact H

/-- The gather loop of chunk 14: eight rows are looked up and counted. -/
theorem gi14 (c : Dev nD) (v2 : BitVec 32) (v5 : BitVec 32) (v8 : BitVec 32) (v9 : BitVec 32) (v10 : BitVec 32) (v14 : BitVec 32) (v22 : BitVec 32) (v1218 : BitVec 32) (k0_hw134 : k0_chk134 v1218)
    (t : Fin k0_t41_loop.trips) :
    GL V c 14 (8 * t.val) ⊢ wp frame (wpE (defs₀ (F := F)) 𝒱₀ c none) Set.univ
      (k0_t41_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v9 v10 v14 v22 v1218 k0_hw134 t (cntW V c 14 (8 * t.val)))
      fun r => iprop(⌜r = cntW V c 14 (8 * t.val + 8)⌝ ∗ GL V c 14 (8 * t.val + 8)) := by
  have ht : t.val < 4 := t.isLt
  unfold k0_t41_body
  rw [k0_part29_eq_skeleton, wp_bind]; unfold k0_part29_skel
  refine unit_load (by omega) ((k0_off388_eq c t).trans (vec1 (own_eq c 14 14 _ _ rfl (by omega)))) ?_
  refine unit_assume (chk_all _) ?_
  refine unit_fetch (by omega) rfl rfl ((k0_off389_eq t).trans (vec2 (show _ = 32 * 14 + _ by omega))) rfl ?_
  refine unit_load (by omega) ((k0_off391_eq c t).trans (vec1 (own_eq c 14 14 _ _ rfl (by omega)))) ?_
  refine unit_assume (chk_all _) ?_
  refine unit_fetch (by omega) rfl rfl ((k0_off392_eq t).trans (vec2 (show _ = 32 * 14 + _ by omega))) rfl ?_
  refine unit_load (by omega) ((k0_off394_eq c t).trans (vec1 (own_eq c 14 14 _ _ rfl (by omega)))) ?_
  refine unit_assume (chk_all _) ?_
  refine ret_intro ?_
  rw [k0_part30_eq_skeleton, wp_bind]; unfold k0_part30_skel
  refine unit_fetch (by omega) rfl rfl ((k0_off395_eq t).trans (vec2 (show _ = 32 * 14 + _ by omega))) rfl ?_
  refine unit_load (by omega) ((k0_off397_eq c t).trans (vec1 (own_eq c 14 14 _ _ rfl (by omega)))) ?_
  refine unit_assume (chk_all _) ?_
  refine unit_fetch (by omega) rfl rfl ((k0_off398_eq t).trans (vec2 (show _ = 32 * 14 + _ by omega))) rfl ?_
  refine unit_load (by omega) ((k0_off400_eq c t).trans (vec1 (own_eq c 14 14 _ _ rfl (by omega)))) ?_
  refine unit_assume (chk_all _) ?_
  refine unit_fetch (by omega) rfl rfl ((k0_off401_eq t).trans (vec2 (show _ = 32 * 14 + _ by omega))) rfl ?_
  refine unit_load (by omega) ((k0_off403_eq c t).trans (vec1 (own_eq c 14 14 _ _ rfl (by omega)))) ?_
  refine unit_assume (chk_all _) ?_
  refine ret_intro ?_
  refine unit_fetch (by omega) rfl rfl ((k0_off404_eq t).trans (vec2 (show _ = 32 * 14 + _ by omega))) rfl ?_
  refine unit_load (by omega) ((k0_off406_eq c t).trans (vec1 (own_eq c 14 14 _ _ rfl (by omega)))) ?_
  refine unit_assume (chk_all _) ?_
  refine unit_fetch (by omega) rfl rfl ((k0_off407_eq t).trans (vec2 (show _ = 32 * 14 + _ by omega))) rfl ?_
  refine unit_load (by omega) ((k0_off409_eq c t).trans (vec1 (own_eq c 14 14 _ _ rfl (by omega)))) ?_
  refine unit_assume (chk_all _) ?_
  refine unit_fetch (by omega) rfl rfl ((k0_off410_eq t).trans (vec2 (show _ = 32 * 14 + _ by omega))) rfl ?_
  refine ret_intro ?_
  iintro H
  isplitr
  · ipureintro; rfl
  · iexact H

/-- The gather loop of chunk 15: eight rows are looked up and counted. -/
theorem gi15 (c : Dev nD) (v2 : BitVec 32) (v5 : BitVec 32) (v8 : BitVec 32) (v9 : BitVec 32) (v10 : BitVec 32) (v14 : BitVec 32) (v22 : BitVec 32) (v1341 : BitVec 32) (k0_hw143 : k0_chk143 v1341) (c288_i32_1118 : BitVec 32)
    (t : Fin k0_t44_loop.trips) :
    GL V c 15 (8 * t.val) ⊢ wp frame (wpE (defs₀ (F := F)) 𝒱₀ c none) Set.univ
      (k0_t44_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
        c v2 v5 v8 v9 v10 v14 v22 v1341 k0_hw143 c288_i32_1118 t (cntW V c 15 (8 * t.val)))
      fun r => iprop(⌜r = cntW V c 15 (8 * t.val + 8)⌝ ∗ GL V c 15 (8 * t.val + 8)) := by
  have ht : t.val < 4 := t.isLt
  unfold k0_t44_body
  rw [k0_part31_eq_skeleton, wp_bind]; unfold k0_part31_skel
  refine unit_load (by omega) ((k0_off417_eq c t).trans (vec1 (own_eq c 15 15 _ _ rfl (by omega)))) ?_
  refine unit_assume (chk_all _) ?_
  refine unit_fetch (by omega) rfl rfl ((k0_off418_eq t).trans (vec2 (show _ = 32 * 15 + _ by omega))) rfl ?_
  refine unit_load (by omega) ((k0_off420_eq c t).trans (vec1 (own_eq c 15 15 _ _ rfl (by omega)))) ?_
  refine unit_assume (chk_all _) ?_
  refine unit_fetch (by omega) rfl rfl ((k0_off421_eq t).trans (vec2 (show _ = 32 * 15 + _ by omega))) rfl ?_
  refine unit_load (by omega) ((k0_off423_eq c t).trans (vec1 (own_eq c 15 15 _ _ rfl (by omega)))) ?_
  refine unit_assume (chk_all _) ?_
  refine ret_intro ?_
  rw [k0_part32_eq_skeleton, wp_bind]; unfold k0_part32_skel
  refine unit_fetch (by omega) rfl rfl ((k0_off424_eq t).trans (vec2 (show _ = 32 * 15 + _ by omega))) rfl ?_
  refine unit_load (by omega) ((k0_off426_eq c t).trans (vec1 (own_eq c 15 15 _ _ rfl (by omega)))) ?_
  refine unit_assume (chk_all _) ?_
  refine unit_fetch (by omega) rfl rfl ((k0_off427_eq t).trans (vec2 (show _ = 32 * 15 + _ by omega))) rfl ?_
  refine unit_load (by omega) ((k0_off429_eq c t).trans (vec1 (own_eq c 15 15 _ _ rfl (by omega)))) ?_
  refine unit_assume (chk_all _) ?_
  refine unit_fetch (by omega) rfl rfl ((k0_off430_eq t).trans (vec2 (show _ = 32 * 15 + _ by omega))) rfl ?_
  refine unit_load (by omega) ((k0_off432_eq c t).trans (vec1 (own_eq c 15 15 _ _ rfl (by omega)))) ?_
  refine unit_assume (chk_all _) ?_
  refine ret_intro ?_
  refine unit_fetch (by omega) rfl rfl ((k0_off433_eq t).trans (vec2 (show _ = 32 * 15 + _ by omega))) rfl ?_
  refine unit_load (by omega) ((k0_off435_eq c t).trans (vec1 (own_eq c 15 15 _ _ rfl (by omega)))) ?_
  refine unit_assume (chk_all _) ?_
  refine unit_fetch (by omega) rfl rfl ((k0_off436_eq t).trans (vec2 (show _ = 32 * 15 + _ by omega))) rfl ?_
  refine unit_load (by omega) ((k0_off438_eq c t).trans (vec1 (own_eq c 15 15 _ _ rfl (by omega)))) ?_
  refine unit_assume (chk_all _) ?_
  refine unit_fetch (by omega) rfl rfl ((k0_off439_eq t).trans (vec2 (show _ = 32 * 15 + _ by omega))) rfl ?_
  refine ret_intro ?_
  iintro H
  isplitr
  · ipureintro; rfl
  · iexact H

end Cert.KernelIdeal.Lookup
-- ==== Proof.Select.lean ====
/-
  The choice by the mask: what is loaded, and what is stored of it.
-/
module

public import proofs.«01_k».proof.Proof.Steps
public import Idealize.ShloMosaic.Lib.Pipeline.Value

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)

/-- What a device holds of a chunk, taken out and put back. -/
theorem St_get {K : GSem nD τ sig → ℕ} {c : Dev nD} {n : ℕ} (hn : n < 288) {k : Fin 16} {j : ℕ} (h : act n = (k, j)) (x : Res)
    (hx : x ∈ active j) : St V K c n ⊢ iprop(res V c k x ∗ (res V c k x -∗ St V K c n)) := by
  have hp : ph n k = j := by have := ph_act ⟨n, hn⟩; dsimp only at this; rw [h] at this; exact this
  have e1 : (bigSep Finset.univ fun k => Ph V c (ph n k) k) = iprop((res V c k x ∗ bigSep ((active j).erase x) (res V c k))
      ∗ bigSep (Finset.univ.erase k) fun k => Ph V c (ph n k) k) := by
    rw [bigSep_out (Finset.mem_univ k)]
    congr 1
    unfold Ph
    rw [hp]
    exact bigSep_out hx _
  unfold St
  rw [e1]
  iintro ⟨#HK, #Hl, HO, Hr, ⟨HA, HC⟩, HE⟩
  isplitl [HA]; · iexact HA
  iintro HA
  isplitr; · iexact HK
  isplitr; · iexact Hl
  isplitl [HO]; · iexact HO
  isplitl [Hr]; · iexact Hr
  isplitr [HE]
  · isplitl [HA] <;> iassumption
  · iexact HE

theorem St_reads {K : GSem nD τ sig → ℕ} {c : Dev nD} {n : ℕ} : St V K c n ⊢ iprop(reads V c ∗ (reads V c -∗ St V K c n)) := by
  unfold St
  iintro ⟨#HK, #Hl, HO, Hr, HE⟩
  isplitl [Hr]; · iexact Hr
  iintro Hr
  isplitr; · iexact HK
  isplitr; · iexact Hl
  isplitl [HO]; · iexact HO
  isplitl [Hr]; · iexact Hr
  iexact HE

/-! ## What is loaded for the choice -/

def FM (c : Dev nD) (k : Fin 16) (m : Vec F S32x1 .f32) : Prop :=
  ∀ (x : S32x1.Idx) (i : S2048x1.Idx), (i 0).val = ownR c k + (x 0).val → m x = V.msk c i
def FG (d : Dev nD) (k : Fin 16) (g : Vec F S32x1024 .f32) : Prop :=
  ∀ x : S32x1024.Idx, GOK V d (32 * k.val + (x 0).val) (x 1).val (g x)

section Loads

variable {V} {K : GSem nD τ sig → ℕ} {c : Dev nD} {n : ℕ} {k : Fin 16}

theorem load_M {α : Type} {Q : α → sProp 𝕄} {off : Fin 2 → ℕ} {inb} (ho : off = ![ownR c k, 0]) {hl}
    {Kt : Vec F S32x1 .f32 → Prog (TpuEff nD τ sig (Elt F) Λ₀ .tc) α}
    (hK : ∀ m, FM V c k m → St V K c n ⊢ wp frame (wpE (defs₀ (F := F)) 𝒱₀ c none) Set.univ (Kt m) Q) :
    St V K c n ⊢ wp frame (wpE (defs₀ (F := F)) 𝒱₀ c none) Set.univ
      (Prog.lift (TpuEff.load (p := .tc) mMsk (Rect.unit (s := S2048x1) off S32x1.size inb).toLoadRect hl) >>= Kt) Q := by
  subst ho
  refine (St_reads V).trans ?_
  unfold reads
  change _ ⊢ wp frame (wpE (defs₀ (F := F)) 𝒱₀ c none) Set.univ
    (.op (TpuEff.load (p := .tc) mMsk (Rect.unit (s := S2048x1) ![ownR c k, 0] S32x1.size inb).toLoadRect hl) fun y => Kt y) _
  iintro ⟨⟨H1, H2, H3⟩, Hb⟩
  iapply (wp_load_rect (m := mMsk) (r := Rect.unit (s := S2048x1) ![ownR c k, 0] S32x1.size inb) 𝒱₀ (c : Thread nD τ) none Set.univ (Finset.subset_univ _)) $$ H2
  iintro H2
  have hf : FM V c k (View.read (Elt F) (mMsk.access (Rect.unit (s := S2048x1) ![ownR c k, 0] S32x1.size inb)) (V.msk c)) := by
    intro x i hi
    show V.msk c ((mMsk.access (Rect.unit (s := S2048x1) ![ownR c k, 0] S32x1.size inb)).emb x) = V.msk c i
    refine congrArg (V.msk c) (funext fun a => Fin.ext ?_)
    match a with
    | ⟨0, _⟩ =>
      show ownR c k + 1 * (x 0).val = (i 0).val
      omega
    | ⟨1, _⟩ =>
      show 0 + 1 * (x 1).val = (i 1).val
      have h1 : (x 1).val < 1 := (x 1).isLt
      have h2 : (i 1).val < 1 := (i 1).isLt
      omega
  iapply (hK _ hf)
  iapply Hb
  isplitl [H1]; · iexact H1
  isplitl [H2]; · iexact H2
  iexact H3

theorem load_G {α : Type} {Q : α → sProp 𝕄} (hn : n < 288) (h : act n = (k, 4)) {off : Fin 2 → ℕ} {inb} (ho : off = ![32 * k.val, 0]) {hl}
    {Kt : Vec F S32x1024 .f32 → Prog (TpuEff nD τ sig (Elt F) Λ₀ .tc) α}
    (hK : ∀ g, FG V c k g → St V K c n ⊢ wp frame (wpE (defs₀ (F := F)) 𝒱₀ c none) Set.univ (Kt g) Q) :
    St V K c n ⊢ wp frame (wpE (defs₀ (F := F)) 𝒱₀ c none) Set.univ
      (Prog.lift (TpuEff.load (p := .tc) mG (Rect.unit (s := S512x1024) off S32x1024.size inb).toLoadRect hl) >>= Kt) Q := by
  subst ho
  refine (St_get V hn h .gR (by decide)).trans ?_
  change iprop(Rg c bG (32 * k.val) 32 qR (gOK V c) ∗ (Rg c bG (32 * k.val) 32 qR (gOK V c) -∗ St V K c n)) ⊢ wp frame (wpE (defs₀ (F := F)) 𝒱₀ c none) Set.univ
    (.op (TpuEff.load (p := .tc) mG (Rect.unit (s := S512x1024) ![32 * k.val, 0] S32x1024.size inb).toLoadRect hl) fun y => Kt y) _
  have hset : (mG.access (Rect.unit (s := S512x1024) ![32 * k.val, 0] S32x1024.size inb)).set = rows bG (32 * k.val) 32 := set_rowRect rowRectG inb
  unfold Rg
  iintro ⟨⟨%f, H2, %hf⟩, Hb⟩
  iapply (wp_load_rect (m := mG) (r := Rect.unit (s := S512x1024) ![32 * k.val, 0] S32x1024.size inb) (S := rows bG (32 * k.val) 32)
    𝒱₀ (c : Thread nD τ) none Set.univ (hset ▸ Finset.Subset.refl _)) $$ H2
  iintro H2
  have hF : FG V c k (View.read (Elt F) (mG.access (Rect.unit (s := S512x1024) ![32 * k.val, 0] S32x1024.size inb)) f) := by
    intro x
    have hx := hf ((mG.access (Rect.unit (s := S512x1024) ![32 * k.val, 0] S32x1024.size inb)).emb x)
      (by rw [← hset]; exact View.emb_mem_set _ x)
    show GOK V c (32 * k.val + (x 0).val) (x 1).val (f ((mG.access (Rect.unit (s := S512x1024) ![32 * k.val, 0] S32x1024.size inb)).emb x))
    have e0 : 32 * k.val + (x 0).val = 32 * k.val + 1 * (x 0).val := by omega
    have e1 : (x 1).val = 0 + 1 * (x 1).val := by omega
    rw [e0]
    conv in (x 1).val => rw [e1]
    exact hx
  iapply (hK _ hF)
  iapply Hb
  iexists f
  isplitl [H2]; · iexact H2
  ipureintro; exact hf

theorem load_R {α : Type} {Q : α → sProp 𝕄} (hn : n < 288) (h : act n = (k, 4)) {off : Fin 2 → ℕ} {inb} (ho : off = ![32 * k.val, 0]) {hl}
    {Kt : Vec F S32x1024 .f32 → Prog (TpuEff nD τ sig (Elt F) Λ₀ .tc) α}
    (hK : ∀ g, FG V (yn c) k g → St V K c n ⊢ wp frame (wpE (defs₀ (F := F)) 𝒱₀ c none) Set.univ (Kt g) Q) :
    St V K c n ⊢ wp frame (wpE (defs₀ (F := F)) 𝒱₀ c none) Set.univ
      (Prog.lift (TpuEff.load (p := .tc) mR (Rect.unit (s := S512x1024) off S32x1024.size inb).toLoadRect hl) >>= Kt) Q := by
  subst ho
  refine (St_get V hn h .yr1 (by decide)).trans ?_
  change iprop((wtd (F := F) c 2 k ∗ Rg c bR (32 * k.val) 32 q₀ (rOK V c)) ∗ ((wtd (F := F) c 2 k ∗ Rg c bR (32 * k.val) 32 q₀ (rOK V c)) -∗ St V K c n)) ⊢ wp frame (wpE (defs₀ (F := F)) 𝒱₀ c none) Set.univ
    (.op (TpuEff.load (p := .tc) mR (Rect.unit (s := S512x1024) ![32 * k.val, 0] S32x1024.size inb).toLoadRect hl) fun y => Kt y) _
  have hset : (mR.access (Rect.unit (s := S512x1024) ![32 * k.val, 0] S32x1024.size inb)).set = rows bR (32 * k.val) 32 := set_rowRect rowRectR inb
  unfold Rg
  iintro ⟨⟨Hw, %f, H2, %hf⟩, Hb⟩
  iapply (wp_load_rect (m := mR) (r := Rect.unit (s := S512x1024) ![32 * k.val, 0] S32x1024.size inb) (S := rows bR (32 * k.val) 32)
    𝒱₀ (c : Thread nD τ) none Set.univ (hset ▸ Finset.Subset.refl _)) $$ H2
  iintro H2
  have hF : FG V (yn c) k (View.read (Elt F) (mR.access (Rect.unit (s := S512x1024) ![32 * k.val, 0] S32x1024.size inb)) f) := by
    intro x
    have hx := hf ((mR.access (Rect.unit (s := S512x1024) ![32 * k.val, 0] S32x1024.size inb)).emb x)
      (by rw [← hset]; exact View.emb_mem_set _ x)
    show GOK V (yn c) (32 * k.val + (x 0).val) (x 1).val (f ((mR.access (Rect.unit (s := S512x1024) ![32 * k.val, 0] S32x1024.size inb)).emb x))
    have e0 : 32 * k.val + (x 0).val = 32 * k.val + 1 * (x 0).val := by omega
    have e1 : (x 1).val = 0 + 1 * (x 1).val := by omega
    rw [e0]
    conv in (x 1).val => rw [e1]
    exact hx
  iapply (hK _ hF)
  iapply Hb
  isplitl [Hw]; · iexact Hw
  iexists f
  isplitl [H2]; · iexact H2
  ipureintro; exact hf

/-- A load of what is not yet written, its value unused. -/
theorem load_O {α : Type} {Q : α → sProp 𝕄} (hn : n < 288) (h : act n = (k, 4)) {off : Fin 2 → ℕ} {inb} (ho : off = ![ownR c k, 0]) {hl}
    {Kt : Vec F S32x1024 .f32 → Prog (TpuEff nD τ sig (Elt F) Λ₀ .tc) α}
    (hK : ∀ g, St V K c n ⊢ wp frame (wpE (defs₀ (F := F)) 𝒱₀ c none) Set.univ (Kt g) Q) :
    St V K c n ⊢ wp frame (wpE (defs₀ (F := F)) 𝒱₀ c none) Set.univ
      (Prog.lift (TpuEff.load (p := .tc) mO (Rect.unit (s := S2048x1024) off S32x1024.size inb).toLoadRect hl) >>= Kt) Q := by
  subst ho
  refine (St_get V hn h .oAny (by decide)).trans ?_
  change iprop(Rg c bO (ownR c k) 32 q₀ (anyOK bO) ∗ (Rg c bO (ownR c k) 32 q₀ (anyOK bO) -∗ St V K c n)) ⊢ wp frame (wpE (defs₀ (F := F)) 𝒱₀ c none) Set.univ
    (.op (TpuEff.load (p := .tc) mO (Rect.unit (s := S2048x1024) ![ownR c k, 0] S32x1024.size inb).toLoadRect hl) fun y => Kt y) _
  have hset : (mO.access (Rect.unit (s := S2048x1024) ![ownR c k, 0] S32x1024.size inb)).set = rows bO (ownR c k) 32 := set_rowRect rowRectO inb
  unfold Rg
  iintro ⟨⟨%f, H2, %hf⟩, Hb⟩
  iapply (wp_load_rect (m := mO) (r := Rect.unit (s := S2048x1024) ![ownR c k, 0] S32x1024.size inb) (S := rows bO (ownR c k) 32)
    𝒱₀ (c : Thread nD τ) none Set.univ (hset ▸ Finset.Subset.refl _)) $$ H2
  iintro H2
  iapply hK _
  iapply Hb
  iexists f
  isplitl [H2]; · iexact H2
  ipureintro; exact hf

/-- The choice, element by element. -/
theorem pay_apply (m : Vec F S32x1 .f32) (g r : Vec F S32x1024 .f32) (x : S32x1024.Idx) :
    ∃ x' : S32x1.Idx, (x' 0).val = (x 0).val ∧ k0_pay1 m g r x = selv (m x') (g x) (r x) := by
  let x' : S32x1.Idx := fun a => match a with
    | ⟨0, _⟩ => ⟨(x 0).val, (x 0).isLt⟩
    | ⟨1, _⟩ => ⟨0, Nat.one_pos⟩
  refine ⟨x', rfl, ?_⟩
  have hb : ∀ v : FVec F S32x1 .f32, broadcastTo S32x1024 v broadcasts_S32x1_S32x1024 x = v x' := fun v =>
    broadcastTo_apply v broadcasts_S32x1_S32x1024 x x' (fun a => match a with
      | ⟨0, _⟩ => rfl
      | ⟨1, _⟩ => rfl)
  show FloatOps.addf (FloatOps.mulf (broadcastTo S32x1024 (shapeCast S32x1 m shapeCasts_S32x1_S32x1) broadcasts_S32x1_S32x1024 x) (g x))
    (FloatOps.mulf (broadcastTo S32x1024 (subf (broadcast S32x1 (Scalar.ofBits .f32 0x3F800000#32)) (shapeCast S32x1 m shapeCasts_S32x1_S32x1)) broadcasts_S32x1_S32x1024 x) (r x)) = _
  rw [hb, hb, shapeCast_self]
  rfl

theorem sel_OK {m : Vec F S32x1 .f32} {g r : Vec F S32x1024 .f32} (hm : FM V c k m) (hg : FG V c k g) (hr : FG V (yn c) k r) (x : S32x1024.Idx) :
    OOK V c (ownR c k + (x 0).val) (x 1).val (k0_pay1 m g r x) := by
  have h0 : (x 0).val < 32 := (x 0).isLt
  have hk := k.isLt
  have hq : (ownR c k + (x 0).val) / 512 = qb c := by unfold ownR; omega
  have hq' : (ownR c k + (x 0).val) % 512 = 32 * k.val + (x 0).val := by unfold ownR; omega
  unfold OOK
  rw [hq, hq', srcDev_qb]
  refine ⟨g x, r x, hg x, hr x, fun i hi => ?_⟩
  obtain ⟨x', hx', e⟩ := pay_apply m g r x
  rw [e, hm x' i (by rw [hi, hx'])]

/-- The store of the choice. -/
theorem step_SEL {α : Type} {Q : α → sProp 𝕄} (hn : n < 288) (h : act n = (k, 4)) {off : Fin 2 → ℕ} {inb} (ho : off = ![ownR c k, 0])
    {w : Vec F S32x1024 .f32} (hw : ∃ m g r, FM V c k m ∧ FG V c k g ∧ FG V (yn c) k r ∧ w = k0_pay1 m g r) {hx hm}
    {Kt : PUnit → Prog (TpuEff nD τ sig (Elt F) Λ₀ .tc) α}
    (hK : St V K c (n + 1) ⊢ wp frame (wpE (defs₀ (F := F)) 𝒱₀ c none) Set.univ (Kt ⟨⟩) Q) :
    St V K c n ⊢ wp frame (wpE (defs₀ (F := F)) 𝒱₀ c none) Set.univ
      (Prog.lift (TpuEff.store (p := .tc) mO (Rect.unit (s := S2048x1024) off S32x1024.size inb) w Finset.univ hx hm) >>= Kt) Q := by
  subst ho
  obtain ⟨m, g, r, hm', hg, hr, rfl⟩ := hw
  have hO : owed c n = owed c (n + 1) := by
    have := owed_succ c ⟨n, hn⟩; dsimp only at this; rw [h] at this; exact this.trans (add_zero _)
  refine (St_act V hn h {.oAny} {.oF} (by decide) (by decide) (by decide)).trans ?_
  rw [BI.bigSep_singleton, BI.bigSep_singleton, ← hO]
  change iprop(_ ∗ _ ∗ _ ∗ _ ∗ Rg c bO (ownR c k) 32 q₀ (anyOK bO) ∗ (_ -∗ _ -∗ Rg c bO (ownR c k) 32 q₀ (oOK V c) -∗ _)) ⊢ wp frame (wpE (defs₀ (F := F)) 𝒱₀ c none) Set.univ
    (.op (TpuEff.store (p := .tc) mO (Rect.unit (s := S2048x1024) ![ownR c k, 0] S32x1024.size inb) (k0_pay1 m g r) Finset.univ hx hm) fun y => Kt y) _
  have hset : (mO.access (Rect.unit (s := S2048x1024) ![ownR c k, 0] S32x1024.size inb)).set = rows bO (ownR c k) 32 := set_rowRect rowRectO inb
  unfold Rg
  iintro ⟨-, -, HO, Hr, ⟨%f, H2, -⟩, Hb⟩
  iapply (wp_store (m := mO) (r := Rect.unit (s := S2048x1024) ![ownR c k, 0] S32x1024.size inb) (S := rows bO (ownR c k) 32)
    𝒱₀ (c : Thread nD τ) none Set.univ (hset ▸ Finset.Subset.refl _)) $$ H2
  iintro H2
  iapply hK
  iapply Hb $$ HO Hr
  iexists _
  isplitl [H2]; · iexact H2
  ipureintro
  intro i hi
  rw [← hset] at hi
  obtain ⟨x, -, rfl⟩ := Finset.mem_map.mp hi
  rw [View.write_emb_of_mem (v := (mO.access (Rect.unit (s := S2048x1024) ![ownR c k, 0] S32x1024.size inb))) _ _ (Finset.mem_univ x)]
  have hs := sel_OK hm' hg hr x
  show OOK V c (ownR c k + 1 * (x 0).val) (0 + 1 * (x 1).val) (k0_pay1 m g r x)
  rw [Nat.one_mul, Nat.one_mul, Nat.zero_add]
  exact hs

end Loads

end Cert.KernelIdeal.Lookup
-- ==== Proof.Start.lean ====
/-
  The kernel's start: the signals to the three neighbours and the wait for theirs.
-/
module

public import proofs.«01_k».proof.Proof.State

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F)

omit [FloatOps F] in
theorem bigSep_two {I : Type} (s : Finset I) (Φ Ψ : I → sProp 𝕄) :
    (bigSep s fun i => iprop(Φ i ∗ Ψ i)) = iprop(bigSep s Φ ∗ bigSep s Ψ) := BI.bigSep_sep s Φ Ψ

/-! ## What a device enters the kernel with -/

/-- A send's duties at its two cells. -/
def toks (c n : Dev nD) (a a' : Fin 11) (k : Fin 16) : sProp 𝕄 :=
  iprop(dutyTok ER (cell c a k) 0 0 ∗ reached ER (cell c a k) 0 ∗ dutyTok ER (cell n a' k) 0 0 ∗ atPos ER (cell c a k) 0 ∅ 0)

/-- What it keeps of a chunk when it signals its neighbours. -/
def keep (c : Dev nD) (k : Fin 16) : sProp 𝕄 :=
  iprop(semVal (cell c 0 k) 0 ∗ Rg (F := F) c bG (32 * k.val) 32 q₀ (anyOK bG) ∗ Rg (F := F) c bO (ownR c k) 32 q₀ (anyOK bO)
    ∗ (unw (F := F) c 2 k ∗ unw (F := F) c 4 k ∗ unw (F := F) c 6 k ∗ unw (F := F) c 8 k ∗ unw (F := F) c 10 k)
    ∗ toks (F := F) c (yn c) 1 2 k ∗ toks (F := F) c (xn c) 3 4 k ∗ toks (F := F) c (zn c) 5 6 k ∗ toks (F := F) c (zn c) 7 8 k
    ∗ toks (F := F) c (xn c) 9 10 k)

/-- The duties at the neighbours' barrier cells, the own barrier cell's position, and the units to come there. -/
def barStuff (c : Dev nD) : sProp 𝕄 :=
  iprop((dutyTok ER (barCell (xn c)) 0 0 ∗ reached ER (barCell (xn c)) 0)
    ∗ (dutyTok ER (barCell (yn c)) 0 1 ∗ reached ER (barCell (yn c)) 0)
    ∗ (dutyTok ER (barCell (zn c)) 0 2 ∗ reached ER (barCell (zn c)) 0)
    ∗ atPos ER (barCell c) 0 ∅ 0 ∗ cred (tallyAt (barCell c) () 3))

/-- The own barrier cell, waited on. -/
def barDone (c : Dev nD) : sProp 𝕄 := atPos ER (barCell c) 1 ∅ 0

/-- What device `c` holds before its first signal. -/
def Start (K : GSem nD τ sig → ℕ) (c : Dev nD) : sProp 𝕄 :=
  iprop(records V K ∗ levAts L lv ∗ (∃ W, owes (c : Thread nD τ) (O₀ c) W) ∗ reads V c ∗ barStuff (F := F) c
    ∗ (bigSep Finset.univ fun k => keep (F := F) c k) ∗ (bigSep Finset.univ fun k => roomX (F := F) c (xn c) k)
    ∗ (bigSep Finset.univ fun k => roomY (F := F) c k) ∗ (bigSep Finset.univ fun k => roomZ (F := F) c (zn c) k))

theorem active_zero : active 0 = {.gsv, .gAny, .tYS, .yr0, .oAny, .tXS, .tZS, .xr0, .tFZ, .zr0, .tFX, .zd0, .xd0} := by decide

theorem keep_ph (c : Dev nD) (k : Fin 16) :
    iprop(keep (F := F) c k ∗ roomX (F := F) (xn c) c k ∗ roomY (F := F) (yn c) k ∗ roomZ (F := F) (zn c) c k) ⊢ Ph V c 0 k := by
  unfold Ph
  rw [active_zero]
  repeat rw [bigSep_ins (by decide)]
  rw [BI.bigSep_singleton]
  unfold keep roomX roomY roomZ
  simp only [res, snd]
  unfold toks
  iintro ⟨⟨Hs, HG, HO, ⟨H2, H4, H6, H8, H10⟩, T1, T3, T5, T7, T9⟩, ⟨X1, X2⟩, Y1, Z1, Z2⟩
  isplitl [Hs]; · iexact Hs
  isplitl [HG]; · iexact HG
  isplitl [Y1 T1]
  · isplitl [Y1] <;> iassumption
  isplitl [H2]; · iexact H2
  isplitl [HO]; · iexact HO
  isplitl [X1 T3]
  · isplitl [X1] <;> iassumption
  isplitl [Z1 T5]
  · isplitl [Z1] <;> iassumption
  isplitl [H4]; · iexact H4
  isplitl [Z2 T7]
  · isplitl [Z2] <;> iassumption
  isplitl [H6]; · iexact H6
  isplitl [X2 T9]
  · isplitl [X2] <;> iassumption
  isplitl [H8]; · iexact H8
  iexact H10

theorem wand_frame {c : Dev nD} {α : Type} {Q : α → sProp 𝕄} {B R : sProp 𝕄} {p : Prog (TpuEff nD τ sig (Elt F) Λ₀ .tc) α}
    (h : R ⊢ wp frame (wpE (defs₀ (F := F)) 𝒱₀ c none) Set.univ p fun a => iprop(B -∗ Q a)) :
    R ⊢ iprop(B -∗ wp frame (wpE (defs₀ (F := F)) 𝒱₀ c none) Set.univ p Q) := by
  refine BI.wand_intro ?_
  refine (BIClass.sep_mono h (BI.Entails.refl _)).trans ?_
  refine (wp_frame_r frame (wpE (defs₀ (F := F)) 𝒱₀ (c : Thread nD τ) none) Set.univ (R := B)).trans (wp_mono _ _ _ fun a => ?_)
  exact BI.wand_elim (BI.Entails.refl _)

/-- The three signals, and the wait for the neighbours'. -/
theorem start_run {K : GSem nD τ sig → ℕ} {c : Dev nD} {α : Type} {Q : α → sProp 𝕄} {d1 d2 d3 : Dev nD} (h1 : d1 = xn c) (h2 : d2 = yn c) (h3 : d3 = zn c)
    {sm : Sem sig} (hs : sm = barS) {Kt : PUnit → Prog (TpuEff nD τ sig (Elt F) Λ₀ .tc) α}
    (hK : St V K c 0 ⊢ wp frame (wpE (defs₀ (F := F)) 𝒱₀ c none) Set.univ (Kt ⟨⟩) fun a => iprop(barDone (F := F) c -∗ Q a)) :
    Start V K c ⊢ wp frame (wpE (defs₀ (F := F)) 𝒱₀ c none) Set.univ
      (semSignalWord d1 sm 1#32 >>= fun _ => semSignalWord d2 sm 1#32 >>= fun _ => semSignalWord d3 sm 1#32 >>= fun _ =>
        semWaitWord sm 3#32 >>= Kt) Q := by
  subst h1 h2 h3 hs
  change _ ⊢ wp frame (wpE (defs₀ (F := F)) 𝒱₀ c none) Set.univ
    (.op (.semSignal (xn c : Thread nD τ) barS 1) fun _ => .op (.semSignal (yn c : Thread nD τ) barS 1) fun _ =>
      .op (.semSignal (zn c : Thread nD τ) barS 1) fun _ => .op (.semWait barS 3) fun x => Kt x) _
  have hK' : iprop(St V K c 0 ∗ barDone (F := F) c) ⊢ wp frame (wpE (defs₀ (F := F)) 𝒱₀ c none) Set.univ (Kt ⟨⟩) Q := BI.wand_elim (wand_frame hK)
  unfold Start barStuff
  iintro ⟨#HR, #Hlev, ⟨%W, HO⟩, Hrd, ⟨⟨T1, R1⟩, ⟨T2, R2⟩, ⟨T3, R3⟩, Hat, Hcr⟩, Hk, HX, HY, HZ⟩
  iapply (Rounds.wp_signal 𝒱₀ ER (Rd V) (c : Thread nD τ) none (dst := (xn c : Thread nD τ)) (sem := barS) (r := 0) (d := 0) (κ := K (barCell (xn c)))
      (by rw [duties_bar]; exact Finset.mem_univ _) (amount_bar V (xn c) 0) () ((owed c 0 + tallyAt (barCell (zn c)) () 1) + tallyAt (barCell (yn c)) () 1) rfl)
    $$ [HO T1 R1 HX]
  · isplitr; · iapply (records_bar V K (xn c)); iexact HR
    isplitl [HO]; · iexact HO
    isplitl [T1]; · iexact T1
    isplitl [HX]
    · rw [payload_bar]; unfold barPay; dsimp only; rw [xn_xn]; iexact HX
    · iexact R1
  iintro HO
  iapply (Rounds.wp_signal 𝒱₀ ER (Rd V) (c : Thread nD τ) none (dst := (yn c : Thread nD τ)) (sem := barS) (r := 0) (d := 1) (κ := K (barCell (yn c)))
      (by rw [duties_bar]; exact Finset.mem_univ _) (amount_bar V (yn c) 1) () (owed c 0 + tallyAt (barCell (zn c)) () 1) rfl)
    $$ [HO T2 R2 HY]
  · isplitr; · iapply (records_bar V K (yn c)); iexact HR
    isplitl [HO]; · iexact HO
    isplitl [T2]; · iexact T2
    isplitl [HY]
    · rw [payload_bar]; unfold barPay; dsimp only; rw [yn_yn]; iexact HY
    · iexact R2
  iintro HO
  iapply (Rounds.wp_signal 𝒱₀ ER (Rd V) (c : Thread nD τ) none (dst := (zn c : Thread nD τ)) (sem := barS) (r := 0) (d := 2) (κ := K (barCell (zn c)))
      (by rw [duties_bar]; exact Finset.mem_univ _) (amount_bar V (zn c) 2) () (owed c 0) rfl)
    $$ [HO T3 R3 HZ]
  · isplitr; · iapply (records_bar V K (zn c)); iexact HR
    isplitl [HO]; · iexact HO
    isplitl [T3]; · iexact T3
    isplitl [HZ]
    · rw [payload_bar]; unfold barPay; dsimp only; rw [zn_zn]; iexact HZ
    · iexact R3
  iintro HO
  iapply (Rounds.wp_wait_rest_token 𝒱₀ ER (Rd V) (c : Thread nD τ) none (κ := K (barCell c))
      (wpE_semWait_eq 𝒱₀ (c : Thread nD τ) none Set.univ) (Set.mem_univ _) () (O := owed c 0) (W := W) (R := 0) (m := 0) (T := ∅)
      ((Nat.zero_add 3).trans (expect_bar V c).symm)) $$ [Hcr HO Hat]
  · isplitr; · iapply (records_bar V K c); iexact HR
    isplitl [Hcr]; · iexact Hcr
    isplitl [HO]; · iexact HO
    isplitr; · iapply (mayWait c (.reg barS) 0 (le_refl 1)); iexact Hlev
    iexact Hat
  iintro ⟨HO, Hat, -, Hpay⟩
  have hp : (bigSep ((Rd V).duties (barCell c) 0 \ ∅) fun d => (Rd V).payload (barCell c) 0 d)
      = iprop((bigSep Finset.univ fun k => roomX (F := F) (xn c) c k) ∗ (bigSep Finset.univ fun k => roomY (F := F) (yn c) k)
        ∗ bigSep Finset.univ fun k => roomZ (F := F) (zn c) c k) := by
    rw [Finset.sdiff_empty, duties_bar, show (Finset.univ : Finset (Fin 3)) = {0, 1, 2} by decide, bigSep_ins (by decide), bigSep_ins (by decide),
      BI.bigSep_singleton]
    rfl
  ihave Hp := (Entails.of_eq hp) $$ Hpay
  icases Hp with ⟨HX, HY, HZ⟩
  iapply hK'
  isplitl [HO Hrd Hk HX HY HZ]
  · unfold St
    isplitr; · iexact HR
    isplitr; · iexact Hlev
    isplitl [HO]; · iexists _; iexact HO
    isplitl [Hrd]; · iexact Hrd
    have hm : iprop((bigSep Finset.univ fun k => keep (F := F) c k) ∗ (bigSep Finset.univ fun k => roomX (F := F) (xn c) c k)
        ∗ (bigSep Finset.univ fun k => roomY (F := F) (yn c) k) ∗ (bigSep Finset.univ fun k => roomZ (F := F) (zn c) c k))
        ⊢ bigSep Finset.univ fun k => Ph V c (ph 0 k) k := by
      refine BIBase.Entails.trans (Entails.of_eq ?_) (BI.bigSep_mono fun k _ => keep_ph V c k)
      rw [bigSep_two, bigSep_two, bigSep_two]
    iapply hm
    isplitl [Hk]; · iexact Hk
    isplitl [HX]; · iexact HX
    isplitl [HY]; · iexact HY
    iexact HZ
  · unfold barDone; iexact Hat

end Cert.KernelIdeal.Lookup
-- ==== Proof.Run0.lean ====
/-
  The program in pieces, part 34 to part 49.
-/
module

public import proofs.«01_k».proof.Proof.Loop0
public import proofs.«01_k».proof.Proof.Loop1
public import proofs.«01_k».proof.Proof.Loop2
public import proofs.«01_k».proof.Proof.Loop3
public import proofs.«01_k».proof.Proof.Select
public import proofs.«01_k».proof.Proof.Start

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F) {K : GSem nD τ sig → ℕ} {c : Dev nD}

theorem part34 {Q : (Σ' (v50 : BitVec 32), k0_chk26 v50) → sProp 𝕄} (v2 : BitVec 32) (v5 : BitVec 32) (v8 : BitVec 32) (v10 : BitVec 32) (v11 : BitVec 32) (v14 : BitVec 32) (v32 : BitVec 32) (c1_i32_20 : BitVec 32)
    (hK : ∀ (hw : k0_chk26 (cntW V c 1 32)), St V K c 3 ⊢ iprop(barDone (F := F) c -∗ Q ⟨cntW V c 1 32, hw⟩)) :
    Start V K c ⊢ wp frame (wpE (defs₀ (F := F)) 𝒱₀ c none) Set.univ (k0_part34 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v10 v11 v14 (SemArray.scalar (sig.barrier 0 rfl)) v32 c1_i32_20) Q := by
  rw [k0_part34_eq_skeleton]; unfold k0_part34_skel
  refine start_run V ((by decide +kernel : ∀ c : Dev nD, (⟨k0_dev1 c, k0_dev1_lt c⟩ : Dev nD) = xn c) c) ((by decide +kernel : ∀ c : Dev nD, (⟨k0_dev2 c, k0_dev2_lt c⟩ : Dev nD) = yn c) c) ((by decide +kernel : ∀ c : Dev nD, (⟨k0_dev3 c, k0_dev3_lt c⟩ : Dev nD) = zn c) c) rfl ?_
  refine step_GI (n := 0) (by decide) (by decide +kernel) rfl (fun t => gi0 V c _ _ _ _ _ _ _ _ _ t) ?_
  refine unit_assume (trips_cnt V c 0).2.2 ?_
  refine step_GI (n := 1) (by decide) (by decide +kernel) rfl (fun t => gi1 V c _ _ _ _ _ _ _ _ _ t) ?_
  refine unit_assume (trips_cnt V c 1).2.2 ?_
  refine step_GW (n := 2) (by decide) (by decide +kernel) (trips_cnt V c 0).1 rfl credit_row ?_
  refine step_none (trips_cnt V c 0).2.1 ?_
  exact ret_intro (hK _)

theorem part35 {Q : (Σ' (v69 : BitVec 32), k0_chk35 v69) → sProp 𝕄} (v2 : BitVec 32) (v8 : BitVec 32) (v10 : BitVec 32) (v14 : BitVec 32) (k0_hw26 : k0_chk26 (cntW V c 1 32))
    (hK : ∀ (hw : k0_chk35 (cntW V c 2 32)), St V K c 6 ⊢ Q ⟨cntW V c 2 32, hw⟩) :
    St V K c 3 ⊢ wp frame (wpE (defs₀ (F := F)) 𝒱₀ c none) Set.univ (k0_part35 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 (cntW V c 1 32) k0_hw26) Q := by
  rw [k0_part35_eq_skeleton]; unfold k0_part35_skel
  refine step_YS (n := 3) (by decide) (by decide +kernel) (vec2 (by decide)) rfl rfl ((by decide +kernel : ∀ c : Dev nD, (⟨k0_dev4 c, k0_dev4_lt c⟩ : Dev nD) = yn c) c) ?_
  refine step_GI (n := 4) (by decide) (by decide +kernel) rfl (fun t => gi2 V c _ _ _ _ _ _ t) ?_
  refine unit_assume (trips_cnt V c 2).2.2 ?_
  refine step_GW (n := 5) (by decide) (by decide +kernel) (trips_cnt V c 1).1 rfl credit_row ?_
  refine step_none (trips_cnt V c 1).2.1 ?_
  exact ret_intro (hK _)

theorem part36 {Q : (Σ' (v88 : BitVec 32), k0_chk44 v88) → sProp 𝕄} (v2 : BitVec 32) (v8 : BitVec 32) (v10 : BitVec 32) (v14 : BitVec 32) (k0_hw35 : k0_chk35 (cntW V c 2 32))
    (hK : ∀ (hw : k0_chk44 (cntW V c 3 32)), St V K c 10 ⊢ Q ⟨cntW V c 3 32, hw⟩) :
    St V K c 6 ⊢ wp frame (wpE (defs₀ (F := F)) 𝒱₀ c none) Set.univ (k0_part36 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 (cntW V c 2 32) k0_hw35) Q := by
  rw [k0_part36_eq_skeleton]; unfold k0_part36_skel
  refine step_YS (n := 6) (by decide) (by decide +kernel) (vec2 (by decide)) rfl rfl ((by decide +kernel : ∀ c : Dev nD, (⟨k0_dev5 c, k0_dev5_lt c⟩ : Dev nD) = yn c) c) ?_
  refine step_GI (n := 7) (by decide) (by decide +kernel) rfl (fun t => gi3 V c _ _ _ _ _ _ t) ?_
  refine unit_assume (trips_cnt V c 3).2.2 ?_
  refine step_GW (n := 8) (by decide) (by decide +kernel) (trips_cnt V c 2).1 rfl credit_row ?_
  refine step_none (trips_cnt V c 2).2.1 ?_
  refine step_YS (n := 9) (by decide) (by decide +kernel) (vec2 (by decide)) rfl rfl ((by decide +kernel : ∀ c : Dev nD, (⟨k0_dev6 c, k0_dev6_lt c⟩ : Dev nD) = yn c) c) ?_
  exact ret_intro (hK _)

theorem part37 {Q : (BitVec 32) → sProp 𝕄} (v5 : BitVec 32) (v8 : BitVec 32) (v9 : BitVec 32) (v14 : BitVec 32)
    (hK : St V K c 13 ⊢ Q (0#32)) :
    St V K c 10 ⊢ wp frame (wpE (defs₀ (F := F)) 𝒱₀ c none) Set.univ (k0_part37 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v5 v8 v9 v14) Q := by
  rw [k0_part37_eq_skeleton]; unfold k0_part37_skel
  refine step_W 10 (by decide) 0 3 (by decide +kernel) (by decide) rfl rfl ?_
  refine load_M ((by decide +kernel : ∀ c : Dev nD, k0_off97 c = ![ownR c 0, 0]) c) fun m hm => ?_
  refine load_G (k := 0) (n := 11) (by decide) (by decide +kernel) (vec2 (by decide)) fun g hg => ?_
  refine load_R (k := 0) (n := 11) (by decide) (by decide +kernel) (vec2 (by decide)) fun r hr => ?_
  refine load_O (n := 11) (by decide) (by decide +kernel) ((by decide +kernel : ∀ c : Dev nD, k0_off98 c = ![ownR c 0, 0]) c) fun _ => ?_
  refine step_SEL (n := 11) (by decide) (by decide +kernel) ((by decide +kernel : ∀ c : Dev nD, k0_off98 c = ![ownR c 0, 0]) c) ⟨m, g, r, hm, hg, hr, rfl⟩ ?_
  refine step_XS (n := 12) (by decide) (by decide +kernel) ((by decide +kernel : ∀ c : Dev nD, k0_off99 c = ![ownR c 0, 0]) c) rfl rfl ((by decide +kernel : ∀ c : Dev nD, (⟨k0_dev7 c, k0_dev7_lt c⟩ : Dev nD) = xn c) c) ?_
  exact ret_intro (hK)

theorem part38 {Q : (Σ' (v161 : BitVec 32), k0_chk53 v161) → sProp 𝕄} (v2 : BitVec 32) (v5 : BitVec 32) (v8 : BitVec 32) (v10 : BitVec 32) (v11 : BitVec 32) (v14 : BitVec 32) (k0_hw44 : k0_chk44 (cntW V c 3 32))
    (hK : ∀ (hw : k0_chk53 (cntW V c 4 32)), St V K c 16 ⊢ Q ⟨cntW V c 4 32, hw⟩) :
    St V K c 13 ⊢ wp frame (wpE (defs₀ (F := F)) 𝒱₀ c none) Set.univ (k0_part38 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v10 v11 v14 (cntW V c 3 32) k0_hw44 0#32) Q := by
  rw [k0_part38_eq_skeleton]; unfold k0_part38_skel
  refine step_ZS (n := 13) (by decide) (by decide +kernel) ((by decide +kernel : ∀ c : Dev nD, k0_off99 c = ![ownR c 0, 0]) c) rfl rfl ((by decide +kernel : ∀ c : Dev nD, (⟨k0_dev8 c, k0_dev8_lt c⟩ : Dev nD) = zn c) c) ?_
  refine step_GI (n := 14) (by decide) (by decide +kernel) rfl (fun t => gi4 V c _ _ _ _ _ _ _ _ _ t) ?_
  refine unit_assume (trips_cnt V c 4).2.2 ?_
  refine step_GW (n := 15) (by decide) (by decide +kernel) (trips_cnt V c 3).1 rfl credit_row ?_
  refine step_none (trips_cnt V c 3).2.1 ?_
  exact ret_intro (hK _)

theorem part39 {Q : PUnit → sProp 𝕄} (v2 : BitVec 32) (v8 : BitVec 32) (v10 : BitVec 32) (v14 : BitVec 32)
    (hK : St V K c 19 ⊢ Q ⟨⟩) :
    St V K c 16 ⊢ wp frame (wpE (defs₀ (F := F)) 𝒱₀ c none) Set.univ (k0_part39 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14) Q := by
  rw [k0_part39_eq_skeleton]; unfold k0_part39_skel
  refine step_YS (n := 16) (by decide) (by decide +kernel) (vec2 (by decide)) rfl rfl ((by decide +kernel : ∀ c : Dev nD, (⟨k0_dev9 c, k0_dev9_lt c⟩ : Dev nD) = yn c) c) ?_
  refine step_W 17 (by decide) 1 3 (by decide +kernel) (by decide) rfl rfl ?_
  refine load_M ((by decide +kernel : ∀ c : Dev nD, k0_off124 c = ![ownR c 1, 0]) c) fun m hm => ?_
  refine load_G (k := 1) (n := 18) (by decide) (by decide +kernel) (vec2 (by decide)) fun g hg => ?_
  refine load_R (k := 1) (n := 18) (by decide) (by decide +kernel) (vec2 (by decide)) fun r hr => ?_
  refine load_O (n := 18) (by decide) (by decide +kernel) ((by decide +kernel : ∀ c : Dev nD, k0_off125 c = ![ownR c 1, 0]) c) fun _ => ?_
  refine step_SEL (n := 18) (by decide) (by decide +kernel) ((by decide +kernel : ∀ c : Dev nD, k0_off125 c = ![ownR c 1, 0]) c) ⟨m, g, r, hm, hg, hr, rfl⟩ ?_
  exact ret_intro (hK)

theorem part40 {Q : (Σ' (v234 : BitVec 32) (k0_hw62 : k0_chk62 v234) (c0_i32_194 : BitVec 32), BitVec 32) → sProp 𝕄} (v2 : BitVec 32) (v5 : BitVec 32) (v8 : BitVec 32) (v9 : BitVec 32) (v11 : BitVec 32) (v14 : BitVec 32)
    (hK : ∀ (hw : k0_chk62 (cntW V c 5 32)) (w1 : BitVec 32), St V K c 22 ⊢ Q ⟨cntW V c 5 32, hw, 0#32, w1⟩) :
    St V K c 19 ⊢ wp frame (wpE (defs₀ (F := F)) 𝒱₀ c none) Set.univ (k0_part40 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 (cntW V c 4 32)) Q := by
  rw [k0_part40_eq_skeleton]; unfold k0_part40_skel
  refine step_XS (n := 19) (by decide) (by decide +kernel) ((by decide +kernel : ∀ c : Dev nD, k0_off126 c = ![ownR c 1, 0]) c) rfl rfl ((by decide +kernel : ∀ c : Dev nD, (⟨k0_dev10 c, k0_dev10_lt c⟩ : Dev nD) = xn c) c) ?_
  refine step_ZS (n := 20) (by decide) (by decide +kernel) ((by decide +kernel : ∀ c : Dev nD, k0_off126 c = ![ownR c 1, 0]) c) rfl rfl ((by decide +kernel : ∀ c : Dev nD, (⟨k0_dev11 c, k0_dev11_lt c⟩ : Dev nD) = zn c) c) ?_
  refine step_GI (n := 21) (by decide) (by decide +kernel) rfl (fun t => gi5 V c _ _ _ _ _ _ _ t) ?_
  refine unit_assume (trips_cnt V c 5).2.2 ?_
  exact ret_intro (hK _ _)

theorem part41 {Q : (Σ' (v265 : FVec F S32x1 .f32) (v268 : FVec F S32x1024 .f32), F .f32) → sProp 𝕄} (v2 : BitVec 32) (v8 : BitVec 32) (v10 : BitVec 32) (v14 : BitVec 32) (k0_hw53 : k0_chk53 (cntW V c 4 32)) (v239 : BitVec 32)
    (hK : ∀ (m : FVec F S32x1 .f32) (_ : FM V c 2 m) (g : FVec F S32x1024 .f32) (_ : FG V c 2 g), St V K c 25 ⊢ Q ⟨k0_pay3 m, k0_pay4 m g, Scalar.ofBits .f32 0x3F800000#32⟩) :
    St V K c 22 ⊢ wp frame (wpE (defs₀ (F := F)) 𝒱₀ c none) Set.univ (k0_part41 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 (cntW V c 4 32) k0_hw53 0#32 v239) Q := by
  rw [k0_part41_eq_skeleton]; unfold k0_part41_skel
  refine step_GW (n := 22) (by decide) (by decide +kernel) (trips_cnt V c 4).1 rfl credit_row ?_
  refine step_none (trips_cnt V c 4).2.1 ?_
  refine step_YS (n := 23) (by decide) (by decide +kernel) (vec2 (by decide)) rfl rfl ((by decide +kernel : ∀ c : Dev nD, (⟨k0_dev12 c, k0_dev12_lt c⟩ : Dev nD) = yn c) c) ?_
  refine step_W 24 (by decide) 2 3 (by decide +kernel) (by decide) rfl rfl ?_
  refine load_M ((by decide +kernel : ∀ c : Dev nD, k0_off151 c = ![ownR c 2, 0]) c) fun m hm => ?_
  refine load_G (k := 2) (n := 25) (by decide) (by decide +kernel) (vec2 (by decide)) fun g hg => ?_
  exact ret_intro (hK m hm g hg)

theorem part42 {Q : PUnit → sProp 𝕄} {m : FVec F S32x1 .f32} (hm : FM V c 2 m) {g : FVec F S32x1024 .f32} (hg : FG V c 2 g) (v2 : BitVec 32) (v5 : BitVec 32) (v8 : BitVec 32) (v9 : BitVec 32) (v11 : BitVec 32) (v14 : BitVec 32)
    (hK : St V K c 27 ⊢ Q ⟨⟩) :
    St V K c 25 ⊢ wp frame (wpE (defs₀ (F := F)) 𝒱₀ c none) Set.univ (k0_part42 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 (k0_pay3 m) (k0_pay4 m g) (Scalar.ofBits .f32 0x3F800000#32)) Q := by
  rw [k0_part42_eq_skeleton]; unfold k0_part42_skel
  refine load_R (k := 2) (n := 25) (by decide) (by decide +kernel) (vec2 (by decide)) fun r hr => ?_
  refine load_O (n := 25) (by decide) (by decide +kernel) ((by decide +kernel : ∀ c : Dev nD, k0_off152 c = ![ownR c 2, 0]) c) fun _ => ?_
  refine step_SEL (n := 25) (by decide) (by decide +kernel) ((by decide +kernel : ∀ c : Dev nD, k0_off152 c = ![ownR c 2, 0]) c) ⟨m, g, r, hm, hg, hr, rfl⟩ ?_
  refine step_XS (n := 26) (by decide) (by decide +kernel) ((by decide +kernel : ∀ c : Dev nD, k0_off153 c 64#32 = ![ownR c 2, 0]) c) rfl rfl ((by decide +kernel : ∀ c : Dev nD, (⟨k0_dev13 c, k0_dev13_lt c⟩ : Dev nD) = xn c) c) ?_
  exact ret_intro (hK)

theorem part43 {Q : PUnit → sProp 𝕄} (v2 : BitVec 32) (v5 : BitVec 32) (v8 : BitVec 32) (v9 : BitVec 32) (v11 : BitVec 32) (v18 : BitVec 32)
    (hK : St V K c 30 ⊢ Q ⟨⟩) :
    St V K c 27 ⊢ wp frame (wpE (defs₀ (F := F)) 𝒱₀ c none) Set.univ (k0_part43 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v18) Q := by
  rw [k0_part43_eq_skeleton]; unfold k0_part43_skel
  refine step_ZS (n := 27) (by decide) (by decide +kernel) ((by decide +kernel : ∀ c : Dev nD, k0_off153 c 64#32 = ![ownR c 2, 0]) c) rfl rfl ((by decide +kernel : ∀ c : Dev nD, (⟨k0_dev14 c, k0_dev14_lt c⟩ : Dev nD) = zn c) c) ?_
  refine step_W 28 (by decide) 0 7 (by decide +kernel) (by decide) rfl rfl ?_
  refine step_FZ (n := 29) (by decide) (by decide +kernel) ((by decide +kernel : ∀ c : Dev nD, k0_off154 c = ![xR c 0, 0]) c) rfl rfl ((by decide +kernel : ∀ c : Dev nD, (⟨k0_dev15 c, k0_dev15_lt c⟩ : Dev nD) = zn c) c) ?_
  exact ret_intro (hK)

theorem part44 {Q : (Σ' (v357 : BitVec 32) (k0_hw71 : k0_chk71 v357), BitVec 32) → sProp 𝕄} (v2 : BitVec 32) (v5 : BitVec 32) (v8 : BitVec 32) (v9 : BitVec 32) (v14 : BitVec 32) (v22 : BitVec 32) (k0_hw62 : k0_chk62 (cntW V c 5 32))
    (hK : ∀ (hw : k0_chk71 (cntW V c 6 32)) (w1 : BitVec 32), St V K c 34 ⊢ Q ⟨cntW V c 6 32, hw, w1⟩) :
    St V K c 30 ⊢ wp frame (wpE (defs₀ (F := F)) 𝒱₀ c none) Set.univ (k0_part44 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v14 v22 (cntW V c 5 32) k0_hw62) Q := by
  rw [k0_part44_eq_skeleton]; unfold k0_part44_skel
  refine step_W 30 (by decide) 0 9 (by decide +kernel) (by decide) rfl rfl ?_
  refine step_FX (n := 31) (by decide) (by decide +kernel) ((by decide +kernel : ∀ c : Dev nD, k0_off155 c = ![zR c 0 + 16, 0]) c) rfl rfl ((by decide +kernel : ∀ c : Dev nD, (⟨k0_dev16 c, k0_dev16_lt c⟩ : Dev nD) = xn c) c) ?_
  refine step_GI (n := 32) (by decide) (by decide +kernel) rfl (fun t => gi6 V c _ _ _ _ _ _ _ _ t) ?_
  refine unit_assume (trips_cnt V c 6).2.2 ?_
  refine step_GW (n := 33) (by decide) (by decide +kernel) (trips_cnt V c 5).1 rfl credit_row ?_
  refine step_none (trips_cnt V c 5).2.1 ?_
  exact ret_intro (hK _ _)

theorem part45 {Q : (FVec F S32x1024 .f32) → sProp 𝕄} (v2 : BitVec 32) (v8 : BitVec 32) (v10 : BitVec 32) (v14 : BitVec 32) (v363 : BitVec 32)
    (hK : ∀ (m : FVec F S32x1 .f32) (_ : FM V c 3 m) (g : FVec F S32x1024 .f32) (_ : FG V c 3 g) (r : FVec F S32x1024 .f32) (_ : FG V (yn c) 3 r), St V K c 36 ⊢ Q ((k0_pay6 m g r))) :
    St V K c 34 ⊢ wp frame (wpE (defs₀ (F := F)) 𝒱₀ c none) Set.univ (k0_part45 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 v363) Q := by
  rw [k0_part45_eq_skeleton]; unfold k0_part45_skel
  refine step_YS (n := 34) (by decide) (by decide +kernel) (vec2 (by decide)) rfl rfl ((by decide +kernel : ∀ c : Dev nD, (⟨k0_dev17 c, k0_dev17_lt c⟩ : Dev nD) = yn c) c) ?_
  refine step_W 35 (by decide) 3 3 (by decide +kernel) (by decide) rfl rfl ?_
  refine load_M ((by decide +kernel : ∀ c : Dev nD, k0_off180 c = ![ownR c 3, 0]) c) fun m hm => ?_
  refine load_G (k := 3) (n := 36) (by decide) (by decide +kernel) (vec2 (by decide)) fun g hg => ?_
  refine load_R (k := 3) (n := 36) (by decide) (by decide +kernel) (vec2 (by decide)) fun r hr => ?_
  exact ret_intro (hK m hm g hg r hr)

theorem part46 {Q : (BitVec 32) → sProp 𝕄} {m : FVec F S32x1 .f32} (hm : FM V c 3 m) {g : FVec F S32x1024 .f32} (hg : FG V c 3 g) {r : FVec F S32x1024 .f32} (hr : FG V (yn c) 3 r) (v2 : BitVec 32) (v5 : BitVec 32) (v8 : BitVec 32) (v9 : BitVec 32) (v11 : BitVec 32) (v14 : BitVec 32)
    (hK : ∀ (w1 : BitVec 32), St V K c 39 ⊢ Q (w1)) :
    St V K c 36 ⊢ wp frame (wpE (defs₀ (F := F)) 𝒱₀ c none) Set.univ (k0_part46 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 ((k0_pay6 m g r))) Q := by
  rw [k0_part46_eq_skeleton]; unfold k0_part46_skel
  refine load_O (n := 36) (by decide) (by decide +kernel) ((by decide +kernel : ∀ c : Dev nD, k0_off181 c = ![ownR c 3, 0]) c) fun _ => ?_
  refine step_SEL (n := 36) (by decide) (by decide +kernel) ((by decide +kernel : ∀ c : Dev nD, k0_off181 c = ![ownR c 3, 0]) c) ⟨m, g, r, hm, hg, hr, rfl⟩ ?_
  refine step_XS (n := 37) (by decide) (by decide +kernel) ((by decide +kernel : ∀ c : Dev nD, k0_off182 c 96#32 = ![ownR c 3, 0]) c) rfl rfl ((by decide +kernel : ∀ c : Dev nD, (⟨k0_dev18 c, k0_dev18_lt c⟩ : Dev nD) = xn c) c) ?_
  refine step_ZS (n := 38) (by decide) (by decide +kernel) ((by decide +kernel : ∀ c : Dev nD, k0_off182 c 96#32 = ![ownR c 3, 0]) c) rfl rfl ((by decide +kernel : ∀ c : Dev nD, (⟨k0_dev19 c, k0_dev19_lt c⟩ : Dev nD) = zn c) c) ?_
  exact ret_intro (hK _)

theorem part47 {Q : (BitVec 32) → sProp 𝕄} (v2 : BitVec 32) (v5 : BitVec 32) (v8 : BitVec 32) (v11 : BitVec 32) (v18 : BitVec 32) (v429 : BitVec 32)
    (hK : St V K c 42 ⊢ Q (32#32)) :
    St V K c 39 ⊢ wp frame (wpE (defs₀ (F := F)) 𝒱₀ c none) Set.univ (k0_part47 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v11 v18 v429) Q := by
  rw [k0_part47_eq_skeleton]; unfold k0_part47_skel
  refine step_W 39 (by decide) 1 7 (by decide +kernel) (by decide) rfl rfl ?_
  refine step_FZ (n := 40) (by decide) (by decide +kernel) ((by decide +kernel : ∀ c : Dev nD, k0_off183 c = ![xR c 1, 0]) c) rfl rfl ((by decide +kernel : ∀ c : Dev nD, (⟨k0_dev20 c, k0_dev20_lt c⟩ : Dev nD) = zn c) c) ?_
  refine step_W 41 (by decide) 1 9 (by decide +kernel) (by decide) rfl rfl ?_
  exact ret_intro (hK)

theorem part48 {Q : (Σ' (v480 : BitVec 32), k0_chk80 v480) → sProp 𝕄} (v2 : BitVec 32) (v5 : BitVec 32) (v8 : BitVec 32) (v9 : BitVec 32) (v10 : BitVec 32) (v14 : BitVec 32) (v22 : BitVec 32) (k0_hw71 : k0_chk71 (cntW V c 6 32))
    (hK : ∀ (hw : k0_chk80 (cntW V c 7 32)), St V K c 45 ⊢ Q ⟨cntW V c 7 32, hw⟩) :
    St V K c 42 ⊢ wp frame (wpE (defs₀ (F := F)) 𝒱₀ c none) Set.univ (k0_part48 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v10 v14 v22 (cntW V c 6 32) k0_hw71 32#32) Q := by
  rw [k0_part48_eq_skeleton]; unfold k0_part48_skel
  refine step_FX (n := 42) (by decide) (by decide +kernel) ((by decide +kernel : ∀ c : Dev nD, k0_off184 c = ![zR c 1 + 16, 0]) c) rfl rfl ((by decide +kernel : ∀ c : Dev nD, (⟨k0_dev21 c, k0_dev21_lt c⟩ : Dev nD) = xn c) c) ?_
  refine step_GI (n := 43) (by decide) (by decide +kernel) rfl (fun t => gi7 V c _ _ _ _ _ _ _ _ _ _ t) ?_
  refine unit_assume (trips_cnt V c 7).2.2 ?_
  refine step_GW (n := 44) (by decide) (by decide +kernel) (trips_cnt V c 6).1 rfl credit_row ?_
  refine step_none (trips_cnt V c 6).2.1 ?_
  exact ret_intro (hK _)

theorem part49 {Q : PUnit → sProp 𝕄} (v2 : BitVec 32) (v8 : BitVec 32) (v10 : BitVec 32) (v14 : BitVec 32)
    (hK : St V K c 48 ⊢ Q ⟨⟩) :
    St V K c 45 ⊢ wp frame (wpE (defs₀ (F := F)) 𝒱₀ c none) Set.univ (k0_part49 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14) Q := by
  rw [k0_part49_eq_skeleton]; unfold k0_part49_skel
  refine step_YS (n := 45) (by decide) (by decide +kernel) (vec2 (by decide)) rfl rfl ((by decide +kernel : ∀ c : Dev nD, (⟨k0_dev22 c, k0_dev22_lt c⟩ : Dev nD) = yn c) c) ?_
  refine step_W 46 (by decide) 4 3 (by decide +kernel) (by decide) rfl rfl ?_
  refine load_M ((by decide +kernel : ∀ c : Dev nD, k0_off209 c = ![ownR c 4, 0]) c) fun m hm => ?_
  refine load_G (k := 4) (n := 47) (by decide) (by decide +kernel) (vec2 (by decide)) fun g hg => ?_
  refine load_R (k := 4) (n := 47) (by decide) (by decide +kernel) (vec2 (by decide)) fun r hr => ?_
  refine load_O (n := 47) (by decide) (by decide +kernel) ((by decide +kernel : ∀ c : Dev nD, k0_off210 c = ![ownR c 4, 0]) c) fun _ => ?_
  refine step_SEL (n := 47) (by decide) (by decide +kernel) ((by decide +kernel : ∀ c : Dev nD, k0_off210 c = ![ownR c 4, 0]) c) ⟨m, g, r, hm, hg, hr, rfl⟩ ?_
  exact ret_intro (hK)

end Cert.KernelIdeal.Lookup
-- ==== Proof.Run1.lean ====
/-
  The program in pieces, part 50 to part 65.
-/
module

public import proofs.«01_k».proof.Proof.Loop0
public import proofs.«01_k».proof.Proof.Loop1
public import proofs.«01_k».proof.Proof.Loop2
public import proofs.«01_k».proof.Proof.Loop3
public import proofs.«01_k».proof.Proof.Select

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F) {K : GSem nD τ sig → ℕ} {c : Dev nD}

theorem part50 {Q : PUnit → sProp 𝕄} (v2 : BitVec 32) (v5 : BitVec 32) (v8 : BitVec 32) (v9 : BitVec 32) (v11 : BitVec 32) (v14 : BitVec 32)
    (hK : St V K c 50 ⊢ Q ⟨⟩) :
    St V K c 48 ⊢ wp frame (wpE (defs₀ (F := F)) 𝒱₀ c none) Set.univ (k0_part50 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14) Q := by
  rw [k0_part50_eq_skeleton]; unfold k0_part50_skel
  refine step_XS (n := 48) (by decide) (by decide +kernel) ((by decide +kernel : ∀ c : Dev nD, k0_off211 c 128#32 = ![ownR c 4, 0]) c) rfl rfl ((by decide +kernel : ∀ c : Dev nD, (⟨k0_dev23 c, k0_dev23_lt c⟩ : Dev nD) = xn c) c) ?_
  refine step_ZS (n := 49) (by decide) (by decide +kernel) ((by decide +kernel : ∀ c : Dev nD, k0_off211 c 128#32 = ![ownR c 4, 0]) c) rfl rfl ((by decide +kernel : ∀ c : Dev nD, (⟨k0_dev24 c, k0_dev24_lt c⟩ : Dev nD) = zn c) c) ?_
  exact ret_intro (hK)

theorem part51 {Q : PUnit → sProp 𝕄} (v2 : BitVec 32) (v5 : BitVec 32) (v11 : BitVec 32) (v18 : BitVec 32) (v22 : BitVec 32)
    (hK : St V K c 53 ⊢ Q ⟨⟩) :
    St V K c 50 ⊢ wp frame (wpE (defs₀ (F := F)) 𝒱₀ c none) Set.univ (k0_part51 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v11 v18 v22) Q := by
  rw [k0_part51_eq_skeleton]; unfold k0_part51_skel
  refine step_W 50 (by decide) 2 7 (by decide +kernel) (by decide) rfl rfl ?_
  refine step_FZ (n := 51) (by decide) (by decide +kernel) ((by decide +kernel : ∀ c : Dev nD, k0_off212 c = ![xR c 2, 0]) c) rfl rfl ((by decide +kernel : ∀ c : Dev nD, (⟨k0_dev25 c, k0_dev25_lt c⟩ : Dev nD) = zn c) c) ?_
  refine step_W 52 (by decide) 2 9 (by decide +kernel) (by decide) rfl rfl ?_
  exact ret_intro (hK)

theorem part52 {Q : (Σ' (v603 : BitVec 32), k0_chk89 v603) → sProp 𝕄} (v2 : BitVec 32) (v5 : BitVec 32) (v8 : BitVec 32) (v9 : BitVec 32) (v10 : BitVec 32) (v14 : BitVec 32) (k0_hw80 : k0_chk80 (cntW V c 7 32))
    (hK : ∀ (hw : k0_chk89 (cntW V c 8 32)), St V K c 56 ⊢ Q ⟨cntW V c 8 32, hw⟩) :
    St V K c 53 ⊢ wp frame (wpE (defs₀ (F := F)) 𝒱₀ c none) Set.univ (k0_part52 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v10 v14 (cntW V c 7 32) k0_hw80) Q := by
  rw [k0_part52_eq_skeleton]; unfold k0_part52_skel
  refine step_FX (n := 53) (by decide) (by decide +kernel) ((by decide +kernel : ∀ c : Dev nD, k0_off213 c = ![zR c 2 + 16, 0]) c) rfl rfl ((by decide +kernel : ∀ c : Dev nD, (⟨k0_dev26 c, k0_dev26_lt c⟩ : Dev nD) = xn c) c) ?_
  refine step_GI (n := 54) (by decide) (by decide +kernel) rfl (fun t => gi8 V c _ _ _ _ _ _ _ _ t) ?_
  refine unit_assume (trips_cnt V c 8).2.2 ?_
  refine step_GW (n := 55) (by decide) (by decide +kernel) (trips_cnt V c 7).1 rfl credit_row ?_
  refine step_none (trips_cnt V c 7).2.1 ?_
  exact ret_intro (hK _)

theorem part53 {Q : (BitVec 32) → sProp 𝕄} (v2 : BitVec 32) (v8 : BitVec 32) (v9 : BitVec 32) (v10 : BitVec 32) (v14 : BitVec 32)
    (hK : ∀ (w1 : BitVec 32), St V K c 59 ⊢ Q (w1)) :
    St V K c 56 ⊢ wp frame (wpE (defs₀ (F := F)) 𝒱₀ c none) Set.univ (k0_part53 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v9 v10 v14) Q := by
  rw [k0_part53_eq_skeleton]; unfold k0_part53_skel
  refine step_YS (n := 56) (by decide) (by decide +kernel) (vec2 (by decide)) rfl rfl ((by decide +kernel : ∀ c : Dev nD, (⟨k0_dev27 c, k0_dev27_lt c⟩ : Dev nD) = yn c) c) ?_
  refine step_W 57 (by decide) 5 3 (by decide +kernel) (by decide) rfl rfl ?_
  refine load_M ((by decide +kernel : ∀ c : Dev nD, k0_off238 c = ![ownR c 5, 0]) c) fun m hm => ?_
  refine load_G (k := 5) (n := 58) (by decide) (by decide +kernel) (vec2 (by decide)) fun g hg => ?_
  refine load_R (k := 5) (n := 58) (by decide) (by decide +kernel) (vec2 (by decide)) fun r hr => ?_
  refine load_O (n := 58) (by decide) (by decide +kernel) ((by decide +kernel : ∀ c : Dev nD, k0_off239 c = ![ownR c 5, 0]) c) fun _ => ?_
  refine step_SEL (n := 58) (by decide) (by decide +kernel) ((by decide +kernel : ∀ c : Dev nD, k0_off239 c = ![ownR c 5, 0]) c) ⟨m, g, r, hm, hg, hr, rfl⟩ ?_
  exact ret_intro (hK _)

theorem part54 {Q : (BitVec 32) → sProp 𝕄} (v2 : BitVec 32) (v5 : BitVec 32) (v8 : BitVec 32) (v9 : BitVec 32) (v11 : BitVec 32) (v14 : BitVec 32) (v650 : BitVec 32)
    (hK : St V K c 62 ⊢ Q (96#32)) :
    St V K c 59 ⊢ wp frame (wpE (defs₀ (F := F)) 𝒱₀ c none) Set.univ (k0_part54 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v650) Q := by
  rw [k0_part54_eq_skeleton]; unfold k0_part54_skel
  refine step_XS (n := 59) (by decide) (by decide +kernel) ((by decide +kernel : ∀ c : Dev nD, k0_off240 c 160#32 = ![ownR c 5, 0]) c) rfl rfl ((by decide +kernel : ∀ c : Dev nD, (⟨k0_dev28 c, k0_dev28_lt c⟩ : Dev nD) = xn c) c) ?_
  refine step_ZS (n := 60) (by decide) (by decide +kernel) ((by decide +kernel : ∀ c : Dev nD, k0_off240 c 160#32 = ![ownR c 5, 0]) c) rfl rfl ((by decide +kernel : ∀ c : Dev nD, (⟨k0_dev29 c, k0_dev29_lt c⟩ : Dev nD) = zn c) c) ?_
  refine step_W 61 (by decide) 3 7 (by decide +kernel) (by decide) rfl rfl ?_
  exact ret_intro (hK)

theorem part55 {Q : (BitVec 32) → sProp 𝕄} (v2 : BitVec 32) (v5 : BitVec 32) (v9 : BitVec 32) (v11 : BitVec 32) (v18 : BitVec 32) (v22 : BitVec 32)
    (hK : ∀ (w1 : BitVec 32), St V K c 64 ⊢ Q (w1)) :
    St V K c 62 ⊢ wp frame (wpE (defs₀ (F := F)) 𝒱₀ c none) Set.univ (k0_part55 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v9 v11 v18 v22 96#32) Q := by
  rw [k0_part55_eq_skeleton]; unfold k0_part55_skel
  refine step_FZ (n := 62) (by decide) (by decide +kernel) ((by decide +kernel : ∀ c : Dev nD, k0_off241 c = ![xR c 3, 0]) c) rfl rfl ((by decide +kernel : ∀ c : Dev nD, (⟨k0_dev30 c, k0_dev30_lt c⟩ : Dev nD) = zn c) c) ?_
  refine step_W 63 (by decide) 3 9 (by decide +kernel) (by decide) rfl rfl ?_
  exact ret_intro (hK _)

theorem part56 {Q : (Σ' (v726 : BitVec 32) (k0_hw98 : k0_chk98 v726) (v744 : BitVec 32), BitVec 32) → sProp 𝕄} (v2 : BitVec 32) (v8 : BitVec 32) (v10 : BitVec 32) (v14 : BitVec 32) (k0_hw89 : k0_chk89 (cntW V c 8 32)) (v716 : BitVec 32)
    (hK : ∀ (hw : k0_chk98 (cntW V c 9 32)) (w1 : BitVec 32), St V K c 68 ⊢ Q ⟨cntW V c 9 32, hw, w1, 0#32⟩) :
    St V K c 64 ⊢ wp frame (wpE (defs₀ (F := F)) 𝒱₀ c none) Set.univ (k0_part56 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 (cntW V c 8 32) k0_hw89 v716) Q := by
  rw [k0_part56_eq_skeleton]; unfold k0_part56_skel
  refine step_FX (n := 64) (by decide) (by decide +kernel) ((by decide +kernel : ∀ c : Dev nD, k0_off242 c = ![zR c 3 + 16, 0]) c) rfl rfl ((by decide +kernel : ∀ c : Dev nD, (⟨k0_dev31 c, k0_dev31_lt c⟩ : Dev nD) = xn c) c) ?_
  refine step_GI (n := 65) (by decide) (by decide +kernel) rfl (fun t => gi9 V c _ _ _ _ _ _ _ t) ?_
  refine unit_assume (trips_cnt V c 9).2.2 ?_
  refine step_GW (n := 66) (by decide) (by decide +kernel) (trips_cnt V c 8).1 rfl credit_row ?_
  refine step_none (trips_cnt V c 8).2.1 ?_
  refine step_YS (n := 67) (by decide) (by decide +kernel) (vec2 (by decide)) rfl rfl ((by decide +kernel : ∀ c : Dev nD, (⟨k0_dev32 c, k0_dev32_lt c⟩ : Dev nD) = yn c) c) ?_
  exact ret_intro (hK _ _)

theorem part57 {Q : PUnit → sProp 𝕄} (v5 : BitVec 32) (v8 : BitVec 32) (v9 : BitVec 32) (v10 : BitVec 32) (v14 : BitVec 32) (v744 : BitVec 32)
    (hK : St V K c 70 ⊢ Q ⟨⟩) :
    St V K c 68 ⊢ wp frame (wpE (defs₀ (F := F)) 𝒱₀ c none) Set.univ (k0_part57 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v5 v8 v9 v10 v14 v744 0#32) Q := by
  rw [k0_part57_eq_skeleton]; unfold k0_part57_skel
  refine step_W 68 (by decide) 6 3 (by decide +kernel) (by decide) rfl rfl ?_
  refine load_M ((by decide +kernel : ∀ c : Dev nD, k0_off267 c = ![ownR c 6, 0]) c) fun m hm => ?_
  refine load_G (k := 6) (n := 69) (by decide) (by decide +kernel) (vec2 (by decide)) fun g hg => ?_
  refine load_R (k := 6) (n := 69) (by decide) (by decide +kernel) (vec2 (by decide)) fun r hr => ?_
  refine load_O (n := 69) (by decide) (by decide +kernel) ((by decide +kernel : ∀ c : Dev nD, k0_off268 c = ![ownR c 6, 0]) c) fun _ => ?_
  refine step_SEL (n := 69) (by decide) (by decide +kernel) ((by decide +kernel : ∀ c : Dev nD, k0_off268 c = ![ownR c 6, 0]) c) ⟨m, g, r, hm, hg, hr, rfl⟩ ?_
  exact ret_intro (hK)

theorem part58 {Q : (Σ' (v810 : BitVec 32), BitVec 32) → sProp 𝕄} (v2 : BitVec 32) (v5 : BitVec 32) (v8 : BitVec 32) (v9 : BitVec 32) (v11 : BitVec 32) (v14 : BitVec 32) (v18 : BitVec 32)
    (hK : ∀ (w1 : BitVec 32), St V K c 73 ⊢ Q ⟨w1, 0#32⟩) :
    St V K c 70 ⊢ wp frame (wpE (defs₀ (F := F)) 𝒱₀ c none) Set.univ (k0_part58 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v18) Q := by
  rw [k0_part58_eq_skeleton]; unfold k0_part58_skel
  refine step_XS (n := 70) (by decide) (by decide +kernel) ((by decide +kernel : ∀ c : Dev nD, k0_off269 c 192#32 = ![ownR c 6, 0]) c) rfl rfl ((by decide +kernel : ∀ c : Dev nD, (⟨k0_dev33 c, k0_dev33_lt c⟩ : Dev nD) = xn c) c) ?_
  refine step_ZS (n := 71) (by decide) (by decide +kernel) ((by decide +kernel : ∀ c : Dev nD, k0_off269 c 192#32 = ![ownR c 6, 0]) c) rfl rfl ((by decide +kernel : ∀ c : Dev nD, (⟨k0_dev34 c, k0_dev34_lt c⟩ : Dev nD) = zn c) c) ?_
  refine step_W 72 (by decide) 4 7 (by decide +kernel) (by decide) rfl rfl ?_
  exact ret_intro (hK _)

theorem part59 {Q : PUnit → sProp 𝕄} (v2 : BitVec 32) (v5 : BitVec 32) (v8 : BitVec 32) (v9 : BitVec 32) (v11 : BitVec 32) (v22 : BitVec 32) (v810 : BitVec 32)
    (hK : St V K c 75 ⊢ Q ⟨⟩) :
    St V K c 73 ⊢ wp frame (wpE (defs₀ (F := F)) 𝒱₀ c none) Set.univ (k0_part59 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v22 v810 0#32) Q := by
  rw [k0_part59_eq_skeleton]; unfold k0_part59_skel
  refine step_FZ (n := 73) (by decide) (by decide +kernel) ((by decide +kernel : ∀ c : Dev nD, k0_off270 c = ![xR c 4, 0]) c) rfl rfl ((by decide +kernel : ∀ c : Dev nD, (⟨k0_dev35 c, k0_dev35_lt c⟩ : Dev nD) = zn c) c) ?_
  refine step_W 74 (by decide) 4 9 (by decide +kernel) (by decide) rfl rfl ?_
  exact ret_intro (hK)

theorem part60 {Q : (Σ' (v849 : BitVec 32), k0_chk107 v849) → sProp 𝕄} (v2 : BitVec 32) (v8 : BitVec 32) (v10 : BitVec 32) (v14 : BitVec 32) (k0_hw98 : k0_chk98 (cntW V c 9 32))
    (hK : ∀ (hw : k0_chk107 (cntW V c 10 32)), St V K c 79 ⊢ Q ⟨cntW V c 10 32, hw⟩) :
    St V K c 75 ⊢ wp frame (wpE (defs₀ (F := F)) 𝒱₀ c none) Set.univ (k0_part60 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 (cntW V c 9 32) k0_hw98) Q := by
  rw [k0_part60_eq_skeleton]; unfold k0_part60_skel
  refine step_FX (n := 75) (by decide) (by decide +kernel) ((by decide +kernel : ∀ c : Dev nD, k0_off271 c = ![zR c 4 + 16, 0]) c) rfl rfl ((by decide +kernel : ∀ c : Dev nD, (⟨k0_dev36 c, k0_dev36_lt c⟩ : Dev nD) = xn c) c) ?_
  refine step_GI (n := 76) (by decide) (by decide +kernel) rfl (fun t => gi10 V c _ _ _ _ _ _ t) ?_
  refine unit_assume (trips_cnt V c 10).2.2 ?_
  refine step_GW (n := 77) (by decide) (by decide +kernel) (trips_cnt V c 9).1 rfl credit_row ?_
  refine step_none (trips_cnt V c 9).2.1 ?_
  refine step_YS (n := 78) (by decide) (by decide +kernel) (vec2 (by decide)) rfl rfl ((by decide +kernel : ∀ c : Dev nD, (⟨k0_dev37 c, k0_dev37_lt c⟩ : Dev nD) = yn c) c) ?_
  exact ret_intro (hK _)

theorem part61 {Q : (BitVec 32) → sProp 𝕄} (v5 : BitVec 32) (v8 : BitVec 32) (v9 : BitVec 32) (v14 : BitVec 32)
    (hK : St V K c 82 ⊢ Q (224#32)) :
    St V K c 79 ⊢ wp frame (wpE (defs₀ (F := F)) 𝒱₀ c none) Set.univ (k0_part61 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v5 v8 v9 v14) Q := by
  rw [k0_part61_eq_skeleton]; unfold k0_part61_skel
  refine step_W 79 (by decide) 7 3 (by decide +kernel) (by decide) rfl rfl ?_
  refine load_M ((by decide +kernel : ∀ c : Dev nD, k0_off296 c = ![ownR c 7, 0]) c) fun m hm => ?_
  refine load_G (k := 7) (n := 80) (by decide) (by decide +kernel) (vec2 (by decide)) fun g hg => ?_
  refine load_R (k := 7) (n := 80) (by decide) (by decide +kernel) (vec2 (by decide)) fun r hr => ?_
  refine load_O (n := 80) (by decide) (by decide +kernel) ((by decide +kernel : ∀ c : Dev nD, k0_off297 c = ![ownR c 7, 0]) c) fun _ => ?_
  refine step_SEL (n := 80) (by decide) (by decide +kernel) ((by decide +kernel : ∀ c : Dev nD, k0_off297 c = ![ownR c 7, 0]) c) ⟨m, g, r, hm, hg, hr, rfl⟩ ?_
  refine step_XS (n := 81) (by decide) (by decide +kernel) ((by decide +kernel : ∀ c : Dev nD, k0_off298 c 224#32 = ![ownR c 7, 0]) c) rfl rfl ((by decide +kernel : ∀ c : Dev nD, (⟨k0_dev38 c, k0_dev38_lt c⟩ : Dev nD) = xn c) c) ?_
  exact ret_intro (hK)

theorem part62 {Q : PUnit → sProp 𝕄} (v2 : BitVec 32) (v5 : BitVec 32) (v8 : BitVec 32) (v9 : BitVec 32) (v11 : BitVec 32) (v14 : BitVec 32) (v18 : BitVec 32)
    (hK : St V K c 84 ⊢ Q ⟨⟩) :
    St V K c 82 ⊢ wp frame (wpE (defs₀ (F := F)) 𝒱₀ c none) Set.univ (k0_part62 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v18 224#32) Q := by
  rw [k0_part62_eq_skeleton]; unfold k0_part62_skel
  refine step_ZS (n := 82) (by decide) (by decide +kernel) ((by decide +kernel : ∀ c : Dev nD, k0_off298 c 224#32 = ![ownR c 7, 0]) c) rfl rfl ((by decide +kernel : ∀ c : Dev nD, (⟨k0_dev39 c, k0_dev39_lt c⟩ : Dev nD) = zn c) c) ?_
  refine step_W 83 (by decide) 5 7 (by decide +kernel) (by decide) rfl rfl ?_
  exact ret_intro (hK)

theorem part63 {Q : (Σ' (c0_i32_752 : BitVec 32), BitVec 32) → sProp 𝕄} (v2 : BitVec 32) (v5 : BitVec 32) (v8 : BitVec 32) (v9 : BitVec 32) (v11 : BitVec 32) (v22 : BitVec 32)
    (hK : St V K c 87 ⊢ Q ⟨0#32, 0#32⟩) :
    St V K c 84 ⊢ wp frame (wpE (defs₀ (F := F)) 𝒱₀ c none) Set.univ (k0_part63 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v22) Q := by
  rw [k0_part63_eq_skeleton]; unfold k0_part63_skel
  refine step_FZ (n := 84) (by decide) (by decide +kernel) ((by decide +kernel : ∀ c : Dev nD, k0_off299 c = ![xR c 5, 0]) c) rfl rfl ((by decide +kernel : ∀ c : Dev nD, (⟨k0_dev40 c, k0_dev40_lt c⟩ : Dev nD) = zn c) c) ?_
  refine step_W 85 (by decide) 5 9 (by decide +kernel) (by decide) rfl rfl ?_
  refine step_FX (n := 86) (by decide) (by decide +kernel) ((by decide +kernel : ∀ c : Dev nD, k0_off300 c = ![zR c 5 + 16, 0]) c) rfl rfl ((by decide +kernel : ∀ c : Dev nD, (⟨k0_dev41 c, k0_dev41_lt c⟩ : Dev nD) = xn c) c) ?_
  exact ret_intro (hK)

theorem part64 {Q : (Σ' (v972 : BitVec 32), k0_chk116 v972) → sProp 𝕄} (v2 : BitVec 32) (v8 : BitVec 32) (v10 : BitVec 32) (v14 : BitVec 32) (k0_hw107 : k0_chk107 (cntW V c 10 32))
    (hK : ∀ (hw : k0_chk116 (cntW V c 11 32)), St V K c 91 ⊢ Q ⟨cntW V c 11 32, hw⟩) :
    St V K c 87 ⊢ wp frame (wpE (defs₀ (F := F)) 𝒱₀ c none) Set.univ (k0_part64 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 (cntW V c 10 32) k0_hw107 0#32 0#32) Q := by
  rw [k0_part64_eq_skeleton]; unfold k0_part64_skel
  refine step_GI (n := 87) (by decide) (by decide +kernel) rfl (fun t => gi11 V c _ _ _ _ _ _ _ _ t) ?_
  refine unit_assume (trips_cnt V c 11).2.2 ?_
  refine step_GW (n := 88) (by decide) (by decide +kernel) (trips_cnt V c 10).1 rfl credit_row ?_
  refine step_none (trips_cnt V c 10).2.1 ?_
  refine step_YS (n := 89) (by decide) (by decide +kernel) (vec2 (by decide)) rfl rfl ((by decide +kernel : ∀ c : Dev nD, (⟨k0_dev42 c, k0_dev42_lt c⟩ : Dev nD) = yn c) c) ?_
  refine step_W 90 (by decide) 8 3 (by decide +kernel) (by decide) rfl rfl ?_
  exact ret_intro (hK _)

theorem part65 {Q : (Σ' (v1032 : BitVec 32), BitVec 32) → sProp 𝕄} (v2 : BitVec 32) (v5 : BitVec 32) (v8 : BitVec 32) (v9 : BitVec 32) (v14 : BitVec 32)
    (hK : ∀ (w1 : BitVec 32), St V K c 93 ⊢ Q ⟨w1, 0#32⟩) :
    St V K c 91 ⊢ wp frame (wpE (defs₀ (F := F)) 𝒱₀ c none) Set.univ (k0_part65 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v14) Q := by
  rw [k0_part65_eq_skeleton]; unfold k0_part65_skel
  refine load_M ((by decide +kernel : ∀ c : Dev nD, k0_off325 c = ![ownR c 8, 0]) c) fun m hm => ?_
  refine load_G (k := 8) (n := 91) (by decide) (by decide +kernel) (vec2 (by decide)) fun g hg => ?_
  refine load_R (k := 8) (n := 91) (by decide) (by decide +kernel) (vec2 (by decide)) fun r hr => ?_
  refine load_O (n := 91) (by decide) (by decide +kernel) ((by decide +kernel : ∀ c : Dev nD, k0_off326 c = ![ownR c 8, 0]) c) fun _ => ?_
  refine step_SEL (n := 91) (by decide) (by decide +kernel) ((by decide +kernel : ∀ c : Dev nD, k0_off326 c = ![ownR c 8, 0]) c) ⟨m, g, r, hm, hg, hr, rfl⟩ ?_
  refine step_XS (n := 92) (by decide) (by decide +kernel) ((by decide +kernel : ∀ c : Dev nD, k0_off327 c 256#32 = ![ownR c 8, 0]) c) rfl rfl ((by decide +kernel : ∀ c : Dev nD, (⟨k0_dev43 c, k0_dev43_lt c⟩ : Dev nD) = xn c) c) ?_
  exact ret_intro (hK _)

end Cert.KernelIdeal.Lookup
-- ==== Proof.Run2.lean ====
/-
  The program in pieces, part 66 to part 81.
-/
module

public import proofs.«01_k».proof.Proof.Loop0
public import proofs.«01_k».proof.Proof.Loop1
public import proofs.«01_k».proof.Proof.Loop2
public import proofs.«01_k».proof.Proof.Loop3
public import proofs.«01_k».proof.Proof.Select

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F) {K : GSem nD τ sig → ℕ} {c : Dev nD}

theorem part66 {Q : PUnit → sProp 𝕄} (v2 : BitVec 32) (v5 : BitVec 32) (v8 : BitVec 32) (v9 : BitVec 32) (v11 : BitVec 32) (v18 : BitVec 32) (v1032 : BitVec 32)
    (hK : St V K c 96 ⊢ Q ⟨⟩) :
    St V K c 93 ⊢ wp frame (wpE (defs₀ (F := F)) 𝒱₀ c none) Set.univ (k0_part66 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v18 v1032 0#32) Q := by
  rw [k0_part66_eq_skeleton]; unfold k0_part66_skel
  refine step_ZS (n := 93) (by decide) (by decide +kernel) ((by decide +kernel : ∀ c : Dev nD, k0_off327 c 256#32 = ![ownR c 8, 0]) c) rfl rfl ((by decide +kernel : ∀ c : Dev nD, (⟨k0_dev44 c, k0_dev44_lt c⟩ : Dev nD) = zn c) c) ?_
  refine step_W 94 (by decide) 6 7 (by decide +kernel) (by decide) rfl rfl ?_
  refine step_FZ (n := 95) (by decide) (by decide +kernel) ((by decide +kernel : ∀ c : Dev nD, k0_off328 c = ![xR c 6, 0]) c) rfl rfl ((by decide +kernel : ∀ c : Dev nD, (⟨k0_dev45 c, k0_dev45_lt c⟩ : Dev nD) = zn c) c) ?_
  exact ret_intro (hK)

theorem part67 {Q : (Σ' (v1095 : BitVec 32) (k0_hw125 : k0_chk125 v1095) (c0_i32_852 : BitVec 32), BitVec 32) → sProp 𝕄} (v2 : BitVec 32) (v5 : BitVec 32) (v8 : BitVec 32) (v9 : BitVec 32) (v11 : BitVec 32) (v14 : BitVec 32) (v22 : BitVec 32)
    (hK : ∀ (hw : k0_chk125 (cntW V c 12 32)) (w1 : BitVec 32), St V K c 99 ⊢ Q ⟨cntW V c 12 32, hw, 0#32, w1⟩) :
    St V K c 96 ⊢ wp frame (wpE (defs₀ (F := F)) 𝒱₀ c none) Set.univ (k0_part67 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v22 (cntW V c 11 32)) Q := by
  rw [k0_part67_eq_skeleton]; unfold k0_part67_skel
  refine step_W 96 (by decide) 6 9 (by decide +kernel) (by decide) rfl rfl ?_
  refine step_FX (n := 97) (by decide) (by decide +kernel) ((by decide +kernel : ∀ c : Dev nD, k0_off329 c = ![zR c 6 + 16, 0]) c) rfl rfl ((by decide +kernel : ∀ c : Dev nD, (⟨k0_dev46 c, k0_dev46_lt c⟩ : Dev nD) = xn c) c) ?_
  refine step_GI (n := 98) (by decide) (by decide +kernel) rfl (fun t => gi12 V c _ _ _ _ _ _ _ _ t) ?_
  refine unit_assume (trips_cnt V c 12).2.2 ?_
  exact ret_intro (hK _ _)

theorem part68 {Q : (FVec F S32x1 .f32) → sProp 𝕄} (v2 : BitVec 32) (v8 : BitVec 32) (v10 : BitVec 32) (v14 : BitVec 32) (k0_hw116 : k0_chk116 (cntW V c 11 32)) (v1096 : BitVec 32)
    (hK : ∀ (m : FVec F S32x1 .f32) (_ : FM V c 9 m), St V K c 102 ⊢ Q ((k0_pay12 m))) :
    St V K c 99 ⊢ wp frame (wpE (defs₀ (F := F)) 𝒱₀ c none) Set.univ (k0_part68 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 (cntW V c 11 32) k0_hw116 0#32 v1096) Q := by
  rw [k0_part68_eq_skeleton]; unfold k0_part68_skel
  refine step_GW (n := 99) (by decide) (by decide +kernel) (trips_cnt V c 11).1 rfl credit_row ?_
  refine step_none (trips_cnt V c 11).2.1 ?_
  refine step_YS (n := 100) (by decide) (by decide +kernel) (vec2 (by decide)) rfl rfl ((by decide +kernel : ∀ c : Dev nD, (⟨k0_dev47 c, k0_dev47_lt c⟩ : Dev nD) = yn c) c) ?_
  refine step_W 101 (by decide) 9 3 (by decide +kernel) (by decide) rfl rfl ?_
  refine load_M ((by decide +kernel : ∀ c : Dev nD, k0_off354 c = ![ownR c 9, 0]) c) fun m hm => ?_
  exact ret_intro (hK m hm)

theorem part69 {Q : PUnit → sProp 𝕄} {m : FVec F S32x1 .f32} (hm : FM V c 9 m) (v2 : BitVec 32) (v5 : BitVec 32) (v8 : BitVec 32) (v9 : BitVec 32) (v11 : BitVec 32) (v14 : BitVec 32)
    (hK : St V K c 104 ⊢ Q ⟨⟩) :
    St V K c 102 ⊢ wp frame (wpE (defs₀ (F := F)) 𝒱₀ c none) Set.univ (k0_part69 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 ((k0_pay12 m))) Q := by
  rw [k0_part69_eq_skeleton]; unfold k0_part69_skel
  refine load_G (k := 9) (n := 102) (by decide) (by decide +kernel) (vec2 (by decide)) fun g hg => ?_
  refine load_R (k := 9) (n := 102) (by decide) (by decide +kernel) (vec2 (by decide)) fun r hr => ?_
  refine load_O (n := 102) (by decide) (by decide +kernel) ((by decide +kernel : ∀ c : Dev nD, k0_off355 c = ![ownR c 9, 0]) c) fun _ => ?_
  refine step_SEL (n := 102) (by decide) (by decide +kernel) ((by decide +kernel : ∀ c : Dev nD, k0_off355 c = ![ownR c 9, 0]) c) ⟨m, g, r, hm, hg, hr, rfl⟩ ?_
  refine step_XS (n := 103) (by decide) (by decide +kernel) ((by decide +kernel : ∀ c : Dev nD, k0_off356 c 288#32 = ![ownR c 9, 0]) c) rfl rfl ((by decide +kernel : ∀ c : Dev nD, (⟨k0_dev48 c, k0_dev48_lt c⟩ : Dev nD) = xn c) c) ?_
  exact ret_intro (hK)

theorem part70 {Q : (Σ' (v1192 : BitVec 32), BitVec 32) → sProp 𝕄} (v2 : BitVec 32) (v5 : BitVec 32) (v8 : BitVec 32) (v9 : BitVec 32) (v11 : BitVec 32) (v18 : BitVec 32)
    (hK : ∀ (w1 : BitVec 32) (w2 : BitVec 32), St V K c 107 ⊢ Q ⟨w1, w2⟩) :
    St V K c 104 ⊢ wp frame (wpE (defs₀ (F := F)) 𝒱₀ c none) Set.univ (k0_part70 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v18) Q := by
  rw [k0_part70_eq_skeleton]; unfold k0_part70_skel
  refine step_ZS (n := 104) (by decide) (by decide +kernel) ((by decide +kernel : ∀ c : Dev nD, k0_off356 c 288#32 = ![ownR c 9, 0]) c) rfl rfl ((by decide +kernel : ∀ c : Dev nD, (⟨k0_dev49 c, k0_dev49_lt c⟩ : Dev nD) = zn c) c) ?_
  refine step_W 105 (by decide) 7 7 (by decide +kernel) (by decide) rfl rfl ?_
  refine step_FZ (n := 106) (by decide) (by decide +kernel) ((by decide +kernel : ∀ c : Dev nD, k0_off357 c = ![xR c 7, 0]) c) rfl rfl ((by decide +kernel : ∀ c : Dev nD, (⟨k0_dev50 c, k0_dev50_lt c⟩ : Dev nD) = zn c) c) ?_
  exact ret_intro (hK _ _)

theorem part71 {Q : (Σ' (v1218 : BitVec 32), k0_chk134 v1218) → sProp 𝕄} (v5 : BitVec 32) (v8 : BitVec 32) (v9 : BitVec 32) (v11 : BitVec 32) (v14 : BitVec 32) (v22 : BitVec 32) (k0_hw125 : k0_chk125 (cntW V c 12 32)) (v1192 : BitVec 32) (v1193 : BitVec 32)
    (hK : ∀ (hw : k0_chk134 (cntW V c 13 32)), St V K c 111 ⊢ Q ⟨cntW V c 13 32, hw⟩) :
    St V K c 107 ⊢ wp frame (wpE (defs₀ (F := F)) 𝒱₀ c none) Set.univ (k0_part71 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v5 v8 v9 v11 v14 v22 (cntW V c 12 32) k0_hw125 v1192 v1193) Q := by
  rw [k0_part71_eq_skeleton]; unfold k0_part71_skel
  refine step_W 107 (by decide) 7 9 (by decide +kernel) (by decide) rfl rfl ?_
  refine step_FX (n := 108) (by decide) (by decide +kernel) ((by decide +kernel : ∀ c : Dev nD, k0_off358 c = ![zR c 7 + 16, 0]) c) rfl rfl ((by decide +kernel : ∀ c : Dev nD, (⟨k0_dev51 c, k0_dev51_lt c⟩ : Dev nD) = xn c) c) ?_
  refine step_GI (n := 109) (by decide) (by decide +kernel) rfl (fun t => gi13 V c _ _ _ _ _ _ _ _ _ _ t) ?_
  refine unit_assume (trips_cnt V c 13).2.2 ?_
  refine step_GW (n := 110) (by decide) (by decide +kernel) (trips_cnt V c 12).1 rfl credit_row ?_
  refine step_none (trips_cnt V c 12).2.1 ?_
  exact ret_intro (hK _)

theorem part72 {Q : (Σ' (v1252 : FVec F S32x1024 .f32), FVec F S32x1 .f32) → sProp 𝕄} (v2 : BitVec 32) (v8 : BitVec 32) (v10 : BitVec 32) (v14 : BitVec 32)
    (hK : ∀ (m : FVec F S32x1 .f32) (_ : FM V c 10 m) (g : FVec F S32x1024 .f32) (_ : FG V c 10 g), St V K c 113 ⊢ Q ⟨k0_pay15 m g, k0_pay16 m⟩) :
    St V K c 111 ⊢ wp frame (wpE (defs₀ (F := F)) 𝒱₀ c none) Set.univ (k0_part72 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14) Q := by
  rw [k0_part72_eq_skeleton]; unfold k0_part72_skel
  refine step_YS (n := 111) (by decide) (by decide +kernel) (vec2 (by decide)) rfl rfl ((by decide +kernel : ∀ c : Dev nD, (⟨k0_dev52 c, k0_dev52_lt c⟩ : Dev nD) = yn c) c) ?_
  refine step_W 112 (by decide) 10 3 (by decide +kernel) (by decide) rfl rfl ?_
  refine load_M ((by decide +kernel : ∀ c : Dev nD, k0_off383 c = ![ownR c 10, 0]) c) fun m hm => ?_
  refine load_G (k := 10) (n := 113) (by decide) (by decide +kernel) (vec2 (by decide)) fun g hg => ?_
  exact ret_intro (hK m hm g hg)

theorem part73 {Q : PUnit → sProp 𝕄} {m : FVec F S32x1 .f32} (hm : FM V c 10 m) {g : FVec F S32x1024 .f32} (hg : FG V c 10 g) (v2 : BitVec 32) (v5 : BitVec 32) (v8 : BitVec 32) (v9 : BitVec 32) (v11 : BitVec 32) (v14 : BitVec 32)
    (hK : St V K c 116 ⊢ Q ⟨⟩) :
    St V K c 113 ⊢ wp frame (wpE (defs₀ (F := F)) 𝒱₀ c none) Set.univ (k0_part73 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 (k0_pay15 m g) (k0_pay16 m)) Q := by
  rw [k0_part73_eq_skeleton]; unfold k0_part73_skel
  refine load_R (k := 10) (n := 113) (by decide) (by decide +kernel) (vec2 (by decide)) fun r hr => ?_
  refine load_O (n := 113) (by decide) (by decide +kernel) ((by decide +kernel : ∀ c : Dev nD, k0_off384 c = ![ownR c 10, 0]) c) fun _ => ?_
  refine step_SEL (n := 113) (by decide) (by decide +kernel) ((by decide +kernel : ∀ c : Dev nD, k0_off384 c = ![ownR c 10, 0]) c) ⟨m, g, r, hm, hg, hr, rfl⟩ ?_
  refine step_XS (n := 114) (by decide) (by decide +kernel) ((by decide +kernel : ∀ c : Dev nD, k0_off385 c 320#32 = ![ownR c 10, 0]) c) rfl rfl ((by decide +kernel : ∀ c : Dev nD, (⟨k0_dev53 c, k0_dev53_lt c⟩ : Dev nD) = xn c) c) ?_
  refine step_ZS (n := 115) (by decide) (by decide +kernel) ((by decide +kernel : ∀ c : Dev nD, k0_off385 c 320#32 = ![ownR c 10, 0]) c) rfl rfl ((by decide +kernel : ∀ c : Dev nD, (⟨k0_dev54 c, k0_dev54_lt c⟩ : Dev nD) = zn c) c) ?_
  exact ret_intro (hK)

theorem part74 {Q : PUnit → sProp 𝕄} (v2 : BitVec 32) (v5 : BitVec 32) (v8 : BitVec 32) (v9 : BitVec 32) (v11 : BitVec 32) (v18 : BitVec 32)
    (hK : St V K c 118 ⊢ Q ⟨⟩) :
    St V K c 116 ⊢ wp frame (wpE (defs₀ (F := F)) 𝒱₀ c none) Set.univ (k0_part74 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v18) Q := by
  rw [k0_part74_eq_skeleton]; unfold k0_part74_skel
  refine step_W 116 (by decide) 8 7 (by decide +kernel) (by decide) rfl rfl ?_
  refine step_FZ (n := 117) (by decide) (by decide +kernel) ((by decide +kernel : ∀ c : Dev nD, k0_off386 c = ![xR c 8, 0]) c) rfl rfl ((by decide +kernel : ∀ c : Dev nD, (⟨k0_dev55 c, k0_dev55_lt c⟩ : Dev nD) = zn c) c) ?_
  exact ret_intro (hK)

theorem part75 {Q : (Σ' (v1341 : BitVec 32) (k0_hw143 : k0_chk143 v1341) (v1348 : BitVec 32), BitVec 32) → sProp 𝕄} (v2 : BitVec 32) (v5 : BitVec 32) (v8 : BitVec 32) (v9 : BitVec 32) (v10 : BitVec 32) (v14 : BitVec 32) (v22 : BitVec 32) (k0_hw134 : k0_chk134 (cntW V c 13 32))
    (hK : ∀ (hw : k0_chk143 (cntW V c 14 32)) (w1 : BitVec 32) (w2 : BitVec 32), St V K c 122 ⊢ Q ⟨cntW V c 14 32, hw, w1, w2⟩) :
    St V K c 118 ⊢ wp frame (wpE (defs₀ (F := F)) 𝒱₀ c none) Set.univ (k0_part75 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v10 v14 v22 (cntW V c 13 32) k0_hw134) Q := by
  rw [k0_part75_eq_skeleton]; unfold k0_part75_skel
  refine step_W 118 (by decide) 8 9 (by decide +kernel) (by decide) rfl rfl ?_
  refine step_FX (n := 119) (by decide) (by decide +kernel) ((by decide +kernel : ∀ c : Dev nD, k0_off387 c = ![zR c 8 + 16, 0]) c) rfl rfl ((by decide +kernel : ∀ c : Dev nD, (⟨k0_dev56 c, k0_dev56_lt c⟩ : Dev nD) = xn c) c) ?_
  refine step_GI (n := 120) (by decide) (by decide +kernel) rfl (fun t => gi14 V c _ _ _ _ _ _ _ _ _ t) ?_
  refine unit_assume (trips_cnt V c 14).2.2 ?_
  refine step_GW (n := 121) (by decide) (by decide +kernel) (trips_cnt V c 13).1 rfl credit_row ?_
  refine step_none (trips_cnt V c 13).2.1 ?_
  exact ret_intro (hK _ _ _)

theorem part76 {Q : (FVec F S32x1024 .f32) → sProp 𝕄} (v2 : BitVec 32) (v8 : BitVec 32) (v10 : BitVec 32) (v14 : BitVec 32) (v1348 : BitVec 32) (v1349 : BitVec 32)
    (hK : ∀ (m : FVec F S32x1 .f32) (_ : FM V c 11 m) (g : FVec F S32x1024 .f32) (_ : FG V c 11 g) (r : FVec F S32x1024 .f32) (_ : FG V (yn c) 11 r), St V K c 124 ⊢ Q ((k0_pay18 m g r))) :
    St V K c 122 ⊢ wp frame (wpE (defs₀ (F := F)) 𝒱₀ c none) Set.univ (k0_part76 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14 v1348 v1349) Q := by
  rw [k0_part76_eq_skeleton]; unfold k0_part76_skel
  refine step_YS (n := 122) (by decide) (by decide +kernel) (vec2 (by decide)) rfl rfl ((by decide +kernel : ∀ c : Dev nD, (⟨k0_dev57 c, k0_dev57_lt c⟩ : Dev nD) = yn c) c) ?_
  refine step_W 123 (by decide) 11 3 (by decide +kernel) (by decide) rfl rfl ?_
  refine load_M ((by decide +kernel : ∀ c : Dev nD, k0_off412 c = ![ownR c 11, 0]) c) fun m hm => ?_
  refine load_G (k := 11) (n := 124) (by decide) (by decide +kernel) (vec2 (by decide)) fun g hg => ?_
  refine load_R (k := 11) (n := 124) (by decide) (by decide +kernel) (vec2 (by decide)) fun r hr => ?_
  exact ret_intro (hK m hm g hg r hr)

theorem part77 {Q : (Σ' (v1414 : BitVec 32), BitVec 32) → sProp 𝕄} {m : FVec F S32x1 .f32} (hm : FM V c 11 m) {g : FVec F S32x1024 .f32} (hg : FG V c 11 g) {r : FVec F S32x1024 .f32} (hr : FG V (yn c) 11 r) (v2 : BitVec 32) (v5 : BitVec 32) (v8 : BitVec 32) (v9 : BitVec 32) (v11 : BitVec 32) (v14 : BitVec 32)
    (hK : ∀ (w1 : BitVec 32) (w2 : BitVec 32), St V K c 127 ⊢ Q ⟨w1, w2⟩) :
    St V K c 124 ⊢ wp frame (wpE (defs₀ (F := F)) 𝒱₀ c none) Set.univ (k0_part77 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 ((k0_pay18 m g r))) Q := by
  rw [k0_part77_eq_skeleton]; unfold k0_part77_skel
  refine load_O (n := 124) (by decide) (by decide +kernel) ((by decide +kernel : ∀ c : Dev nD, k0_off413 c = ![ownR c 11, 0]) c) fun _ => ?_
  refine step_SEL (n := 124) (by decide) (by decide +kernel) ((by decide +kernel : ∀ c : Dev nD, k0_off413 c = ![ownR c 11, 0]) c) ⟨m, g, r, hm, hg, hr, rfl⟩ ?_
  refine step_XS (n := 125) (by decide) (by decide +kernel) ((by decide +kernel : ∀ c : Dev nD, k0_off414 c 352#32 = ![ownR c 11, 0]) c) rfl rfl ((by decide +kernel : ∀ c : Dev nD, (⟨k0_dev58 c, k0_dev58_lt c⟩ : Dev nD) = xn c) c) ?_
  refine step_ZS (n := 126) (by decide) (by decide +kernel) ((by decide +kernel : ∀ c : Dev nD, k0_off414 c 352#32 = ![ownR c 11, 0]) c) rfl rfl ((by decide +kernel : ∀ c : Dev nD, (⟨k0_dev59 c, k0_dev59_lt c⟩ : Dev nD) = zn c) c) ?_
  exact ret_intro (hK _ _)

theorem part78 {Q : (BitVec 32) → sProp 𝕄} (v2 : BitVec 32) (v5 : BitVec 32) (v8 : BitVec 32) (v11 : BitVec 32) (v18 : BitVec 32) (v22 : BitVec 32) (v1414 : BitVec 32) (v1415 : BitVec 32)
    (hK : St V K c 130 ⊢ Q (288#32)) :
    St V K c 127 ⊢ wp frame (wpE (defs₀ (F := F)) 𝒱₀ c none) Set.univ (k0_part78 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v11 v18 v22 v1414 v1415) Q := by
  rw [k0_part78_eq_skeleton]; unfold k0_part78_skel
  refine step_W 127 (by decide) 9 7 (by decide +kernel) (by decide) rfl rfl ?_
  refine step_FZ (n := 128) (by decide) (by decide +kernel) ((by decide +kernel : ∀ c : Dev nD, k0_off415 c = ![xR c 9, 0]) c) rfl rfl ((by decide +kernel : ∀ c : Dev nD, (⟨k0_dev60 c, k0_dev60_lt c⟩ : Dev nD) = zn c) c) ?_
  refine step_W 129 (by decide) 9 9 (by decide +kernel) (by decide) rfl rfl ?_
  exact ret_intro (hK)

theorem part79 {Q : (Σ' (v1464 : BitVec 32), k0_chk144 v1464) → sProp 𝕄} (v2 : BitVec 32) (v5 : BitVec 32) (v8 : BitVec 32) (v9 : BitVec 32) (v10 : BitVec 32) (v14 : BitVec 32) (v22 : BitVec 32) (k0_hw143 : k0_chk143 (cntW V c 14 32))
    (hK : ∀ (hw : k0_chk144 (cntW V c 15 32)), St V K c 133 ⊢ Q ⟨cntW V c 15 32, hw⟩) :
    St V K c 130 ⊢ wp frame (wpE (defs₀ (F := F)) 𝒱₀ c none) Set.univ (k0_part79 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v10 v14 v22 (cntW V c 14 32) k0_hw143 288#32) Q := by
  rw [k0_part79_eq_skeleton]; unfold k0_part79_skel
  refine step_FX (n := 130) (by decide) (by decide +kernel) ((by decide +kernel : ∀ c : Dev nD, k0_off416 c = ![zR c 9 + 16, 0]) c) rfl rfl ((by decide +kernel : ∀ c : Dev nD, (⟨k0_dev61 c, k0_dev61_lt c⟩ : Dev nD) = xn c) c) ?_
  refine step_GI (n := 131) (by decide) (by decide +kernel) rfl (fun t => gi15 V c _ _ _ _ _ _ _ _ _ _ t) ?_
  refine unit_assume (trips_cnt V c 15).2.2 ?_
  refine step_GW (n := 132) (by decide) (by decide +kernel) (trips_cnt V c 14).1 rfl credit_row ?_
  refine step_none (trips_cnt V c 14).2.1 ?_
  exact ret_intro (hK _)

theorem part80 {Q : PUnit → sProp 𝕄} (v2 : BitVec 32) (v8 : BitVec 32) (v10 : BitVec 32) (v14 : BitVec 32)
    (hK : St V K c 136 ⊢ Q ⟨⟩) :
    St V K c 133 ⊢ wp frame (wpE (defs₀ (F := F)) 𝒱₀ c none) Set.univ (k0_part80 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v8 v10 v14) Q := by
  rw [k0_part80_eq_skeleton]; unfold k0_part80_skel
  refine step_YS (n := 133) (by decide) (by decide +kernel) (vec2 (by decide)) rfl rfl ((by decide +kernel : ∀ c : Dev nD, (⟨k0_dev62 c, k0_dev62_lt c⟩ : Dev nD) = yn c) c) ?_
  refine step_W 134 (by decide) 12 3 (by decide +kernel) (by decide) rfl rfl ?_
  refine load_M ((by decide +kernel : ∀ c : Dev nD, k0_off441 c = ![ownR c 12, 0]) c) fun m hm => ?_
  refine load_G (k := 12) (n := 135) (by decide) (by decide +kernel) (vec2 (by decide)) fun g hg => ?_
  refine load_R (k := 12) (n := 135) (by decide) (by decide +kernel) (vec2 (by decide)) fun r hr => ?_
  refine load_O (n := 135) (by decide) (by decide +kernel) ((by decide +kernel : ∀ c : Dev nD, k0_off442 c = ![ownR c 12, 0]) c) fun _ => ?_
  refine step_SEL (n := 135) (by decide) (by decide +kernel) ((by decide +kernel : ∀ c : Dev nD, k0_off442 c = ![ownR c 12, 0]) c) ⟨m, g, r, hm, hg, hr, rfl⟩ ?_
  exact ret_intro (hK)

theorem part81 {Q : PUnit → sProp 𝕄} (v2 : BitVec 32) (v5 : BitVec 32) (v8 : BitVec 32) (v9 : BitVec 32) (v11 : BitVec 32) (v14 : BitVec 32)
    (hK : St V K c 138 ⊢ Q ⟨⟩) :
    St V K c 136 ⊢ wp frame (wpE (defs₀ (F := F)) 𝒱₀ c none) Set.univ (k0_part81 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14) Q := by
  rw [k0_part81_eq_skeleton]; unfold k0_part81_skel
  refine step_XS (n := 136) (by decide) (by decide +kernel) ((by decide +kernel : ∀ c : Dev nD, k0_off443 c 384#32 = ![ownR c 12, 0]) c) rfl rfl ((by decide +kernel : ∀ c : Dev nD, (⟨k0_dev63 c, k0_dev63_lt c⟩ : Dev nD) = xn c) c) ?_
  refine step_ZS (n := 137) (by decide) (by decide +kernel) ((by decide +kernel : ∀ c : Dev nD, k0_off443 c 384#32 = ![ownR c 12, 0]) c) rfl rfl ((by decide +kernel : ∀ c : Dev nD, (⟨k0_dev64 c, k0_dev64_lt c⟩ : Dev nD) = zn c) c) ?_
  exact ret_intro (hK)

end Cert.KernelIdeal.Lookup
-- ==== Proof.Run3.lean ====
/-
  The program in pieces, part 82 to part 103.
-/
module

public import proofs.«01_k».proof.Proof.Loop0
public import proofs.«01_k».proof.Proof.Loop1
public import proofs.«01_k».proof.Proof.Loop2
public import proofs.«01_k».proof.Proof.Loop3
public import proofs.«01_k».proof.Proof.Select

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F) {K : GSem nD τ sig → ℕ} {c : Dev nD}

theorem part82 {Q : (Σ' (v1574 : BitVec 32), BitVec 32) → sProp 𝕄} (v2 : BitVec 32) (v5 : BitVec 32) (v9 : BitVec 32) (v11 : BitVec 32) (v18 : BitVec 32) (v22 : BitVec 32)
    (hK : ∀ (w1 : BitVec 32), St V K c 141 ⊢ Q ⟨w1, 0#32⟩) :
    St V K c 138 ⊢ wp frame (wpE (defs₀ (F := F)) 𝒱₀ c none) Set.univ (k0_part82 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v9 v11 v18 v22) Q := by
  rw [k0_part82_eq_skeleton]; unfold k0_part82_skel
  refine step_W 138 (by decide) 10 7 (by decide +kernel) (by decide) rfl rfl ?_
  refine step_FZ (n := 139) (by decide) (by decide +kernel) ((by decide +kernel : ∀ c : Dev nD, k0_off444 c = ![xR c 10, 0]) c) rfl rfl ((by decide +kernel : ∀ c : Dev nD, (⟨k0_dev65 c, k0_dev65_lt c⟩ : Dev nD) = zn c) c) ?_
  refine step_W 140 (by decide) 10 9 (by decide +kernel) (by decide) rfl rfl ?_
  exact ret_intro (hK _)

theorem part83 {Q : (BitVec 32) → sProp 𝕄} (v2 : BitVec 32) (v5 : BitVec 32) (v8 : BitVec 32) (v10 : BitVec 32) (k0_hw144 : k0_chk144 (cntW V c 15 32)) (v1574 : BitVec 32)
    (hK : ∀ (w1 : BitVec 32), St V K c 144 ⊢ Q (w1)) :
    St V K c 141 ⊢ wp frame (wpE (defs₀ (F := F)) 𝒱₀ c none) Set.univ (k0_part83 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v10 (cntW V c 15 32) k0_hw144 v1574 0#32) Q := by
  rw [k0_part83_eq_skeleton]; unfold k0_part83_skel
  refine step_FX (n := 141) (by decide) (by decide +kernel) ((by decide +kernel : ∀ c : Dev nD, k0_off445 c = ![zR c 10 + 16, 0]) c) rfl rfl ((by decide +kernel : ∀ c : Dev nD, (⟨k0_dev66 c, k0_dev66_lt c⟩ : Dev nD) = xn c) c) ?_
  refine step_GW (n := 142) (by decide) (by decide +kernel) (trips_cnt V c 15).1 rfl credit_row ?_
  refine step_none (trips_cnt V c 15).2.1 ?_
  refine step_YS (n := 143) (by decide) (by decide +kernel) (vec2 (by decide)) rfl rfl ((by decide +kernel : ∀ c : Dev nD, (⟨k0_dev67 c, k0_dev67_lt c⟩ : Dev nD) = yn c) c) ?_
  exact ret_intro (hK _)

theorem part84 {Q : PUnit → sProp 𝕄} (v5 : BitVec 32) (v8 : BitVec 32) (v9 : BitVec 32) (v14 : BitVec 32) (v1606 : BitVec 32)
    (hK : St V K c 146 ⊢ Q ⟨⟩) :
    St V K c 144 ⊢ wp frame (wpE (defs₀ (F := F)) 𝒱₀ c none) Set.univ (k0_part84 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v5 v8 v9 v14 v1606) Q := by
  rw [k0_part84_eq_skeleton]; unfold k0_part84_skel
  refine step_W 144 (by decide) 13 3 (by decide +kernel) (by decide) rfl rfl ?_
  refine load_M ((by decide +kernel : ∀ c : Dev nD, k0_off446 c 416#32 = ![ownR c 13, 0]) c) fun m hm => ?_
  refine load_G (k := 13) (n := 145) (by decide) (by decide +kernel) (vec2 (by decide)) fun g hg => ?_
  refine load_R (k := 13) (n := 145) (by decide) (by decide +kernel) (vec2 (by decide)) fun r hr => ?_
  refine load_O (n := 145) (by decide) (by decide +kernel) ((by decide +kernel : ∀ c : Dev nD, k0_off447 c 416#32 = ![ownR c 13, 0]) c) fun _ => ?_
  refine step_SEL (n := 145) (by decide) (by decide +kernel) ((by decide +kernel : ∀ c : Dev nD, k0_off447 c 416#32 = ![ownR c 13, 0]) c) ⟨m, g, r, hm, hg, hr, rfl⟩ ?_
  exact ret_intro (hK)

theorem part85 {Q : (BitVec 32) → sProp 𝕄} (v2 : BitVec 32) (v5 : BitVec 32) (v8 : BitVec 32) (v9 : BitVec 32) (v11 : BitVec 32) (v14 : BitVec 32) (v18 : BitVec 32)
    (hK : ∀ (w1 : BitVec 32), St V K c 149 ⊢ Q (w1)) :
    St V K c 146 ⊢ wp frame (wpE (defs₀ (F := F)) 𝒱₀ c none) Set.univ (k0_part85 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v18) Q := by
  rw [k0_part85_eq_skeleton]; unfold k0_part85_skel
  refine step_XS (n := 146) (by decide) (by decide +kernel) ((by decide +kernel : ∀ c : Dev nD, k0_off448 c 416#32 = ![ownR c 13, 0]) c) rfl rfl ((by decide +kernel : ∀ c : Dev nD, (⟨k0_dev68 c, k0_dev68_lt c⟩ : Dev nD) = xn c) c) ?_
  refine step_ZS (n := 147) (by decide) (by decide +kernel) ((by decide +kernel : ∀ c : Dev nD, k0_off448 c 416#32 = ![ownR c 13, 0]) c) rfl rfl ((by decide +kernel : ∀ c : Dev nD, (⟨k0_dev69 c, k0_dev69_lt c⟩ : Dev nD) = zn c) c) ?_
  refine step_W 148 (by decide) 11 7 (by decide +kernel) (by decide) rfl rfl ?_
  exact ret_intro (hK _)

theorem part86 {Q : PUnit → sProp 𝕄} (v2 : BitVec 32) (v5 : BitVec 32) (v8 : BitVec 32) (v9 : BitVec 32) (v11 : BitVec 32) (v22 : BitVec 32) (v1672 : BitVec 32)
    (hK : St V K c 152 ⊢ Q ⟨⟩) :
    St V K c 149 ⊢ wp frame (wpE (defs₀ (F := F)) 𝒱₀ c none) Set.univ (k0_part86 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v22 v1672) Q := by
  rw [k0_part86_eq_skeleton]; unfold k0_part86_skel
  refine step_FZ (n := 149) (by decide) (by decide +kernel) ((by decide +kernel : ∀ c : Dev nD, k0_off449 c 352#32 = ![xR c 11, 0]) c) rfl rfl ((by decide +kernel : ∀ c : Dev nD, (⟨k0_dev70 c, k0_dev70_lt c⟩ : Dev nD) = zn c) c) ?_
  refine step_W 150 (by decide) 11 9 (by decide +kernel) (by decide) rfl rfl ?_
  refine step_FX (n := 151) (by decide) (by decide +kernel) ((by decide +kernel : ∀ c : Dev nD, k0_off450 c 352#32 = ![zR c 11 + 16, 0]) c) rfl rfl ((by decide +kernel : ∀ c : Dev nD, (⟨k0_dev71 c, k0_dev71_lt c⟩ : Dev nD) = xn c) c) ?_
  exact ret_intro (hK)

theorem part87 {Q : (BitVec 32) → sProp 𝕄} (v2 : BitVec 32) (v5 : BitVec 32) (v8 : BitVec 32) (v9 : BitVec 32) (v10 : BitVec 32) (v14 : BitVec 32)
    (hK : ∀ (w1 : BitVec 32), St V K c 154 ⊢ Q (w1)) :
    St V K c 152 ⊢ wp frame (wpE (defs₀ (F := F)) 𝒱₀ c none) Set.univ (k0_part87 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v10 v14) Q := by
  rw [k0_part87_eq_skeleton]; unfold k0_part87_skel
  refine step_W 152 (by decide) 14 3 (by decide +kernel) (by decide) rfl rfl ?_
  refine load_M ((by decide +kernel : ∀ c : Dev nD, k0_off446 c 448#32 = ![ownR c 14, 0]) c) fun m hm => ?_
  refine load_G (k := 14) (n := 153) (by decide) (by decide +kernel) (vec2 (by decide)) fun g hg => ?_
  refine load_R (k := 14) (n := 153) (by decide) (by decide +kernel) (vec2 (by decide)) fun r hr => ?_
  refine load_O (n := 153) (by decide) (by decide +kernel) ((by decide +kernel : ∀ c : Dev nD, k0_off447 c 448#32 = ![ownR c 14, 0]) c) fun _ => ?_
  refine step_SEL (n := 153) (by decide) (by decide +kernel) ((by decide +kernel : ∀ c : Dev nD, k0_off447 c 448#32 = ![ownR c 14, 0]) c) ⟨m, g, r, hm, hg, hr, rfl⟩ ?_
  exact ret_intro (hK _)

theorem part88 {Q : (BitVec 32) → sProp 𝕄} (v2 : BitVec 32) (v5 : BitVec 32) (v8 : BitVec 32) (v10 : BitVec 32) (v11 : BitVec 32) (v14 : BitVec 32) (v1738 : BitVec 32)
    (hK : ∀ (w1 : BitVec 32), St V K c 157 ⊢ Q (w1)) :
    St V K c 154 ⊢ wp frame (wpE (defs₀ (F := F)) 𝒱₀ c none) Set.univ (k0_part88 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v10 v11 v14 v1738) Q := by
  rw [k0_part88_eq_skeleton]; unfold k0_part88_skel
  refine step_XS (n := 154) (by decide) (by decide +kernel) ((by decide +kernel : ∀ c : Dev nD, k0_off448 c 448#32 = ![ownR c 14, 0]) c) rfl rfl ((by decide +kernel : ∀ c : Dev nD, (⟨k0_dev72 c, k0_dev72_lt c⟩ : Dev nD) = xn c) c) ?_
  refine step_ZS (n := 155) (by decide) (by decide +kernel) ((by decide +kernel : ∀ c : Dev nD, k0_off448 c 448#32 = ![ownR c 14, 0]) c) rfl rfl ((by decide +kernel : ∀ c : Dev nD, (⟨k0_dev73 c, k0_dev73_lt c⟩ : Dev nD) = zn c) c) ?_
  refine step_W 156 (by decide) 15 3 (by decide +kernel) (by decide) rfl rfl ?_
  exact ret_intro (hK _)

theorem part89 {Q : (Σ' (v1804 : BitVec 32), BitVec 32) → sProp 𝕄} (v2 : BitVec 32) (v5 : BitVec 32) (v8 : BitVec 32) (v9 : BitVec 32) (v14 : BitVec 32) (v1771 : BitVec 32)
    (hK : ∀ (w1 : BitVec 32), St V K c 159 ⊢ Q ⟨w1, 2#32⟩) :
    St V K c 157 ⊢ wp frame (wpE (defs₀ (F := F)) 𝒱₀ c none) Set.univ (k0_part89 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v14 v1771) Q := by
  rw [k0_part89_eq_skeleton]; unfold k0_part89_skel
  refine load_M ((by decide +kernel : ∀ c : Dev nD, k0_off446 c 480#32 = ![ownR c 15, 0]) c) fun m hm => ?_
  refine load_G (k := 15) (n := 157) (by decide) (by decide +kernel) (vec2 (by decide)) fun g hg => ?_
  refine load_R (k := 15) (n := 157) (by decide) (by decide +kernel) (vec2 (by decide)) fun r hr => ?_
  refine load_O (n := 157) (by decide) (by decide +kernel) ((by decide +kernel : ∀ c : Dev nD, k0_off447 c 480#32 = ![ownR c 15, 0]) c) fun _ => ?_
  refine step_SEL (n := 157) (by decide) (by decide +kernel) ((by decide +kernel : ∀ c : Dev nD, k0_off447 c 480#32 = ![ownR c 15, 0]) c) ⟨m, g, r, hm, hg, hr, rfl⟩ ?_
  refine step_XS (n := 158) (by decide) (by decide +kernel) ((by decide +kernel : ∀ c : Dev nD, k0_off448 c 480#32 = ![ownR c 15, 0]) c) rfl rfl ((by decide +kernel : ∀ c : Dev nD, (⟨k0_dev74 c, k0_dev74_lt c⟩ : Dev nD) = xn c) c) ?_
  exact ret_intro (hK _)

theorem part90 {Q : PUnit → sProp 𝕄} (v2 : BitVec 32) (v5 : BitVec 32) (v8 : BitVec 32) (v9 : BitVec 32) (v11 : BitVec 32) (v18 : BitVec 32) (v1804 : BitVec 32)
    (hK : St V K c 162 ⊢ Q ⟨⟩) :
    St V K c 159 ⊢ wp frame (wpE (defs₀ (F := F)) 𝒱₀ c none) Set.univ (k0_part90 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v18 v1804 2#32) Q := by
  rw [k0_part90_eq_skeleton]; unfold k0_part90_skel
  refine step_ZS (n := 159) (by decide) (by decide +kernel) ((by decide +kernel : ∀ c : Dev nD, k0_off448 c 480#32 = ![ownR c 15, 0]) c) rfl rfl ((by decide +kernel : ∀ c : Dev nD, (⟨k0_dev75 c, k0_dev75_lt c⟩ : Dev nD) = zn c) c) ?_
  refine step_W 160 (by decide) 12 7 (by decide +kernel) (by decide) rfl rfl ?_
  refine step_FZ (n := 161) (by decide) (by decide +kernel) ((by decide +kernel : ∀ c : Dev nD, k0_off449 c 384#32 = ![xR c 12, 0]) c) rfl rfl ((by decide +kernel : ∀ c : Dev nD, (⟨k0_dev76 c, k0_dev76_lt c⟩ : Dev nD) = zn c) c) ?_
  exact ret_intro (hK)

theorem part91 {Q : PUnit → sProp 𝕄} (v2 : BitVec 32) (v5 : BitVec 32) (v8 : BitVec 32) (v9 : BitVec 32) (v11 : BitVec 32) (v22 : BitVec 32)
    (hK : St V K c 164 ⊢ Q ⟨⟩) :
    St V K c 162 ⊢ wp frame (wpE (defs₀ (F := F)) 𝒱₀ c none) Set.univ (k0_part91 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v22) Q := by
  rw [k0_part91_eq_skeleton]; unfold k0_part91_skel
  refine step_W 162 (by decide) 12 9 (by decide +kernel) (by decide) rfl rfl ?_
  refine step_FX (n := 163) (by decide) (by decide +kernel) ((by decide +kernel : ∀ c : Dev nD, k0_off450 c 384#32 = ![zR c 12 + 16, 0]) c) rfl rfl ((by decide +kernel : ∀ c : Dev nD, (⟨k0_dev77 c, k0_dev77_lt c⟩ : Dev nD) = xn c) c) ?_
  exact ret_intro (hK)

theorem part92 {Q : (BitVec 32) → sProp 𝕄} (v2 : BitVec 32) (v5 : BitVec 32) (v11 : BitVec 32) (v18 : BitVec 32) (v22 : BitVec 32)
    (hK : St V K c 167 ⊢ Q (4#32)) :
    St V K c 164 ⊢ wp frame (wpE (defs₀ (F := F)) 𝒱₀ c none) Set.univ (k0_part92 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v11 v18 v22) Q := by
  rw [k0_part92_eq_skeleton]; unfold k0_part92_skel
  refine step_W 164 (by decide) 13 7 (by decide +kernel) (by decide) rfl rfl ?_
  refine step_FZ (n := 165) (by decide) (by decide +kernel) ((by decide +kernel : ∀ c : Dev nD, k0_off449 c 416#32 = ![xR c 13, 0]) c) rfl rfl ((by decide +kernel : ∀ c : Dev nD, (⟨k0_dev78 c, k0_dev78_lt c⟩ : Dev nD) = zn c) c) ?_
  refine step_W 166 (by decide) 13 9 (by decide +kernel) (by decide) rfl rfl ?_
  exact ret_intro (hK)

theorem part93 {Q : PUnit → sProp 𝕄} (v2 : BitVec 32) (v5 : BitVec 32) (v8 : BitVec 32) (v9 : BitVec 32) (v11 : BitVec 32) (v18 : BitVec 32)
    (hK : St V K c 169 ⊢ Q ⟨⟩) :
    St V K c 167 ⊢ wp frame (wpE (defs₀ (F := F)) 𝒱₀ c none) Set.univ (k0_part93 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v18 4#32) Q := by
  rw [k0_part93_eq_skeleton]; unfold k0_part93_skel
  refine step_FX (n := 167) (by decide) (by decide +kernel) ((by decide +kernel : ∀ c : Dev nD, k0_off450 c 416#32 = ![zR c 13 + 16, 0]) c) rfl rfl ((by decide +kernel : ∀ c : Dev nD, (⟨k0_dev79 c, k0_dev79_lt c⟩ : Dev nD) = xn c) c) ?_
  refine step_W 168 (by decide) 14 7 (by decide +kernel) (by decide) rfl rfl ?_
  exact ret_intro (hK)

theorem part94 {Q : (Σ' (v1968 : BitVec 32), BitVec 32) → sProp 𝕄} (v2 : BitVec 32) (v5 : BitVec 32) (v8 : BitVec 32) (v9 : BitVec 32) (v11 : BitVec 32) (v22 : BitVec 32)
    (hK : ∀ (w1 : BitVec 32), St V K c 172 ⊢ Q ⟨w1, 1#32⟩) :
    St V K c 169 ⊢ wp frame (wpE (defs₀ (F := F)) 𝒱₀ c none) Set.univ (k0_part94 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v22) Q := by
  rw [k0_part94_eq_skeleton]; unfold k0_part94_skel
  refine step_FZ (n := 169) (by decide) (by decide +kernel) ((by decide +kernel : ∀ c : Dev nD, k0_off449 c 448#32 = ![xR c 14, 0]) c) rfl rfl ((by decide +kernel : ∀ c : Dev nD, (⟨k0_dev80 c, k0_dev80_lt c⟩ : Dev nD) = zn c) c) ?_
  refine step_W 170 (by decide) 14 9 (by decide +kernel) (by decide) rfl rfl ?_
  refine step_FX (n := 171) (by decide) (by decide +kernel) ((by decide +kernel : ∀ c : Dev nD, k0_off450 c 448#32 = ![zR c 14 + 16, 0]) c) rfl rfl ((by decide +kernel : ∀ c : Dev nD, (⟨k0_dev81 c, k0_dev81_lt c⟩ : Dev nD) = xn c) c) ?_
  exact ret_intro (hK _)

theorem part95 {Q : (Σ' (v2001 : BitVec 32), BitVec 32) → sProp 𝕄} (v2 : BitVec 32) (v5 : BitVec 32) (v8 : BitVec 32) (v11 : BitVec 32) (v18 : BitVec 32) (v22 : BitVec 32) (v1968 : BitVec 32)
    (hK : ∀ (w1 : BitVec 32), St V K c 175 ⊢ Q ⟨w1, 16#32⟩) :
    St V K c 172 ⊢ wp frame (wpE (defs₀ (F := F)) 𝒱₀ c none) Set.univ (k0_part95 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v11 v18 v22 v1968 1#32) Q := by
  rw [k0_part95_eq_skeleton]; unfold k0_part95_skel
  refine step_W 172 (by decide) 15 7 (by decide +kernel) (by decide) rfl rfl ?_
  refine step_FZ (n := 173) (by decide) (by decide +kernel) ((by decide +kernel : ∀ c : Dev nD, k0_off449 c 480#32 = ![xR c 15, 0]) c) rfl rfl ((by decide +kernel : ∀ c : Dev nD, (⟨k0_dev82 c, k0_dev82_lt c⟩ : Dev nD) = zn c) c) ?_
  refine step_W 174 (by decide) 15 9 (by decide +kernel) (by decide) rfl rfl ?_
  exact ret_intro (hK _)

theorem part96 {Q : (BitVec 32) → sProp 𝕄} (v2 : BitVec 32) (v5 : BitVec 32) (v8 : BitVec 32) (v9 : BitVec 32) (v11 : BitVec 32) (v14 : BitVec 32) (v27 : BitVec 32) (v2001 : BitVec 32)
    (hK : ∀ (w1 : BitVec 32), St V K c 177 ⊢ Q (w1)) :
    St V K c 175 ⊢ wp frame (wpE (defs₀ (F := F)) 𝒱₀ c none) Set.univ (k0_part96 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 v2001 16#32) Q := by
  rw [k0_part96_eq_skeleton]; unfold k0_part96_skel
  refine step_FX (n := 175) (by decide) (by decide +kernel) ((by decide +kernel : ∀ c : Dev nD, k0_off450 c 480#32 = ![zR c 15 + 16, 0]) c) rfl rfl ((by decide +kernel : ∀ c : Dev nD, (⟨k0_dev83 c, k0_dev83_lt c⟩ : Dev nD) = xn c) c) ?_
  refine step_W 176 (by decide) 0 11 (by decide +kernel) (by decide) rfl rfl ?_
  exact ret_intro (hK _)

theorem part97 {Q : PUnit → sProp 𝕄} (v2 : BitVec 32) (v5 : BitVec 32) (v8 : BitVec 32) (v9 : BitVec 32) (v11 : BitVec 32) (v14 : BitVec 32) (v27 : BitVec 32) (v2033 : BitVec 32)
    (hK : St V K c 180 ⊢ Q ⟨⟩) :
    St V K c 177 ⊢ wp frame (wpE (defs₀ (F := F)) 𝒱₀ c none) Set.univ (k0_part97 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 v2033) Q := by
  rw [k0_part97_eq_skeleton]; unfold k0_part97_skel
  refine step_W 177 (by decide) 0 12 (by decide +kernel) (by decide) rfl rfl ?_
  refine step_W 178 (by decide) 1 11 (by decide +kernel) (by decide) rfl rfl ?_
  refine step_W 179 (by decide) 1 12 (by decide +kernel) (by decide) rfl rfl ?_
  exact ret_intro (hK)

theorem part98 {Q : (Σ' (v2095 : BitVec 32), BitVec 32) → sProp 𝕄} (v2 : BitVec 32) (v5 : BitVec 32) (v8 : BitVec 32) (v9 : BitVec 32) (v11 : BitVec 32) (v14 : BitVec 32) (v27 : BitVec 32)
    (hK : ∀ (w1 : BitVec 32), St V K c 182 ⊢ Q ⟨w1, 1#32⟩) :
    St V K c 180 ⊢ wp frame (wpE (defs₀ (F := F)) 𝒱₀ c none) Set.univ (k0_part98 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27) Q := by
  rw [k0_part98_eq_skeleton]; unfold k0_part98_skel
  refine step_W 180 (by decide) 2 11 (by decide +kernel) (by decide) rfl rfl ?_
  refine step_W 181 (by decide) 2 12 (by decide +kernel) (by decide) rfl rfl ?_
  exact ret_intro (hK _)

theorem part99 {Q : (BitVec 32) → sProp 𝕄} (v2 : BitVec 32) (v5 : BitVec 32) (v8 : BitVec 32) (v9 : BitVec 32) (v11 : BitVec 32) (v14 : BitVec 32) (v27 : BitVec 32) (v2095 : BitVec 32)
    (hK : St V K c 185 ⊢ Q (128#32)) :
    St V K c 182 ⊢ wp frame (wpE (defs₀ (F := F)) 𝒱₀ c none) Set.univ (k0_part99 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 v2095 1#32) Q := by
  rw [k0_part99_eq_skeleton]; unfold k0_part99_skel
  refine step_W 182 (by decide) 3 11 (by decide +kernel) (by decide) rfl rfl ?_
  refine step_W 183 (by decide) 3 12 (by decide +kernel) (by decide) rfl rfl ?_
  refine step_W 184 (by decide) 4 11 (by decide +kernel) (by decide) rfl rfl ?_
  exact ret_intro (hK)

theorem part100 {Q : (BitVec 32) → sProp 𝕄} (v2 : BitVec 32) (v5 : BitVec 32) (v8 : BitVec 32) (v9 : BitVec 32) (v11 : BitVec 32) (v14 : BitVec 32) (v27 : BitVec 32)
    (hK : ∀ (w1 : BitVec 32), St V K c 187 ⊢ Q (w1)) :
    St V K c 185 ⊢ wp frame (wpE (defs₀ (F := F)) 𝒱₀ c none) Set.univ (k0_part100 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 128#32) Q := by
  rw [k0_part100_eq_skeleton]; unfold k0_part100_skel
  refine step_W 185 (by decide) 4 12 (by decide +kernel) (by decide) rfl rfl ?_
  refine step_W 186 (by decide) 5 11 (by decide +kernel) (by decide) rfl rfl ?_
  exact ret_intro (hK _)

theorem part101 {Q : PUnit → sProp 𝕄} (v2 : BitVec 32) (v5 : BitVec 32) (v8 : BitVec 32) (v9 : BitVec 32) (v11 : BitVec 32) (v14 : BitVec 32) (v27 : BitVec 32) (v2158 : BitVec 32)
    (hK : St V K c 190 ⊢ Q ⟨⟩) :
    St V K c 187 ⊢ wp frame (wpE (defs₀ (F := F)) 𝒱₀ c none) Set.univ (k0_part101 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 v2158) Q := by
  rw [k0_part101_eq_skeleton]; unfold k0_part101_skel
  refine step_W 187 (by decide) 5 12 (by decide +kernel) (by decide) rfl rfl ?_
  refine step_W 188 (by decide) 6 11 (by decide +kernel) (by decide) rfl rfl ?_
  refine step_W 189 (by decide) 6 12 (by decide +kernel) (by decide) rfl rfl ?_
  exact ret_intro (hK)

theorem part102 {Q : (Σ' (v2220 : BitVec 32), BitVec 32) → sProp 𝕄} (v2 : BitVec 32) (v5 : BitVec 32) (v8 : BitVec 32) (v9 : BitVec 32) (v11 : BitVec 32) (v14 : BitVec 32) (v27 : BitVec 32)
    (hK : ∀ (w1 : BitVec 32), St V K c 192 ⊢ Q ⟨w1, 1#32⟩) :
    St V K c 190 ⊢ wp frame (wpE (defs₀ (F := F)) 𝒱₀ c none) Set.univ (k0_part102 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27) Q := by
  rw [k0_part102_eq_skeleton]; unfold k0_part102_skel
  refine step_W 190 (by decide) 7 11 (by decide +kernel) (by decide) rfl rfl ?_
  refine step_W 191 (by decide) 7 12 (by decide +kernel) (by decide) rfl rfl ?_
  exact ret_intro (hK _)

theorem part103 {Q : (BitVec 32) → sProp 𝕄} (v2 : BitVec 32) (v5 : BitVec 32) (v8 : BitVec 32) (v9 : BitVec 32) (v11 : BitVec 32) (v14 : BitVec 32) (v27 : BitVec 32) (v2220 : BitVec 32)
    (hK : St V K c 195 ⊢ Q (288#32)) :
    St V K c 192 ⊢ wp frame (wpE (defs₀ (F := F)) 𝒱₀ c none) Set.univ (k0_part103 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 v2220 1#32) Q := by
  rw [k0_part103_eq_skeleton]; unfold k0_part103_skel
  refine step_W 192 (by decide) 8 11 (by decide +kernel) (by decide) rfl rfl ?_
  refine step_W 193 (by decide) 8 12 (by decide +kernel) (by decide) rfl rfl ?_
  refine step_W 194 (by decide) 9 11 (by decide +kernel) (by decide) rfl rfl ?_
  exact ret_intro (hK)

end Cert.KernelIdeal.Lookup
-- ==== Proof.Run4.lean ====
/-
  The program in pieces, part 104 to part 122.
-/
module

public import proofs.«01_k».proof.Proof.Loop0
public import proofs.«01_k».proof.Proof.Loop1
public import proofs.«01_k».proof.Proof.Loop2
public import proofs.«01_k».proof.Proof.Loop3
public import proofs.«01_k».proof.Proof.Select

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F) {K : GSem nD τ sig → ℕ} {c : Dev nD}

theorem part104 {Q : (BitVec 32) → sProp 𝕄} (v2 : BitVec 32) (v5 : BitVec 32) (v8 : BitVec 32) (v9 : BitVec 32) (v11 : BitVec 32) (v14 : BitVec 32) (v27 : BitVec 32)
    (hK : ∀ (w1 : BitVec 32), St V K c 197 ⊢ Q (w1)) :
    St V K c 195 ⊢ wp frame (wpE (defs₀ (F := F)) 𝒱₀ c none) Set.univ (k0_part104 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 288#32) Q := by
  rw [k0_part104_eq_skeleton]; unfold k0_part104_skel
  refine step_W 195 (by decide) 9 12 (by decide +kernel) (by decide) rfl rfl ?_
  refine step_W 196 (by decide) 10 11 (by decide +kernel) (by decide) rfl rfl ?_
  exact ret_intro (hK _)

theorem part105 {Q : PUnit → sProp 𝕄} (v2 : BitVec 32) (v5 : BitVec 32) (v8 : BitVec 32) (v9 : BitVec 32) (v11 : BitVec 32) (v14 : BitVec 32) (v27 : BitVec 32) (v2283 : BitVec 32)
    (hK : St V K c 200 ⊢ Q ⟨⟩) :
    St V K c 197 ⊢ wp frame (wpE (defs₀ (F := F)) 𝒱₀ c none) Set.univ (k0_part105 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 v2283) Q := by
  rw [k0_part105_eq_skeleton]; unfold k0_part105_skel
  refine step_W 197 (by decide) 10 12 (by decide +kernel) (by decide) rfl rfl ?_
  refine step_W 198 (by decide) 11 11 (by decide +kernel) (by decide) rfl rfl ?_
  refine step_W 199 (by decide) 11 12 (by decide +kernel) (by decide) rfl rfl ?_
  exact ret_intro (hK)

theorem part106 {Q : (Σ' (v2345 : BitVec 32), BitVec 32) → sProp 𝕄} (v2 : BitVec 32) (v5 : BitVec 32) (v8 : BitVec 32) (v9 : BitVec 32) (v11 : BitVec 32) (v14 : BitVec 32) (v27 : BitVec 32)
    (hK : ∀ (w1 : BitVec 32), St V K c 202 ⊢ Q ⟨w1, 1#32⟩) :
    St V K c 200 ⊢ wp frame (wpE (defs₀ (F := F)) 𝒱₀ c none) Set.univ (k0_part106 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27) Q := by
  rw [k0_part106_eq_skeleton]; unfold k0_part106_skel
  refine step_W 200 (by decide) 12 11 (by decide +kernel) (by decide) rfl rfl ?_
  refine step_W 201 (by decide) 12 12 (by decide +kernel) (by decide) rfl rfl ?_
  exact ret_intro (hK _)

theorem part107 {Q : (BitVec 32) → sProp 𝕄} (v2 : BitVec 32) (v5 : BitVec 32) (v8 : BitVec 32) (v9 : BitVec 32) (v11 : BitVec 32) (v14 : BitVec 32) (v27 : BitVec 32) (v2345 : BitVec 32)
    (hK : St V K c 205 ⊢ Q (448#32)) :
    St V K c 202 ⊢ wp frame (wpE (defs₀ (F := F)) 𝒱₀ c none) Set.univ (k0_part107 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 v2345 1#32) Q := by
  rw [k0_part107_eq_skeleton]; unfold k0_part107_skel
  refine step_W 202 (by decide) 13 11 (by decide +kernel) (by decide) rfl rfl ?_
  refine step_W 203 (by decide) 13 12 (by decide +kernel) (by decide) rfl rfl ?_
  refine step_W 204 (by decide) 14 11 (by decide +kernel) (by decide) rfl rfl ?_
  exact ret_intro (hK)

theorem part108 {Q : (BitVec 32) → sProp 𝕄} (v2 : BitVec 32) (v5 : BitVec 32) (v8 : BitVec 32) (v9 : BitVec 32) (v11 : BitVec 32) (v14 : BitVec 32) (v27 : BitVec 32)
    (hK : ∀ (w1 : BitVec 32), St V K c 207 ⊢ Q (w1)) :
    St V K c 205 ⊢ wp frame (wpE (defs₀ (F := F)) 𝒱₀ c none) Set.univ (k0_part108 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v2 v5 v8 v9 v11 v14 v27 448#32) Q := by
  rw [k0_part108_eq_skeleton]; unfold k0_part108_skel
  refine step_W 205 (by decide) 14 12 (by decide +kernel) (by decide) rfl rfl ?_
  refine step_W 206 (by decide) 15 11 (by decide +kernel) (by decide) rfl rfl ?_
  exact ret_intro (hK _)

theorem part109 {Q : PUnit → sProp 𝕄} (v8 : BitVec 32) (v2408 : BitVec 32)
    (hK : St V K c 212 ⊢ Q ⟨⟩) :
    St V K c 207 ⊢ wp frame (wpE (defs₀ (F := F)) 𝒱₀ c none) Set.univ (k0_part109 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c v8 v2408) Q := by
  rw [k0_part109_eq_skeleton]; unfold k0_part109_skel
  refine step_W 207 (by decide) 15 12 (by decide +kernel) (by decide) rfl rfl ?_
  refine step_W 208 (by decide) 0 13 (by decide +kernel) (by decide) rfl rfl ?_
  refine step_W 209 (by decide) 0 14 (by decide +kernel) (by decide) rfl rfl ?_
  refine step_W 210 (by decide) 0 15 (by decide +kernel) (by decide) rfl rfl ?_
  refine step_W 211 (by decide) 0 16 (by decide +kernel) (by decide) rfl rfl ?_
  exact ret_intro (hK)

theorem part110 {Q : PUnit → sProp 𝕄}
    (hK : St V K c 218 ⊢ Q ⟨⟩) :
    St V K c 212 ⊢ wp frame (wpE (defs₀ (F := F)) 𝒱₀ c none) Set.univ (k0_part110 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part110_eq_skeleton]; unfold k0_part110_skel
  refine step_W 212 (by decide) 0 17 (by decide +kernel) (by decide) rfl rfl ?_
  refine step_W 213 (by decide) 1 13 (by decide +kernel) (by decide) rfl rfl ?_
  refine step_W 214 (by decide) 1 14 (by decide +kernel) (by decide) rfl rfl ?_
  refine step_W 215 (by decide) 1 15 (by decide +kernel) (by decide) rfl rfl ?_
  refine step_W 216 (by decide) 1 16 (by decide +kernel) (by decide) rfl rfl ?_
  refine step_W 217 (by decide) 1 17 (by decide +kernel) (by decide) rfl rfl ?_
  exact ret_intro (hK)

theorem part111 {Q : PUnit → sProp 𝕄}
    (hK : St V K c 224 ⊢ Q ⟨⟩) :
    St V K c 218 ⊢ wp frame (wpE (defs₀ (F := F)) 𝒱₀ c none) Set.univ (k0_part111 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part111_eq_skeleton]; unfold k0_part111_skel
  refine step_W 218 (by decide) 2 13 (by decide +kernel) (by decide) rfl rfl ?_
  refine step_W 219 (by decide) 2 14 (by decide +kernel) (by decide) rfl rfl ?_
  refine step_W 220 (by decide) 2 15 (by decide +kernel) (by decide) rfl rfl ?_
  refine step_W 221 (by decide) 2 16 (by decide +kernel) (by decide) rfl rfl ?_
  refine step_W 222 (by decide) 2 17 (by decide +kernel) (by decide) rfl rfl ?_
  refine step_W 223 (by decide) 3 13 (by decide +kernel) (by decide) rfl rfl ?_
  exact ret_intro (hK)

theorem part112 {Q : PUnit → sProp 𝕄}
    (hK : St V K c 230 ⊢ Q ⟨⟩) :
    St V K c 224 ⊢ wp frame (wpE (defs₀ (F := F)) 𝒱₀ c none) Set.univ (k0_part112 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part112_eq_skeleton]; unfold k0_part112_skel
  refine step_W 224 (by decide) 3 14 (by decide +kernel) (by decide) rfl rfl ?_
  refine step_W 225 (by decide) 3 15 (by decide +kernel) (by decide) rfl rfl ?_
  refine step_W 226 (by decide) 3 16 (by decide +kernel) (by decide) rfl rfl ?_
  refine step_W 227 (by decide) 3 17 (by decide +kernel) (by decide) rfl rfl ?_
  refine step_W 228 (by decide) 4 13 (by decide +kernel) (by decide) rfl rfl ?_
  refine step_W 229 (by decide) 4 14 (by decide +kernel) (by decide) rfl rfl ?_
  exact ret_intro (hK)

theorem part113 {Q : PUnit → sProp 𝕄}
    (hK : St V K c 235 ⊢ Q ⟨⟩) :
    St V K c 230 ⊢ wp frame (wpE (defs₀ (F := F)) 𝒱₀ c none) Set.univ (k0_part113 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part113_eq_skeleton]; unfold k0_part113_skel
  refine step_W 230 (by decide) 4 15 (by decide +kernel) (by decide) rfl rfl ?_
  refine step_W 231 (by decide) 4 16 (by decide +kernel) (by decide) rfl rfl ?_
  refine step_W 232 (by decide) 4 17 (by decide +kernel) (by decide) rfl rfl ?_
  refine step_W 233 (by decide) 5 13 (by decide +kernel) (by decide) rfl rfl ?_
  refine step_W 234 (by decide) 5 14 (by decide +kernel) (by decide) rfl rfl ?_
  exact ret_intro (hK)

theorem part114 {Q : PUnit → sProp 𝕄}
    (hK : St V K c 241 ⊢ Q ⟨⟩) :
    St V K c 235 ⊢ wp frame (wpE (defs₀ (F := F)) 𝒱₀ c none) Set.univ (k0_part114 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part114_eq_skeleton]; unfold k0_part114_skel
  refine step_W 235 (by decide) 5 15 (by decide +kernel) (by decide) rfl rfl ?_
  refine step_W 236 (by decide) 5 16 (by decide +kernel) (by decide) rfl rfl ?_
  refine step_W 237 (by decide) 5 17 (by decide +kernel) (by decide) rfl rfl ?_
  refine step_W 238 (by decide) 6 13 (by decide +kernel) (by decide) rfl rfl ?_
  refine step_W 239 (by decide) 6 14 (by decide +kernel) (by decide) rfl rfl ?_
  refine step_W 240 (by decide) 6 15 (by decide +kernel) (by decide) rfl rfl ?_
  exact ret_intro (hK)

theorem part115 {Q : PUnit → sProp 𝕄}
    (hK : St V K c 247 ⊢ Q ⟨⟩) :
    St V K c 241 ⊢ wp frame (wpE (defs₀ (F := F)) 𝒱₀ c none) Set.univ (k0_part115 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part115_eq_skeleton]; unfold k0_part115_skel
  refine step_W 241 (by decide) 6 16 (by decide +kernel) (by decide) rfl rfl ?_
  refine step_W 242 (by decide) 6 17 (by decide +kernel) (by decide) rfl rfl ?_
  refine step_W 243 (by decide) 7 13 (by decide +kernel) (by decide) rfl rfl ?_
  refine step_W 244 (by decide) 7 14 (by decide +kernel) (by decide) rfl rfl ?_
  refine step_W 245 (by decide) 7 15 (by decide +kernel) (by decide) rfl rfl ?_
  refine step_W 246 (by decide) 7 16 (by decide +kernel) (by decide) rfl rfl ?_
  exact ret_intro (hK)

theorem part116 {Q : PUnit → sProp 𝕄}
    (hK : St V K c 253 ⊢ Q ⟨⟩) :
    St V K c 247 ⊢ wp frame (wpE (defs₀ (F := F)) 𝒱₀ c none) Set.univ (k0_part116 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part116_eq_skeleton]; unfold k0_part116_skel
  refine step_W 247 (by decide) 7 17 (by decide +kernel) (by decide) rfl rfl ?_
  refine step_W 248 (by decide) 8 13 (by decide +kernel) (by decide) rfl rfl ?_
  refine step_W 249 (by decide) 8 14 (by decide +kernel) (by decide) rfl rfl ?_
  refine step_W 250 (by decide) 8 15 (by decide +kernel) (by decide) rfl rfl ?_
  refine step_W 251 (by decide) 8 16 (by decide +kernel) (by decide) rfl rfl ?_
  refine step_W 252 (by decide) 8 17 (by decide +kernel) (by decide) rfl rfl ?_
  exact ret_intro (hK)

theorem part117 {Q : PUnit → sProp 𝕄}
    (hK : St V K c 258 ⊢ Q ⟨⟩) :
    St V K c 253 ⊢ wp frame (wpE (defs₀ (F := F)) 𝒱₀ c none) Set.univ (k0_part117 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part117_eq_skeleton]; unfold k0_part117_skel
  refine step_W 253 (by decide) 9 13 (by decide +kernel) (by decide) rfl rfl ?_
  refine step_W 254 (by decide) 9 14 (by decide +kernel) (by decide) rfl rfl ?_
  refine step_W 255 (by decide) 9 15 (by decide +kernel) (by decide) rfl rfl ?_
  refine step_W 256 (by decide) 9 16 (by decide +kernel) (by decide) rfl rfl ?_
  refine step_W 257 (by decide) 9 17 (by decide +kernel) (by decide) rfl rfl ?_
  exact ret_intro (hK)

theorem part118 {Q : PUnit → sProp 𝕄}
    (hK : St V K c 264 ⊢ Q ⟨⟩) :
    St V K c 258 ⊢ wp frame (wpE (defs₀ (F := F)) 𝒱₀ c none) Set.univ (k0_part118 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part118_eq_skeleton]; unfold k0_part118_skel
  refine step_W 258 (by decide) 10 13 (by decide +kernel) (by decide) rfl rfl ?_
  refine step_W 259 (by decide) 10 14 (by decide +kernel) (by decide) rfl rfl ?_
  refine step_W 260 (by decide) 10 15 (by decide +kernel) (by decide) rfl rfl ?_
  refine step_W 261 (by decide) 10 16 (by decide +kernel) (by decide) rfl rfl ?_
  refine step_W 262 (by decide) 10 17 (by decide +kernel) (by decide) rfl rfl ?_
  refine step_W 263 (by decide) 11 13 (by decide +kernel) (by decide) rfl rfl ?_
  exact ret_intro (hK)

theorem part119 {Q : PUnit → sProp 𝕄}
    (hK : St V K c 270 ⊢ Q ⟨⟩) :
    St V K c 264 ⊢ wp frame (wpE (defs₀ (F := F)) 𝒱₀ c none) Set.univ (k0_part119 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part119_eq_skeleton]; unfold k0_part119_skel
  refine step_W 264 (by decide) 11 14 (by decide +kernel) (by decide) rfl rfl ?_
  refine step_W 265 (by decide) 11 15 (by decide +kernel) (by decide) rfl rfl ?_
  refine step_W 266 (by decide) 11 16 (by decide +kernel) (by decide) rfl rfl ?_
  refine step_W 267 (by decide) 11 17 (by decide +kernel) (by decide) rfl rfl ?_
  refine step_W 268 (by decide) 12 13 (by decide +kernel) (by decide) rfl rfl ?_
  refine step_W 269 (by decide) 12 14 (by decide +kernel) (by decide) rfl rfl ?_
  exact ret_intro (hK)

theorem part120 {Q : PUnit → sProp 𝕄}
    (hK : St V K c 276 ⊢ Q ⟨⟩) :
    St V K c 270 ⊢ wp frame (wpE (defs₀ (F := F)) 𝒱₀ c none) Set.univ (k0_part120 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part120_eq_skeleton]; unfold k0_part120_skel
  refine step_W 270 (by decide) 12 15 (by decide +kernel) (by decide) rfl rfl ?_
  refine step_W 271 (by decide) 12 16 (by decide +kernel) (by decide) rfl rfl ?_
  refine step_W 272 (by decide) 12 17 (by decide +kernel) (by decide) rfl rfl ?_
  refine step_W 273 (by decide) 13 13 (by decide +kernel) (by decide) rfl rfl ?_
  refine step_W 274 (by decide) 13 14 (by decide +kernel) (by decide) rfl rfl ?_
  refine step_W 275 (by decide) 13 15 (by decide +kernel) (by decide) rfl rfl ?_
  exact ret_intro (hK)

theorem part121 {Q : PUnit → sProp 𝕄}
    (hK : St V K c 282 ⊢ Q ⟨⟩) :
    St V K c 276 ⊢ wp frame (wpE (defs₀ (F := F)) 𝒱₀ c none) Set.univ (k0_part121 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part121_eq_skeleton]; unfold k0_part121_skel
  refine step_W 276 (by decide) 13 16 (by decide +kernel) (by decide) rfl rfl ?_
  refine step_W 277 (by decide) 13 17 (by decide +kernel) (by decide) rfl rfl ?_
  refine step_W 278 (by decide) 14 13 (by decide +kernel) (by decide) rfl rfl ?_
  refine step_W 279 (by decide) 14 14 (by decide +kernel) (by decide) rfl rfl ?_
  refine step_W 280 (by decide) 14 15 (by decide +kernel) (by decide) rfl rfl ?_
  refine step_W 281 (by decide) 14 16 (by decide +kernel) (by decide) rfl rfl ?_
  exact ret_intro (hK)

theorem part122 {Q : PUnit → sProp 𝕄}
    (hK : St V K c 287 ⊢ Q ⟨⟩) :
    St V K c 282 ⊢ wp frame (wpE (defs₀ (F := F)) 𝒱₀ c none) Set.univ (k0_part122 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12
      c ) Q := by
  rw [k0_part122_eq_skeleton]; unfold k0_part122_skel
  refine step_W 282 (by decide) 14 17 (by decide +kernel) (by decide) rfl rfl ?_
  refine step_W 283 (by decide) 15 13 (by decide +kernel) (by decide) rfl rfl ?_
  refine step_W 284 (by decide) 15 14 (by decide +kernel) (by decide) rfl rfl ?_
  refine step_W 285 (by decide) 15 15 (by decide +kernel) (by decide) rfl rfl ?_
  refine step_W 286 (by decide) 15 16 (by decide +kernel) (by decide) rfl rfl ?_
  exact ret_intro (hK)

end Cert.KernelIdeal.Lookup
-- ==== Proof.Whole.lean ====
/-
  The pieces of the program put together.
-/
module

public import proofs.«01_k».proof.Proof.Run0
public import proofs.«01_k».proof.Proof.Run1
public import proofs.«01_k».proof.Proof.Run2
public import proofs.«01_k».proof.Proof.Run3
public import proofs.«01_k».proof.Proof.Run4

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (V : Vals F) {K : GSem nD τ sig → ℕ} {c : Dev nD}

theorem dev_intro {α : Type} {Q : α → sProp 𝕄} {R : sProp 𝕄} {Kt : Dev nD → Prog (TpuEff nD τ sig (Elt F) Λ₀ .tc) α}
    (h : R ⊢ wp frame (wpE (defs₀ (F := F)) 𝒱₀ c none) Set.univ (Kt c) Q) :
    R ⊢ wp frame (wpE (defs₀ (F := F)) 𝒱₀ c none) Set.univ (Prog.lift .deviceId >>= Kt) Q := by
  change R ⊢ wp frame (wpE (defs₀ (F := F)) 𝒱₀ c none) Set.univ (.op .deviceId fun d => Kt d) Q
  rw [wp_deviceId]; exact h

theorem part33 {Q : (Σ' (d0 : Dev nD) (v2 : BitVec 32) (v5 : BitVec 32) (v8 : BitVec 32) (v9 : BitVec 32) (v10 : BitVec 32) (v11 : BitVec 32) (v14 : BitVec 32) (v18 : BitVec 32) (v22 : BitVec 32) (v27 : BitVec 32) (v28 : Sems sig S_) (v32 : BitVec 32), BitVec 32) → sProp 𝕄} {R : sProp 𝕄}
    (hK : ∀ v2 v5 v8 v9 v10 v11 v14 v18 v22 v27 v32, R ⊢ Q ⟨c, v2, v5, v8, v9, v10, v11, v14, v18, v22, v27, SemArray.scalar (sig.barrier 0 rfl), v32, 1#32⟩) :
    R ⊢ wp frame (wpE (defs₀ (F := F)) 𝒱₀ c none) Set.univ (k0_part33 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12) Q := by
  rw [k0_part33_eq_skeleton]; unfold k0_part33_skel
  refine dev_intro ?_
  exact ret_intro (hK _ _ _ _ _ _ _ _ _ _ _)

theorem part123 {Q : (Σ' (d0 : Dev nD) (v2 : BitVec 32) (v5 : BitVec 32) (v8 : BitVec 32) (v9 : BitVec 32) (v11 : BitVec 32) (v14 : BitVec 32) (v18 : BitVec 32) (v22 : BitVec 32) (v27 : BitVec 32), BitVec 32) → sProp 𝕄}
    (hK : ∀ w2 w3 w4 w5 w6 w7 w8 w9 w10, St V K c 167 ⊢ iprop(barDone (F := F) c -∗ Q ⟨c, w2, w3, w4, w5, w6, w7, w8, w9, w10, 4#32⟩)) :
    Start V K c ⊢ wp frame (wpE (defs₀ (F := F)) 𝒱₀ c none) Set.univ (k0_part123 mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12) Q := by
  rw [k0_part123_eq_skeleton]; unfold k0_part123_skel
  refine bind_intro (part33 fun _ _ _ _ _ _ _ _ _ _ _ => ?_)
  refine bind_intro (part34 V _ _ _ _ _ _ _ _ (fun _ => wand_frame ?_))
  refine bind_intro (part35 V _ _ _ _ _ (fun _ => ?_))
  refine bind_intro (part36 V _ _ _ _ _ (fun _ => ?_))
  refine bind_intro (part37 V _ _ _ _ ?_)
  refine bind_intro (part38 V _ _ _ _ _ _ _ (fun _ => ?_))
  refine bind_intro (part39 V _ _ _ _ ?_)
  refine bind_intro (part40 V _ _ _ _ _ _ (fun _ _ => ?_))
  refine bind_intro (part41 V _ _ _ _ _ _ (fun m hm g hg => ?_))
  refine bind_intro (part42 V hm hg _ _ _ _ _ _ ?_)
  refine bind_intro (part43 V _ _ _ _ _ _ ?_)
  refine bind_intro (part44 V _ _ _ _ _ _ _ (fun _ _ => ?_))
  refine bind_intro (part45 V _ _ _ _ _ (fun m hm g hg r hr => ?_))
  refine bind_intro (part46 V hm hg hr _ _ _ _ _ _ (fun _ => ?_))
  refine bind_intro (part47 V _ _ _ _ _ _ ?_)
  refine bind_intro (part48 V _ _ _ _ _ _ _ _ (fun _ => ?_))
  refine bind_intro (part49 V _ _ _ _ ?_)
  refine bind_intro (part50 V _ _ _ _ _ _ ?_)
  refine bind_intro (part51 V _ _ _ _ _ ?_)
  refine bind_intro (part52 V _ _ _ _ _ _ _ (fun _ => ?_))
  refine bind_intro (part53 V _ _ _ _ _ (fun _ => ?_))
  refine bind_intro (part54 V _ _ _ _ _ _ _ ?_)
  refine bind_intro (part55 V _ _ _ _ _ _ (fun _ => ?_))
  refine bind_intro (part56 V _ _ _ _ _ _ (fun _ _ => ?_))
  refine bind_intro (part57 V _ _ _ _ _ _ ?_)
  refine bind_intro (part58 V _ _ _ _ _ _ _ (fun _ => ?_))
  refine bind_intro (part59 V _ _ _ _ _ _ _ ?_)
  refine bind_intro (part60 V _ _ _ _ _ (fun _ => ?_))
  refine bind_intro (part61 V _ _ _ _ ?_)
  refine bind_intro (part62 V _ _ _ _ _ _ _ ?_)
  refine bind_intro (part63 V _ _ _ _ _ _ ?_)
  refine bind_intro (part64 V _ _ _ _ _ (fun _ => ?_))
  refine bind_intro (part65 V _ _ _ _ _ (fun _ => ?_))
  refine bind_intro (part66 V _ _ _ _ _ _ _ ?_)
  refine bind_intro (part67 V _ _ _ _ _ _ _ (fun _ _ => ?_))
  refine bind_intro (part68 V _ _ _ _ _ _ (fun m hm => ?_))
  refine bind_intro (part69 V hm _ _ _ _ _ _ ?_)
  refine bind_intro (part70 V _ _ _ _ _ _ (fun _ _ => ?_))
  refine bind_intro (part71 V _ _ _ _ _ _ _ _ _ (fun _ => ?_))
  refine bind_intro (part72 V _ _ _ _ (fun m hm g hg => ?_))
  refine bind_intro (part73 V hm hg _ _ _ _ _ _ ?_)
  refine bind_intro (part74 V _ _ _ _ _ _ ?_)
  refine bind_intro (part75 V _ _ _ _ _ _ _ _ (fun _ _ _ => ?_))
  refine bind_intro (part76 V _ _ _ _ _ _ (fun m hm g hg r hr => ?_))
  refine bind_intro (part77 V hm hg hr _ _ _ _ _ _ (fun _ _ => ?_))
  refine bind_intro (part78 V _ _ _ _ _ _ _ _ ?_)
  refine bind_intro (part79 V _ _ _ _ _ _ _ _ (fun _ => ?_))
  refine bind_intro (part80 V _ _ _ _ ?_)
  refine bind_intro (part81 V _ _ _ _ _ _ ?_)
  refine bind_intro (part82 V _ _ _ _ _ _ (fun _ => ?_))
  refine bind_intro (part83 V _ _ _ _ _ _ (fun _ => ?_))
  refine bind_intro (part84 V _ _ _ _ _ ?_)
  refine bind_intro (part85 V _ _ _ _ _ _ _ (fun _ => ?_))
  refine bind_intro (part86 V _ _ _ _ _ _ _ ?_)
  refine bind_intro (part87 V _ _ _ _ _ _ (fun _ => ?_))
  refine bind_intro (part88 V _ _ _ _ _ _ _ (fun _ => ?_))
  refine bind_intro (part89 V _ _ _ _ _ _ (fun _ => ?_))
  refine bind_intro (part90 V _ _ _ _ _ _ _ ?_)
  refine bind_intro (part91 V _ _ _ _ _ _ ?_)
  refine bind_intro (part92 V _ _ _ _ _ ?_)
  exact ret_intro (hK _ _ _ _ _ _ _ _ _)

set_option maxRecDepth 100000 in
/-- The whole kernel. -/
theorem body_run {Q : PUnit → sProp 𝕄} (hK : St V K c 288 ⊢ iprop(barDone (F := F) c -∗ Q ⟨⟩)) :
    Start V K c ⊢ wp frame (wpE (defs₀ (F := F)) 𝒱₀ c none) Set.univ (cc0_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12) Q := by
  rw [cc0_body_eq_skeleton]; unfold cc0_body_skel
  refine bind_intro (part123 V fun _ _ _ _ _ _ _ _ _ => ?_)
  dsimp only
  refine wand_frame ?_
  refine bind_intro (part93 V _ _ _ _ _ _ ?_)
  refine bind_intro (part94 V _ _ _ _ _ _ (fun _ => ?_))
  refine bind_intro (part95 V _ _ _ _ _ _ _ (fun _ => ?_))
  refine bind_intro (part96 V _ _ _ _ _ _ _ _ (fun _ => ?_))
  refine bind_intro (part97 V _ _ _ _ _ _ _ _ ?_)
  refine bind_intro (part98 V _ _ _ _ _ _ _ (fun _ => ?_))
  refine bind_intro (part99 V _ _ _ _ _ _ _ _ ?_)
  refine bind_intro (part100 V _ _ _ _ _ _ _ (fun _ => ?_))
  refine bind_intro (part101 V _ _ _ _ _ _ _ _ ?_)
  refine bind_intro (part102 V _ _ _ _ _ _ _ (fun _ => ?_))
  refine bind_intro (part103 V _ _ _ _ _ _ _ _ ?_)
  refine bind_intro (part104 V _ _ _ _ _ _ _ (fun _ => ?_))
  refine bind_intro (part105 V _ _ _ _ _ _ _ _ ?_)
  refine bind_intro (part106 V _ _ _ _ _ _ _ (fun _ => ?_))
  refine bind_intro (part107 V _ _ _ _ _ _ _ _ ?_)
  refine bind_intro (part108 V _ _ _ _ _ _ _ (fun _ => ?_))
  refine bind_intro (part109 V _ _ ?_)
  refine bind_intro (part110 V ?_)
  refine bind_intro (part111 V ?_)
  refine bind_intro (part112 V ?_)
  refine bind_intro (part113 V ?_)
  refine bind_intro (part114 V ?_)
  refine bind_intro (part115 V ?_)
  refine bind_intro (part116 V ?_)
  refine bind_intro (part117 V ?_)
  refine bind_intro (part118 V ?_)
  refine bind_intro (part119 V ?_)
  refine bind_intro (part120 V ?_)
  refine bind_intro (part121 V ?_)
  refine bind_intro (part122 V ?_)
  refine step_W 287 (by decide) 15 17 (by decide +kernel) (by decide) rfl rfl ?_
  exact ret_intro hK

end Cert.KernelIdeal.Lookup
-- ==== Proof.Open.lean ====
/-
  Opening the exchange's cells on entry to the kernel and closing them at its end; the buffers' rows, chunk by chunk.
-/
module

public import proofs.«01_k».proof.Proof.Whole
public import Idealize.ShloMosaic.Lib.Pipeline.RegionTalk

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## Finite families -/

omit [FloatOps F] in
theorem bigSep_fin_zero {N : ℕ} (Φ : Fin (N + 1) → sProp 𝕄) :
    bigSep Finset.univ Φ = iprop(Φ 0 ∗ bigSep Finset.univ fun k : Fin N => Φ k.succ) := by
  rw [Fin.univ_succ, Finset.cons_eq_insert, BI.bigSep_insert (by simp), BI.bigSep_map]; rfl

omit [FloatOps F] in
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  BI.bigSep_univ_eq_bigSepL [0, 1, 2, 3, 4, 5, 6, 7, 8, 9] (by decide) (by decide) Φ

omit [FloatOps F] in
theorem bigSep_kinds (Φ : Fin 11 → sProp 𝕄) :
    (bigSep Finset.univ fun a : Fin 10 => Φ a.succ) = iprop(Φ 1 ∗ Φ 2 ∗ Φ 3 ∗ Φ 4 ∗ Φ 5 ∗ Φ 6 ∗ Φ 7 ∗ Φ 8 ∗ Φ 9 ∗ Φ 10) :=
  bigSep_ten _

/-! ## The four quarters of the result -/

/-- The quarters, from the own one. -/
def qbs (c : Dev nD) : List (Fin 4) := [⟨qb c, qb_lt c⟩, ⟨qb (xn c), qb_lt _⟩, ⟨qb (zn c), qb_lt _⟩, ⟨qb (xn (zn c)), qb_lt _⟩]
theorem qbs_nodup (c : Dev nD) : (qbs c).Nodup := by
  revert c; decide
theorem qbs_all (c : Dev nD) : (qbs c).toFinset = Finset.univ := by
  revert c; decide

omit [FloatOps F] in
theorem bigSep_quarters (c : Dev nD) (Φ : ℕ → sProp 𝕄) :
    (bigSep Finset.univ fun q : Fin 4 => Φ q.val) = iprop(Φ (qb c) ∗ Φ (qb (xn c)) ∗ Φ (qb (zn c)) ∗ Φ (qb (xn (zn c)))) :=
  (BI.bigSep_univ_eq_bigSepL (qbs c) (qbs_all c).symm (qbs_nodup c) fun q : Fin 4 => Φ q.val).trans rfl

omit [FloatOps F] in
theorem rows_all {b : Ref sig .tc} {N : ℕ} (h : ∀ a : Fin b.ty.shape.rank, a.val = 0 → b.ty.shape.size a = N) : rows b 0 N = Finset.univ := by
  ext i
  rw [mem_rows]
  refine ⟨fun _ => Finset.mem_univ _, fun _ a ha => ⟨Nat.zero_le _, ?_⟩⟩
  rw [Nat.zero_add, ← h a ha]; exact (i a).isLt

theorem rows_G : rows bG 0 512 = Finset.univ := rows_all fun a ha => by
  have : a = (0 : Fin 2) := Fin.ext ha
  subst this; rfl
theorem rows_R : rows bR 0 512 = Finset.univ := rows_all fun a ha => by
  have : a = (0 : Fin 2) := Fin.ext ha
  subst this; rfl
theorem rows_O : rows bO 0 2048 = Finset.univ := rows_all fun a ha => by
  have : a = (0 : Fin 2) := Fin.ext ha
  subst this; rfl

omit [FloatOps F] in
theorem whole_Rg (c : Dev nD) {b : Ref sig .tc} {N : ℕ} (h : rows b 0 N = Finset.univ) (f : Buf (Elt F) ((c : Thread nD τ).loc b)) :
    ((((c : Thread nD τ).loc b) ↦{fullShare} f) : sProp 𝕄) ⊢ Rg c b 0 N q₀ (anyOK b) := by
  unfold Rg; rw [h]
  iintro H
  iexists f
  isplitl [H]; · iexact H
  ipureintro; exact fun _ _ => trivial

omit [FloatOps F] in
theorem Rg_whole (c : Dev nD) {b : Ref sig .tc} {N : ℕ} (h : rows b 0 N = Finset.univ) (OK : b.ty.Idx → Elt F b.ty.elt → Prop) :
    (Rg c b 0 N q₀ OK : sProp 𝕄) ⊢ iprop(∃ f : Buf (Elt F) ((c : Thread nD τ).loc b), ⌜∀ i, OK i (f i)⌝ ∗ (((c : Thread nD τ).loc b) ↦{fullShare} f)) := by
  unfold Rg; rw [h]
  iintro ⟨%f, H, %hf⟩
  iexists f
  isplitr; · ipureintro; exact fun i => hf i (Finset.mem_univ i)
  iexact H

/-! ## The rows of the buffers, chunk by chunk -/

omit [FloatOps F] in
theorem chunks_of (c : Dev nD) {b : Ref sig .tc} (hb : 0 < b.ty.shape.rank) (lo : ℕ) (OK : b.ty.Idx → Elt F b.ty.elt → Prop) :
    (Rg c b lo 512 q₀ OK : sProp 𝕄) ⊢ bigSep Finset.univ fun k : Fin 16 => Rg c b (lo + 32 * k.val) 32 q₀ OK := Rg_chunks (n := 32) hb 16
omit [FloatOps F] in
theorem of_chunks (c : Dev nD) {b : Ref sig .tc} (hb : 0 < b.ty.shape.rank) (lo : ℕ) (OK : b.ty.Idx → Elt F b.ty.elt → Prop) :
    (bigSep Finset.univ fun k : Fin 16 => Rg c b (lo + 32 * k.val) 32 q₀ OK) ⊢ (Rg c b lo 512 q₀ OK : sProp 𝕄) := Rg_unchunk (n := 32) hb 15

omit [FloatOps F] in
theorem zero_chunks (c : Dev nD) {b : Ref sig .tc} (hb : 0 < b.ty.shape.rank) (OK : b.ty.Idx → Elt F b.ty.elt → Prop) :
    (Rg c b 0 512 q₀ OK : sProp 𝕄) ⊢ bigSep Finset.univ fun k : Fin 16 => Rg c b (32 * k.val) 32 q₀ OK :=
  (chunks_of c hb 0 OK).trans (Entails.of_eq (bigSep_congr fun k _ => by rw [Nat.zero_add]))
omit [FloatOps F] in
theorem zero_unchunks (c : Dev nD) {b : Ref sig .tc} (hb : 0 < b.ty.shape.rank) (OK : b.ty.Idx → Elt F b.ty.elt → Prop) :
    (bigSep Finset.univ fun k : Fin 16 => Rg c b (32 * k.val) 32 q₀ OK) ⊢ (Rg c b 0 512 q₀ OK : sProp 𝕄) :=
  (Entails.of_eq (bigSep_congr fun k _ => by rw [Nat.zero_add])).trans (of_chunks c hb 0 OK)

/-- The result's rows of chunk `k` in every quarter. -/
def fourR (c : Dev nD) (OK : bO.ty.Idx → Elt F bO.ty.elt → Prop) (k : Fin 16) : sProp 𝕄 :=
  iprop(Rg c bO (ownR c k) 32 q₀ OK ∗ Rg c bO (xR c k) 32 q₀ OK ∗ Rg c bO (zR c k) 32 q₀ OK ∗ Rg c bO (dR c k) 32 q₀ OK)

omit [FloatOps F] in
theorem four_eq (c : Dev nD) (OK : bO.ty.Idx → Elt F bO.ty.elt → Prop) :
    (bigSep Finset.univ fun k => fourR c OK k) = (iprop((bigSep Finset.univ fun k => Rg c bO (ownR c k) 32 q₀ OK)
      ∗ (bigSep Finset.univ fun k => Rg c bO (xR c k) 32 q₀ OK) ∗ (bigSep Finset.univ fun k => Rg c bO (zR c k) 32 q₀ OK)
      ∗ bigSep Finset.univ fun k => Rg c bO (dR c k) 32 q₀ OK) : sProp 𝕄) := by
  unfold fourR
  rw [bigSep_sep', bigSep_sep', bigSep_sep']

omit [FloatOps F] in
theorem result_split (c : Dev nD) (OK : bO.ty.Idx → Elt F bO.ty.elt → Prop) :
    (Rg c bO 0 2048 q₀ OK : sProp 𝕄) ⊢ bigSep Finset.univ fun k => fourR c OK k := by
  rw [four_eq]
  refine (Rg_chunks (n := 512) (by decide) 4).trans ?_
  rw [bigSep_quarters c fun q => Rg c bO (0 + 512 * q) 512 q₀ OK]
  simp only [Nat.zero_add]
  exact BIClass.sep_mono (chunks_of c (by decide) _ OK) (BIClass.sep_mono (chunks_of c (by decide) _ OK)
    (BIClass.sep_mono (chunks_of c (by decide) _ OK) (chunks_of c (by decide) _ OK)))

omit [FloatOps F] in
theorem result_join (c : Dev nD) (OK : bO.ty.Idx → Elt F bO.ty.elt → Prop) :
    (bigSep Finset.univ fun k => fourR c OK k) ⊢ (Rg c bO 0 2048 q₀ OK : sProp 𝕄) := by
  rw [four_eq]
  refine BIBase.Entails.trans ?_ (Rg_unchunk (n := 512) (by decide) 3)
  rw [bigSep_quarters c fun q => Rg c bO (0 + 512 * q) 512 q₀ OK]
  simp only [Nat.zero_add]
  exact BIClass.sep_mono (of_chunks c (by decide) _ OK) (BIClass.sep_mono (of_chunks c (by decide) _ OK)
    (BIClass.sep_mono (of_chunks c (by decide) _ OK) (of_chunks c (by decide) _ OK)))

/-! ## Opening the cells -/

def opn (c : Dev nD) (a : Fin 11) (k : Fin 16) : sProp 𝕄 := iprop(atPos ER (cell c a k) 0 ∅ 0 ∗ reached ER (cell c a k) 0)

/-- The kernel's own semaphores, chunk by chunk. -/
def osem (x : Fin 16 × Fin 11) : SemLoc sig := .dma (dS x.2 x.1)

theorem osem_inj : Function.Injective osem := fun x y h => by
  have h' : dS x.2 x.1 = dS y.2 y.1 := SemLoc.dma.inj h
  refine Prod.ext ?_ (Fin.ext ?_)
  · rw [← semChunk_dS x.2 x.1, h', semChunk_dS]
  · rw [← semKind_dS x.2 x.1, h', semKind_dS]

omit [FloatOps F] in
theorem ownSems_eq (c : Dev nD) : (Pipeline.ownSems0 osem c : sProp 𝕄)
    = bigSep Finset.univ fun k : Fin 16 => iprop(semVal (cell c 0 k) 0 ∗ bigSep Finset.univ fun a : Fin 10 => semVal (cell c a.succ k) 0) := by
  unfold Pipeline.ownSems0
  rw [BI.bigSep_univ_prod]
  exact bigSep_congr fun k _ => bigSep_fin_zero _

variable (V : Vals F)

theorem open_chunk (K : GSem nD τ sig → ℕ) (c : Dev nD) (k : Fin 16) :
    iprop(records V K ∗ (bigSep Finset.univ fun a : Fin 10 => openTok ER (cell c a.succ k)) ∗ (bigSep Finset.univ fun a : Fin 10 => semVal (cell c a.succ k) 0))
      ⊢ (|={Set.univ}=> bigSep Finset.univ fun a : Fin 10 => opn c a.succ k : sProp 𝕄) := by
  rw [← bigSep_sep']
  refine (bigSep_with_persistent (Ψ := fun a : Fin 10 => iprop(|={Set.univ}=> opn c a.succ k)) fun a _ => ?_).trans (bigSep_fupd _ _)
  unfold opn
  refine BIBase.Entails.trans ?_ (Rounds.cell_open ER (Rd V) (g := cell c a.succ k) (κ := K (cell c a.succ k)) (Set.mem_univ _))
  iintro ⟨HR, H⟩
  isplitl [HR]
  · iapply (records_cell V K c a.succ k (Nat.succ_pos _)); iexact HR
  iexact H

theorem close_chunk (K : GSem nD τ sig → ℕ) (c : Dev nD) (k : Fin 16) :
    iprop(records V K ∗ (bigSep Finset.univ fun a : Fin 10 => wtd c a.succ k))
      ⊢ (|={Set.univ}=> bigSep Finset.univ fun a : Fin 10 => semVal (cell c a.succ k) 0 : sProp 𝕄) := by
  refine (bigSep_with_persistent (Ψ := fun a : Fin 10 => iprop(|={Set.univ}=> semVal (cell c a.succ k) 0)) fun a _ => ?_).trans (bigSep_fupd _ _)
  refine BIBase.Entails.trans ?_ (Rounds.cell_close ER (Rd V) (g := cell c a.succ k) (κ := K (cell c a.succ k)) (Set.mem_univ _) id (duties_later V _))
  unfold wtd
  iintro ⟨HR, H⟩
  isplitl [HR]
  · iapply (records_cell V K c a.succ k (Nat.succ_pos _)); iexact HR
  iexact H

theorem close_bar (K : GSem nD τ sig → ℕ) (c : Dev nD) :
    iprop(records V K ∗ barDone (F := F) c) ⊢ (|={Set.univ}=> semVal (barCell c) 0 : sProp 𝕄) := by
  refine BIBase.Entails.trans ?_ (Rounds.cell_close ER (Rd V) (g := barCell c) (κ := K (barCell c)) (Set.mem_univ _) id (duties_later V _))
  unfold barDone
  iintro ⟨HR, H⟩
  isplitl [HR]
  · iapply (records_bar V K c); iexact HR
  iexact H

/-! ## What comes from the launch -/

/-- The duties device `c` pays for chunk `k`. -/
def dealt (c : Dev nD) (k : Fin 16) : sProp 𝕄 :=
  iprop(dutyTok ER (cell c 1 k) 0 0 ∗ dutyTok ER (cell (yn c) 2 k) 0 0 ∗ dutyTok ER (cell c 3 k) 0 0 ∗ dutyTok ER (cell (xn c) 4 k) 0 0
    ∗ dutyTok ER (cell c 5 k) 0 0 ∗ dutyTok ER (cell (zn c) 6 k) 0 0 ∗ dutyTok ER (cell c 7 k) 0 0 ∗ dutyTok ER (cell (zn c) 8 k) 0 0
    ∗ dutyTok ER (cell c 9 k) 0 0 ∗ dutyTok ER (cell (xn c) 10 k) 0 0)
/-- The units to come at its receive cells. -/
def crs (c : Dev nD) (k : Fin 16) : sProp 𝕄 :=
  iprop(cred (tallyAt (cell c 2 k) () (amt 2)) ∗ cred (tallyAt (cell c 4 k) () (amt 4)) ∗ cred (tallyAt (cell c 6 k) () (amt 6))
    ∗ cred (tallyAt (cell c 8 k) () (amt 8)) ∗ cred (tallyAt (cell c 10 k) () (amt 10)))

omit [FloatOps F] in
theorem chunk_start (c : Dev nD) (k : Fin 16) :
    iprop(semVal (cell c 0 k) 0 ∗ (bigSep Finset.univ fun a : Fin 10 => opn c a.succ k) ∗ dealt (F := F) c k ∗ crs (F := F) c k
        ∗ Rg (F := F) c bG (32 * k.val) 32 q₀ (anyOK bG) ∗ Rg (F := F) c bR (32 * k.val) 32 q₀ (anyOK bR) ∗ fourR (F := F) c (anyOK bO) k)
      ⊢ iprop(keep (F := F) c k ∗ roomX (F := F) c (xn c) k ∗ roomY (F := F) c k ∗ roomZ (F := F) c (zn c) k) := by
  rw [bigSep_kinds fun a => opn c a k]
  unfold keep roomX roomY roomZ dealt crs fourR opn toks unw
  rw [show ownR (xn c) k = xR c k from rfl, show ownR (zn c) k = zR c k from rfl,
    show zR (xn c) k = dR c k by unfold zR dR; rw [qb_xz], show xR (zn c) k = dR c k from rfl]
  iintro ⟨Hs, ⟨⟨A1, R1⟩, ⟨A2, R2⟩, ⟨A3, R3⟩, ⟨A4, R4⟩, ⟨A5, R5⟩, ⟨A6, R6⟩, ⟨A7, R7⟩, ⟨A8, R8⟩, ⟨A9, R9⟩, ⟨A10, R10⟩⟩,
    ⟨D1, D2, D3, D4, D5, D6, D7, D8, D9, D10⟩, ⟨C2, C4, C6, C8, C10⟩, HG, HR, ⟨HO, HX, HZ, HD⟩⟩
  ihave HD := (Rg_split (F := F) (b := bO) (n := 16) (m := 16) (by decide)) $$ HD
  icases HD with ⟨HD1, HD2⟩
  isplitr [R4 R10 R2 R6 R8 HR HX HZ HD1 HD2]
  · isplitl [Hs]; · iexact Hs
    isplitl [HG]; · iexact HG
    isplitl [HO]; · iexact HO
    isplitl [C2 C4 C6 C8 C10 A2 A4 A6 A8 A10]
    · isplitl [C2 A2]; · isplitl [C2] <;> iassumption
      isplitl [C4 A4]; · isplitl [C4] <;> iassumption
      isplitl [C6 A6]; · isplitl [C6] <;> iassumption
      isplitl [C8 A8]; · isplitl [C8] <;> iassumption
      isplitl [C10] <;> iassumption
    isplitl [D1 R1 D2 A1]
    · isplitl [D1]; · iexact D1
      isplitl [R1]; · iexact R1
      isplitl [D2] <;> iassumption
    isplitl [D3 R3 D4 A3]
    · isplitl [D3]; · iexact D3
      isplitl [R3]; · iexact R3
      isplitl [D4] <;> iassumption
    isplitl [D5 R5 D6 A5]
    · isplitl [D5]; · iexact D5
      isplitl [R5]; · iexact R5
      isplitl [D6] <;> iassumption
    isplitl [D7 R7 D8 A7]
    · isplitl [D7]; · iexact D7
      isplitl [R7]; · iexact R7
      isplitl [D8] <;> iassumption
    isplitl [D9]; · iexact D9
    isplitl [R9]; · iexact R9
    isplitl [D10] <;> iassumption
  isplitl [HX R4 HD2 R10]
  · isplitl [HX R4]; · isplitl [HX] <;> iassumption
    isplitl [HD2] <;> iassumption
  isplitl [HR R2]; · isplitl [HR] <;> iassumption
  isplitl [HZ R6]; · isplitl [HZ] <;> iassumption
  isplitl [HD1] <;> iassumption

theorem active_end : active 18 = {.gsv, .gR, .gL, .yr1, .oR, .oL, .xr1, .XL, .XU, .zr1, .ZL, .ZU, .zd1, .xd1, .ys1, .xs1, .zs1, .zf1, .xf1} := by decide

/-- What is left of a chunk at the end. -/
theorem chunk_end (c : Dev nD) (k : Fin 16) :
    Ph V c 18 k ⊢ iprop(semVal (cell c 0 k) 0 ∗ (bigSep Finset.univ fun a : Fin 10 => wtd (F := F) c a.succ k)
        ∗ Rg (F := F) c bG (32 * k.val) 32 q₀ (gOK V c) ∗ Rg (F := F) c bR (32 * k.val) 32 q₀ (rOK V c) ∗ fourR (F := F) c (oOK V c) k) := by
  unfold Ph
  rw [active_end, bigSep_kinds fun a => wtd (F := F) c a k]
  repeat rw [bigSep_ins (by decide)]
  rw [BI.bigSep_singleton]
  simp only [res]
  unfold fourR
  iintro ⟨Hs, GR, GL, ⟨W2, HR⟩, OR, OL, W4, XL, XU, W6, ZL, ZU, ⟨W8, D1⟩, ⟨W10, D2⟩, W1, W3, W5, W7, W9⟩
  ihave HG := (Rg_unhalve (F := F) (b := bG) (q := q₀)) $$ [GR GL]
  · isplitl [GL] <;> iassumption
  ihave HO := (Rg_unhalve (F := F) (b := bO) (q := q₀)) $$ [OR OL]
  · isplitl [OL] <;> iassumption
  ihave HX := (Rg_join (F := F) (b := bO) (n := 16) (m := 16) (by decide)) $$ [XL XU]
  · isplitl [XL] <;> iassumption
  ihave HZ := (Rg_join (F := F) (b := bO) (n := 16) (m := 16) (by decide)) $$ [ZL ZU]
  · isplitl [ZL] <;> iassumption
  ihave HD := (Rg_join (F := F) (b := bO) (n := 16) (m := 16) (by decide)) $$ [D1 D2]
  · isplitl [D1] <;> iassumption
  isplitl [Hs]; · iexact Hs
  isplitl [W1 W2 W3 W4 W5 W6 W7 W8 W9 W10]
  · isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    iexact W10
  isplitl [HG]; · iexact HG
  isplitl [HR]; · iexact HR
  isplitl [HO]; · iexact HO
  isplitl [HX]; · iexact HX
  isplitl [HZ] <;> iassumption

end Cert.KernelIdeal.Lookup
-- ==== Proof.Region.lean ====
/-
  The kernel as a pipeline region.
-/
module

public import proofs.«01_k».proof.Proof.Open
public import proofs.«01_k».proof.Proof.Gen.KernelIdeal.Points
public import proofs.«01_k».proof.Proof.Gen.KernelIdeal.Launch
public import Idealize.ShloMosaic.Lib.Pipeline.ArrRel

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## What every device's buffers hold -/

variable (m : (ℓ : Loc nD τ sig) → Buf (Elt F) ℓ)

/-- At launch. -/
def V₀ (c : Dev nD) : Valuation τ sig (Elt F) := fun b => m (c, b)
/-- After the host operations. -/
def V₁ (c : Dev nD) : Valuation τ sig (Elt F) := StableHlo.after (hostOps0 c) (V₀ m c)

/-- What the kernels read. -/
def vals : Vals F where
  lid c := V₁ m c main_v7
  msk c := V₁ m c main_v14
  emb c := m ((c : Thread nD τ).loc main_arg1)

/-- What the host operations write. -/
theorem hostOps_writes (c : Dev nD) : (hostOps0 (F := F) c).Forall fun op => op.writes
    ⊆ (([main_c, main_c_0, main_v1, main_v2, main_v3, main_v4, main_c_1, main_v5, main_v6, main_v7, main_c_2, main_v8, main_v9, main_c_3, main_v10,
      main_v11, main_v12, main_v13, main_v14] : List (Ref sig .tc)).map (Proc.devRef (τ := τ) .tc)).toFinset := by
  refine ⟨?_, ?_, ?_, ?_, ?_, ?_, ?_, ?_, ?_, ?_, ?_, ?_, ?_, ?_, ?_, ?_, ?_, ?_, ?_⟩ <;>
    · intro b hb
      rw [Finset.mem_singleton.mp hb]
      decide

theorem V₁_arg0 (c : Dev nD) : V₁ m c main_arg0 = m ((c : Thread nD τ).loc main_arg0) :=
  StableHlo.after_of_writes_sub (hostOps0 c) (V₀ m c) (hostOps_writes c) (by decide)
theorem V₁_arg1 (c : Dev nD) : V₁ m c main_arg1 = m ((c : Thread nD τ).loc main_arg1) :=
  StableHlo.after_of_writes_sub (hostOps0 c) (V₀ m c) (hostOps_writes c) (by decide)

/-! ## What the body starts from, and what it leaves -/

/-- What the launch gives device `c` of chunk `k`: the rights to open its cells, the duties it pays, the units to come. -/
def given (c : Dev nD) (k : Fin 16) : sProp 𝕄 :=
  iprop((bigSep Finset.univ fun a : Fin 10 => openTok ER (cell c a.succ k)) ∗ dealt (F := F) c k ∗ crs (F := F) c k)
/-- The same with the cells open. -/
def opened (c : Dev nD) (k : Fin 16) : sProp 𝕄 :=
  iprop(semVal (cell c 0 k) 0 ∗ (bigSep Finset.univ fun a : Fin 10 => opn (F := F) c a.succ k) ∗ dealt (F := F) c k ∗ crs (F := F) c k)

/-- The two scratch buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

omit [FloatOps F] in
theorem chunks_start (c : Dev nD) :
    iprop((bigSep Finset.univ fun k => opened (F := F) c k) ∗ scratch (F := F) c
        ∗ (∃ f : Buf (Elt F) ((c : Thread nD τ).loc bO), ((c : Thread nD τ).loc bO) ↦{fullShare} f))
      ⊢ iprop((bigSep Finset.univ fun k => keep (F := F) c k) ∗ (bigSep Finset.univ fun k => roomX (F := F) c (xn c) k)
        ∗ (bigSep Finset.univ fun k => roomY (F := F) c k) ∗ (bigSep Finset.univ fun k => roomZ (F := F) c (zn c) k)) := by
  rw [← bigSep_sep', ← bigSep_sep', ← bigSep_sep']
  have h (k : Fin 16) : iprop(opened (F := F) c k ∗ Rg (F := F) c bG (32 * k.val) 32 q₀ (anyOK bG) ∗ Rg (F := F) c bR (32 * k.val) 32 q₀ (anyOK bR)
      ∗ fourR (F := F) c (anyOK bO) k) ⊢ iprop(keep (F := F) c k ∗ roomX (F := F) c (xn c) k ∗ roomY (F := F) c k ∗ roomZ (F := F) c (zn c) k) := by
    refine BIBase.Entails.trans ?_ (chunk_start c k)
    unfold opened
    iintro ⟨⟨H0, HA, HD, HC⟩, HG, HR, HO⟩
    isplitl [H0]; · iexact H0
    isplitl [HA]; · iexact HA
    isplitl [HD]; · iexact HD
    isplitl [HC]; · iexact HC
    isplitl [HG]; · iexact HG
    isplitl [HR] <;> iassumption
  refine BIBase.Entails.trans ?_ (bigSep_mono fun k _ => h k)
  rw [bigSep_sep', bigSep_sep', bigSep_sep']
  unfold scratch
  iintro ⟨HA, ⟨⟨%f, HG⟩, ⟨%g, HR⟩⟩, ⟨%o, HO⟩⟩
  isplitl [HA]; · iexact HA
  isplitl [HG]
  · iapply (zero_chunks c (by decide) (anyOK bG)); iapply (whole_Rg c rows_G f); iexact HG
  isplitl [HR]
  · iapply (zero_chunks c (by decide) (anyOK bR)); iapply (whole_Rg c rows_R g); iexact HR
  iapply (result_split c (anyOK bO)); iapply (whole_Rg c rows_O o); iexact HO

/-- What is left when every step is done: the counters at zero, the result's rows. -/
theorem chunks_end (V : Vals F) (K : GSem nD τ sig → ℕ) (c : Dev nD) :
    iprop(records V K ∗ bigSep Finset.univ fun k => Ph V c (ph 288 k) k)
      ⊢ (|={Set.univ}=> iprop(Pipeline.ownSems0 osem c ∗ scratch (F := F) c
        ∗ ∃ f : Buf (Elt F) ((c : Thread nD τ).loc bO), ⌜∀ i, oOK V c i (f i)⌝ ∗ (((c : Thread nD τ).loc bO) ↦{fullShare} f)) : sProp 𝕄) := by
  have h (k : Fin 16) : iprop(records V K ∗ Ph V c (ph 288 k) k)
      ⊢ (|={Set.univ}=> iprop((semVal (cell c 0 k) 0 ∗ bigSep Finset.univ fun a : Fin 10 => semVal (cell c a.succ k) 0)
        ∗ Rg (F := F) c bG (32 * k.val) 32 q₀ (gOK V c) ∗ Rg (F := F) c bR (32 * k.val) 32 q₀ (rOK V c) ∗ fourR (F := F) c (oOK V c) k) : sProp 𝕄) := by
    rw [ph_end]
    iintro ⟨#HR, H⟩
    ihave H := (chunk_end V c k) $$ H
    icases H with ⟨H0, HW, HG, Hr, HO⟩
    imod (close_chunk V K c k) $$ [HW] with HW
    · isplitr; · iexact HR
      iexact HW
    imodintro
    isplitl [H0 HW]; · isplitl [H0] <;> iassumption
    isplitl [HG]; · iexact HG
    isplitl [Hr] <;> iassumption
  refine ((bigSep_with_persistent (Φ := fun k => Ph V c (ph 288 k) k) fun k _ => h k).trans (bigSep_fupd _ _)).trans ?_
  rw [bigSep_sep', ← ownSems_eq, bigSep_sep', bigSep_sep']
  iintro H
  imod H with ⟨HS, HG, HR, HO⟩
  imodintro
  isplitl [HS]; · iexact HS
  unfold scratch
  isplitl [HG HR]
  · isplitl [HG]
    · ihave HG := (zero_unchunks c (by decide) (gOK V c)) $$ HG
      ihave HG := (Rg_whole c rows_G (gOK V c)) $$ HG
      icases HG with ⟨%f, -, HG⟩
      iexists f; iexact HG
    · ihave HR := (zero_unchunks c (by decide) (rOK V c)) $$ HR
      ihave HR := (Rg_whole c rows_R (rOK V c)) $$ HR
      icases HR with ⟨%f, -, HR⟩
      iexists f; iexact HR
  iapply (Rg_whole c rows_O (oOK V c))
  iapply (result_join c (oOK V c)); iexact HO

/-- What enters the kernel's invariant, beside the scratch buffers. -/
def Xc (V : Vals F) (c : Dev nD) : sProp 𝕄 :=
  iprop((∃ K, records V K ∗ barStuff (F := F) c ∗ bigSep Finset.univ fun k => opened (F := F) c k) ∗ levAts L lv
    ∗ (((c : Thread nD τ).loc main_arg1) ↦{fullShare} V.emb c))
/-- What it gives back. -/
def Yc (V : Vals F) (c : Dev nD) : sProp 𝕄 := iprop(semVal (barCell c) 0 ∗ ∃ q, ((c : Thread nD τ).loc main_arg1) ↦{q} V.emb c)

/-- What holds once the body has run. -/
def Done (V : Vals F) (c : Dev nD) : sProp 𝕄 :=
  iprop(Yc V c ∗ Pipeline.ownSems0 osem c ∗ scratch (F := F) c ∗ (∃ W, owes (c : Thread nD τ) (0 : CellTallies nD τ sig Unit) W)
          ∗ (((c : Thread nD τ).loc cc0_stg0_0) ↦{fullShare} V.lid c) ∗ (((c : Thread nD τ).loc cc0_stg1_0) ↦{fullShare} V.msk c)
          ∗ ∃ f : Buf (Elt F) ((c : Thread nD τ).loc bO), ⌜∀ i, oOK V c i (f i)⌝ ∗ (((c : Thread nD τ).loc bO) ↦{fullShare} f))

/-- The whole body: from what enters it and its windows' buffers, to the counters at zero and the result. -/
theorem body_all (V : Vals F) (c : Dev nD) :
    iprop(Xc V c ∗ scratch (F := F) c ∗ (∃ W, owes (c : Thread nD τ) (O₀ c) W)
        ∗ (((c : Thread nD τ).loc cc0_stg0_0) ↦{fullShare} V.lid c) ∗ (((c : Thread nD τ).loc cc0_stg1_0) ↦{fullShare} V.msk c)
        ∗ (∃ f : Buf (Elt F) ((c : Thread nD τ).loc bO), ((c : Thread nD τ).loc bO) ↦{fullShare} f))
      ⊢ wp frame (wpE (defs₀ (F := F)) 𝒱₀ c none) Set.univ (cc0_body mIds (Memref.isWhole_whole _) mMsk (Memref.isWhole_whole _) mE (Memref.isWhole_whole _) mO (Memref.isWhole_whole _) mG (Memref.isWhole_whole _) mR (Memref.isWhole_whole _) cc0_scratch2 cc0_scratch3 cc0_scratch4 cc0_scratch5 cc0_scratch6 cc0_scratch7 cc0_scratch8 cc0_scratch9 cc0_scratch10 cc0_scratch11 cc0_scratch12)
        fun _ => Done V c := by
  have hend (K : GSem nD τ sig → ℕ) : St V K c 288 ⊢ iprop(barDone (F := F) c -∗
      (|={Set.univ}=> Done V c : sProp 𝕄)) := by
    unfold St reads Done Yc
    rw [owed_end]
    iintro ⟨#HR, -, HO, ⟨Hi, Hm, He⟩, HP⟩ Hb
    imod (chunks_end V K c) $$ [HP] with ⟨HS, Hs, Hr⟩
    · isplitr; · iexact HR
      iexact HP
    imod (close_bar V K c) $$ [Hb] with Hb
    · isplitr; · iexact HR
      iexact Hb
    imodintro
    isplitl [Hb He]; · isplitl [Hb] <;> iassumption
    isplitl [HS]; · iexact HS
    isplitl [Hs]; · iexact Hs
    isplitl [HO]; · iexact HO
    isplitl [Hi]; · iexact Hi
    isplitl [Hm] <;> iassumption
  have hrun (K : GSem nD τ sig → ℕ) := (body_run V (K := K) (c := c) (Q := fun _ => iprop(|={Set.univ}=> Done V c)) (hend K)).trans (wp_fupd _ _ Set.univ _ fun _ => Done V c)
  unfold Xc
  iintro ⟨⟨⟨%K, #HR, HB, Hop⟩, #Hlev, He⟩, Hs, HO, Hi, Hm, Ho⟩
  ihave H := (chunks_start (F := F) c) $$ [Hop Hs Ho]
  · isplitl [Hop]; · iexact Hop
    isplitl [Hs] <;> iassumption
  icases H with ⟨Hk, HX, HY, HZ⟩
  iapply (hrun K)
  unfold Start reads
  isplitr; · iexact HR
  isplitr; · iexact Hlev
  isplitl [HO]; · iexact HO
  isplitl [Hi Hm He]
  · isplitl [Hi]; · iexact Hi
    isplitl [Hm]; · iexact Hm
    iexists fullShare; iexact He
  isplitl [HB]; · iexact HB
  isplitl [Hk]; · iexact Hk
  isplitl [HX]; · iexact HX
  isplitl [HY] <;> iassumption

/-! ## The pipeline's data -/

def rdat0 (c : Dev nD) : Pipeline.RDat τ (Elt F) Unit ℕ UU ℕ cfg0 c where
  A w := V₁ m c (Pipeline.arrRef spec0 w)
  after := fun
    | 0 => fun _ _ _ => True
    | 1 => fun _ _ _ => True
    | 2 => fun _ _ X => ∀ i : bO.ty.Idx, oOK (vals m) c i (X i)
    | ⟨_ + 3, h⟩ => absurd h (Nat.not_lt.2 (Nat.le_add_left _ _))
  Φ t := if t.val = 0 then iprop(Xc (vals m) c ∗ scratch (F := F) c) else iprop(Yc (vals m) c ∗ Pipeline.ownSems0 osem c ∗ scratch (F := F) c)
  q _ := fullShare
  owed t := if t.val = 0 then O₀ c else 0

theorem fetched_0 (c : Dev nD) (d) : (rdat0 m c).fetched 0 t0_0 d = (vals m).lid c := by
  funext j
  unfold Pipeline.RDat.fetched Pipeline.Window.fill
  rw [dif_pos (by rw [Pipeline.Window.moved_iff]; intro a; have := (j a).isLt; exact this)]
  refine congrArg (V₁ m c main_v7) (funext fun a => Fin.ext ?_)
  exact (cfg0.win 0).rect_emb_val_of_index_zero t0_0 a (by fin_cases a <;> decide +kernel) _
theorem fetched_1 (c : Dev nD) (d) : (rdat0 m c).fetched 1 t0_0 d = (vals m).msk c := by
  funext j
  unfold Pipeline.RDat.fetched Pipeline.Window.fill
  rw [dif_pos (by rw [Pipeline.Window.moved_iff]; intro a; have := (j a).isLt; exact this)]
  refine congrArg (V₁ m c main_v14) (funext fun a => Fin.ext ?_)
  exact (cfg0.win 1).rect_emb_val_of_index_zero t0_0 a (by fin_cases a <;> decide +kernel) _

theorem owed_first (c : Dev nD) : (rdat0 m c).owed t0_0.castSucc = O₀ c := by
  show (if (t0_0.castSucc : Fin (cfg0.N + 1)).val = 0 then O₀ c else 0) = O₀ c; exact if_pos rfl
theorem owed_zero (c : Dev nD) : (rdat0 m c).owed 0 = O₀ c := by
  show (if (0 : Fin (cfg0.N + 1)).val = 0 then O₀ c else 0) = O₀ c; exact if_pos rfl
theorem owed_last (c : Dev nD) : (rdat0 m c).owed (Fin.last _) = 0 := by
  show (if (Fin.last cfg0.N).val = 0 then O₀ c else 0) = 0
  rw [Fin.val_last, if_neg (by rw [show cfg0.N = 1 from N_0]; decide)]

theorem owesAt_in (c : Dev nD) (t : Fin (cfg0.N + 1)) (O : CellTallies nD τ sig Unit) (h : (rdat0 m c).owed t = O) (W : Waits sig Unit) :
    (owes (c : Thread nD τ) O W : sProp 𝕄) ⊢ ((rdat0 m c).owesAt () t : sProp 𝕄) := by
  unfold Pipeline.RDat.owesAt Pipeline.owesWithin Pipeline.RDat.bound; rw [h]
  iintro HO; iexists W; isplitr; · ipureintro; exact fun _ _ => Or.inl trivial
  iexact HO
theorem owesAt_out (c : Dev nD) (t : Fin (cfg0.N + 1)) (O : CellTallies nD τ sig Unit) (h : (rdat0 m c).owed t = O) :
    ((rdat0 m c).owesAt () t : sProp 𝕄) ⊢ iprop(∃ W, owes (c : Thread nD τ) O W) := by
  unfold Pipeline.RDat.owesAt Pipeline.owesWithin; rw [h]
  iintro ⟨%W, -, HO⟩; iexists W; iexact HO

/-- The body obligation at the one point. -/
theorem body_obl (c : Dev nD) : (rdat0 m c).BodyObligation defs₀ 𝒱₀ () Set.univ := fun t Y hY => by
  obtain rfl := fin_N0 t
  obtain ⟨d0, h0⟩ := ((rdat0 m c).finds_of_fetch (fetch0_0 t0_0) _).mp (hY 0)
  obtain ⟨d1, h1⟩ := ((rdat0 m c).finds_of_fetch (fetch0_1 t0_0) _).mp (hY 1)
  rw [fetched_0] at h0; rw [fetched_1] at h1
  rw [bigSep_W0, bigSep_W0, h0, h1]
  rw [show (rdat0 m c).Φ t0_0.castSucc = iprop(Xc (vals m) c ∗ scratch (F := F) c) from rfl,
    show (rdat0 m c).Φ t0_0.succ = iprop(Yc (vals m) c ∗ Pipeline.ownSems0 osem c ∗ scratch (F := F) c) from rfl]
  refine BIBase.Entails.trans ?_ ((body_all (vals m) c).trans (wp_mono _ _ _ fun _ => ?_))
  · iintro ⟨⟨HX, Hs⟩, HO, Hi, Hm, Ho⟩
    isplitl [HX]; · iexact HX
    isplitl [Hs]; · iexact Hs
    isplitl [HO]; · iapply (owesAt_out m c _ _ (owed_first m c)); iexact HO
    isplitl [Hi]; · iapply (Entails.of_eq (owns_whole (c : Thread nD τ) cc0_stg0_0 fullShare ((vals m).lid c))); iexact Hi
    isplitl [Hm]; · iapply (Entails.of_eq (owns_whole (c : Thread nD τ) cc0_stg1_0 fullShare ((vals m).msk c))); iexact Hm
    iexists (Y 2); iapply (Entails.of_eq (owns_whole (c : Thread nD τ) bO fullShare (Y 2))); iexact Ho
  · unfold Done
    iintro ⟨HY, HS, Hs, ⟨%W, HO⟩, Hi, Hm, ⟨%f, %hf, Ho⟩⟩
    isplitl [HY HS Hs]
    · isplitl [HY]; · iexact HY
      isplitl [HS] <;> iassumption
    isplitl [HO]; · iapply (owesAt_in m c t0_0.succ 0 (owed_last m c) W); iexact HO
    isplitl [Hi]
    · iexists ((vals m).lid c); isplitr; · ipureintro; exact trivial
      iapply (Entails.of_eq (owns_whole (c : Thread nD τ) cc0_stg0_0 fullShare ((vals m).lid c)).symm); iexact Hi
    isplitl [Hm]
    · iexists ((vals m).msk c); isplitr; · ipureintro; exact trivial
      iapply (Entails.of_eq (owns_whole (c : Thread nD τ) cc0_stg1_0 fullShare ((vals m).msk c)).symm); iexact Hm
    iexists f; isplitr; · ipureintro; exact hf
    iapply (Entails.of_eq (owns_whole (c : Thread nD τ) bO fullShare f).symm); iexact Ho

end Cert.KernelIdeal.Lookup
-- ==== Proof.Segs.lean ====
/-
  The program as host operations and the kernel's region.
-/
module

public import proofs.«01_k».proof.Proof.Region

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev adm : (p : Fin 1) → (pcfgs (F := F) p).Adm := fun p => (cfgs p).toPCfg_adm
def rdats : (p : Fin 1) → (c : Dev nD) → Pipeline.RDat τ (Elt F) Unit ℕ UU ℕ (Pipeline.pin (pcfgs (F := F)) adm p) c
  | 0 => rdat0 m
  | ⟨_ + 1, h⟩ => absurd h (Nat.not_lt.2 (Nat.le_add_left _ _))

local notation "ℝ𝕊" => Pipeline.RDat.RegionSeg (pcfgs (F := F)) adm (rdats m) () defs₀ 𝒱₀ L lv

/-! ## Thread states -/

/-- What rides beside the buffers from the launch to the kernel. -/
def ride (c : Dev nD) : sProp 𝕄 :=
  iprop((∃ K, records (vals m) K ∗ barStuff (F := F) c ∗ bigSep Finset.univ fun k => given (F := F) c k) ∗ ∃ W, owes (c : Thread nD τ) (O₀ c) W)

/-- What a device holds when the kernel is done, beside its `owes`: its arguments, the result, its barrier counter at zero. -/
def final (c : Dev nD) : sProp 𝕄 :=
  iprop((((c : Thread nD τ).loc main_arg0) ↦{fullShare} m ((c : Thread nD τ).loc main_arg0))
    ∗ (∃ q, ((c : Thread nD τ).loc main_arg1) ↦{q} m ((c : Thread nD τ).loc main_arg1))
    ∗ (∃ f : Buf (Elt F) ((c : Thread nD τ).loc main_v15), ⌜∀ i : bO.ty.Idx, oOK (vals m) c i (f i)⌝ ∗ (((c : Thread nD τ).loc main_v15) ↦{fullShare} f))
    ∗ semVal (barCell c) 0)

theorem open_all (V : Vals F) (K : GSem nD τ sig → ℕ) (c : Dev nD) :
    iprop(records V K ∗ (bigSep Finset.univ fun k => given (F := F) c k) ∗ Pipeline.ownSems0 osem c)
      ⊢ (|={Set.univ}=> bigSep Finset.univ fun k => opened (F := F) c k : sProp 𝕄) := by
  rw [ownSems_eq, ← bigSep_sep']
  refine (bigSep_with_persistent (Ψ := fun k => iprop(|={Set.univ}=> opened (F := F) c k)) fun k _ => ?_).trans (bigSep_fupd _ _)
  unfold given opened
  iintro ⟨#HR, ⟨Ht, HD, HC⟩, H0, Hs⟩
  imod (open_chunk V K c k) $$ [Ht Hs] with HA
  · isplitr; · iexact HR
    isplitl [Ht] <;> iassumption
  imodintro
  isplitl [H0]; · iexact H0
  isplitl [HA]; · iexact HA
  isplitl [HD] <;> iassumption

/-- The windows' arrays, one by one. -/
theorem arrays_at (c : Dev nD) (f : (w : Fin cfg0.W) → Buf (Elt F) ((cfg0.win w).arr.view.loc (c.tc : Thread nD τ))) :
    ((rdat0 m c).arrays f : sProp 𝕄) = bigSep Finset.univ fun w => (((c.tc : Thread nD τ).loc (Pipeline.arrRef spec0 w)) ↦{fullShare} f w : sProp 𝕄) := by
  unfold Pipeline.RDat.arrays
  refine bigSep_congr fun w _ => ?_
  rw [(arr_whole0 w).set_eq_univ, show (rdat0 m c).share w = fullShare from ite_self _]

theorem result_whole : (cfg0.win 2).WholeAt t0_0 := by decide +kernel

/-- What the result array may hold at the end. -/
theorem result_ok (c : Dev nD) (G : Buf (Elt F) ((cfg0.win 2).arr.view.loc (c.tc : Thread nD τ))) (hG : (rdat0 m c).ArrAt 2 cfg0.N G) (i : bO.ty.Idx) :
    oOK (vals m) c i ((show Buf (Elt F) ((c : Thread nD τ).loc main_v15) from G) i) := by
  obtain ⟨X, ⟨Y, -, hX⟩, h⟩ := hG.emb_eq_of_wholeAt result_whole
  have := h i
  exact (this.trans (cast_eq _ _)).symm ▸ hX i

/-! ## The region -/

theorem staging_sems : ∀ (w : Fin 3) (s : Fin (spec0 w).nbuf), ((spec0 w).sem s).val < 3 := by decide
theorem staging_low (c : Dev nD) (w : Fin cfg0.W) (s : Fin (cfg0.win w).nbuf) : lv ((c : Thread nD τ), .dma ((cfg0.win w).sem s)) () = 0 :=
  if_pos (staging_sems w s)

theorem O₀_pos {c : Dev nD} {g : GSem nD τ sig} {u : Unit} (h : 0 < O₀ c g u) : u ∈ L g ∧ 1 ≤ lv g u := by
  have hb (n : Dev nD) (h : 0 < tallyAt (barCell n) () 1 g u) : u ∈ L g ∧ 1 ≤ lv g u := by
    rw [tallyAt_apply] at h
    split at h
    · next hg => rw [hg.1]; exact ⟨by rw [L_tc]; exact Finset.mem_singleton_self _, Nat.le_refl 1⟩
    · exact absurd h (Nat.lt_irrefl 0)
  unfold O₀ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · have := owed_pos h; exact ⟨this.1, by omega⟩
      · exact hb _ h
    · exact hb _ h
  · exact hb _ h

theorem waits_ok (c : Dev nD) : (levAts L lv : sProp 𝕄) ⊢ Pipeline.RDat.cellsWaits (Pipeline.pin (pcfgs (F := F)) adm) (rdats m) () 0 c :=
  Pipeline.RDat.cellsWaits_intro (Pipeline.pin (pcfgs (F := F)) adm) (rdats m) () 0 c fun w s t => by
    have hp (g : GSem nD τ sig) (u : Unit) (h : 0 < (rdat0 m c).owed t g u) : u ∈ L g ∧ 1 ≤ lv g u := by
      change 0 < (if t.val = 0 then O₀ c else 0) g u at h
      split at h
      · exact O₀_pos h
      · exact absurd h (Nat.lt_irrefl 0)
    exact MayOwe.of_cut (L := L) (lev := lv) 0 (fun p hp => by rw [Finset.mem_singleton.mp hp, L_tc]; exact Finset.mem_singleton_self _)
      (fun g u hg => (hp g u hg).1)
      (fun p hp => by rw [Finset.mem_singleton.mp hp]; exact Nat.le_of_eq (staging_low c w s))
      (fun g u hg => (hp g u hg).2)

theorem own_facts : Pipeline.OwnSemFacts spec0 osem where
  isScoped x := by
    obtain ⟨k, a⟩ := x
    revert k a; decide
  inj := osem_inj
  disj x w s h := by
    have h' : dS x.2 x.1 = (spec0 w).sem s := SemLoc.dma.inj h
    have h1 : (dS x.2 x.1).val < 3 := by rw [h']; exact staging_sems w s
    have h2 : (dS x.2 x.1).val = 3 + 16 * x.2.val + x.1.val := rfl
    omega

theorem pref_none (c : Dev nD) (q) (pf) : (Pipeline.prefHeld (Ix := Unit) (Name := ℕ) (U := UU) (Lvl := ℕ) (Val := Elt F) (pcfgs (F := F) 0).pre c q pf : sProp 𝕄) = BI.emp :=
  by unfold Pipeline.prefHeld; rw [show (Finset.univ : Finset (Fin 0)) = ∅ from rfl, BI.bigSep_empty]

theorem result_at (c : Dev nD) (G : Buf (Elt F) ((cfg0.win 2).arr.view.loc (c.tc : Thread nD τ))) :
    ((cfg0.win 2).arr.view.loc (c.tc : Thread nD τ) ↦[(cfg0.win 2).arr.view.set]{(rdat0 m c).share 2} G : sProp 𝕄)
      ⊢ (((c : Thread nD τ).loc main_v15) ↦{fullShare} (show Buf (Elt F) ((c : Thread nD τ).loc main_v15) from G)) :=
  Entails.of_eq (by rw [(arr_whole0 2).set_eq_univ]; rfl)

theorem leave (c : Dev nD) :
    iprop((rdat0 m c).arraysAt cfg0.N ∗ (rdat0 m c).owesAt () (Fin.last cfg0.N) ∗ Yc (vals m) c
        ∗ (((c : Thread nD τ).loc main_arg0) ↦{fullShare} m ((c : Thread nD τ).loc main_arg0)))
      ⊢ (|={Set.univ}=> iprop(final m c ∗ ∃ W, owes (c : Thread nD τ) (0 : CellTallies nD τ sig Unit) W) : sProp 𝕄) := by
  unfold Pipeline.RDat.arraysAt Yc final
  rw [bigSep_W0]
  iintro ⟨⟨-, -, ⟨%G, %hG, HG⟩⟩, HO, ⟨Hb, H1⟩, H0⟩
  imodintro
  isplitr [HO]
  · isplitl [H0]; · iexact H0
    isplitl [H1]; · iexact H1
    isplitl [HG]
    · iexists G
      isplitr; · ipureintro; exact result_ok m c G hG
      iapply (result_at m c G); iexact HG
    iexact Hb
  iapply (owesAt_out m c _ _ (owed_last m c)); iexact HO

/-- The kernel's region. -/
def reg : ℝ𝕊 0 where
  win := winFacts0.to₀
  block_pos := block_pos0
  stage_whole := stage_whole0
  K := Fin 16 × Fin 11
  osem := osem
  ho := own_facts
  hbody c := body_obl m c
  hwaits c := waits_ok m c
  pre c := iprop(StableHlo.held (c : Thread nD τ) (Pipeline.ucRefs τ sig) (V₁ m c) ∗ ride m c)
  post c := iprop(final m c ∗ ∃ W, owes (c : Thread nD τ) (0 : CellTallies nD τ sig Unit) W)
  X c := Xc (vals m) c
  Y c := Yc (vals m) c
  Z c := iprop(((c : Thread nD τ).loc main_arg0) ↦{fullShare} m ((c : Thread nD τ).loc main_arg0))
  hentry c := by
    rw [pref_none, ← Pipeline.unscopedBufs_held (τ := τ) (sig := sig) (Ix := Unit) (Val := Elt F) (Name := ℕ) (U := UU) (Lvl := ℕ) c (V₁ m c)]
    rw [Pipeline.unscopedBufs_split cfgs 0 winFacts0.arr_unscoped winFacts0.arr_inj c, unscopedRest0_eq]
    unfold ride Xc
    iintro ⟨⟨⟨HA, ⟨H0, H1, -⟩⟩, ⟨%K, #HR, HB, HG⟩, ⟨%W, HO⟩⟩, HS, #Hlev⟩
    imod (open_all (vals m) K c) $$ [HG HS] with Hop
    · isplitr; · iexact HR
      isplitl [HG] <;> iassumption
    imodintro
    isplitl [HA]; · iapply (Entails.of_eq (arrays_at m c (rdat0 m c).A).symm); iexact HA
    isplitr; · iempintro
    isplitl [HO]; · iapply (owesAt_in m c 0 _ (owed_zero m c) W); iexact HO
    isplitl [HB Hop H1]
    · isplitl [HB Hop]
      · iexists K; isplitr; · iexact HR
        isplitl [HB] <;> iassumption
      isplitr; · iexact Hlev
      rw [V₁_arg1]; iexact H1
    rw [V₁_arg0]; iexact H0
  hin c := by
    rw [pref_none, show (rdats m 0 c).Φ 0 = iprop(Xc (vals m) c ∗ scratch (F := F) c) from rfl, scopedRest0_eq]
    unfold scratch
    iintro ⟨HX, -, Hs⟩
    isplitl [HX] <;> iassumption
  hout c := by
    rw [show (rdats m 0 c).Φ (Fin.last _) = iprop(Yc (vals m) c ∗ Pipeline.ownSems0 osem c ∗ scratch (F := F) c) from rfl, scopedRest0_eq]
    unfold scratch
    exact BI.Entails.refl _
  hexit c := by
    exact leave m c

/-- The host operations before it, on device `c`. -/
def host (c : Dev nD) : Pipeline.HostSeg (Name := ℕ) (U := UU) (pcfgs (F := F)) defs₀ 𝒱₀ L lv :=
  Pipeline.HostSeg.ofOps _ _ _ _ _ (Pipeline.ucRefs τ sig) (hostOps0 c)
    (fun op h => Pipeline.sub_ucRefs op ((List.forall_iff_forall_mem.mp (hostOps0_sub c)) op h))
    (fun op h => by
      have : (hostOps0 (F := F) c).Forall fun op => op.fresh = ∅ := by
        refine ⟨?_, ?_, ?_, ?_, ?_, ?_, ?_, ?_, ?_, ?_, ?_, ?_, ?_, ?_, ?_, ?_, ?_, ?_, ?_⟩ <;> rfl
      exact (List.forall_iff_forall_mem.mp this) op h) (V₀ m) (ride m)

/-- @main on device `c`. -/
def segs (c : Dev nD) : List (Pipeline.RDat.Seg (pcfgs (F := F)) adm (rdats m) () defs₀ 𝒱₀ L lv) := [.host (host m c), .region (reg m)]

theorem main_segs (c : Dev nD) : main (F := F) c = Pipeline.RDat.Seg.run (segs m c) := by
  rw [main_chain]
  rfl

end Cert.KernelIdeal.Lookup
-- ==== Proof.Deal.lean ====
/-
  The launch's cells and tokens, each token at the device that pays its duty, and the credit every device starts with.
-/
module

public import proofs.«01_k».proof.Proof.Segs

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## The cells and the tokens of the launch -/

theorem dS_inj {a a' : Fin 11} {k k' : Fin 16} (h : dS a k = dS a' k') : a = a' ∧ k = k' := by
  refine ⟨Fin.ext ?_, ?_⟩
  · rw [← semKind_dS a k, h, semKind_dS]
  · rw [← semChunk_dS a k, h, semChunk_dS]

theorem cell_inj {c c' : Dev nD} {a a' : Fin 11} {k k' : Fin 16} (h : cell c a k = cell c' a' k') : c = c' ∧ a = a' ∧ k = k' := by
  refine ⟨congrArg (fun g : GSem nD τ sig => g.1.1) h, ?_⟩
  have h2 : (SemLoc.dma (dS a k) : SemLoc sig) = .dma (dS a' k') := congrArg (fun g : GSem nD τ sig => g.2) h
  exact dS_inj (SemLoc.dma.inj h2)

def barEmb : Dev nD ↪ GSem nD τ sig := ⟨fun c => barCell c, fun _ _ h => congrArg (fun g : GSem nD τ sig => g.1.1) h⟩
def exEmb : Dev nD × Fin 10 × Fin 16 ↪ GSem nD τ sig :=
  ⟨fun x => cell x.1 x.2.1.succ x.2.2, fun _ _ h => by
    obtain ⟨h1, h2, h3⟩ := cell_inj h
    exact Prod.ext h1 (Prod.ext (Fin.succ_injective _ h2) h3)⟩

/-- The barrier cells. -/
abbrev barCells : Finset (GSem nD τ sig) := Finset.univ.map barEmb
/-- The cells of the exchange, of every kind and chunk. -/
abbrev exCells : Finset (GSem nD τ sig) := Finset.univ.map exEmb

theorem disjoint_cells : Disjoint (barCells : Finset (GSem nD τ sig)) exCells := by
  rw [Finset.disjoint_left]
  rintro g h₁ h₂
  obtain ⟨c, -, rfl⟩ := Finset.mem_map.mp h₁
  obtain ⟨x, -, h⟩ := Finset.mem_map.mp h₂
  have : (SemLoc.dma (dS x.2.1.succ x.2.2) : SemLoc sig) = .reg barS := congrArg (fun g : GSem nD τ sig => g.2) h
  cases this

def barTok : Dev nD × Fin 3 ↪ GSem nD τ sig × ℕ × Fin 3 :=
  ⟨fun x => (barCell x.1, 0, x.2), fun _ _ h => Prod.ext (congrArg (fun t : GSem nD τ sig × ℕ × Fin 3 => t.1.1.1) h)
    (congrArg (fun t : GSem nD τ sig × ℕ × Fin 3 => t.2.2) h)⟩
def exTok : Dev nD × Fin 10 × Fin 16 ↪ GSem nD τ sig × ℕ × Fin 3 :=
  ⟨fun x => (exEmb x, 0, 0), fun _ _ h => exEmb.injective (congrArg (fun t : GSem nD τ sig × ℕ × Fin 3 => t.1) h)⟩

/-- One token for each duty. -/
def duties0 : Finset (GSem nD τ sig × ℕ × Fin 3) := Finset.univ.map barTok ∪ Finset.univ.map exTok

theorem disjoint_toks : Disjoint (Finset.univ.map barTok) (Finset.univ.map exTok) := by
  rw [Finset.disjoint_left]
  rintro g h₁ h₂
  obtain ⟨c, -, rfl⟩ := Finset.mem_map.mp h₁
  obtain ⟨x, -, h⟩ := Finset.mem_map.mp h₂
  have : (SemLoc.dma (dS x.2.1.succ x.2.2) : SemLoc sig) = .reg barS := congrArg (fun t : GSem nD τ sig × ℕ × Fin 3 => t.1.2) h
  cases this

/-! ## The families over devices, kinds and chunks -/

omit [FloatOps F] in
theorem bigSep_cells (Φ : GSem nD τ sig → sProp 𝕄) :
    bigSep exCells Φ = bigSep Finset.univ fun c : Dev nD => bigSep Finset.univ fun k : Fin 16 => bigSep Finset.univ fun a : Fin 10 => Φ (cell c a.succ k) := by
  rw [bigSep_map, bigSep_univ_prod]
  refine bigSep_congr fun c _ => ?_
  rw [bigSep_univ_prod, bigSep_univ_comm]
  rfl

omit [FloatOps F] in
theorem bigSep_three (Φ : Fin 3 → sProp 𝕄) : bigSep Finset.univ Φ = iprop(Φ 0 ∗ Φ 1 ∗ Φ 2) :=
  BI.bigSep_univ_eq_bigSepL [0, 1, 2] (by decide) (by decide) Φ

def xEq : Dev nD ≃ Dev nD := ⟨xn, xn, xn_xn, xn_xn⟩
def yEq : Dev nD ≃ Dev nD := ⟨yn, yn, yn_yn, yn_yn⟩
def zEq : Dev nD ≃ Dev nD := ⟨zn, zn, zn_zn, zn_zn⟩

omit [FloatOps F] in
theorem around_x (Φ : Dev nD → sProp 𝕄) : (bigSep Finset.univ fun c => Φ (xn c)) = bigSep Finset.univ Φ := (bigSep_univ_equiv xEq Φ).symm
omit [FloatOps F] in
theorem around_y (Φ : Dev nD → sProp 𝕄) : (bigSep Finset.univ fun c => Φ (yn c)) = bigSep Finset.univ Φ := (bigSep_univ_equiv yEq Φ).symm
omit [FloatOps F] in
theorem around_z (Φ : Dev nD → sProp 𝕄) : (bigSep Finset.univ fun c => Φ (zn c)) = bigSep Finset.univ Φ := (bigSep_univ_equiv zEq Φ).symm

/-- The barrier's tokens of a device's three signals. -/
def barToks (c : Dev nD) : sProp 𝕄 :=
  iprop(dutyTok ER (barCell (xn c)) 0 0 ∗ dutyTok ER (barCell (yn c)) 0 1 ∗ dutyTok ER (barCell (zn c)) 0 2)

omit [FloatOps F] in
theorem bar_toks : bigSep (Finset.univ.map barTok) (fun x => (dutyTok ER x.1 x.2.1 x.2.2 : sProp 𝕄)) = bigSep Finset.univ fun c : Dev nD => barToks c := by
  rw [bigSep_map, bigSep_univ_prod]
  unfold barToks
  rw [bigSep_sep', bigSep_sep', around_x fun c => (dutyTok ER (barCell c) 0 0 : sProp 𝕄),
    around_y fun c => (dutyTok ER (barCell c) 0 1 : sProp 𝕄), around_z fun c => (dutyTok ER (barCell c) 0 2 : sProp 𝕄),
    ← bigSep_sep', ← bigSep_sep']
  exact bigSep_congr fun c _ => bigSep_three _

omit [FloatOps F] in
theorem ex_toks : bigSep (Finset.univ.map exTok) (fun x => (dutyTok ER x.1 x.2.1 x.2.2 : sProp 𝕄))
    = bigSep Finset.univ fun c : Dev nD => bigSep Finset.univ fun k : Fin 16 => dealt (F := F) c k := by
  have h : bigSep (Finset.univ.map exTok) (fun x => (dutyTok ER x.1 x.2.1 x.2.2 : sProp 𝕄))
      = bigSep exCells fun g => (dutyTok ER g 0 0 : sProp 𝕄) := by
    rw [bigSep_map, bigSep_map]; rfl
  rw [h, bigSep_cells, bigSep_univ_comm, bigSep_univ_comm (fun (c : Dev nD) (k : Fin 16) => dealt (F := F) c k)]
  refine bigSep_congr fun k _ => ?_
  rw [bigSep_congr fun c _ => bigSep_kinds fun a => (dutyTok ER (cell c a k) 0 0 : sProp 𝕄)]
  unfold dealt
  simp only [bigSep_sep']
  rw [around_y fun c => (dutyTok ER (cell c 2 k) 0 0 : sProp 𝕄), around_x fun c => (dutyTok ER (cell c 4 k) 0 0 : sProp 𝕄),
    around_z fun c => (dutyTok ER (cell c 6 k) 0 0 : sProp 𝕄), around_z fun c => (dutyTok ER (cell c 8 k) 0 0 : sProp 𝕄),
    around_x fun c => (dutyTok ER (cell c 10 k) 0 0 : sProp 𝕄)]

omit [FloatOps F] in
theorem all_toks : bigSep duties0 (fun x => (dutyTok ER x.1 x.2.1 x.2.2 : sProp 𝕄))
    ⊢ bigSep Finset.univ fun c : Dev nD => iprop(barToks c ∗ bigSep Finset.univ fun k : Fin 16 => dealt (F := F) c k) := by
  unfold duties0
  rw [bigSep_union disjoint_toks, bar_toks, ex_toks, bigSep_sep']
  exact BI.Entails.refl _

/-! ## The credit a device starts with -/

theorem sum_tally (n : Dev nD → Dev nD) (hn : ∀ c, n (n c) = c) (c : Dev nD) (a a' : Fin 11) (k k' : Fin 16) (N : ℕ) :
    (∑ d : Dev nD, (tallyAt (cell (n d) a' k') () N : CellTallies nD τ sig Unit) (cell c a k) ()) = if a = a' ∧ k = k' then N else 0 := by
  by_cases h : a = a' ∧ k = k'
  · obtain ⟨rfl, rfl⟩ := h
    rw [if_pos ⟨rfl, rfl⟩, Finset.sum_eq_single (n c)]
    · rw [hn, tallyAt_apply, if_pos ⟨rfl, rfl⟩]
    · intro d _ hd
      rw [tallyAt_apply, if_neg fun h => hd (by rw [← hn d]; exact congrArg n (cell_inj h.1).1.symm)]
    · exact fun h => absurd (Finset.mem_univ _) h
  · rw [if_neg h]
    refine Finset.sum_eq_zero fun d _ => ?_
    rw [tallyAt_apply, if_neg fun e => h (cell_inj e.1).2]

theorem kind_of_step : ∀ a : Fin 11, 0 < sendStep a.val → (∀ b : Fin 11, sendStep a.val = sendStep b.val → a = b) := by decide

theorem amt_two : amt 2 = NF := rfl

theorem sum_tal (c : Dev nD) (a : Fin 11) (k : Fin 16) (ha : 0 < sendStep a.val) (x : Fin 16 × ℕ) :
    (∑ d : Dev nD, tal d x (cell c a k) ()) = if x = (k, sendStep a.val) then amt a else 0 := by
  obtain ⟨k', j⟩ := x
  have key (b : Fin 11) (hb : sendStep b.val = j) (n : Dev nD → Dev nD) (hn : ∀ c, n (n c) = c)
      (ht : ∀ d, tal d (k', j) = tallyAt (cell (n d) b k') () (amt b)) :
      (∑ d : Dev nD, tal d (k', j) (cell c a k) ()) = if (k', j) = (k, sendStep a.val) then amt a else 0 := by
    simp only [ht]
    rw [sum_tally n hn]
    by_cases h : a = b ∧ k = k'
    · obtain ⟨rfl, rfl⟩ := h
      rw [if_pos ⟨rfl, rfl⟩, if_pos (by rw [hb])]
    · rw [if_neg h, if_neg fun e => h ⟨kind_of_step a ha b (by rw [hb]; exact (congrArg Prod.snd e).symm), (congrArg Prod.fst e).symm⟩]
  by_cases h2 : j = 2
  · subst h2; exact key 2 rfl yn yn_yn fun d => rfl
  by_cases h5 : j = 5
  · subst h5; exact key 4 rfl xn xn_xn fun d => rfl
  by_cases h6 : j = 6
  · subst h6; exact key 6 rfl zn zn_zn fun d => rfl
  by_cases h8 : j = 8
  · subst h8; exact key 8 rfl zn zn_zn fun d => rfl
  by_cases h10 : j = 10
  · subst h10; exact key 10 rfl xn xn_xn fun d => rfl
  have h0 : ∀ d, tal d (k', j) = 0 := fun d => by
    unfold tal; dsimp only
    split <;> first | contradiction | rfl
  rw [if_neg fun e => ?_]
  · exact Finset.sum_eq_zero fun d _ => by rw [h0]; rfl
  · have hj : j = sendStep a.val := congrArg Prod.snd e
    have : ∀ b : Fin 11, sendStep b.val = 0 ∨ sendStep b.val = 2 ∨ sendStep b.val = 5 ∨ sendStep b.val = 6 ∨ sendStep b.val = 8 ∨ sendStep b.val = 10 := by decide
    have := this a
    omega

theorem sum_owedL (c : Dev nD) (a : Fin 11) (k : Fin 16) (ha : 0 < sendStep a.val) (l : List (Fin 16 × ℕ)) :
    (∑ d : Dev nD, owedL d l (cell c a k) ()) = l.count (k, sendStep a.val) * amt a := by
  induction l with
  | nil => rw [List.count_nil, Nat.zero_mul]; exact Finset.sum_eq_zero fun d _ => rfl
  | cons x l ih =>
    have h : (∑ d : Dev nD, owedL d (x :: l) (cell c a k) ()) = ∑ d : Dev nD, (owedL d l (cell c a k) () + tal d x (cell c a k) ()) := rfl
    rw [h, Finset.sum_add_distrib, ih, sum_tal c a k ha, List.count_cons]
    by_cases e : x = (k, sendStep a.val)
    · rw [if_pos e, if_pos (by simpa using e), Nat.add_mul, Nat.one_mul]
    · rw [if_neg e, if_neg (by simpa using e), Nat.add_zero, Nat.add_zero]

theorem acts_once : ∀ (a : Fin 11) (k : Fin 16), 0 < sendStep a.val → acts.count (k, sendStep a.val) = 1 := by decide +kernel

theorem tal_bar (d c : Dev nD) (x : Fin 16 × ℕ) : tal d x (barCell c) () = 0 := by
  have h (e : Dev nD) (a : Fin 11) (k : Fin 16) (N : ℕ) : (tallyAt (cell e a k) () N : CellTallies nD τ sig Unit) (barCell c) () = 0 := by
    rw [tallyAt_apply, if_neg fun e => ?_]
    have := congrArg (fun g : GSem nD τ sig => g.2) e.1
    cases this
  have ht : tal d x = 0 ∨ ∃ e a k N, tal d x = tallyAt (cell e a k) () N := by
    unfold tal
    split <;> first | exact Or.inr ⟨_, _, _, _, rfl⟩ | exact Or.inl rfl
  obtain ht | ⟨e, a, k, N, ht⟩ := ht
  · rw [ht]; rfl
  · rw [ht, h]

theorem owedL_bar (d c : Dev nD) (l : List (Fin 16 × ℕ)) : owedL d l (barCell c) () = 0 := by
  induction l with
  | nil => rfl
  | cons x l ih =>
    have h : owedL d (x :: l) (barCell c) () = owedL d l (barCell c) () + tal d x (barCell c) () := rfl
    rw [h, ih, tal_bar]

theorem sum_bar (n : Dev nD → Dev nD) (hn : ∀ c, n (n c) = c) (c : Dev nD) :
    (∑ d : Dev nD, (tallyAt (barCell (n d)) () 1 : CellTallies nD τ sig Unit) (barCell c) ()) = 1 := by
  rw [Finset.sum_eq_single (n c)]
  · rw [hn, tallyAt_apply, if_pos ⟨rfl, rfl⟩]
  · intro d _ hd
    rw [tallyAt_apply, if_neg fun h => hd (by
      rw [← hn d]; exact congrArg n (congrArg (fun g : GSem nD τ sig => g.1.1) h.1).symm)]
  · exact fun h => absurd (Finset.mem_univ _) h

theorem bar_cell_zero (e c : Dev nD) (a : Fin 11) (k : Fin 16) : (tallyAt (barCell e) () 1 : CellTallies nD τ sig Unit) (cell c a k) () = 0 := by
  rw [tallyAt_apply, if_neg fun h => ?_]
  have := congrArg (fun g : GSem nD τ sig => g.2) h.1
  cases this

theorem O₀_at (d : Dev nD) (g : GSem nD τ sig) : O₀ d g () = owedL d acts g ()
    + (tallyAt (barCell (zn d)) () 1 : CellTallies nD τ sig Unit) g () + (tallyAt (barCell (yn d)) () 1 : CellTallies nD τ sig Unit) g ()
    + (tallyAt (barCell (xn d)) () 1 : CellTallies nD τ sig Unit) g () := rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [O₀_at]
  rw [Finset.sum_add_distrib, Finset.sum_add_distrib, Finset.sum_add_distrib, sum_bar xn xn_xn, sum_bar yn yn_yn, sum_bar zn zn_zn,
    Finset.sum_eq_zero fun d _ => owedL_bar d c acts]

theorem launch_cell (c : Dev nD) (a : Fin 11) (k : Fin 16) (ha : 0 < sendStep a.val) :
    tallyOn (cell c a k) (launchCredit (Pipeline.owing O₀) 0 (cell c a k)) = (tallyAt (cell c a k) () (amt a) : CellTallies nD τ sig Unit) := by
  unfold tallyAt; refine congrArg _ (Finsupp.ext fun u => ?_); cases u
  rw [Pipeline.launchCredit_owing, Finsupp.single_eq_same]
  simp only [O₀_at, bar_cell_zero, Nat.add_zero]
  rw [sum_owedL c a k ha, acts_once a k ha, Nat.one_mul]

omit [FloatOps F] in
theorem credits (c : Dev nD) :
    (Pipeline.launchCred O₀ c : sProp 𝕄) ⊢ iprop(cred (tallyAt (barCell c) () 3) ∗ bigSep Finset.univ fun k : Fin 16 => crs (F := F) c k) := by
  unfold Pipeline.launchCred
  rw [bigSep_univ_at _ (SemLoc.reg barS), launch_bar]
  refine sep_mono_right ?_
  have hsub : (Finset.univ : Finset (Fin 16 × Fin 11)).map ⟨osem, osem_inj⟩ ⊆ (Finset.univ.erase (SemLoc.reg barS) : Finset (SemLoc sig)) := by
    intro s hs
    obtain ⟨x, -, rfl⟩ := Finset.mem_map.mp hs
    exact Finset.mem_erase.mpr ⟨fun h => absurd (show (SemLoc.dma (dS x.2 x.1) : SemLoc sig) = .reg barS from h) (fun h => by cases h), Finset.mem_univ _⟩
  refine (bigSep_subset hsub).trans ?_
  rw [bigSep_map, bigSep_univ_prod]
  refine bigSep_mono fun k _ => ?_
  refine (Entails.of_eq (bigSep_fin_zero _)).trans ?_
  refine BIBase.Entails.trans sep_elim_right ?_
  refine BIBase.Entails.trans (Entails.of_eq (bigSep_kinds fun a => (cred (tallyOn (cell c a k) (launchCredit (Pipeline.owing O₀) 0 (cell c a k))) : sProp 𝕄))) ?_
  rw [launch_cell c 2 k (by decide), launch_cell c 4 k (by decide), launch_cell c 6 k (by decide), launch_cell c 8 k (by decide), launch_cell c 10 k (by decide)]
  unfold crs
  iintro ⟨-, H2, -, H4, -, H6, -, H8, -, H10⟩
  isplitl [H2]; · iexact H2
  isplitl [H4]; · iexact H4
  isplitl [H6]; · iexact H6
  isplitl [H8]; · iexact H8
  iexact H10

end Cert.KernelIdeal.Lookup
-- ==== Proof.Launch.lean ====
/-
  The launch and the run of the whole program.
-/
module

public import proofs.«01_k».proof.Proof.Deal

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The launch -/

/-- The launch element: the staging cells', the exchange's, and no counter yet. -/
def u₀ : UU :=
  (initOf (Pipeline.cells (Pipeline.pin (pcfgs (F := F)) adm) cellOf_inj) (Pipeline.launchToks (Pipeline.pin (pcfgs (F := F)) adm) cellOf_inj),
    (launchOf barCells exCells duties0, 1))

/-- A resource held by device 0 alone. -/
def atZero (X : sProp 𝕄) (c : Dev nD) : sProp 𝕄 := if c = 0 then X else iprop(emp)
omit [FloatOps F] in
theorem bigSep_atZero (X : sProp 𝕄) : bigSep Finset.univ (atZero X) = X := by
  rw [bigSep_univ_at _ (0 : Dev nD), bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells exCells duties0)))

/-- What every device may consult. -/
def known (κ : GSem nD τ sig → ℕ) : sProp 𝕄 := iprop(records (vals m) κ ∗ bigSep barCells fun g => reached ER g 0)
instance known_persistent (κ : GSem nD τ sig → ℕ) : BI.Persistent (known m κ) := by unfold known; infer_instance

theorem reached_at (c : Dev nD) : (bigSep barCells fun g => (reached ER g 0 : sProp 𝕄)) ⊢ reached ER (barCell c) 0 :=
  bigSep_elim (Finset.mem_map_of_mem barEmb (Finset.mem_univ c))

theorem records_of (κ : GSem nD τ sig → ℕ) :
    (bigSep (barCells ∪ exCells) fun g => (cellInv ER (Rd (vals m)) (κ g) g : sProp 𝕄)) ⊢ records (vals m) κ := by
  unfold records
  rw [bigSep_union disjoint_cells, bigSep_map, bigSep_map]
  exact BI.Entails.refl _

/-- What is one device's own: its barrier position, the rights to open its cells, the tokens of the duties it pays. -/
def own1 (c : Dev nD) : sProp 𝕄 :=
  iprop(atPos ER (barCell c) 0 ∅ 0 ∗ (bigSep Finset.univ fun k : Fin 16 => bigSep Finset.univ fun a : Fin 10 => openTok ER (cell c a.succ k))
    ∗ (barToks c ∗ bigSep Finset.univ fun k : Fin 16 => dealt (F := F) c k))

/-- The rest of what a device has at launch. -/
def rest1 (c : Dev nD) : sProp 𝕄 :=
  iprop(StableHlo.held (c : Thread nD τ) (Pipeline.ucRefs τ sig) (V₀ m c)
    ∗ (cred (tallyAt (barCell c) () 3) ∗ bigSep Finset.univ fun k : Fin 16 => crs (F := F) c k) ∗ owes (c : Thread nD τ) (O₀ c) ∅)

def T₀ (c : Dev nD) : sProp 𝕄 := iprop(StableHlo.held (c : Thread nD τ) (Pipeline.ucRefs τ sig) (V₀ m c) ∗ ride m c)

theorem T₀_intro (κ : GSem nD τ sig → ℕ) (c : Dev nD) : iprop(known m κ ∗ (own1 c ∗ rest1 m c)) ⊢ T₀ m c := by
  have hg : (bigSep Finset.univ fun k => given (F := F) c k) = iprop((bigSep Finset.univ fun k : Fin 16 => bigSep Finset.univ fun a : Fin 10 => openTok ER (cell c a.succ k))
      ∗ (bigSep Finset.univ fun k : Fin 16 => dealt (F := F) c k) ∗ bigSep Finset.univ fun k : Fin 16 => crs (F := F) c k) := by
    unfold given; rw [bigSep_sep', bigSep_sep']
  unfold T₀ ride
  rw [hg]
  unfold known own1 rest1 barToks barStuff
  iintro ⟨⟨#HR, #Hr⟩, ⟨Ha, Ho, ⟨Hx, Hy, Hz⟩, Hd⟩, Hh, ⟨Hb, Hc⟩, HO⟩
  isplitl [Hh]; · iexact Hh
  isplitr [HO]
  · iexists κ
    isplitr; · iexact HR
    isplitl [Hx Hy Hz Ha Hb]
    · isplitl [Hx]
      · isplitl [Hx]; · iexact Hx
        iapply (reached_at (F := F) (xn c)); iexact Hr
      isplitl [Hy]
      · isplitl [Hy]; · iexact Hy
        iapply (reached_at (F := F) (yn c)); iexact Hr
      isplitl [Hz]
      · isplitl [Hz]; · iexact Hz
        iapply (reached_at (F := F) (zn c)); iexact Hr
      isplitl [Ha] <;> iassumption
    isplitl [Ho]; · iexact Ho
    isplitl [Hd] <;> iassumption
  · iexists ∅; iexact HO

omit [FloatOps F] in
theorem unscoped_eq : ∀ sm : SemLoc sig, sm.isScoped .tc = false → sm = .reg barS := by decide +kernel

omit [FloatOps F] in
theorem unscoped_filter : (Finset.univ.filter fun sm : SemLoc sig => ¬sm.isScoped .tc = true) = {.reg barS} := by decide +kernel

omit [FloatOps F] in
theorem unscoped_bar (c : Dev nD) : (unscopedSems0 c : sProp 𝕄) = semVal (barCell c) 0 := by
  unfold unscopedSems0
  rw [unscoped_filter, bigSep_singleton]

omit [FloatOps F] in
theorem bar_vals : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
omit [FloatOps F] in
theorem bar_pos : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))

theorem launch_core (ρ : Dev nD → PrngReg) (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(rest1 m c ∗ (semVal (barCell c) 0 ∗ G c)) : sProp 𝕄) := by
  rw [show unscopedBufs c (fun b => m ((c : Thread nD τ).loc b))
    = StableHlo.held (c : Thread nD τ) (Pipeline.ucRefs τ sig) (V₀ m c) from Pipeline.unscopedBufs_held c (V₀ m c), unscoped_bar]
  unfold rest1
  iintro ⟨Hh, Hb, HO, Hc, -, HG⟩
  ihave Hc' := (credits (F := F) c) $$ Hc
  isplitl [Hh HO Hc']
  · isplitl [Hh]; · iexact Hh
    isplitl [Hc']; · iexact Hc'
    iexact HO
  isplitl [Hb] <;> iassumption

theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest1 m c ∗ (semVal (barCell c) 0 ∗ G c)) : sProp 𝕄) from bigSep_mono fun c _ => launch_core m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells exCells duties0)) from
    Entails.of_eq (bigSep_atZero (F := F) (BI.own (ER (launchOf barCells exCells duties0))))) $$ HG
  imod (Rounds.fund_launch ER (Rd (vals m)) disjoint_cells (fun g _ h => h) duties0) $$ [Hv Hu] with ⟨%κ, -, #Hinv, #Hr, Hat, Hopen, Htok⟩
  · isplitl [Hv]
    · iapply (bar_vals (F := F)) $$ Hv
    · iexact Hu
  imodintro
  iapply (bigSep_with_persistent (R := known m κ) (Φ := fun c => iprop(own1 c ∗ rest1 m c)) fun c _ => T₀_intro m κ c)
  isplitr
  · unfold known
    isplitr; · iapply (records_of m κ); iexact Hinv
    iexact Hr
  iapply (Entails.of_eq (bigSep_sep' _ _ _).symm)
  isplitr [HB]
  · unfold own1
    iapply (Entails.of_eq (bigSep_sep' _ _ _).symm); isplitl [Hat]; · iapply (bar_pos (F := F)) $$ Hat
    iapply (Entails.of_eq (bigSep_sep' _ _ _).symm); isplitl [Hopen]
    · iapply (Entails.of_eq (bigSep_cells fun g => (openTok ER g : sProp 𝕄))) $$ Hopen
    iapply (all_toks (F := F)) $$ Htok
  · iexact HB

theorem u₀_split : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ G) := by
  unfold u₀ G
  rw [bigSep_atZero]
  iintro Hu
  ihave H := (ownU_pair _ _) $$ Hu
  icases H with ⟨HP, HX⟩
  ihave HX' := (own_pair_emb _ _ _) $$ HX
  icases HX' with ⟨HX, -⟩
  imodintro
  isplitl [HP]; · iexact HP
  iexact HX

/-! ## The run -/

/-- What the final memory says of device `c`. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ ∀ i : bO.ty.Idx, oOK (vals m) c i ((s.mem ((c : Thread nD τ).loc main_v15) : Buf (Elt F) ((c : Thread nD τ).loc main_v15)) i)

theorem at_end (c : Dev nD) (s' : Phys nD τ sig (Elt F)) :
    iprop(final m c ∗ SI s') ⊢ (|={Set.univ}=> iprop(⌜Ends m c s'.mem ∧ s'.mem.sem (barCell c) = 0⌝ ∗ SI s') : sProp 𝕄) := by
  unfold final
  iintro ⟨⟨H0, ⟨%q, H1⟩, ⟨%f, %hf, Hf⟩, Hb⟩, HSI⟩
  icombine HSI H0 gives %h0
  icombine HSI H1 gives %h1
  icombine HSI Hf gives %h2
  icombine HSI Hb gives %hb
  imodintro
  isplitr
  · ipureintro
    refine ⟨⟨Buf.eq_of_forall_mem_univ h0, Buf.eq_of_forall_mem_univ h1, ?_⟩, by simpa using hb⟩
    rw [Buf.eq_of_forall_mem_univ h2]; exact hf
  iexact HSI

set_option backward.isDefEq.respectTransparency.types false in
/-- From any memory with zero counters every fair execution of @main on the eight devices ends; then each device's arguments
    are unchanged, its result is as the exchange leaves it, and every counter is zero. -/
theorem run_main (ρ : Dev nD → PrngReg) : θ_run defs (onTc (τ := τ) (main (F := F))) ⟨m, fun _ => 0, ρ⟩
    (fun r => (∀ c : Dev nD, Ends m c r.2) ∧ r.2.sem = fun _ => 0) :=
  Pipeline.RDat.θ_run_regions_kit_dev_sems (pcfgs (F := F)) adm (rdats m) () cellOf_inj EP defs₀ 𝒱₀ L lv m ρ main (segs m)
    (fun c Q => by rw [main_segs m c])
    (fun c => by
      simp only [segs, Pipeline.RDat.Seg.pipes_host, Pipeline.RDat.Seg.pipes_region, Pipeline.RDat.Seg.pipes_nil]; decide)
    (O₀ := O₀) (hL := L_of_ne) (G := G) (u₀ := u₀) (hu₀ := u₀_split)
    (T₀ := T₀ m) (Tₙ := final m)
    (hch := fun c => ⟨.rfl, .rfl, .rfl⟩)
    (hinit := init m ρ)
    (QY := fun c s => Ends m c s ∧ s.sem (barCell c) = 0)
    (hfin := at_end m)
    (hQ := fun s h hs => ⟨fun c => (h c).1,
      sem_eq_zero hs fun c sm hsm => by
        obtain rfl := unscoped_eq sm hsm
        exact (h c).2⟩)

end Cert.KernelIdeal.Lookup
-- ==== Proof.Frames.lean ====
/-
  The frames.
-/
module

public import proofs.«01_k».proof.Proof.Launch
public import proofs.«01_k».proof.Defs
public import proofs.«01_k».proof.Proof.Gen.Kernel
public import proofs.«01_k».proof.Proof.Gen.ReferenceIdeal.Run
public import proofs.«01_k».proof.Proof.Gen.Pre_in_table_KernelIdeal
public import proofs.«01_k».proof.Proof.Gen.Pre_in_table_ReferenceIdeal

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## The printed program and the one read at the ideal instance are one text -/

set_option maxHeartbeats 1000000 in
theorem bodies_eq : Cert.Kernel.defs₀ (F := F) = Cert.KernelIdeal.defs₀ (F := F) := by
  refine congrArg Defs.onTc ?_
  funext l
  match l with
  | 0 =>
    funext x
    obtain ⟨t, s⟩ := x
    rfl

theorem tables_eq : Cert.Kernel.defs (F := F) = Cert.KernelIdeal.defs (F := F) :=
  congrArg (Pipeline.defs (Cert.KernelIdeal.pcfgs (F := F))) bodies_eq

set_option maxHeartbeats 1000000 in
theorem mains_eq : Cert.Kernel.main (F := F) = Cert.KernelIdeal.main (F := F) := rfl

theorem run_same (s : MemSt nD τ sig (Elt F)) (Q : PUnit × MemSt nD τ sig (Elt F) → Prop)
    (h : θ_run (Cert.KernelIdeal.defs (F := F)) (onTc (τ := τ) (Cert.KernelIdeal.main (F := F))) s Q) :
    θ_run (Cert.Kernel.defs (F := F)) (onTc (τ := Cert.Kernel.τ) (Cert.Kernel.main (F := F))) s Q :=
  Eq.mpr (congrArg₂ (fun d p => θ_run d (onTc (τ := τ) p) s Q) tables_eq mains_eq) h

/-! ## The frames -/

theorem frame_kernel : Cert.quiescent_Kernel := fun m ρ _ =>
  run_same ⟨m, fun _ => 0, ρ⟩ _ ((θ_run Cert.KernelIdeal.defs _ _).mono (fun _ h => ⟨fun c => ⟨(h.1 c).1, (h.1 c).2.1⟩, h.2⟩) (run_main (F := Bits) m ρ))

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Lookup
-- ==== Proof.Value.lean ====
/-
  What the selected rows are at the ideal instance: the rows of the whole table the reference gathers.
-/
module

public import proofs.«01_k».proof.Proof.Frames
public import Idealize.ShloMosaic.Lib.ReduceAll
public import Idealize.ShloMosaic.Lib.IdealHost

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## Words -/

/-- Device `d`'s position along the axis the table is cut over. -/
abbrev yb (d : Dev nD) : ℕ := d.val / 2 % 2

/-- Whether a row number, the shard's first row taken off, lies in a shard: the bit the mask is made of. -/
def inShard (x : BitVec 32) : BitVec 1 := IntOp.andi (IntOp.cmpi .sge x 0#32) (IntOp.cmpi .slt x 16384#32)

theorem and_one_iff : ∀ a b : BitVec 1, IntOp.andi a b = 1#1 ↔ a = 1#1 ∧ b = 1#1 := by decide

theorem inShard_iff (x : BitVec 32) : inShard x = 1#1 ↔ x.toNat < 16384 := by
  unfold inShard
  rw [and_one_iff, IntOp.cmpi_sge, IntOp.cmpi_slt, show (0#32).toInt = 0 from by decide,
    show (16384#32).toInt = 16384 from by decide, BitVec.toInt_eq_toNat_cond]
  have := x.isLt
  split <;> omega

theorem cond_iff_lt (x : BitVec 32) : k0_cond1 x = 1#1 ↔ x.toNat < 16384 := by
  refine ⟨cond_lt x, fun h => ?_⟩
  unfold k0_cond1
  exact (cond_iff _).2 ((inShard_iff x).2 h)

theorem bit_cases : ∀ b : BitVec 1, b = 1#1 ∨ b = 0#1 := by decide

/-- The first row of a device's shard, as the word the host program computes. -/
theorem shard_word (d : Dev nD) :
    IntOp.muli (IntOp.remui .host (IntOp.divui .host (Dev.word d) 2#32) 2#32) 16384#32 = BitVec.ofNat 32 (16384 * yb d) := by
  revert d; decide

/-- A row number of the table, the first row of a device's shard taken off it, lies in the shard just when the
    shard has that row, and is then its position there. -/
theorem sub_lt {w : BitVec 32} (hw : w.toNat < 32768) (d : Dev nD) :
    (IntOp.subi w (BitVec.ofNat 32 (16384 * yb d))).toNat < 16384 ↔ w.toNat / 16384 = yb d := by
  have hy : yb d < 2 := Nat.mod_lt _ (by decide)
  show (w - BitVec.ofNat 32 (16384 * yb d)).toNat < 16384 ↔ _
  rw [BitVec.toNat_sub, BitVec.toNat_ofNat]
  omega
theorem sub_val {w : BitVec 32} (hw : w.toNat < 32768) (d : Dev nD) (h : w.toNat / 16384 = yb d) :
    (IntOp.subi w (BitVec.ofNat 32 (16384 * yb d))).toNat = w.toNat - 16384 * yb d := by
  have hy : yb d < 2 := Nat.mod_lt _ (by decide)
  show (w - BitVec.ofNat 32 (16384 * yb d)).toNat = _
  rw [BitVec.toNat_sub, BitVec.toNat_ofNat]
  omega

theorem yb_yn (d : Dev nD) : yb (yn d) = 1 - yb d := by revert d; decide
theorem qb_srcDev (c : Dev nD) (q : ℕ) (hq : q < 4) : qb (srcDev c q) = q := by
  have h : ∀ (c : Dev nD) (q : Fin 4), qb (srcDev c q.val) = q.val := by decide
  exact h c ⟨q, hq⟩

theorem idx1_of (k : S2048.Idx) (n : ℕ) (h : (k 0).val = n) : k = idx1 n := by
  subst h
  funext a
  have ha : a = 0 := Subsingleton.elim _ _
  subst ha
  exact Fin.ext (Nat.mod_eq_of_lt (k 0).isLt).symm

/-! ## What the host program leaves in the kernel's operands -/

section
variable (m : (ℓ : Loc nD τ sig) → Buf (Elt F) ℓ)

theorem lid_eq (c : Dev nD) : V₁ m c main_v7
    = subi (m ((c : Thread nD τ).loc main_arg0))
        (broadcastInDim S2048 ![] bcast_S_S2048 (muli (Host.remui (Host.divui (constantI S_ 32 (Dev.word c)) (constantI S_ 32 2#32))
          (constantI S_ 32 2#32)) (constantI S_ 32 16384#32))) := by
  unfold V₁
  after_results <;> rfl

theorem msk_eq (c : Dev nD) : V₁ m c main_v14
    = broadcastInDim S2048x1 ![0] bcast_S2048_S2048x1_0 (uitofp .f32
        (andi (cmpi .sge (V₁ m c main_v7) (broadcastInDim S2048 ![] bcast_S_S2048 (constantI S_ 32 0#32)))
          (cmpi .slt (V₁ m c main_v7) (broadcastInDim S2048 ![] bcast_S_S2048 (constantI S_ 32 16384#32))))) := by
  rw [lid_eq]
  unfold V₁
  after_results <;> rfl

theorem lidAt_eq (d : Dev nD) (row : ℕ) :
    lidAt (vals m) d row = IntOp.subi (m ((d : Thread nD τ).loc main_arg0) (idx1 row)) (BitVec.ofNat 32 (16384 * yb d)) := by
  rw [← shard_word d]
  exact congrFun (lid_eq m d) (idx1 row)

theorem mskAt_eq (d : Dev nD) (i : S2048x1.Idx) :
    (vals m).msk d i = FloatOps.uitofp .f32 (inShard (lidAt (vals m) d (i 0).val)) := by
  exact (congrFun (msk_eq m d) i).trans
    (congrArg (fun k => FloatOps.uitofp .f32 (inShard (V₁ m d main_v7 k))) (idx1_of _ (i 0).val rfl))

end

/-! ## The reading of the precondition -/

theorem in_table_lt {ids : IVec S2048 32} {E : FVec Ideal S16384x1024 .f32}
    (h : Cert.Pre_in_table_KernelIdeal.fn (F := Ideal) ids E = fun _ => 1#1) (i : S2048.Idx) : (ids i).toNat < 32768 := by
  have : Subsingleton Cert.Pre_in_table_KernelIdeal.S_.Idx := ⟨fun a b => funext fun k => k.elim0⟩
  have e := Host.reduce_andi_all _ _ _ _ _ (congrFun h (fun k => k.elim0)) i
  have e2 : IntOp.andi (IntOp.cmpi .sge (ids i) 0#32) (IntOp.cmpi .slt (ids i) 32768#32) = 1#1 := e
  rw [and_one_iff, IntOp.cmpi_sge, IntOp.cmpi_slt, show (0#32).toInt = 0 from by decide,
    show (32768#32).toInt = 32768 from by decide, BitVec.toInt_eq_toNat_cond] at e2
  have := (ids i).isLt
  split at e2 <;> omega

/-! ## The reference's element -/

/-- The whole table's row `n`, column `col`. -/
def whole (n : Fin 32768) (col : Fin 1024) : Cert.ReferenceIdeal.S32768x1024.Idx :=
  fun | ⟨0, _⟩ => n | ⟨1, _⟩ => col

/-- The row numbers as the reference makes them: a negative one counts from the table's end. -/
def refIds (ids : IVec Cert.ReferenceIdeal.S2048 32) : IVec Cert.ReferenceIdeal.S2048x1 32 :=
  broadcastInDim Cert.ReferenceIdeal.S2048x1 ![0] Cert.ReferenceIdeal.Facts₀.bcast_S2048_S2048x1_0
    (select (cmpi .slt ids (broadcastInDim Cert.ReferenceIdeal.S2048 ![] Cert.ReferenceIdeal.Facts₀.bcast_S_S2048
        (constantI Cert.ReferenceIdeal.S_ 32 0#32)))
      (addi ids (broadcastInDim Cert.ReferenceIdeal.S2048 ![] Cert.ReferenceIdeal.Facts₀.bcast_S_S2048
        (constantI Cert.ReferenceIdeal.S_ 32 32768#32))) ids)

theorem refIds_at (ids : IVec Cert.ReferenceIdeal.S2048 32) (i : Cert.ReferenceIdeal.S2048x1.Idx)
    (h : (ids (idx1 (i 0).val)).toNat < 32768) : refIds ids i = ids (idx1 (i 0).val) := by
  have hb : refIds ids i = Scalar.select (IntOp.cmpi .slt (ids (idx1 (i 0).val)) 0#32)
      (IntOp.addi (ids (idx1 (i 0).val)) 32768#32) (ids (idx1 (i 0).val)) := by
    have e : ∃ k : S2048.Idx, refIds ids i = Scalar.select (IntOp.cmpi .slt (ids k) 0#32) (IntOp.addi (ids k) 32768#32) (ids k)
        ∧ (k 0).val = (i 0).val := ⟨_, rfl, rfl⟩
    obtain ⟨k, e1, e2⟩ := e
    rw [e1, idx1_of k _ e2]
  rw [hb]
  unfold Scalar.select
  rw [if_neg]
  intro hc
  have h2 := IntOp.cmpi_slt.1 hc
  rw [show (0#32).toInt = 0 from by decide, BitVec.toInt_eq_toNat_cond] at h2
  split at h2 <;> omega

theorem ref_at (E : FVec Ideal Cert.ReferenceIdeal.S32768x1024 .f32) (ids : IVec Cert.ReferenceIdeal.S2048 32)
    (j : Cert.ReferenceIdeal.S2048x1024.Idx) (n : Fin 32768) (hn : (ids (idx1 (j 0).val)).toNat = n.val) :
    Host.gather Cert.ReferenceIdeal.gather_S32768x1024_S2048x1_S2048x1024_1_0_n_n_0_1_11024 E (refIds ids) j
      = E (whole n (j 1)) := by
  refine congrArg E (funext fun a => Fin.ext ?_)
  match a with
  | ⟨0, _⟩ =>
    show GatherDims.start _ j (refIds ids) 0 + GatherDims.batchCoord _ j 0 + GatherDims.offCoord _ j 0 = n.val
    rw [GatherDims.batchCoord_eq_zero _ j _ (by show (0 : Fin 2) ∉ ([] : List (Fin 2)); simp),
      GatherDims.offCoord_eq_zero _ j _ (by
        rw [GatherDims.mem_sKept]
        show ¬((0 : Fin 2) ∉ [(0 : Fin 2)] ∧ _)
        simp)]
    have hm : (0 : Fin 2) ∈ Cert.ReferenceIdeal.gather_S32768x1024_S2048x1_S2048x1024_1_0_n_n_0_1_11024.startIndexMap :=
      show (0 : Fin 2) ∈ [(0 : Fin 2)] from by simp
    rw [GatherDims.start, dif_pos hm]
    have hs : ∀ k : Cert.ReferenceIdeal.S2048x1.Idx, (k 0).val = (j 0).val → (refIds ids k).toInt.toNat = n.val := fun k hk => by
      have hk' : (ids (idx1 (k 0).val)).toNat = n.val := by rw [hk]; exact hn
      rw [refIds_at ids k (by rw [hk']; exact n.isLt), BitVec.toInt_eq_toNat_cond, hk', if_pos (by have := n.isLt; omega)]
      exact Int.toNat_natCast _
    rw [hs _ rfl]
    show min n.val (32768 - 1) + 0 + 0 = n.val
    have := n.isLt
    omega
  | ⟨1, _⟩ =>
    show GatherDims.start _ j (refIds ids) 1 + GatherDims.batchCoord _ j 1 + GatherDims.offCoord _ j 1 = (j 1).val
    have hm : (1 : Fin 2) ∉ Cert.ReferenceIdeal.gather_S32768x1024_S2048x1_S2048x1024_1_0_n_n_0_1_11024.startIndexMap :=
      show (1 : Fin 2) ∉ [(0 : Fin 2)] from by simp
    have hk : (1 : Fin 2) ∈ Cert.ReferenceIdeal.gather_S32768x1024_S2048x1_S2048x1024_1_0_n_n_0_1_11024.sKept :=
      (GatherDims.mem_sKept _ _).2 ⟨show (1 : Fin 2) ∉ [(0 : Fin 2)] from by simp, show (1 : Fin 2) ∉ ([] : List (Fin 2)) from by simp⟩
    rw [GatherDims.batchCoord_eq_zero _ j _ (by show (1 : Fin 2) ∉ ([] : List (Fin 2)); simp), GatherDims.start,
      dif_neg hm, GatherDims.offCoord, dif_pos hk]
    exact (Nat.zero_add _).trans rfl

/-! ## The kernel's element -/

/-- The element of a device's shard at a row number the shard has is the whole table's at that row number. -/
theorem shard_at (E : FVec Ideal Cert.ReferenceIdeal.S32768x1024 .f32) (d : Dev nD) (j : S16384x1024.Idx) (n : Fin 32768) (col : Fin 1024)
    (h0 : 16384 * yb d + (j 0).val = n.val) (h1 : (j 1).val = col.val) :
    (Layout.blockN ⟨2, ![16384, 1024]⟩ ⟨2, ![32768, 1024]⟩ (Layout.meshBlock [2, 2, 2] ![[1], []] d) E) j = E (whole n col) := by
  have hm : ∀ d : Dev nD, Layout.meshLin [2, 2, 2] d.val [1] = yb d := by decide
  rw [Layout.blockN_apply]
  refine congrArg E (funext fun a => Fin.ext ?_)
  match a with
  | ⟨0, _⟩ =>
    refine (Layout.TilesN.idx_val _ _ _ _).trans ?_
    show Layout.meshLin [2, 2, 2] d.val [1] * 16384 + (j 0).val = n.val
    rw [hm]; omega
  | ⟨1, _⟩ =>
    refine (Layout.TilesN.idx_val _ _ _ _).trans ?_
    show 0 * 1024 + (j 1).val = col.val
    omega

theorem one_bits : (Scalar.ofBits .f32 0x3F800000#32 : Ideal .f32) = (1 : EReal) := Ideal.ofBits_one_f32

theorem selv_in (a b : Ideal .f32) : selv (F := Ideal) (FloatOps.uitofp .f32 (1#1 : BitVec 1)) a b = a := by
  unfold selv
  rw [one_bits]
  show (((1#1 : BitVec 1).toNat : ℝ) : EReal) * a + (1 - (((1#1 : BitVec 1).toNat : ℝ) : EReal)) * b = a
  have e : (((1#1 : BitVec 1).toNat : ℝ) : EReal) = 1 := by simp
  have e1 : (1 : EReal) - 1 = 0 := by
    rw [show (1 : EReal) = ((1 : ℝ) : EReal) from rfl, ← EReal.coe_sub, sub_self]; rfl
  rw [e, e1, one_mul, zero_mul, add_zero]
theorem selv_out (a b : Ideal .f32) : selv (F := Ideal) (FloatOps.uitofp .f32 (0#1 : BitVec 1)) a b = b := by
  unfold selv
  rw [one_bits]
  show (((0#1 : BitVec 1).toNat : ℝ) : EReal) * a + (1 - (((0#1 : BitVec 1).toNat : ℝ) : EReal)) * b = b
  have e : (((0#1 : BitVec 1).toNat : ℝ) : EReal) = 0 := by simp
  rw [e, zero_mul, sub_zero, one_mul, zero_add]

section
variable (m : (ℓ : Loc nD τ sig) → Buf (Elt Ideal) ℓ)
  (ids : IVec S2048 32) (E : FVec Ideal Cert.ReferenceIdeal.S32768x1024 .f32)
  (hi : ∀ c : Dev nD, m ((c : Thread nD τ).loc main_arg0) = ids)
  (hE : ∀ c : Dev nD, m ((c : Thread nD τ).loc main_arg1)
    = Layout.blockN ⟨2, ![16384, 1024]⟩ ⟨2, ![32768, 1024]⟩ (Layout.meshBlock [2, 2, 2] ![[1], []] c) E)
  (ht : ∀ i, (ids i).toNat < 32768)

include hi hE ht

/-- What a device's gathered row holds where its shard has the row number: the whole table's element. -/
theorem gathered_eq (d : Dev nD) (row : ℕ) (hr : 512 * qb d + row % 512 = row) (col : Fin 1024) (a : Ideal .f32)
    (hy : (ids (idx1 row)).toNat / 16384 = yb d) (h : GOK (F := Ideal) (vals m) d (row % 512) col.val a) :
    a = E (whole ⟨(ids (idx1 row)).toNat, ht _⟩ col) := by
  have hl := lidAt_eq m d row
  rw [hi d] at hl
  have hlt := (sub_lt (ht (idx1 row)) d).2 hy
  have hv := sub_val (ht (idx1 row)) d hy
  unfold GOK at h
  rw [hr] at h
  rw [← hl] at hlt hv
  refine (h (fun | ⟨0, _⟩ => ⟨_, hlt⟩ | ⟨1, _⟩ => col) ((cond_iff_lt _).2 hlt) rfl rfl).trans ?_
  refine (congrFun (hE d) _).trans (shard_at E d _ _ _ ?_ rfl)
  show 16384 * yb d + (lidAt (vals m) d row).toNat = (ids (idx1 row)).toNat
  rw [hv]; omega

theorem selected_eq (c : Dev nD) (i : bO.ty.Idx) (v : Ideal .f32) (h : oOK (F := Ideal) (vals m) c i v) :
    v = E (whole ⟨(ids (idx1 ((i : S2048x1024.Idx) 0).val)).toNat, ht _⟩ ((i : S2048x1024.Idx) 1)) := by
  obtain ⟨a, b, ha, hb, hv⟩ := h
  have hrow : ((i : S2048x1024.Idx) 0).val < 2048 := ((i : S2048x1024.Idx) 0).isLt
  generalize hrw : ((i : S2048x1024.Idx) 0).val = row at *
  have hq : row / 512 < 4 := by omega
  have hqs := qb_srcDev c (row / 512) hq
  have hr : 512 * qb (srcDev c (row / 512)) + row % 512 = row := by rw [hqs]; omega
  have hr' : 512 * qb (yn (srcDev c (row / 512))) + row % 512 = row := by rw [qb_yn]; exact hr
  have hm := hv (fun | ⟨0, _⟩ => ⟨row, hrow⟩ | ⟨1, _⟩ => ⟨0, Nat.one_pos⟩) rfl
  rw [mskAt_eq] at hm
  have hl := lidAt_eq m (srcDev c (row / 512)) row
  rw [hi] at hl
  have hy : yb (srcDev c (row / 512)) < 2 := Nat.mod_lt _ (by decide)
  have hn := ht (idx1 row)
  by_cases hs : (ids (idx1 row)).toNat / 16384 = yb (srcDev c (row / 512))
  · have hbit : inShard (lidAt (vals m) (srcDev c (row / 512)) row) = 1#1 := by
      rw [inShard_iff, hl, sub_lt hn]; exact hs
    refine hm.trans ?_
    show selv (F := Ideal) (FloatOps.uitofp .f32 (inShard (lidAt (vals m) (srcDev c (row / 512)) row))) a b = _
    rw [hbit, selv_in]
    exact gathered_eq m ids E hi hE ht _ row hr _ a hs ha
  · have hbit : inShard (lidAt (vals m) (srcDev c (row / 512)) row) = 0#1 := by
      refine (bit_cases _).resolve_left ?_
      rw [inShard_iff, hl, sub_lt hn]; exact hs
    refine hm.trans ?_
    show selv (F := Ideal) (FloatOps.uitofp .f32 (inShard (lidAt (vals m) (srcDev c (row / 512)) row))) a b = _
    rw [hbit, selv_out]
    refine gathered_eq m ids E hi hE ht _ row hr' _ b ?_ hb
    rw [yb_yn]
    omega

end

/-- Every device's result is the whole of what the reference gathers. -/
theorem algebraic : Cert.algebraic_KernelIdeal_ReferenceIdeal_pre_in_table_KernelIdeal := by
  intro m ρ m' ρ' hpre hag
  have ht : ∀ i, ((m' (((0 : Dev Cert.ReferenceIdeal.nD).tc : Thread Cert.ReferenceIdeal.nD Cert.ReferenceIdeal.τ).loc Cert.ReferenceIdeal.main_arg0)
      : IVec S2048 32) i).toNat < 32768 := by
    intro i
    rw [← (hag 0).1]
    exact in_table_lt (hpre 0) i
  refine ⟨Host.gather Cert.ReferenceIdeal.gather_S32768x1024_S2048x1_S2048x1024_1_0_n_n_0_1_11024
    (m' (((0 : Dev Cert.ReferenceIdeal.nD).tc : Thread Cert.ReferenceIdeal.nD Cert.ReferenceIdeal.τ).loc Cert.ReferenceIdeal.main_arg1))
    (refIds (m' (((0 : Dev Cert.ReferenceIdeal.nD).tc : Thread Cert.ReferenceIdeal.nD Cert.ReferenceIdeal.τ).loc Cert.ReferenceIdeal.main_arg0))), ?_, ?_⟩
  · refine (θ_run Cert.KernelIdeal.defs _ _).mono (fun r h c => ⟨?_, (h.1 c).1, (h.1 c).2.1⟩) (run_main (F := Ideal) m ρ)
    funext i
    refine (selected_eq m _ _ (fun c => (hag c).1) (fun c => (hag c).2) ht c i _ ((h.1 c).2.2 i)).trans ?_
    exact (ref_at _ _ i _ rfl).symm
  · exact (θ_run Cert.ReferenceIdeal.defs _ _).mono (fun _ h => h 0) (Cert.ReferenceIdeal.Value.run (F := Ideal) m' ρ')

end Cert.KernelIdeal.Lookup
-- ==== Proof.lean ====
/-
  The lookup over a table cut along y: the claims, from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_table_KernelIdeal
public import proofs.«01_k».proof.Proof.Gen.Pre_in_table_ReferenceIdeal
public import proofs.«01_k».proof.Proof.Value

@[expose] public section

namespace Cert.Proof

open Cert.KernelIdeal.Lookup

theorem claim : Cert.Claim :=
  ⟨Cert.Kernel.Gen.facts, Cert.KernelIdeal.Gen.facts, Cert.ReferenceIdeal.Gen.facts, Cert.Pre_in_table_KernelIdeal.Gen.facts,
    Cert.Pre_in_table_ReferenceIdeal.Gen.facts,
    frame_kernel, frame_ideal, fun m g _ => frame_ideal m g trivial, frame_reference, fun m g _ => frame_reference m g trivial,
    trivial, algebraic⟩

end Cert.Proof

end
